-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  IdealRules.bf16_pack.Statement Cert.KernelIdeal.S160x128
  ∧ IdealRules.named_const.Statement Cert.KernelIdeal.κ "inv_n_v" .f32 0x3BCCCCCD#32 ((1 / 160 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v13)) (v1 : (c : Dev Cert.KernelIdeal.nD) → Buf (Elt Ideal) ((c.tc : Thread Cert.KernelIdeal.nD Cert.KernelIdeal.τ).loc Cert.KernelIdeal.main_v14)) (v2 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_v14) = v1 c
          ∧ r.2.mem ((c.tc : Thread Cert.KernelIdeal.nD Cert.KernelIdeal.τ).loc Cert.KernelIdeal.main_v15) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v645) = v0 c
          ∧ r.2.mem ((c.tc : Thread Cert.ReferenceIdeal.nD Cert.ReferenceIdeal.τ).loc Cert.ReferenceIdeal.main_v647) = v1 c
          ∧ r.2.mem ((c.tc : Thread Cert.ReferenceIdeal.nD Cert.ReferenceIdeal.τ).loc Cert.ReferenceIdeal.main_v618) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S24x1280x18x128 : Shape := ⟨4, ![24, 1280, 18, 128]⟩
abbrev S24x20x18 : Shape := ⟨3, ![24, 20, 18]⟩
abbrev S24x1280x18x160 : Shape := ⟨4, ![24, 1280, 18, 160]⟩
abbrev S24x1280x18 : Shape := ⟨3, ![24, 1280, 18]⟩
abbrev S24x18x128x160 : Shape := ⟨4, ![24, 18, 128, 160]⟩
abbrev S24x1280x2880 : Shape := ⟨3, ![24, 1280, 2880]⟩
abbrev S160 : Shape := ⟨1, ![160]⟩
abbrev S_ : Shape := ⟨0, ![]⟩

class Facts : Prop where
  bcast_S_S24x1280x18x128 : S_.BroadcastsInDim S24x1280x18x128 (![] : Fin 0 → Fin S24x1280x18x128.rank)
  bcast_S_S24x20x18 : S_.BroadcastsInDim S24x20x18 (![] : Fin 0 → Fin S24x20x18.rank)
  bcast_S_S24x1280x18x160 : S_.BroadcastsInDim S24x1280x18x160 (![] : Fin 0 → Fin S24x1280x18x160.rank)
  bcast_S_S24x1280x18 : S_.BroadcastsInDim S24x1280x18 (![] : Fin 0 → Fin S24x1280x18.rank)
  bcast_S_S24x18x128x160 : S_.BroadcastsInDim S24x18x128x160 (![] : Fin 0 → Fin S24x18x128x160.rank)

variable [Facts]

def fn_part1 {F : FTy → Type} [FloatOps F] (main_arg6 : FVec F S24x1280x18 .f32) (main_arg7 : FVec F S24x18x128x160 .f32) (main_v2 : IVec S24x1280x18x128 1) (main_v5 : IVec S24x20x18 1) (main_v8 : IVec S24x1280x18x128 1) (main_v11 : IVec S24x20x18 1) (main_v14 : IVec S24x1280x18x160 1) (main_v17 : IVec S24x1280x18x128 1) : IVec S24x1280x18x128 1 × IVec S24x20x18 1 × IVec S24x1280x18x128 1 × IVec S24x20x18 1 × IVec S24x1280x18x160 1 × IVec S24x1280x18x128 1 × IVec S24x1280x18 1 × IVec S24x18x128x160 1 :=
  let main_v18 : FVec F S24x1280x18 .f32 := Host.absf main_arg6
  let main_cst_5 : FVec F S_ .f32 := constant S_ .f32 0x7F800000#32
  let main_v19 : FVec F S24x1280x18 .f32 := broadcastInDim S24x1280x18 ![] bcast_S_S24x1280x18 main_cst_5
  let main_v20 : IVec S24x1280x18 1 := cmpf .olt main_v18 main_v19
  let main_v21 : FVec F S24x18x128x160 .f32 := Host.absf main_arg7
  let main_cst_6 : FVec F S_ .f32 := constant S_ .f32 0x7F800000#32
  let main_v22 : FVec F S24x18x128x160 .f32 := broadcastInDim S24x18x128x160 ![] bcast_S_S24x18x128x160 main_cst_6
  let main_v23 : IVec S24x18x128x160 1 := cmpf .olt main_v21 main_v22
  (main_v2, main_v5, main_v8, main_v11, main_v14, main_v17, main_v20, main_v23)

def fn {F : FTy → Type} [FloatOps F] (main_arg0 : FVec F S24x1280x18x128 .f32) (main_arg1 : FVec F S24x20x18 .f32) (main_arg2 : FVec F S24x1280x18x128 .f32) (main_arg3 : FVec F S24x20x18 .f32) (main_arg4 : FVec F S24x1280x18x160 .bf16) (main_arg5 : FVec F S24x1280x18x128 .f32) (main_arg6 : FVec F S24x1280x18 .f32) (main_arg7 : FVec F S24x18x128x160 .f32) (main_arg8 : FVec F S24x1280x2880 .bf16) (main_arg9 : FVec F S160 .f32) : IVec S24x1280x18x128 1 × IVec S24x20x18 1 × IVec S24x1280x18x128 1 × IVec S24x20x18 1 × IVec S24x1280x18x160 1 × IVec S24x1280x18x128 1 × IVec S24x1280x18 1 × IVec S24x18x128x160 1 :=
  let main_v0 : FVec F S24x1280x18x128 .f32 := Host.absf main_arg0
  let main_cst : FVec F S_ .f32 := constant S_ .f32 0x7F800000#32
  let main_v1 : FVec F S24x1280x18x128 .f32 := broadcastInDim S24x1280x18x128 ![] bcast_S_S24x1280x18x128 main_cst
  let main_v2 : IVec S24x1280x18x128 1 := cmpf .olt main_v0 main_v1
  let main_v3 : FVec F S24x20x18 .f32 := Host.absf main_arg1
  let main_cst_0 : FVec F S_ .f32 := constant S_ .f32 0x7F800000#32
  let main_v4 : FVec F S24x20x18 .f32 := broadcastInDim S24x20x18 ![] bcast_S_S24x20x18 main_cst_0
  let main_v5 : IVec S24x20x18 1 := cmpf .olt main_v3 main_v4
  let main_v6 : FVec F S24x1280x18x128 .f32 := Host.absf main_arg2
  let main_cst_1 : FVec F S_ .f32 := constant S_ .f32 0x7F800000#32
  let main_v7 : FVec F S24x1280x18x128 .f32 := broadcastInDim S24x1280x18x128 ![] bcast_S_S24x1280x18x128 main_cst_1
  let main_v8 : IVec S24x1280x18x128 1 := cmpf .olt main_v6 main_v7
  let main_v9 : FVec F S24x20x18 .f32 := Host.absf main_arg3
  let main_cst_2 : FVec F S_ .f32 := constant S_ .f32 0x7F800000#32
  let main_v10 : FVec F S24x20x18 .f32 := broadcastInDim S24x20x18 ![] bcast_S_S24x20x18 main_cst_2
  let main_v11 : IVec S24x20x18 1 := cmpf .olt main_v9 main_v10
  let main_v12 : FVec F S24x1280x18x160 .bf16 := Host.absf main_arg4
  let main_cst_3 : FVec F S_ .bf16 := constant S_ .bf16 0x7F80#16
  let main_v13 : FVec F S24x1280x18x160 .bf16 := broadcastInDim S24x1280x18x160 ![] bcast_S_S24x1280x18x160 main_cst_3
  let main_v14 : IVec S24x1280x18x160 1 := cmpf .olt main_v12 main_v13
  let main_v15 : FVec F S24x1280x18x128 .f32 := Host.absf main_arg5
  let main_cst_4 : FVec F S_ .f32 := constant S_ .f32 0x7F800000#32
  let main_v16 : FVec F S24x1280x18x128 .f32 := broadcastInDim S24x1280x18x128 ![] bcast_S_S24x1280x18x128 main_cst_4
  let main_v17 : IVec S24x1280x18x128 1 := cmpf .olt main_v15 main_v16
  fn_part1 (F := F) main_arg6 main_arg7 main_v2 main_v5 main_v8 main_v11 main_v14 main_v17
-- ==== Kernel.lean ====
abbrev S24x1280x18x128 : Shape := ⟨4, ![24, 1280, 18, 128]⟩
abbrev S24x20x18 : Shape := ⟨3, ![24, 20, 18]⟩
abbrev S24x1280x18x160 : Shape := ⟨4, ![24, 1280, 18, 160]⟩
abbrev S24x1280x18 : Shape := ⟨3, ![24, 1280, 18]⟩
abbrev S24x18x128x160 : Shape := ⟨4, ![24, 18, 128, 160]⟩
abbrev S24x1280x2880 : Shape := ⟨3, ![24, 1280, 2880]⟩
abbrev S160 : Shape := ⟨1, ![160]⟩
abbrev S18x24x20 : Shape := ⟨3, ![18, 24, 20]⟩
abbrev S24x18x1280x128 : Shape := ⟨4, ![24, 18, 1280, 128]⟩
abbrev S24x18x160x1280 : Shape := ⟨4, ![24, 18, 160, 1280]⟩
abbrev S18x24x1280 : Shape := ⟨3, ![18, 24, 1280]⟩
abbrev S24x18x160x128 : Shape := ⟨4, ![24, 18, 160, 128]⟩
abbrev S24x2880x1280 : Shape := ⟨3, ![24, 2880, 1280]⟩
abbrev S160x1 : Shape := ⟨2, ![160, 1]⟩
abbrev S1x8x20 : Shape := ⟨3, ![1, 8, 20]⟩
abbrev S8x1x128x128 : Shape := ⟨4, ![8, 1, 128, 128]⟩
abbrev S8x1x160x128 : Shape := ⟨4, ![8, 1, 160, 128]⟩
abbrev S1x8x128 : Shape := ⟨3, ![1, 8, 128]⟩
abbrev S8x160x128 : Shape := ⟨3, ![8, 160, 128]⟩
abbrev S160x128 : Shape := ⟨2, ![160, 128]⟩
abbrev S64x128 : Shape := ⟨2, ![64, 128]⟩
abbrev S1x128 : Shape := ⟨2, ![1, 128]⟩
abbrev S1x1x1 : Shape := ⟨3, ![1, 1, 1]⟩
abbrev S1x1x128 : Shape := ⟨3, ![1, 1, 128]⟩
abbrev S1x1x64x128 : Shape := ⟨4, ![1, 1, 64, 128]⟩
abbrev S63x128 : Shape := ⟨2, ![63, 128]⟩
abbrev S2x128 : Shape := ⟨2, ![2, 128]⟩
abbrev S62x128 : Shape := ⟨2, ![62, 128]⟩
abbrev S4x128 : Shape := ⟨2, ![4, 128]⟩
abbrev S60x128 : Shape := ⟨2, ![60, 128]⟩
abbrev S8x128 : Shape := ⟨2, ![8, 128]⟩
abbrev S56x128 : Shape := ⟨2, ![56, 128]⟩
abbrev S16x128 : Shape := ⟨2, ![16, 128]⟩
abbrev S48x128 : Shape := ⟨2, ![48, 128]⟩
abbrev S32x128 : Shape := ⟨2, ![32, 128]⟩
abbrev S64x256 : Shape := ⟨2, ![64, 256]⟩
abbrev S256x256 : Shape := ⟨2, ![256, 256]⟩
abbrev S8x128x1 : Shape := ⟨3, ![8, 128, 1]⟩
abbrev S128x128 : Shape := ⟨2, ![128, 128]⟩
abbrev S1x1x160x128 : Shape := ⟨4, ![1, 1, 160, 128]⟩
abbrev S160x256 : Shape := ⟨2, ![160, 256]⟩
abbrev S128x256 : Shape := ⟨2, ![128, 256]⟩
abbrev S128 : Shape := ⟨1, ![128]⟩
abbrev S1x160x128 : Shape := ⟨3, ![1, 160, 128]⟩

abbrev nBuf : Space → Nat
  | .hbm => 28
  | .vmem => 22
  | .smem => 4
  | _ => 0

abbrev bufTy : (tb : Table) → Fin (tcTables nBuf tb) → BufTy
  | .hbm, ⟨0, _⟩ => ⟨S24x1280x18x128, .f32⟩
  | .hbm, ⟨1, _⟩ => ⟨S24x20x18, .f32⟩
  | .hbm, ⟨2, _⟩ => ⟨S24x1280x18x128, .f32⟩
  | .hbm, ⟨3, _⟩ => ⟨S24x20x18, .f32⟩
  | .hbm, ⟨4, _⟩ => ⟨S24x1280x18x160, .bf16⟩
  | .hbm, ⟨5, _⟩ => ⟨S24x1280x18x128, .f32⟩
  | .hbm, ⟨6, _⟩ => ⟨S24x1280x18, .f32⟩
  | .hbm, ⟨7, _⟩ => ⟨S24x18x128x160, .f32⟩
  | .hbm, ⟨8, _⟩ => ⟨S24x1280x2880, .bf16⟩
  | .hbm, ⟨9, _⟩ => ⟨S160, .f32⟩
  | .hbm, ⟨10, _⟩ => ⟨S24x1280x18x128, .fp8e4m3⟩
  | .hbm, ⟨11, _⟩ => ⟨S24x1280x18x128, .fp8e4m3⟩
  | .hbm, ⟨12, _⟩ => ⟨S18x24x20, .f32⟩
  | .hbm, ⟨13, _⟩ => ⟨S18x24x20, .f32⟩
  | .hbm, ⟨14, _⟩ => ⟨S24x18x1280x128, .fp8e4m3⟩
  | .hbm, ⟨15, _⟩ => ⟨S24x18x1280x128, .fp8e4m3⟩
  | .hbm, ⟨16, _⟩ => ⟨S24x18x160x1280, .bf16⟩
  | .hbm, ⟨17, _⟩ => ⟨S24x18x1280x128, .f32⟩
  | .hbm, ⟨18, _⟩ => ⟨S18x24x1280, .f32⟩
  | .hbm, ⟨19, _⟩ => ⟨S24x18x160x128, .f32⟩
  | .hbm, ⟨20, _⟩ => ⟨S24x2880x1280, .bf16⟩
  | .hbm, ⟨21, _⟩ => ⟨S160x1, .f32⟩
  | .hbm, ⟨22, _⟩ => ⟨S24x2880x1280, .bf16⟩
  | .hbm, ⟨23, _⟩ => ⟨S24x2880x1280, .bf16⟩
  | .hbm, ⟨24, _⟩ => ⟨S24x18x160x128, .f32⟩
  | .hbm, ⟨25, _⟩ => ⟨S24x1280x2880, .bf16⟩
  | .hbm, ⟨26, _⟩ => ⟨S24x1280x2880, .bf16⟩
  | .hbm, ⟨27, _⟩ => ⟨S24x18x128x160, .f32⟩
  | .local _ .vmem, ⟨0, _⟩ => ⟨S8x1x128x128, .fp8e4m3⟩
  | .local _ .vmem, ⟨1, _⟩ => ⟨S8x1x128x128, .fp8e4m3⟩
  | .local _ .vmem, ⟨2, _⟩ => ⟨S8x1x128x128, .fp8e4m3⟩
  | .local _ .vmem, ⟨3, _⟩ => ⟨S8x1x128x128, .fp8e4m3⟩
  | .local _ .vmem, ⟨4, _⟩ => ⟨S8x1x160x128, .bf16⟩
  | .local _ .vmem, ⟨5, _⟩ => ⟨S8x1x160x128, .bf16⟩
  | .local _ .vmem, ⟨6, _⟩ => ⟨S8x1x128x128, .f32⟩
  | .local _ .vmem, ⟨7, _⟩ => ⟨S8x1x128x128, .f32⟩
  | .local _ .vmem, ⟨8, _⟩ => ⟨S1x8x128, .f32⟩
  | .local _ .vmem, ⟨9, _⟩ => ⟨S1x8x128, .f32⟩
  | .local _ .vmem, ⟨10, _⟩ => ⟨S8x1x160x128, .f32⟩
  | .local _ .vmem, ⟨11, _⟩ => ⟨S8x1x160x128, .f32⟩
  | .local _ .vmem, ⟨12, _⟩ => ⟨S8x160x128, .bf16⟩
  | .local _ .vmem, ⟨13, _⟩ => ⟨S8x160x128, .bf16⟩
  | .local _ .vmem, ⟨14, _⟩ => ⟨S160x1, .f32⟩
  | .local _ .vmem, ⟨15, _⟩ => ⟨S8x160x128, .bf16⟩
  | .local _ .vmem, ⟨16, _⟩ => ⟨S8x160x128, .bf16⟩
  | .local _ .vmem, ⟨17, _⟩ => ⟨S8x160x128, .bf16⟩
  | .local _ .vmem, ⟨18, _⟩ => ⟨S8x160x128, .bf16⟩
  | .local _ .vmem, ⟨19, _⟩ => ⟨S8x1x160x128, .f32⟩
  | .local _ .vmem, ⟨20, _⟩ => ⟨S8x1x160x128, .f32⟩
  | .local _ .vmem, ⟨21, _⟩ => ⟨S160x128, .f32⟩
  | .local _ .smem, ⟨0, _⟩ => ⟨S1x8x20, .f32⟩
  | .local _ .smem, ⟨1, _⟩ => ⟨S1x8x20, .f32⟩
  | .local _ .smem, ⟨2, _⟩ => ⟨S1x8x20, .f32⟩
  | .local _ .smem, ⟨3, _⟩ => ⟨S1x8x20, .f32⟩
  | _, _ => ⟨S24x1280x18x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .smem, ⟨0, _⟩ => true
  | .smem, ⟨1, _⟩ => true
  | .smem, ⟨2, _⟩ => true
  | .smem, ⟨3, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12_0 : Ref sig .tc := ⟨.hbm, 22, rfl⟩
abbrev main_v12_1 : Ref sig .tc := ⟨.hbm, 23, rfl⟩
abbrev main_v12_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_scratch0 : Ref sig .tc := ⟨.vmem, 21, rfl⟩
abbrev cc0_stg0_0 : Ref sig .tc := ⟨.smem, 0, rfl⟩
abbrev cc0_stg0_1 : Ref sig .tc := ⟨.smem, 1, rfl⟩
abbrev cc0_stg1_0 : Ref sig .tc := ⟨.smem, 2, rfl⟩
abbrev cc0_stg1_1 : Ref sig .tc := ⟨.smem, 3, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24

abbrev nD : Nat := 1
abbrev τ : Topo := Topo.v7x

variable {F : FTy → Type} [BitOps F]

abbrev grid0 : Pipeline.Grid := ⟨3, ![18, 3, 10], ![false, false, false]⟩

def k0_off1 (i : grid0.Coords) (c0_i32_7 : BitVec 32) : Fin 3 → Nat :=
  let c0 : Index := 0#32
  let c0_8 : Index := 0#32
  let c2_i32 : BitVec 32 := 2#32
  let arg2 : BitVec 32 := BitVec.ofNat 32 (i 2).val
  let v27 : BitVec 32 := Scalar.muli c2_i32 arg2
  let v28 : BitVec 32 := Scalar.addi v27 c0_i32_7
  let v29 : Index := Scalar.indexCast v28
  ![0, 0, v29.toNat]
def k0_off2 (i : grid0.Coords) (c0_i32_7 : BitVec 32) : Fin 3 → Nat :=
  let c0_9 : Index := 0#32
  let c1 : Index := 1#32
  let c2_i32 : BitVec 32 := 2#32
  let arg2 : BitVec 32 := BitVec.ofNat 32 (i 2).val
  let v27 : BitVec 32 := Scalar.muli c2_i32 arg2
  let v28 : BitVec 32 := Scalar.addi v27 c0_i32_7
  let v31 : Index := Scalar.indexCast v28
  ![0, 1, v31.toNat]
def k0_off3 (i : grid0.Coords) (c0_i32_736 : BitVec 32) : Fin 3 → Nat :=
  let c0_737 : Index := 0#32
  let c2 : Index := 2#32
  let c2_i32_735 : BitVec 32 := 2#32
  let arg2 : BitVec 32 := BitVec.ofNat 32 (i 2).val
  let v3146 : BitVec 32 := Scalar.muli c2_i32_735 arg2
  let v3147 : BitVec 32 := Scalar.addi v3146 c0_i32_736
  let v3148 : Index := Scalar.indexCast v3147
  ![0, 2, v3148.toNat]
def k0_off4 (i : grid0.Coords) (c0_i32_736 : BitVec 32) : Fin 3 → Nat :=
  let c0_738 : Index := 0#32
  let c3 : Index := 3#32
  let c2_i32_735 : BitVec 32 := 2#32
  let arg2 : BitVec 32 := BitVec.ofNat 32 (i 2).val
  let v3146 : BitVec 32 := Scalar.muli c2_i32_735 arg2
  let v3147 : BitVec 32 := Scalar.addi v3146 c0_i32_736
  let v3150 : Index := Scalar.indexCast v3147
  ![0, 3, v3150.toNat]
def k0_off5 (i : grid0.Coords) (c0_i32_1499 : BitVec 32) : Fin 3 → Nat :=
  let c0_1500 : Index := 0#32
  let c4 : Index := 4#32
  let c2_i32_1498 : BitVec 32 := 2#32
  let arg2 : BitVec 32 := BitVec.ofNat 32 (i 2).val
  let v6265 : BitVec 32 := Scalar.muli c2_i32_1498 arg2
  let v6266 : BitVec 32 := Scalar.addi v6265 c0_i32_1499
  let v6267 : Index := Scalar.indexCast v6266
  ![0, 4, v6267.toNat]
def k0_off6 (i : grid0.Coords) (c0_i32_1499 : BitVec 32) : Fin 3 → Nat :=
  let c0_1501 : Index := 0#32
  let c5 : Index := 5#32
  let c2_i32_1498 : BitVec 32 := 2#32
  let arg2 : BitVec 32 := BitVec.ofNat 32 (i 2).val
  let v6265 : BitVec 32 := Scalar.muli c2_i32_1498 arg2
  let v6266 : BitVec 32 := Scalar.addi v6265 c0_i32_1499
  let v6269 : Index := Scalar.indexCast v6266
  ![0, 5, v6269.toNat]
def k0_off7 (i : grid0.Coords) (c0_i32_2262 : BitVec 32) : Fin 3 → Nat :=
  let c0_2263 : Index := 0#32
  let c6 : Index := 6#32
  let c2_i32_2261 : BitVec 32 := 2#32
  let arg2 : BitVec 32 := BitVec.ofNat 32 (i 2).val
  let v9384 : BitVec 32 := Scalar.muli c2_i32_2261 arg2
  let v9385 : BitVec 32 := Scalar.addi v9384 c0_i32_2262
  let v9386 : Index := Scalar.indexCast v9385
  ![0, 6, v9386.toNat]
def k0_off8 (i : grid0.Coords) (c0_i32_2262 : BitVec 32) : Fin 3 → Nat :=
  let c0_2264 : Index := 0#32
  let c7 : Index := 7#32
  let c2_i32_2261 : BitVec 32 := 2#32
  let arg2 : BitVec 32 := BitVec.ofNat 32 (i 2).val
  let v9384 : BitVec 32 := Scalar.muli c2_i32_2261 arg2
  let v9385 : BitVec 32 := Scalar.addi v9384 c0_i32_2262
  let v9388 : Index := Scalar.indexCast v9385
  ![0, 7, v9388.toNat]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, arg2.toNat, c0_i32.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, arg2.toNat, c0_i32.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat, arg2.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, arg2.toNat, c0_i32.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_7 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat, arg2.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat, arg2.toNat]

def cc0_transform_11 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat, arg2.toNat]

def cc0_transform_12 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, arg0.toNat, c0_i32.toNat, c0_i32_0.toNat]

abbrev stage0_0 : Fin 2 → Memref sig .tc .smem S1x8x20 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .smem S1x8x20 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S8x1x128x128 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S8x1x128x128 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S8x1x160x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S8x1x128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x8x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S8x1x160x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S8x160x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev stage0_9 : Fin 1 → Memref sig .tc .vmem S160x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false, false]

abbrev stage0_10 : Fin 2 → Memref sig .tc .vmem S8x160x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]

abbrev stage0_11 : Fin 2 → Memref sig .tc .vmem S8x160x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, true]

abbrev stage0_12 : Fin 2 → Memref sig .tc .vmem S8x1x160x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true, false]
-- ==== KernelIdeal.lean ====
variable {F : FTy → Type} [FloatOps F] [Named F]
def κ : String → Option EReal := fun
  | "inv_n_v" => some ((1 / 160 : ℝ) : EReal)
  | _ => none
-- ==== ReferenceIdeal.lean ====
abbrev S24x1280x18x128 : Shape := ⟨4, ![24, 1280, 18, 128]⟩
abbrev S24x20x18 : Shape := ⟨3, ![24, 20, 18]⟩
abbrev S24x1280x18x160 : Shape := ⟨4, ![24, 1280, 18, 160]⟩
abbrev S24x1280x18 : Shape := ⟨3, ![24, 1280, 18]⟩
abbrev S24x18x128x160 : Shape := ⟨4, ![24, 18, 128, 160]⟩
abbrev S24x1280x2880 : Shape := ⟨3, ![24, 1280, 2880]⟩
abbrev S160 : Shape := ⟨1, ![160]⟩
abbrev S24x20x64x18x128 : Shape := ⟨5, ![24, 20, 64, 18, 128]⟩
abbrev S_ : Shape := ⟨0, ![]⟩
abbrev S24x20x1x18x128 : Shape := ⟨5, ![24, 20, 1, 18, 128]⟩
abbrev S24x20x18x128 : Shape := ⟨4, ![24, 20, 18, 128]⟩
abbrev S24x20x64x18 : Shape := ⟨4, ![24, 20, 64, 18]⟩
abbrev S24x20x18x64 : Shape := ⟨4, ![24, 20, 18, 64]⟩
abbrev S24x20x18x64x1 : Shape := ⟨5, ![24, 20, 18, 64, 1]⟩
abbrev S64 : Shape := ⟨1, ![64]⟩
abbrev S64x1 : Shape := ⟨2, ![64, 1]⟩
abbrev S1x64 : Shape := ⟨2, ![1, 64]⟩
abbrev S64x64 : Shape := ⟨2, ![64, 64]⟩
abbrev S24x20x18x64x64 : Shape := ⟨5, ![24, 20, 18, 64, 64]⟩
abbrev S24x20x18x1x1 : Shape := ⟨5, ![24, 20, 18, 1, 1]⟩
abbrev S1x1x1x64x64 : Shape := ⟨5, ![1, 1, 1, 64, 64]⟩
abbrev S24x20x64x18x1 : Shape := ⟨5, ![24, 20, 64, 18, 1]⟩
abbrev S24x20x18x64x128 : Shape := ⟨5, ![24, 20, 18, 64, 128]⟩
abbrev S24x20x64x18x160 : Shape := ⟨5, ![24, 20, 64, 18, 160]⟩
abbrev S24x20x18x64x160 : Shape := ⟨5, ![24, 20, 18, 64, 160]⟩
abbrev S24x20x1x18x1 : Shape := ⟨5, ![24, 20, 1, 18, 1]⟩
abbrev S24x1x18x64x160 : Shape := ⟨5, ![24, 1, 18, 64, 160]⟩
abbrev S24x18x64x160 : Shape := ⟨4, ![24, 18, 64, 160]⟩
abbrev S24x1x18x64x128 : Shape := ⟨5, ![24, 1, 18, 64, 128]⟩
abbrev S24x18x64x128 : Shape := ⟨4, ![24, 18, 64, 128]⟩
abbrev S24x1x64x18x128 : Shape := ⟨5, ![24, 1, 64, 18, 128]⟩
abbrev S24x64x18x128 : Shape := ⟨4, ![24, 64, 18, 128]⟩
abbrev S24x18x160x64 : Shape := ⟨4, ![24, 18, 160, 64]⟩
abbrev S24x64x18x160 : Shape := ⟨4, ![24, 64, 18, 160]⟩
abbrev S24x1x18x64x64 : Shape := ⟨5, ![24, 1, 18, 64, 64]⟩
abbrev S24x18x64x64 : Shape := ⟨4, ![24, 18, 64, 64]⟩
abbrev S24x1x18x128 : Shape := ⟨4, ![24, 1, 18, 128]⟩
abbrev S24x18x128 : Shape := ⟨3, ![24, 18, 128]⟩
abbrev S24x18x128x1 : Shape := ⟨4, ![24, 18, 128, 1]⟩
abbrev S24x1024x18x160 : Shape := ⟨4, ![24, 1024, 18, 160]⟩
abbrev S24x256x18x160 : Shape := ⟨4, ![24, 256, 18, 160]⟩
abbrev S24x1280x18x1 : Shape := ⟨4, ![24, 1280, 18, 1]⟩
abbrev S1x1x1x160 : Shape := ⟨4, ![1, 1, 1, 160]⟩

abbrev nBuf : Space → Nat
  | .hbm => 695
  | .vmem => 4
  | .smem => 0
  | _ => 0

abbrev hbmTy0_0 (i : Nat) : BufTy := match i % 128 with
  | 0 => ⟨S24x1280x18x128, .f32⟩
  | 1 => ⟨S24x20x18, .f32⟩
  | 2 => ⟨S24x1280x18x128, .f32⟩
  | 3 => ⟨S24x20x18, .f32⟩
  | 4 => ⟨S24x1280x18x160, .bf16⟩
  | 5 => ⟨S24x1280x18x128, .f32⟩
  | 6 => ⟨S24x1280x18, .f32⟩
  | 7 => ⟨S24x18x128x160, .f32⟩
  | 8 => ⟨S24x1280x2880, .bf16⟩
  | 9 => ⟨S160, .f32⟩
  | 10 => ⟨S24x1280x18x128, .fp8e4m3⟩
  | 11 => ⟨S24x1280x18x128, .fp8e4m3⟩
  | 12 => ⟨S24x1280x18x128, .bf16⟩
  | 13 => ⟨S24x1280x18x128, .bf16⟩
  | 14 => ⟨S24x20x64x18x128, .f32⟩
  | 15 => ⟨S_, .f32⟩
  | 16 => ⟨S_, .f32⟩
  | 17 => ⟨S24x20x64x18x128, .f32⟩
  | 18 => ⟨S24x20x1x18x128, .f32⟩
  | 19 => ⟨S24x20x18x128, .f32⟩
  | 20 => ⟨S24x20x64x18x128, .bf16⟩
  | 21 => ⟨S24x20x64x18x128, .bf16⟩
  | 22 => ⟨S24x20x64x18x128, .f32⟩
  | 23 => ⟨S24x20x64x18x128, .bf16⟩
  | 24 => ⟨S24x20x64x18x128, .bf16⟩
  | 25 => ⟨S24x20x64x18x128, .bf16⟩
  | 26 => ⟨S24x20x64x18x128, .f32⟩
  | 27 => ⟨S24x20x64x18x128, .f32⟩
  | 28 => ⟨S24x20x64x18x128, .bf16⟩
  | 29 => ⟨S24x20x64x18x128, .bf16⟩
  | 30 => ⟨S24x20x1x18x128, .f32⟩
  | 31 => ⟨S24x20x64x18x128, .f32⟩
  | 32 => ⟨S24x20x64x18x128, .f32⟩
  | 33 => ⟨S24x20x64x18x128, .f32⟩
  | 34 => ⟨S24x20x64x18x128, .bf16⟩
  | 35 => ⟨S24x20x64x18x128, .bf16⟩
  | 36 => ⟨S24x20x64x18, .f32⟩
  | 37 => ⟨S24x20x18x64, .f32⟩
  | 38 => ⟨S24x20x18x64x1, .f32⟩
  | 39 => ⟨S64, .i32⟩
  | 40 => ⟨S64x1, .i32⟩
  | 41 => ⟨S1x64, .i32⟩
  | 42 => ⟨S64x64, .i32⟩
  | 43 => ⟨S64x64, .i32⟩
  | 44 => ⟨S64x64, .i1⟩
  | 45 => ⟨S64x1, .i32⟩
  | 46 => ⟨S1x64, .i32⟩
  | 47 => ⟨S64x64, .i32⟩
  | 48 => ⟨S64x64, .i32⟩
  | 49 => ⟨S64x64, .i1⟩
  | 50 => ⟨S24x20x18x64x64, .f32⟩
  | 51 => ⟨S24x20x18, .f32⟩
  | 52 => ⟨S24x20x18x1x1, .f32⟩
  | 53 => ⟨S24x20x18x64x1, .f32⟩
  | 54 => ⟨S24x20x18x64x1, .f32⟩
  | 55 => ⟨S24x20x18x64x64, .f32⟩
  | 56 => ⟨S24x20x18x64x64, .f32⟩
  | 57 => ⟨S_, .f32⟩
  | 58 => ⟨S_, .f32⟩
  | 59 => ⟨S24x20x18x64x64, .i1⟩
  | 60 => ⟨S24x20x18x64x64, .f32⟩
  | 61 => ⟨S24x20x18x64x64, .f32⟩
  | 62 => ⟨S24x20x18x64x64, .f32⟩
  | 63 => ⟨S24x20x18, .f32⟩
  | 64 => ⟨S24x20x18x1x1, .f32⟩
  | 65 => ⟨S24x20x18x64x64, .f32⟩
  | 66 => ⟨S24x20x18x64x64, .f32⟩
  | 67 => ⟨S_, .f32⟩
  | 68 => ⟨S_, .f32⟩
  | 69 => ⟨S24x20x18x64x64, .i1⟩
  | 70 => ⟨S24x20x18x64x64, .f32⟩
  | 71 => ⟨S24x20x18x64x64, .f32⟩
  | 72 => ⟨S64x64, .i32⟩
  | 73 => ⟨S64x64, .i32⟩
  | 74 => ⟨S_, .i32⟩
  | 75 => ⟨S64x64, .i32⟩
  | 76 => ⟨S64x64, .i32⟩
  | 77 => ⟨S64x64, .i1⟩
  | 78 => ⟨S64x64, .f32⟩
  | 79 => ⟨S24x20x18x64x64, .f32⟩
  | 80 => ⟨S1x1x1x64x64, .f32⟩
  | 81 => ⟨S24x20x18x64x64, .f32⟩
  | 82 => ⟨S24x20x18x64x64, .f32⟩
  | 83 => ⟨S24x20x18x64x64, .f32⟩
  | 84 => ⟨S24x20x18x64x64, .f32⟩
  | 85 => ⟨S24x20x18x64x64, .f32⟩
  | 86 => ⟨S24x20x18x64x64, .f32⟩
  | 87 => ⟨S24x20x18x64x64, .f32⟩
  | 88 => ⟨S24x20x18x64x64, .f32⟩
  | 89 => ⟨S24x20x18x64x64, .f32⟩
  | 90 => ⟨S24x20x18x64x64, .f32⟩
  | 91 => ⟨S24x20x18x64x64, .f32⟩
  | 92 => ⟨S24x20x18x64x64, .f32⟩
  | 93 => ⟨S24x20x18x64x64, .f32⟩
  | 94 => ⟨S24x20x18x64x64, .f32⟩
  | 95 => ⟨S24x20x18x64x64, .f32⟩
  | 96 => ⟨S24x20x18x64x64, .f32⟩
  | 97 => ⟨S24x20x18x64x64, .f32⟩
  | 98 => ⟨S24x20x18x1x1, .f32⟩
  | 99 => ⟨S24x20x64x18x1, .f32⟩
  | 100 => ⟨S24x20x64x18x128, .f32⟩
  | 101 => ⟨S24x20x64x18x128, .f32⟩
  | 102 => ⟨S24x20x64x18x128, .f32⟩
  | 103 => ⟨S24x20x18x64x128, .f32⟩
  | 104 => ⟨S24x20x18x64x128, .f32⟩
  | 105 => ⟨S24x20x18x64x128, .f32⟩
  | 106 => ⟨S24x20x64x18x1, .f32⟩
  | 107 => ⟨S24x20x64x18x160, .bf16⟩
  | 108 => ⟨S24x20x64x18x160, .f32⟩
  | 109 => ⟨S24x20x64x18x160, .f32⟩
  | 110 => ⟨S24x20x64x18x160, .f32⟩
  | 111 => ⟨S24x20x18x64x160, .f32⟩
  | 112 => ⟨S24x20x1x18x1, .f32⟩
  | 113 => ⟨S24x20x64x18x128, .f32⟩
  | 114 => ⟨S24x20x64x18x128, .f32⟩
  | 115 => ⟨S24x20x64x18x128, .f32⟩
  | 116 => ⟨S24x20x1x18x1, .f32⟩
  | 117 => ⟨S24x20x64x18x128, .f32⟩
  | 118 => ⟨S24x20x64x18x128, .f32⟩
  | 119 => ⟨S24x20x64x18x128, .f32⟩
  | 120 => ⟨S24x20x18x128, .f32⟩
  | 121 => ⟨S24x1x18x64x160, .f32⟩
  | 122 => ⟨S24x18x64x160, .f32⟩
  | 123 => ⟨S24x1x18x64x128, .f32⟩
  | 124 => ⟨S24x18x64x128, .f32⟩
  | 125 => ⟨S24x18x64x160, .f32⟩
  | 126 => ⟨S24x18x64x160, .f32⟩
  | 127 => ⟨S24x1x64x18x128, .f32⟩
  | _ => ⟨S24x1280x18x128, .f32⟩

abbrev hbmTy0_1 (i : Nat) : BufTy := match i % 128 with
  | 0 => ⟨S24x64x18x128, .f32⟩
  | 1 => ⟨S24x18x160x64, .f32⟩
  | 2 => ⟨S24x64x18x160, .f32⟩
  | 3 => ⟨S24x1x18x64x64, .f32⟩
  | 4 => ⟨S24x18x64x64, .f32⟩
  | 5 => ⟨S24x18x160x64, .f32⟩
  | 6 => ⟨S24x64x18x160, .f32⟩
  | 7 => ⟨S24x64x18x160, .f32⟩
  | 8 => ⟨S_, .f32⟩
  | 9 => ⟨S24x64x18x160, .f32⟩
  | 10 => ⟨S24x64x18x160, .f32⟩
  | 11 => ⟨S24x1x18x128, .f32⟩
  | 12 => ⟨S24x18x128, .f32⟩
  | 13 => ⟨S24x18x128x1, .f32⟩
  | 14 => ⟨S24x18x128x160, .f32⟩
  | 15 => ⟨S24x18x128x160, .f32⟩
  | 16 => ⟨S24x1x64x18x128, .f32⟩
  | 17 => ⟨S24x64x18x128, .f32⟩
  | 18 => ⟨S24x18x128x160, .f32⟩
  | 19 => ⟨S24x18x128x160, .f32⟩
  | 20 => ⟨S24x1x18x64x160, .f32⟩
  | 21 => ⟨S24x18x64x160, .f32⟩
  | 22 => ⟨S24x1x18x64x128, .f32⟩
  | 23 => ⟨S24x18x64x128, .f32⟩
  | 24 => ⟨S24x18x64x160, .f32⟩
  | 25 => ⟨S24x18x64x160, .f32⟩
  | 26 => ⟨S24x1x64x18x128, .f32⟩
  | 27 => ⟨S24x64x18x128, .f32⟩
  | 28 => ⟨S24x18x160x64, .f32⟩
  | 29 => ⟨S24x64x18x160, .f32⟩
  | 30 => ⟨S24x1x18x64x64, .f32⟩
  | 31 => ⟨S24x18x64x64, .f32⟩
  | 32 => ⟨S24x18x160x64, .f32⟩
  | 33 => ⟨S24x64x18x160, .f32⟩
  | 34 => ⟨S24x64x18x160, .f32⟩
  | 35 => ⟨S_, .f32⟩
  | 36 => ⟨S24x64x18x160, .f32⟩
  | 37 => ⟨S24x64x18x160, .f32⟩
  | 38 => ⟨S24x1x18x128, .f32⟩
  | 39 => ⟨S24x18x128, .f32⟩
  | 40 => ⟨S24x18x128x1, .f32⟩
  | 41 => ⟨S24x18x128x160, .f32⟩
  | 42 => ⟨S24x18x128x160, .f32⟩
  | 43 => ⟨S24x1x64x18x128, .f32⟩
  | 44 => ⟨S24x64x18x128, .f32⟩
  | 45 => ⟨S24x18x128x160, .f32⟩
  | 46 => ⟨S24x18x128x160, .f32⟩
  | 47 => ⟨S24x1x18x64x160, .f32⟩
  | 48 => ⟨S24x18x64x160, .f32⟩
  | 49 => ⟨S24x1x18x64x128, .f32⟩
  | 50 => ⟨S24x18x64x128, .f32⟩
  | 51 => ⟨S24x18x64x160, .f32⟩
  | 52 => ⟨S24x18x64x160, .f32⟩
  | 53 => ⟨S24x1x64x18x128, .f32⟩
  | 54 => ⟨S24x64x18x128, .f32⟩
  | 55 => ⟨S24x18x160x64, .f32⟩
  | 56 => ⟨S24x64x18x160, .f32⟩
  | 57 => ⟨S24x1x18x64x64, .f32⟩
  | 58 => ⟨S24x18x64x64, .f32⟩
  | 59 => ⟨S24x18x160x64, .f32⟩
  | 60 => ⟨S24x64x18x160, .f32⟩
  | 61 => ⟨S24x64x18x160, .f32⟩
  | 62 => ⟨S_, .f32⟩
  | 63 => ⟨S24x64x18x160, .f32⟩
  | 64 => ⟨S24x64x18x160, .f32⟩
  | 65 => ⟨S24x1x18x128, .f32⟩
  | 66 => ⟨S24x18x128, .f32⟩
  | 67 => ⟨S24x18x128x1, .f32⟩
  | 68 => ⟨S24x18x128x160, .f32⟩
  | 69 => ⟨S24x18x128x160, .f32⟩
  | 70 => ⟨S24x1x64x18x128, .f32⟩
  | 71 => ⟨S24x64x18x128, .f32⟩
  | 72 => ⟨S24x18x128x160, .f32⟩
  | 73 => ⟨S24x18x128x160, .f32⟩
  | 74 => ⟨S24x1x18x64x160, .f32⟩
  | 75 => ⟨S24x18x64x160, .f32⟩
  | 76 => ⟨S24x1x18x64x128, .f32⟩
  | 77 => ⟨S24x18x64x128, .f32⟩
  | 78 => ⟨S24x18x64x160, .f32⟩
  | 79 => ⟨S24x18x64x160, .f32⟩
  | 80 => ⟨S24x1x64x18x128, .f32⟩
  | 81 => ⟨S24x64x18x128, .f32⟩
  | 82 => ⟨S24x18x160x64, .f32⟩
  | 83 => ⟨S24x64x18x160, .f32⟩
  | 84 => ⟨S24x1x18x64x64, .f32⟩
  | 85 => ⟨S24x18x64x64, .f32⟩
  | 86 => ⟨S24x18x160x64, .f32⟩
  | 87 => ⟨S24x64x18x160, .f32⟩
  | 88 => ⟨S24x64x18x160, .f32⟩
  | 89 => ⟨S_, .f32⟩
  | 90 => ⟨S24x64x18x160, .f32⟩
  | 91 => ⟨S24x64x18x160, .f32⟩
  | 92 => ⟨S24x1x18x128, .f32⟩
  | 93 => ⟨S24x18x128, .f32⟩
  | 94 => ⟨S24x18x128x1, .f32⟩
  | 95 => ⟨S24x18x128x160, .f32⟩
  | 96 => ⟨S24x18x128x160, .f32⟩
  | 97 => ⟨S24x1x64x18x128, .f32⟩
  | 98 => ⟨S24x64x18x128, .f32⟩
  | 99 => ⟨S24x18x128x160, .f32⟩
  | 100 => ⟨S24x18x128x160, .f32⟩
  | 101 => ⟨S24x1x18x64x160, .f32⟩
  | 102 => ⟨S24x18x64x160, .f32⟩
  | 103 => ⟨S24x1x18x64x128, .f32⟩
  | 104 => ⟨S24x18x64x128, .f32⟩
  | 105 => ⟨S24x18x64x160, .f32⟩
  | 106 => ⟨S24x18x64x160, .f32⟩
  | 107 => ⟨S24x1x64x18x128, .f32⟩
  | 108 => ⟨S24x64x18x128, .f32⟩
  | 109 => ⟨S24x18x160x64, .f32⟩
  | 110 => ⟨S24x64x18x160, .f32⟩
  | 111 => ⟨S24x1x18x64x64, .f32⟩
  | 112 => ⟨S24x18x64x64, .f32⟩
  | 113 => ⟨S24x18x160x64, .f32⟩
  | 114 => ⟨S24x64x18x160, .f32⟩
  | 115 => ⟨S24x64x18x160, .f32⟩
  | 116 => ⟨S_, .f32⟩
  | 117 => ⟨S24x64x18x160, .f32⟩
  | 118 => ⟨S24x64x18x160, .f32⟩
  | 119 => ⟨S24x1x18x128, .f32⟩
  | 120 => ⟨S24x18x128, .f32⟩
  | 121 => ⟨S24x18x128x1, .f32⟩
  | 122 => ⟨S24x18x128x160, .f32⟩
  | 123 => ⟨S24x18x128x160, .f32⟩
  | 124 => ⟨S24x1x64x18x128, .f32⟩
  | 125 => ⟨S24x64x18x128, .f32⟩
  | 126 => ⟨S24x18x128x160, .f32⟩
  | 127 => ⟨S24x18x128x160, .f32⟩
  | _ => ⟨S24x1280x18x128, .f32⟩

abbrev hbmTy0_2 (i : Nat) : BufTy := match i % 128 with
  | 0 => ⟨S24x1x18x64x160, .f32⟩
  | 1 => ⟨S24x18x64x160, .f32⟩
  | 2 => ⟨S24x1x18x64x128, .f32⟩
  | 3 => ⟨S24x18x64x128, .f32⟩
  | 4 => ⟨S24x18x64x160, .f32⟩
  | 5 => ⟨S24x18x64x160, .f32⟩
  | 6 => ⟨S24x1x64x18x128, .f32⟩
  | 7 => ⟨S24x64x18x128, .f32⟩
  | 8 => ⟨S24x18x160x64, .f32⟩
  | 9 => ⟨S24x64x18x160, .f32⟩
  | 10 => ⟨S24x1x18x64x64, .f32⟩
  | 11 => ⟨S24x18x64x64, .f32⟩
  | 12 => ⟨S24x18x160x64, .f32⟩
  | 13 => ⟨S24x64x18x160, .f32⟩
  | 14 => ⟨S24x64x18x160, .f32⟩
  | 15 => ⟨S_, .f32⟩
  | 16 => ⟨S24x64x18x160, .f32⟩
  | 17 => ⟨S24x64x18x160, .f32⟩
  | 18 => ⟨S24x1x18x128, .f32⟩
  | 19 => ⟨S24x18x128, .f32⟩
  | 20 => ⟨S24x18x128x1, .f32⟩
  | 21 => ⟨S24x18x128x160, .f32⟩
  | 22 => ⟨S24x18x128x160, .f32⟩
  | 23 => ⟨S24x1x64x18x128, .f32⟩
  | 24 => ⟨S24x64x18x128, .f32⟩
  | 25 => ⟨S24x18x128x160, .f32⟩
  | 26 => ⟨S24x18x128x160, .f32⟩
  | 27 => ⟨S24x1x18x64x160, .f32⟩
  | 28 => ⟨S24x18x64x160, .f32⟩
  | 29 => ⟨S24x1x18x64x128, .f32⟩
  | 30 => ⟨S24x18x64x128, .f32⟩
  | 31 => ⟨S24x18x64x160, .f32⟩
  | 32 => ⟨S24x18x64x160, .f32⟩
  | 33 => ⟨S24x1x64x18x128, .f32⟩
  | 34 => ⟨S24x64x18x128, .f32⟩
  | 35 => ⟨S24x18x160x64, .f32⟩
  | 36 => ⟨S24x64x18x160, .f32⟩
  | 37 => ⟨S24x1x18x64x64, .f32⟩
  | 38 => ⟨S24x18x64x64, .f32⟩
  | 39 => ⟨S24x18x160x64, .f32⟩
  | 40 => ⟨S24x64x18x160, .f32⟩
  | 41 => ⟨S24x64x18x160, .f32⟩
  | 42 => ⟨S_, .f32⟩
  | 43 => ⟨S24x64x18x160, .f32⟩
  | 44 => ⟨S24x64x18x160, .f32⟩
  | 45 => ⟨S24x1x18x128, .f32⟩
  | 46 => ⟨S24x18x128, .f32⟩
  | 47 => ⟨S24x18x128x1, .f32⟩
  | 48 => ⟨S24x18x128x160, .f32⟩
  | 49 => ⟨S24x18x128x160, .f32⟩
  | 50 => ⟨S24x1x64x18x128, .f32⟩
  | 51 => ⟨S24x64x18x128, .f32⟩
  | 52 => ⟨S24x18x128x160, .f32⟩
  | 53 => ⟨S24x18x128x160, .f32⟩
  | 54 => ⟨S24x1x18x64x160, .f32⟩
  | 55 => ⟨S24x18x64x160, .f32⟩
  | 56 => ⟨S24x1x18x64x128, .f32⟩
  | 57 => ⟨S24x18x64x128, .f32⟩
  | 58 => ⟨S24x18x64x160, .f32⟩
  | 59 => ⟨S24x18x64x160, .f32⟩
  | 60 => ⟨S24x1x64x18x128, .f32⟩
  | 61 => ⟨S24x64x18x128, .f32⟩
  | 62 => ⟨S24x18x160x64, .f32⟩
  | 63 => ⟨S24x64x18x160, .f32⟩
  | 64 => ⟨S24x1x18x64x64, .f32⟩
  | 65 => ⟨S24x18x64x64, .f32⟩
  | 66 => ⟨S24x18x160x64, .f32⟩
  | 67 => ⟨S24x64x18x160, .f32⟩
  | 68 => ⟨S24x64x18x160, .f32⟩
  | 69 => ⟨S_, .f32⟩
  | 70 => ⟨S24x64x18x160, .f32⟩
  | 71 => ⟨S24x64x18x160, .f32⟩
  | 72 => ⟨S24x1x18x128, .f32⟩
  | 73 => ⟨S24x18x128, .f32⟩
  | 74 => ⟨S24x18x128x1, .f32⟩
  | 75 => ⟨S24x18x128x160, .f32⟩
  | 76 => ⟨S24x18x128x160, .f32⟩
  | 77 => ⟨S24x1x64x18x128, .f32⟩
  | 78 => ⟨S24x64x18x128, .f32⟩
  | 79 => ⟨S24x18x128x160, .f32⟩
  | 80 => ⟨S24x18x128x160, .f32⟩
  | 81 => ⟨S24x1x18x64x160, .f32⟩
  | 82 => ⟨S24x18x64x160, .f32⟩
  | 83 => ⟨S24x1x18x64x128, .f32⟩
  | 84 => ⟨S24x18x64x128, .f32⟩
  | 85 => ⟨S24x18x64x160, .f32⟩
  | 86 => ⟨S24x18x64x160, .f32⟩
  | 87 => ⟨S24x1x64x18x128, .f32⟩
  | 88 => ⟨S24x64x18x128, .f32⟩
  | 89 => ⟨S24x18x160x64, .f32⟩
  | 90 => ⟨S24x64x18x160, .f32⟩
  | 91 => ⟨S24x1x18x64x64, .f32⟩
  | 92 => ⟨S24x18x64x64, .f32⟩
  | 93 => ⟨S24x18x160x64, .f32⟩
  | 94 => ⟨S24x64x18x160, .f32⟩
  | 95 => ⟨S24x64x18x160, .f32⟩
  | 96 => ⟨S_, .f32⟩
  | 97 => ⟨S24x64x18x160, .f32⟩
  | 98 => ⟨S24x64x18x160, .f32⟩
  | 99 => ⟨S24x1x18x128, .f32⟩
  | 100 => ⟨S24x18x128, .f32⟩
  | 101 => ⟨S24x18x128x1, .f32⟩
  | 102 => ⟨S24x18x128x160, .f32⟩
  | 103 => ⟨S24x18x128x160, .f32⟩
  | 104 => ⟨S24x1x64x18x128, .f32⟩
  | 105 => ⟨S24x64x18x128, .f32⟩
  | 106 => ⟨S24x18x128x160, .f32⟩
  | 107 => ⟨S24x18x128x160, .f32⟩
  | 108 => ⟨S24x1x18x64x160, .f32⟩
  | 109 => ⟨S24x18x64x160, .f32⟩
  | 110 => ⟨S24x1x18x64x128, .f32⟩
  | 111 => ⟨S24x18x64x128, .f32⟩
  | 112 => ⟨S24x18x64x160, .f32⟩
  | 113 => ⟨S24x18x64x160, .f32⟩
  | 114 => ⟨S24x1x64x18x128, .f32⟩
  | 115 => ⟨S24x64x18x128, .f32⟩
  | 116 => ⟨S24x18x160x64, .f32⟩
  | 117 => ⟨S24x64x18x160, .f32⟩
  | 118 => ⟨S24x1x18x64x64, .f32⟩
  | 119 => ⟨S24x18x64x64, .f32⟩
  | 120 => ⟨S24x18x160x64, .f32⟩
  | 121 => ⟨S24x64x18x160, .f32⟩
  | 122 => ⟨S24x64x18x160, .f32⟩
  | 123 => ⟨S_, .f32⟩
  | 124 => ⟨S24x64x18x160, .f32⟩
  | 125 => ⟨S24x64x18x160, .f32⟩
  | 126 => ⟨S24x1x18x128, .f32⟩
  | 127 => ⟨S24x18x128, .f32⟩
  | _ => ⟨S24x1280x18x128, .f32⟩

abbrev hbmTy0_3 (i : Nat) : BufTy := match i % 128 with
  | 0 => ⟨S24x18x128x1, .f32⟩
  | 1 => ⟨S24x18x128x160, .f32⟩
  | 2 => ⟨S24x18x128x160, .f32⟩
  | 3 => ⟨S24x1x64x18x128, .f32⟩
  | 4 => ⟨S24x64x18x128, .f32⟩
  | 5 => ⟨S24x18x128x160, .f32⟩
  | 6 => ⟨S24x18x128x160, .f32⟩
  | 7 => ⟨S24x1x18x64x160, .f32⟩
  | 8 => ⟨S24x18x64x160, .f32⟩
  | 9 => ⟨S24x1x18x64x128, .f32⟩
  | 10 => ⟨S24x18x64x128, .f32⟩
  | 11 => ⟨S24x18x64x160, .f32⟩
  | 12 => ⟨S24x18x64x160, .f32⟩
  | 13 => ⟨S24x1x64x18x128, .f32⟩
  | 14 => ⟨S24x64x18x128, .f32⟩
  | 15 => ⟨S24x18x160x64, .f32⟩
  | 16 => ⟨S24x64x18x160, .f32⟩
  | 17 => ⟨S24x1x18x64x64, .f32⟩
  | 18 => ⟨S24x18x64x64, .f32⟩
  | 19 => ⟨S24x18x160x64, .f32⟩
  | 20 => ⟨S24x64x18x160, .f32⟩
  | 21 => ⟨S24x64x18x160, .f32⟩
  | 22 => ⟨S_, .f32⟩
  | 23 => ⟨S24x64x18x160, .f32⟩
  | 24 => ⟨S24x64x18x160, .f32⟩
  | 25 => ⟨S24x1x18x128, .f32⟩
  | 26 => ⟨S24x18x128, .f32⟩
  | 27 => ⟨S24x18x128x1, .f32⟩
  | 28 => ⟨S24x18x128x160, .f32⟩
  | 29 => ⟨S24x18x128x160, .f32⟩
  | 30 => ⟨S24x1x64x18x128, .f32⟩
  | 31 => ⟨S24x64x18x128, .f32⟩
  | 32 => ⟨S24x18x128x160, .f32⟩
  | 33 => ⟨S24x18x128x160, .f32⟩
  | 34 => ⟨S24x1x18x64x160, .f32⟩
  | 35 => ⟨S24x18x64x160, .f32⟩
  | 36 => ⟨S24x1x18x64x128, .f32⟩
  | 37 => ⟨S24x18x64x128, .f32⟩
  | 38 => ⟨S24x18x64x160, .f32⟩
  | 39 => ⟨S24x18x64x160, .f32⟩
  | 40 => ⟨S24x1x64x18x128, .f32⟩
  | 41 => ⟨S24x64x18x128, .f32⟩
  | 42 => ⟨S24x18x160x64, .f32⟩
  | 43 => ⟨S24x64x18x160, .f32⟩
  | 44 => ⟨S24x1x18x64x64, .f32⟩
  | 45 => ⟨S24x18x64x64, .f32⟩
  | 46 => ⟨S24x18x160x64, .f32⟩
  | 47 => ⟨S24x64x18x160, .f32⟩
  | 48 => ⟨S24x64x18x160, .f32⟩
  | 49 => ⟨S_, .f32⟩
  | 50 => ⟨S24x64x18x160, .f32⟩
  | 51 => ⟨S24x64x18x160, .f32⟩
  | 52 => ⟨S24x1x18x128, .f32⟩
  | 53 => ⟨S24x18x128, .f32⟩
  | 54 => ⟨S24x18x128x1, .f32⟩
  | 55 => ⟨S24x18x128x160, .f32⟩
  | 56 => ⟨S24x18x128x160, .f32⟩
  | 57 => ⟨S24x1x64x18x128, .f32⟩
  | 58 => ⟨S24x64x18x128, .f32⟩
  | 59 => ⟨S24x18x128x160, .f32⟩
  | 60 => ⟨S24x18x128x160, .f32⟩
  | 61 => ⟨S24x1x18x64x160, .f32⟩
  | 62 => ⟨S24x18x64x160, .f32⟩
  | 63 => ⟨S24x1x18x64x128, .f32⟩
  | 64 => ⟨S24x18x64x128, .f32⟩
  | 65 => ⟨S24x18x64x160, .f32⟩
  | 66 => ⟨S24x18x64x160, .f32⟩
  | 67 => ⟨S24x1x64x18x128, .f32⟩
  | 68 => ⟨S24x64x18x128, .f32⟩
  | 69 => ⟨S24x18x160x64, .f32⟩
  | 70 => ⟨S24x64x18x160, .f32⟩
  | 71 => ⟨S24x1x18x64x64, .f32⟩
  | 72 => ⟨S24x18x64x64, .f32⟩
  | 73 => ⟨S24x18x160x64, .f32⟩
  | 74 => ⟨S24x64x18x160, .f32⟩
  | 75 => ⟨S24x64x18x160, .f32⟩
  | 76 => ⟨S_, .f32⟩
  | 77 => ⟨S24x64x18x160, .f32⟩
  | 78 => ⟨S24x64x18x160, .f32⟩
  | 79 => ⟨S24x1x18x128, .f32⟩
  | 80 => ⟨S24x18x128, .f32⟩
  | 81 => ⟨S24x18x128x1, .f32⟩
  | 82 => ⟨S24x18x128x160, .f32⟩
  | 83 => ⟨S24x18x128x160, .f32⟩
  | 84 => ⟨S24x1x64x18x128, .f32⟩
  | 85 => ⟨S24x64x18x128, .f32⟩
  | 86 => ⟨S24x18x128x160, .f32⟩
  | 87 => ⟨S24x18x128x160, .f32⟩
  | 88 => ⟨S24x1x18x64x160, .f32⟩
  | 89 => ⟨S24x18x64x160, .f32⟩
  | 90 => ⟨S24x1x18x64x128, .f32⟩
  | 91 => ⟨S24x18x64x128, .f32⟩
  | 92 => ⟨S24x18x64x160, .f32⟩
  | 93 => ⟨S24x18x64x160, .f32⟩
  | 94 => ⟨S24x1x64x18x128, .f32⟩
  | 95 => ⟨S24x64x18x128, .f32⟩
  | 96 => ⟨S24x18x160x64, .f32⟩
  | 97 => ⟨S24x64x18x160, .f32⟩
  | 98 => ⟨S24x1x18x64x64, .f32⟩
  | 99 => ⟨S24x18x64x64, .f32⟩
  | 100 => ⟨S24x18x160x64, .f32⟩
  | 101 => ⟨S24x64x18x160, .f32⟩
  | 102 => ⟨S24x64x18x160, .f32⟩
  | 103 => ⟨S_, .f32⟩
  | 104 => ⟨S24x64x18x160, .f32⟩
  | 105 => ⟨S24x64x18x160, .f32⟩
  | 106 => ⟨S24x1x18x128, .f32⟩
  | 107 => ⟨S24x18x128, .f32⟩
  | 108 => ⟨S24x18x128x1, .f32⟩
  | 109 => ⟨S24x18x128x160, .f32⟩
  | 110 => ⟨S24x18x128x160, .f32⟩
  | 111 => ⟨S24x1x64x18x128, .f32⟩
  | 112 => ⟨S24x64x18x128, .f32⟩
  | 113 => ⟨S24x18x128x160, .f32⟩
  | 114 => ⟨S24x18x128x160, .f32⟩
  | 115 => ⟨S24x1x18x64x160, .f32⟩
  | 116 => ⟨S24x18x64x160, .f32⟩
  | 117 => ⟨S24x1x18x64x128, .f32⟩
  | 118 => ⟨S24x18x64x128, .f32⟩
  | 119 => ⟨S24x18x64x160, .f32⟩
  | 120 => ⟨S24x18x64x160, .f32⟩
  | 121 => ⟨S24x1x64x18x128, .f32⟩
  | 122 => ⟨S24x64x18x128, .f32⟩
  | 123 => ⟨S24x18x160x64, .f32⟩
  | 124 => ⟨S24x64x18x160, .f32⟩
  | 125 => ⟨S24x1x18x64x64, .f32⟩
  | 126 => ⟨S24x18x64x64, .f32⟩
  | 127 => ⟨S24x18x160x64, .f32⟩
  | _ => ⟨S24x1280x18x128, .f32⟩

abbrev hbmTy0_4 (i : Nat) : BufTy := match i % 128 with
  | 0 => ⟨S24x64x18x160, .f32⟩
  | 1 => ⟨S24x64x18x160, .f32⟩
  | 2 => ⟨S_, .f32⟩
  | 3 => ⟨S24x64x18x160, .f32⟩
  | 4 => ⟨S24x64x18x160, .f32⟩
  | 5 => ⟨S24x1x18x128, .f32⟩
  | 6 => ⟨S24x18x128, .f32⟩
  | 7 => ⟨S24x18x128x1, .f32⟩
  | 8 => ⟨S24x18x128x160, .f32⟩
  | 9 => ⟨S24x18x128x160, .f32⟩
  | 10 => ⟨S24x1x64x18x128, .f32⟩
  | 11 => ⟨S24x64x18x128, .f32⟩
  | 12 => ⟨S24x18x128x160, .f32⟩
  | 13 => ⟨S24x18x128x160, .f32⟩
  | 14 => ⟨S24x1x18x64x160, .f32⟩
  | 15 => ⟨S24x18x64x160, .f32⟩
  | 16 => ⟨S24x1x18x64x128, .f32⟩
  | 17 => ⟨S24x18x64x128, .f32⟩
  | 18 => ⟨S24x18x64x160, .f32⟩
  | 19 => ⟨S24x18x64x160, .f32⟩
  | 20 => ⟨S24x1x64x18x128, .f32⟩
  | 21 => ⟨S24x64x18x128, .f32⟩
  | 22 => ⟨S24x18x160x64, .f32⟩
  | 23 => ⟨S24x64x18x160, .f32⟩
  | 24 => ⟨S24x1x18x64x64, .f32⟩
  | 25 => ⟨S24x18x64x64, .f32⟩
  | 26 => ⟨S24x18x160x64, .f32⟩
  | 27 => ⟨S24x64x18x160, .f32⟩
  | 28 => ⟨S24x64x18x160, .f32⟩
  | 29 => ⟨S_, .f32⟩
  | 30 => ⟨S24x64x18x160, .f32⟩
  | 31 => ⟨S24x64x18x160, .f32⟩
  | 32 => ⟨S24x1x18x128, .f32⟩
  | 33 => ⟨S24x18x128, .f32⟩
  | 34 => ⟨S24x18x128x1, .f32⟩
  | 35 => ⟨S24x18x128x160, .f32⟩
  | 36 => ⟨S24x18x128x160, .f32⟩
  | 37 => ⟨S24x1x64x18x128, .f32⟩
  | 38 => ⟨S24x64x18x128, .f32⟩
  | 39 => ⟨S24x18x128x160, .f32⟩
  | 40 => ⟨S24x18x128x160, .f32⟩
  | 41 => ⟨S24x1x18x64x160, .f32⟩
  | 42 => ⟨S24x18x64x160, .f32⟩
  | 43 => ⟨S24x1x18x64x128, .f32⟩
  | 44 => ⟨S24x18x64x128, .f32⟩
  | 45 => ⟨S24x18x64x160, .f32⟩
  | 46 => ⟨S24x18x64x160, .f32⟩
  | 47 => ⟨S24x1x64x18x128, .f32⟩
  | 48 => ⟨S24x64x18x128, .f32⟩
  | 49 => ⟨S24x18x160x64, .f32⟩
  | 50 => ⟨S24x64x18x160, .f32⟩
  | 51 => ⟨S24x1x18x64x64, .f32⟩
  | 52 => ⟨S24x18x64x64, .f32⟩
  | 53 => ⟨S24x18x160x64, .f32⟩
  | 54 => ⟨S24x64x18x160, .f32⟩
  | 55 => ⟨S24x64x18x160, .f32⟩
  | 56 => ⟨S_, .f32⟩
  | 57 => ⟨S24x64x18x160, .f32⟩
  | 58 => ⟨S24x64x18x160, .f32⟩
  | 59 => ⟨S24x1x18x128, .f32⟩
  | 60 => ⟨S24x18x128, .f32⟩
  | 61 => ⟨S24x18x128x1, .f32⟩
  | 62 => ⟨S24x18x128x160, .f32⟩
  | 63 => ⟨S24x18x128x160, .f32⟩
  | 64 => ⟨S24x1x64x18x128, .f32⟩
  | 65 => ⟨S24x64x18x128, .f32⟩
  | 66 => ⟨S24x18x128x160, .f32⟩
  | 67 => ⟨S24x18x128x160, .f32⟩
  | 68 => ⟨S24x1x18x64x160, .f32⟩
  | 69 => ⟨S24x18x64x160, .f32⟩
  | 70 => ⟨S24x1x18x64x128, .f32⟩
  | 71 => ⟨S24x18x64x128, .f32⟩
  | 72 => ⟨S24x18x64x160, .f32⟩
  | 73 => ⟨S24x18x64x160, .f32⟩
  | 74 => ⟨S24x1x64x18x128, .f32⟩
  | 75 => ⟨S24x64x18x128, .f32⟩
  | 76 => ⟨S24x18x160x64, .f32⟩
  | 77 => ⟨S24x64x18x160, .f32⟩
  | 78 => ⟨S24x1x18x64x64, .f32⟩
  | 79 => ⟨S24x18x64x64, .f32⟩
  | 80 => ⟨S24x18x160x64, .f32⟩
  | 81 => ⟨S24x64x18x160, .f32⟩
  | 82 => ⟨S24x64x18x160, .f32⟩
  | 83 => ⟨S_, .f32⟩
  | 84 => ⟨S24x64x18x160, .f32⟩
  | 85 => ⟨S24x64x18x160, .f32⟩
  | 86 => ⟨S24x1x18x128, .f32⟩
  | 87 => ⟨S24x18x128, .f32⟩
  | 88 => ⟨S24x18x128x1, .f32⟩
  | 89 => ⟨S24x18x128x160, .f32⟩
  | 90 => ⟨S24x18x128x160, .f32⟩
  | 91 => ⟨S24x1x64x18x128, .f32⟩
  | 92 => ⟨S24x64x18x128, .f32⟩
  | 93 => ⟨S24x18x128x160, .f32⟩
  | 94 => ⟨S24x18x128x160, .f32⟩
  | 95 => ⟨S24x1x18x64x160, .f32⟩
  | 96 => ⟨S24x18x64x160, .f32⟩
  | 97 => ⟨S24x1x18x64x128, .f32⟩
  | 98 => ⟨S24x18x64x128, .f32⟩
  | 99 => ⟨S24x18x64x160, .f32⟩
  | 100 => ⟨S24x18x64x160, .f32⟩
  | 101 => ⟨S24x1x64x18x128, .f32⟩
  | 102 => ⟨S24x64x18x128, .f32⟩
  | 103 => ⟨S24x18x160x64, .f32⟩
  | 104 => ⟨S24x64x18x160, .f32⟩
  | 105 => ⟨S24x1x18x64x64, .f32⟩
  | 106 => ⟨S24x18x64x64, .f32⟩
  | 107 => ⟨S24x18x160x64, .f32⟩
  | 108 => ⟨S24x64x18x160, .f32⟩
  | 109 => ⟨S24x64x18x160, .f32⟩
  | 110 => ⟨S_, .f32⟩
  | 111 => ⟨S24x64x18x160, .f32⟩
  | 112 => ⟨S24x64x18x160, .f32⟩
  | 113 => ⟨S24x1x18x128, .f32⟩
  | 114 => ⟨S24x18x128, .f32⟩
  | 115 => ⟨S24x18x128x1, .f32⟩
  | 116 => ⟨S24x18x128x160, .f32⟩
  | 117 => ⟨S24x18x128x160, .f32⟩
  | 118 => ⟨S24x1x64x18x128, .f32⟩
  | 119 => ⟨S24x64x18x128, .f32⟩
  | 120 => ⟨S24x18x128x160, .f32⟩
  | 121 => ⟨S24x18x128x160, .f32⟩
  | 122 => ⟨S24x1x18x64x160, .f32⟩
  | 123 => ⟨S24x18x64x160, .f32⟩
  | 124 => ⟨S24x1x18x64x128, .f32⟩
  | 125 => ⟨S24x18x64x128, .f32⟩
  | 126 => ⟨S24x18x64x160, .f32⟩
  | 127 => ⟨S24x18x64x160, .f32⟩
  | _ => ⟨S24x1280x18x128, .f32⟩

abbrev hbmTy0_5 (i : Nat) : BufTy := match i % 128 with
  | 0 => ⟨S24x1x64x18x128, .f32⟩
  | 1 => ⟨S24x64x18x128, .f32⟩
  | 2 => ⟨S24x18x160x64, .f32⟩
  | 3 => ⟨S24x64x18x160, .f32⟩
  | 4 => ⟨S24x1x18x64x64, .f32⟩
  | 5 => ⟨S24x18x64x64, .f32⟩
  | 6 => ⟨S24x18x160x64, .f32⟩
  | 7 => ⟨S24x64x18x160, .f32⟩
  | 8 => ⟨S24x64x18x160, .f32⟩
  | 9 => ⟨S_, .f32⟩
  | 10 => ⟨S24x64x18x160, .f32⟩
  | 11 => ⟨S24x64x18x160, .f32⟩
  | 12 => ⟨S24x1x18x128, .f32⟩
  | 13 => ⟨S24x18x128, .f32⟩
  | 14 => ⟨S24x18x128x1, .f32⟩
  | 15 => ⟨S24x18x128x160, .f32⟩
  | 16 => ⟨S24x18x128x160, .f32⟩
  | 17 => ⟨S24x1x64x18x128, .f32⟩
  | 18 => ⟨S24x64x18x128, .f32⟩
  | 19 => ⟨S24x18x128x160, .f32⟩
  | 20 => ⟨S24x18x128x160, .f32⟩
  | 21 => ⟨S24x1024x18x160, .f32⟩
  | 22 => ⟨S24x256x18x160, .f32⟩
  | 23 => ⟨S24x1280x18x160, .f32⟩
  | 24 => ⟨S24x1280x18x160, .f32⟩
  | 25 => ⟨S_, .f32⟩
  | 26 => ⟨S24x1280x18, .f32⟩
  | 27 => ⟨S24x1280x18x1, .f32⟩
  | 28 => ⟨S_, .f32⟩
  | 29 => ⟨S24x1280x18x1, .f32⟩
  | 30 => ⟨S24x1280x18x1, .f32⟩
  | 31 => ⟨S_, .f32⟩
  | 32 => ⟨S24x1280x18x1, .f32⟩
  | 33 => ⟨S24x1280x18x1, .f32⟩
  | 34 => ⟨S24x1280x18x1, .f32⟩
  | 35 => ⟨S24x1280x2880, .f32⟩
  | 36 => ⟨S24x1280x18x160, .f32⟩
  | 37 => ⟨S24x1280x18x160, .f32⟩
  | 38 => ⟨S24x1280x18x160, .f32⟩
  | 39 => ⟨S_, .f32⟩
  | 40 => ⟨S24x1280x18x160, .f32⟩
  | 41 => ⟨S24x1280x18x160, .f32⟩
  | 42 => ⟨S_, .f32⟩
  | 43 => ⟨S24x1280x18x160, .f32⟩
  | 44 => ⟨S24x1280x18x160, .f32⟩
  | 45 => ⟨S24x1280x18x160, .f32⟩
  | 46 => ⟨S24x1280x18x160, .f32⟩
  | 47 => ⟨S1x1x1x160, .f32⟩
  | 48 => ⟨S24x1280x18x160, .f32⟩
  | 49 => ⟨S24x1280x18x160, .f32⟩
  | 50 => ⟨S24x1280x18x160, .f32⟩
  | 51 => ⟨S24x1280x18x160, .bf16⟩
  | 52 => ⟨S24x1280x2880, .bf16⟩
  | 53 => ⟨S24x1280x18x160, .bf16⟩
  | 54 => ⟨S24x1280x2880, .bf16⟩
  | _ => ⟨S24x1280x18x128, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S24x1280x18x128, .f32⟩

abbrev bufTy : (tb : Table) → Fin (tcTables nBuf tb) → BufTy
  | .hbm, ⟨i, _⟩ => hbmTy i
  | .local _ .vmem, ⟨0, _⟩ => ⟨S24x1280x18x128, .fp8e4m3⟩
  | .local _ .vmem, ⟨1, _⟩ => ⟨S24x1280x18x128, .fp8e4m3⟩
  | .local _ .vmem, ⟨2, _⟩ => ⟨S24x1280x18x128, .bf16⟩
  | .local _ .vmem, ⟨3, _⟩ => ⟨S24x1280x18x128, .bf16⟩
  | _, _ => ⟨S24x1280x18x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2_0 : Ref sig .tc := ⟨.hbm, 12, rfl⟩
abbrev main_v2_1 : Ref sig .tc := ⟨.hbm, 13, rfl⟩
abbrev main_v3 : Ref sig .tc := ⟨.hbm, 14, rfl⟩
abbrev main_call0_cst : Ref sig .tc := ⟨.hbm, 15, rfl⟩
abbrev main_call0_v0 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_cst : Ref sig .tc := ⟨.hbm, 57, rfl⟩
abbrev main_call1_v0 : Ref sig .tc := ⟨.hbm, 58, rfl⟩
abbrev main_call1_v1 : Ref sig .tc := ⟨.hbm, 59, rfl⟩
abbrev main_call1_v2 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_cst_0 : Ref sig .tc := ⟨.hbm, 67, rfl⟩
abbrev main_call2_v0 : Ref sig .tc := ⟨.hbm, 68, rfl⟩
abbrev main_call2_v1 : Ref sig .tc := ⟨.hbm, 69, rfl⟩
abbrev main_call2_v2 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_c : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_v99 : Ref sig .tc := ⟨.hbm, 121, rfl⟩
abbrev main_v100 : Ref sig .tc := ⟨.hbm, 122, rfl⟩
abbrev main_v101 : Ref sig .tc := ⟨.hbm, 123, rfl⟩
abbrev main_v102 : Ref sig .tc := ⟨.hbm, 124, rfl⟩
abbrev main_v103 : Ref sig .tc := ⟨.hbm, 125, rfl⟩
abbrev main_v104 : Ref sig .tc := ⟨.hbm, 126, rfl⟩
abbrev main_v105 : Ref sig .tc := ⟨.hbm, 127, rfl⟩
abbrev main_v106 : Ref sig .tc := ⟨.hbm, 128, rfl⟩
abbrev main_v107 : Ref sig .tc := ⟨.hbm, 129, rfl⟩
abbrev main_v108 : Ref sig .tc := ⟨.hbm, 130, rfl⟩
abbrev main_v109 : Ref sig .tc := ⟨.hbm, 131, rfl⟩
abbrev main_v110 : Ref sig .tc := ⟨.hbm, 132, rfl⟩
abbrev main_v111 : Ref sig .tc := ⟨.hbm, 133, rfl⟩
abbrev main_v112 : Ref sig .tc := ⟨.hbm, 134, rfl⟩
abbrev main_v113 : Ref sig .tc := ⟨.hbm, 135, rfl⟩
abbrev main_cst_1 : Ref sig .tc := ⟨.hbm, 136, rfl⟩
abbrev main_v114 : Ref sig .tc := ⟨.hbm, 137, rfl⟩
abbrev main_v115 : Ref sig .tc := ⟨.hbm, 138, rfl⟩
abbrev main_v116 : Ref sig .tc := ⟨.hbm, 139, rfl⟩
abbrev main_v117 : Ref sig .tc := ⟨.hbm, 140, rfl⟩
abbrev main_v118 : Ref sig .tc := ⟨.hbm, 141, rfl⟩
abbrev main_v119 : Ref sig .tc := ⟨.hbm, 142, rfl⟩
abbrev main_v120 : Ref sig .tc := ⟨.hbm, 143, rfl⟩
abbrev main_v121 : Ref sig .tc := ⟨.hbm, 144, rfl⟩
abbrev main_v122 : Ref sig .tc := ⟨.hbm, 145, rfl⟩
abbrev main_v123 : Ref sig .tc := ⟨.hbm, 146, rfl⟩
abbrev main_v124 : Ref sig .tc := ⟨.hbm, 147, rfl⟩
abbrev main_v125 : Ref sig .tc := ⟨.hbm, 148, rfl⟩
abbrev main_v126 : Ref sig .tc := ⟨.hbm, 149, rfl⟩
abbrev main_v127 : Ref sig .tc := ⟨.hbm, 150, rfl⟩
abbrev main_v128 : Ref sig .tc := ⟨.hbm, 151, rfl⟩
abbrev main_v129 : Ref sig .tc := ⟨.hbm, 152, rfl⟩
abbrev main_v130 : Ref sig .tc := ⟨.hbm, 153, rfl⟩
abbrev main_v131 : Ref sig .tc := ⟨.hbm, 154, rfl⟩
abbrev main_v132 : Ref sig .tc := ⟨.hbm, 155, rfl⟩
abbrev main_v133 : Ref sig .tc := ⟨.hbm, 156, rfl⟩
abbrev main_v134 : Ref sig .tc := ⟨.hbm, 157, rfl⟩
abbrev main_v135 : Ref sig .tc := ⟨.hbm, 158, rfl⟩
abbrev main_v136 : Ref sig .tc := ⟨.hbm, 159, rfl⟩
abbrev main_v137 : Ref sig .tc := ⟨.hbm, 160, rfl⟩
abbrev main_v138 : Ref sig .tc := ⟨.hbm, 161, rfl⟩
abbrev main_v139 : Ref sig .tc := ⟨.hbm, 162, rfl⟩
abbrev main_cst_2 : Ref sig .tc := ⟨.hbm, 163, rfl⟩
abbrev main_v140 : Ref sig .tc := ⟨.hbm, 164, rfl⟩
abbrev main_v141 : Ref sig .tc := ⟨.hbm, 165, rfl⟩
abbrev main_v142 : Ref sig .tc := ⟨.hbm, 166, rfl⟩
abbrev main_v143 : Ref sig .tc := ⟨.hbm, 167, rfl⟩
abbrev main_v144 : Ref sig .tc := ⟨.hbm, 168, rfl⟩
abbrev main_v145 : Ref sig .tc := ⟨.hbm, 169, rfl⟩
abbrev main_v146 : Ref sig .tc := ⟨.hbm, 170, rfl⟩
abbrev main_v147 : Ref sig .tc := ⟨.hbm, 171, rfl⟩
abbrev main_v148 : Ref sig .tc := ⟨.hbm, 172, rfl⟩
abbrev main_v149 : Ref sig .tc := ⟨.hbm, 173, rfl⟩
abbrev main_v150 : Ref sig .tc := ⟨.hbm, 174, rfl⟩
abbrev main_v151 : Ref sig .tc := ⟨.hbm, 175, rfl⟩
abbrev main_v152 : Ref sig .tc := ⟨.hbm, 176, rfl⟩
abbrev main_v153 : Ref sig .tc := ⟨.hbm, 177, rfl⟩
abbrev main_v154 : Ref sig .tc := ⟨.hbm, 178, rfl⟩
abbrev main_v155 : Ref sig .tc := ⟨.hbm, 179, rfl⟩
abbrev main_v156 : Ref sig .tc := ⟨.hbm, 180, rfl⟩
abbrev main_v157 : Ref sig .tc := ⟨.hbm, 181, rfl⟩
abbrev main_v158 : Ref sig .tc := ⟨.hbm, 182, rfl⟩
abbrev main_v159 : Ref sig .tc := ⟨.hbm, 183, rfl⟩
abbrev main_v160 : Ref sig .tc := ⟨.hbm, 184, rfl⟩
abbrev main_v161 : Ref sig .tc := ⟨.hbm, 185, rfl⟩
abbrev main_v162 : Ref sig .tc := ⟨.hbm, 186, rfl⟩
abbrev main_v163 : Ref sig .tc := ⟨.hbm, 187, rfl⟩
abbrev main_v164 : Ref sig .tc := ⟨.hbm, 188, rfl⟩
abbrev main_v165 : Ref sig .tc := ⟨.hbm, 189, rfl⟩
abbrev main_cst_3 : Ref sig .tc := ⟨.hbm, 190, rfl⟩
abbrev main_v166 : Ref sig .tc := ⟨.hbm, 191, rfl⟩
abbrev main_v167 : Ref sig .tc := ⟨.hbm, 192, rfl⟩
abbrev main_v168 : Ref sig .tc := ⟨.hbm, 193, rfl⟩
abbrev main_v169 : Ref sig .tc := ⟨.hbm, 194, rfl⟩
abbrev main_v170 : Ref sig .tc := ⟨.hbm, 195, rfl⟩
abbrev main_v171 : Ref sig .tc := ⟨.hbm, 196, rfl⟩
abbrev main_v172 : Ref sig .tc := ⟨.hbm, 197, rfl⟩
abbrev main_v173 : Ref sig .tc := ⟨.hbm, 198, rfl⟩
abbrev main_v174 : Ref sig .tc := ⟨.hbm, 199, rfl⟩
abbrev main_v175 : Ref sig .tc := ⟨.hbm, 200, rfl⟩
abbrev main_v176 : Ref sig .tc := ⟨.hbm, 201, rfl⟩
abbrev main_v177 : Ref sig .tc := ⟨.hbm, 202, rfl⟩
abbrev main_v178 : Ref sig .tc := ⟨.hbm, 203, rfl⟩
abbrev main_v179 : Ref sig .tc := ⟨.hbm, 204, rfl⟩
abbrev main_v180 : Ref sig .tc := ⟨.hbm, 205, rfl⟩
abbrev main_v181 : Ref sig .tc := ⟨.hbm, 206, rfl⟩
abbrev main_v182 : Ref sig .tc := ⟨.hbm, 207, rfl⟩
abbrev main_v183 : Ref sig .tc := ⟨.hbm, 208, rfl⟩
abbrev main_v184 : Ref sig .tc := ⟨.hbm, 209, rfl⟩
abbrev main_v185 : Ref sig .tc := ⟨.hbm, 210, rfl⟩
abbrev main_v186 : Ref sig .tc := ⟨.hbm, 211, rfl⟩
abbrev main_v187 : Ref sig .tc := ⟨.hbm, 212, rfl⟩
abbrev main_v188 : Ref sig .tc := ⟨.hbm, 213, rfl⟩
abbrev main_v189 : Ref sig .tc := ⟨.hbm, 214, rfl⟩
abbrev main_v190 : Ref sig .tc := ⟨.hbm, 215, rfl⟩
abbrev main_v191 : Ref sig .tc := ⟨.hbm, 216, rfl⟩
abbrev main_cst_4 : Ref sig .tc := ⟨.hbm, 217, rfl⟩
abbrev main_v192 : Ref sig .tc := ⟨.hbm, 218, rfl⟩
abbrev main_v193 : Ref sig .tc := ⟨.hbm, 219, rfl⟩
abbrev main_v194 : Ref sig .tc := ⟨.hbm, 220, rfl⟩
abbrev main_v195 : Ref sig .tc := ⟨.hbm, 221, rfl⟩
abbrev main_v196 : Ref sig .tc := ⟨.hbm, 222, rfl⟩
abbrev main_v197 : Ref sig .tc := ⟨.hbm, 223, rfl⟩
abbrev main_v198 : Ref sig .tc := ⟨.hbm, 224, rfl⟩
abbrev main_v199 : Ref sig .tc := ⟨.hbm, 225, rfl⟩
abbrev main_v200 : Ref sig .tc := ⟨.hbm, 226, rfl⟩
abbrev main_v201 : Ref sig .tc := ⟨.hbm, 227, rfl⟩
abbrev main_v202 : Ref sig .tc := ⟨.hbm, 228, rfl⟩
abbrev main_v203 : Ref sig .tc := ⟨.hbm, 229, rfl⟩
abbrev main_v204 : Ref sig .tc := ⟨.hbm, 230, rfl⟩
abbrev main_v205 : Ref sig .tc := ⟨.hbm, 231, rfl⟩
abbrev main_v206 : Ref sig .tc := ⟨.hbm, 232, rfl⟩
abbrev main_v207 : Ref sig .tc := ⟨.hbm, 233, rfl⟩
abbrev main_v208 : Ref sig .tc := ⟨.hbm, 234, rfl⟩
abbrev main_v209 : Ref sig .tc := ⟨.hbm, 235, rfl⟩
abbrev main_v210 : Ref sig .tc := ⟨.hbm, 236, rfl⟩
abbrev main_v211 : Ref sig .tc := ⟨.hbm, 237, rfl⟩
abbrev main_v212 : Ref sig .tc := ⟨.hbm, 238, rfl⟩
abbrev main_v213 : Ref sig .tc := ⟨.hbm, 239, rfl⟩
abbrev main_v214 : Ref sig .tc := ⟨.hbm, 240, rfl⟩
abbrev main_v215 : Ref sig .tc := ⟨.hbm, 241, rfl⟩
abbrev main_v216 : Ref sig .tc := ⟨.hbm, 242, rfl⟩
abbrev main_v217 : Ref sig .tc := ⟨.hbm, 243, rfl⟩
abbrev main_cst_5 : Ref sig .tc := ⟨.hbm, 244, rfl⟩
abbrev main_v218 : Ref sig .tc := ⟨.hbm, 245, rfl⟩
abbrev main_v219 : Ref sig .tc := ⟨.hbm, 246, rfl⟩
abbrev main_v220 : Ref sig .tc := ⟨.hbm, 247, rfl⟩
abbrev main_v221 : Ref sig .tc := ⟨.hbm, 248, rfl⟩
abbrev main_v222 : Ref sig .tc := ⟨.hbm, 249, rfl⟩
abbrev main_v223 : Ref sig .tc := ⟨.hbm, 250, rfl⟩
abbrev main_v224 : Ref sig .tc := ⟨.hbm, 251, rfl⟩
abbrev main_v225 : Ref sig .tc := ⟨.hbm, 252, rfl⟩
abbrev main_v226 : Ref sig .tc := ⟨.hbm, 253, rfl⟩
abbrev main_v227 : Ref sig .tc := ⟨.hbm, 254, rfl⟩
abbrev main_v228 : Ref sig .tc := ⟨.hbm, 255, rfl⟩
abbrev main_v229 : Ref sig .tc := ⟨.hbm, 256, rfl⟩
abbrev main_v230 : Ref sig .tc := ⟨.hbm, 257, rfl⟩
abbrev main_v231 : Ref sig .tc := ⟨.hbm, 258, rfl⟩
abbrev main_v232 : Ref sig .tc := ⟨.hbm, 259, rfl⟩
abbrev main_v233 : Ref sig .tc := ⟨.hbm, 260, rfl⟩
abbrev main_v234 : Ref sig .tc := ⟨.hbm, 261, rfl⟩
abbrev main_v235 : Ref sig .tc := ⟨.hbm, 262, rfl⟩
abbrev main_v236 : Ref sig .tc := ⟨.hbm, 263, rfl⟩
abbrev main_v237 : Ref sig .tc := ⟨.hbm, 264, rfl⟩
abbrev main_v238 : Ref sig .tc := ⟨.hbm, 265, rfl⟩
abbrev main_v239 : Ref sig .tc := ⟨.hbm, 266, rfl⟩
abbrev main_v240 : Ref sig .tc := ⟨.hbm, 267, rfl⟩
abbrev main_v241 : Ref sig .tc := ⟨.hbm, 268, rfl⟩
abbrev main_v242 : Ref sig .tc := ⟨.hbm, 269, rfl⟩
abbrev main_v243 : Ref sig .tc := ⟨.hbm, 270, rfl⟩
abbrev main_cst_6 : Ref sig .tc := ⟨.hbm, 271, rfl⟩
abbrev main_v244 : Ref sig .tc := ⟨.hbm, 272, rfl⟩
abbrev main_v245 : Ref sig .tc := ⟨.hbm, 273, rfl⟩
abbrev main_v246 : Ref sig .tc := ⟨.hbm, 274, rfl⟩
abbrev main_v247 : Ref sig .tc := ⟨.hbm, 275, rfl⟩
abbrev main_v248 : Ref sig .tc := ⟨.hbm, 276, rfl⟩
abbrev main_v249 : Ref sig .tc := ⟨.hbm, 277, rfl⟩
abbrev main_v250 : Ref sig .tc := ⟨.hbm, 278, rfl⟩
abbrev main_v251 : Ref sig .tc := ⟨.hbm, 279, rfl⟩
abbrev main_v252 : Ref sig .tc := ⟨.hbm, 280, rfl⟩
abbrev main_v253 : Ref sig .tc := ⟨.hbm, 281, rfl⟩
abbrev main_v254 : Ref sig .tc := ⟨.hbm, 282, rfl⟩
abbrev main_v255 : Ref sig .tc := ⟨.hbm, 283, rfl⟩
abbrev main_v256 : Ref sig .tc := ⟨.hbm, 284, rfl⟩
abbrev main_v257 : Ref sig .tc := ⟨.hbm, 285, rfl⟩
abbrev main_v258 : Ref sig .tc := ⟨.hbm, 286, rfl⟩
abbrev main_v259 : Ref sig .tc := ⟨.hbm, 287, rfl⟩
abbrev main_v260 : Ref sig .tc := ⟨.hbm, 288, rfl⟩
abbrev main_v261 : Ref sig .tc := ⟨.hbm, 289, rfl⟩
abbrev main_v262 : Ref sig .tc := ⟨.hbm, 290, rfl⟩
abbrev main_v263 : Ref sig .tc := ⟨.hbm, 291, rfl⟩
abbrev main_v264 : Ref sig .tc := ⟨.hbm, 292, rfl⟩
abbrev main_v265 : Ref sig .tc := ⟨.hbm, 293, rfl⟩
abbrev main_v266 : Ref sig .tc := ⟨.hbm, 294, rfl⟩
abbrev main_v267 : Ref sig .tc := ⟨.hbm, 295, rfl⟩
abbrev main_v268 : Ref sig .tc := ⟨.hbm, 296, rfl⟩
abbrev main_v269 : Ref sig .tc := ⟨.hbm, 297, rfl⟩
abbrev main_cst_7 : Ref sig .tc := ⟨.hbm, 298, rfl⟩
abbrev main_v270 : Ref sig .tc := ⟨.hbm, 299, rfl⟩
abbrev main_v271 : Ref sig .tc := ⟨.hbm, 300, rfl⟩
abbrev main_v272 : Ref sig .tc := ⟨.hbm, 301, rfl⟩
abbrev main_v273 : Ref sig .tc := ⟨.hbm, 302, rfl⟩
abbrev main_v274 : Ref sig .tc := ⟨.hbm, 303, rfl⟩
abbrev main_v275 : Ref sig .tc := ⟨.hbm, 304, rfl⟩
abbrev main_v276 : Ref sig .tc := ⟨.hbm, 305, rfl⟩
abbrev main_v277 : Ref sig .tc := ⟨.hbm, 306, rfl⟩
abbrev main_v278 : Ref sig .tc := ⟨.hbm, 307, rfl⟩
abbrev main_v279 : Ref sig .tc := ⟨.hbm, 308, rfl⟩
abbrev main_v280 : Ref sig .tc := ⟨.hbm, 309, rfl⟩
abbrev main_v281 : Ref sig .tc := ⟨.hbm, 310, rfl⟩
abbrev main_v282 : Ref sig .tc := ⟨.hbm, 311, rfl⟩
abbrev main_v283 : Ref sig .tc := ⟨.hbm, 312, rfl⟩
abbrev main_v284 : Ref sig .tc := ⟨.hbm, 313, rfl⟩
abbrev main_v285 : Ref sig .tc := ⟨.hbm, 314, rfl⟩
abbrev main_v286 : Ref sig .tc := ⟨.hbm, 315, rfl⟩
abbrev main_v287 : Ref sig .tc := ⟨.hbm, 316, rfl⟩
abbrev main_v288 : Ref sig .tc := ⟨.hbm, 317, rfl⟩
abbrev main_v289 : Ref sig .tc := ⟨.hbm, 318, rfl⟩
abbrev main_v290 : Ref sig .tc := ⟨.hbm, 319, rfl⟩
abbrev main_v291 : Ref sig .tc := ⟨.hbm, 320, rfl⟩
abbrev main_v292 : Ref sig .tc := ⟨.hbm, 321, rfl⟩
abbrev main_v293 : Ref sig .tc := ⟨.hbm, 322, rfl⟩
abbrev main_v294 : Ref sig .tc := ⟨.hbm, 323, rfl⟩
abbrev main_v295 : Ref sig .tc := ⟨.hbm, 324, rfl⟩
abbrev main_cst_8 : Ref sig .tc := ⟨.hbm, 325, rfl⟩
abbrev main_v296 : Ref sig .tc := ⟨.hbm, 326, rfl⟩
abbrev main_v297 : Ref sig .tc := ⟨.hbm, 327, rfl⟩
abbrev main_v298 : Ref sig .tc := ⟨.hbm, 328, rfl⟩
abbrev main_v299 : Ref sig .tc := ⟨.hbm, 329, rfl⟩
abbrev main_v300 : Ref sig .tc := ⟨.hbm, 330, rfl⟩
abbrev main_v301 : Ref sig .tc := ⟨.hbm, 331, rfl⟩
abbrev main_v302 : Ref sig .tc := ⟨.hbm, 332, rfl⟩
abbrev main_v303 : Ref sig .tc := ⟨.hbm, 333, rfl⟩
abbrev main_v304 : Ref sig .tc := ⟨.hbm, 334, rfl⟩
abbrev main_v305 : Ref sig .tc := ⟨.hbm, 335, rfl⟩
abbrev main_v306 : Ref sig .tc := ⟨.hbm, 336, rfl⟩
abbrev main_v307 : Ref sig .tc := ⟨.hbm, 337, rfl⟩
abbrev main_v308 : Ref sig .tc := ⟨.hbm, 338, rfl⟩
abbrev main_v309 : Ref sig .tc := ⟨.hbm, 339, rfl⟩
abbrev main_v310 : Ref sig .tc := ⟨.hbm, 340, rfl⟩
abbrev main_v311 : Ref sig .tc := ⟨.hbm, 341, rfl⟩
abbrev main_v312 : Ref sig .tc := ⟨.hbm, 342, rfl⟩
abbrev main_v313 : Ref sig .tc := ⟨.hbm, 343, rfl⟩
abbrev main_v314 : Ref sig .tc := ⟨.hbm, 344, rfl⟩
abbrev main_v315 : Ref sig .tc := ⟨.hbm, 345, rfl⟩
abbrev main_v316 : Ref sig .tc := ⟨.hbm, 346, rfl⟩
abbrev main_v317 : Ref sig .tc := ⟨.hbm, 347, rfl⟩
abbrev main_v318 : Ref sig .tc := ⟨.hbm, 348, rfl⟩
abbrev main_v319 : Ref sig .tc := ⟨.hbm, 349, rfl⟩
abbrev main_v320 : Ref sig .tc := ⟨.hbm, 350, rfl⟩
abbrev main_v321 : Ref sig .tc := ⟨.hbm, 351, rfl⟩
abbrev main_cst_9 : Ref sig .tc := ⟨.hbm, 352, rfl⟩
abbrev main_v322 : Ref sig .tc := ⟨.hbm, 353, rfl⟩
abbrev main_v323 : Ref sig .tc := ⟨.hbm, 354, rfl⟩
abbrev main_v324 : Ref sig .tc := ⟨.hbm, 355, rfl⟩
abbrev main_v325 : Ref sig .tc := ⟨.hbm, 356, rfl⟩
abbrev main_v326 : Ref sig .tc := ⟨.hbm, 357, rfl⟩
abbrev main_v327 : Ref sig .tc := ⟨.hbm, 358, rfl⟩
abbrev main_v328 : Ref sig .tc := ⟨.hbm, 359, rfl⟩
abbrev main_v329 : Ref sig .tc := ⟨.hbm, 360, rfl⟩
abbrev main_v330 : Ref sig .tc := ⟨.hbm, 361, rfl⟩
abbrev main_v331 : Ref sig .tc := ⟨.hbm, 362, rfl⟩
abbrev main_v332 : Ref sig .tc := ⟨.hbm, 363, rfl⟩
abbrev main_v333 : Ref sig .tc := ⟨.hbm, 364, rfl⟩
abbrev main_v334 : Ref sig .tc := ⟨.hbm, 365, rfl⟩
abbrev main_v335 : Ref sig .tc := ⟨.hbm, 366, rfl⟩
abbrev main_v336 : Ref sig .tc := ⟨.hbm, 367, rfl⟩
abbrev main_v337 : Ref sig .tc := ⟨.hbm, 368, rfl⟩
abbrev main_v338 : Ref sig .tc := ⟨.hbm, 369, rfl⟩
abbrev main_v339 : Ref sig .tc := ⟨.hbm, 370, rfl⟩
abbrev main_v340 : Ref sig .tc := ⟨.hbm, 371, rfl⟩
abbrev main_v341 : Ref sig .tc := ⟨.hbm, 372, rfl⟩
abbrev main_v342 : Ref sig .tc := ⟨.hbm, 373, rfl⟩
abbrev main_v343 : Ref sig .tc := ⟨.hbm, 374, rfl⟩
abbrev main_v344 : Ref sig .tc := ⟨.hbm, 375, rfl⟩
abbrev main_v345 : Ref sig .tc := ⟨.hbm, 376, rfl⟩
abbrev main_v346 : Ref sig .tc := ⟨.hbm, 377, rfl⟩
abbrev main_v347 : Ref sig .tc := ⟨.hbm, 378, rfl⟩
abbrev main_cst_10 : Ref sig .tc := ⟨.hbm, 379, rfl⟩
abbrev main_v348 : Ref sig .tc := ⟨.hbm, 380, rfl⟩
abbrev main_v349 : Ref sig .tc := ⟨.hbm, 381, rfl⟩
abbrev main_v350 : Ref sig .tc := ⟨.hbm, 382, rfl⟩
abbrev main_v351 : Ref sig .tc := ⟨.hbm, 383, rfl⟩
abbrev main_v352 : Ref sig .tc := ⟨.hbm, 384, rfl⟩
abbrev main_v353 : Ref sig .tc := ⟨.hbm, 385, rfl⟩
abbrev main_v354 : Ref sig .tc := ⟨.hbm, 386, rfl⟩
abbrev main_v355 : Ref sig .tc := ⟨.hbm, 387, rfl⟩
abbrev main_v356 : Ref sig .tc := ⟨.hbm, 388, rfl⟩
abbrev main_v357 : Ref sig .tc := ⟨.hbm, 389, rfl⟩
abbrev main_v358 : Ref sig .tc := ⟨.hbm, 390, rfl⟩
abbrev main_v359 : Ref sig .tc := ⟨.hbm, 391, rfl⟩
abbrev main_v360 : Ref sig .tc := ⟨.hbm, 392, rfl⟩
abbrev main_v361 : Ref sig .tc := ⟨.hbm, 393, rfl⟩
abbrev main_v362 : Ref sig .tc := ⟨.hbm, 394, rfl⟩
abbrev main_v363 : Ref sig .tc := ⟨.hbm, 395, rfl⟩
abbrev main_v364 : Ref sig .tc := ⟨.hbm, 396, rfl⟩
abbrev main_v365 : Ref sig .tc := ⟨.hbm, 397, rfl⟩
abbrev main_v366 : Ref sig .tc := ⟨.hbm, 398, rfl⟩
abbrev main_v367 : Ref sig .tc := ⟨.hbm, 399, rfl⟩
abbrev main_v368 : Ref sig .tc := ⟨.hbm, 400, rfl⟩
abbrev main_v369 : Ref sig .tc := ⟨.hbm, 401, rfl⟩
abbrev main_v370 : Ref sig .tc := ⟨.hbm, 402, rfl⟩
abbrev main_v371 : Ref sig .tc := ⟨.hbm, 403, rfl⟩
abbrev main_v372 : Ref sig .tc := ⟨.hbm, 404, rfl⟩
abbrev main_v373 : Ref sig .tc := ⟨.hbm, 405, rfl⟩
abbrev main_cst_11 : Ref sig .tc := ⟨.hbm, 406, rfl⟩
abbrev main_v374 : Ref sig .tc := ⟨.hbm, 407, rfl⟩
abbrev main_v375 : Ref sig .tc := ⟨.hbm, 408, rfl⟩
abbrev main_v376 : Ref sig .tc := ⟨.hbm, 409, rfl⟩
abbrev main_v377 : Ref sig .tc := ⟨.hbm, 410, rfl⟩
abbrev main_v378 : Ref sig .tc := ⟨.hbm, 411, rfl⟩
abbrev main_v379 : Ref sig .tc := ⟨.hbm, 412, rfl⟩
abbrev main_v380 : Ref sig .tc := ⟨.hbm, 413, rfl⟩
abbrev main_v381 : Ref sig .tc := ⟨.hbm, 414, rfl⟩
abbrev main_v382 : Ref sig .tc := ⟨.hbm, 415, rfl⟩
abbrev main_v383 : Ref sig .tc := ⟨.hbm, 416, rfl⟩
abbrev main_v384 : Ref sig .tc := ⟨.hbm, 417, rfl⟩
abbrev main_v385 : Ref sig .tc := ⟨.hbm, 418, rfl⟩
abbrev main_v386 : Ref sig .tc := ⟨.hbm, 419, rfl⟩
abbrev main_v387 : Ref sig .tc := ⟨.hbm, 420, rfl⟩
abbrev main_v388 : Ref sig .tc := ⟨.hbm, 421, rfl⟩
abbrev main_v389 : Ref sig .tc := ⟨.hbm, 422, rfl⟩
abbrev main_v390 : Ref sig .tc := ⟨.hbm, 423, rfl⟩
abbrev main_v391 : Ref sig .tc := ⟨.hbm, 424, rfl⟩
abbrev main_v392 : Ref sig .tc := ⟨.hbm, 425, rfl⟩
abbrev main_v393 : Ref sig .tc := ⟨.hbm, 426, rfl⟩
abbrev main_v394 : Ref sig .tc := ⟨.hbm, 427, rfl⟩
abbrev main_v395 : Ref sig .tc := ⟨.hbm, 428, rfl⟩
abbrev main_v396 : Ref sig .tc := ⟨.hbm, 429, rfl⟩
abbrev main_v397 : Ref sig .tc := ⟨.hbm, 430, rfl⟩
abbrev main_v398 : Ref sig .tc := ⟨.hbm, 431, rfl⟩
abbrev main_v399 : Ref sig .tc := ⟨.hbm, 432, rfl⟩
abbrev main_cst_12 : Ref sig .tc := ⟨.hbm, 433, rfl⟩
abbrev main_v400 : Ref sig .tc := ⟨.hbm, 434, rfl⟩
abbrev main_v401 : Ref sig .tc := ⟨.hbm, 435, rfl⟩
abbrev main_v402 : Ref sig .tc := ⟨.hbm, 436, rfl⟩
abbrev main_v403 : Ref sig .tc := ⟨.hbm, 437, rfl⟩
abbrev main_v404 : Ref sig .tc := ⟨.hbm, 438, rfl⟩
abbrev main_v405 : Ref sig .tc := ⟨.hbm, 439, rfl⟩
abbrev main_v406 : Ref sig .tc := ⟨.hbm, 440, rfl⟩
abbrev main_v407 : Ref sig .tc := ⟨.hbm, 441, rfl⟩
abbrev main_v408 : Ref sig .tc := ⟨.hbm, 442, rfl⟩
abbrev main_v409 : Ref sig .tc := ⟨.hbm, 443, rfl⟩
abbrev main_v410 : Ref sig .tc := ⟨.hbm, 444, rfl⟩
abbrev main_v411 : Ref sig .tc := ⟨.hbm, 445, rfl⟩
abbrev main_v412 : Ref sig .tc := ⟨.hbm, 446, rfl⟩
abbrev main_v413 : Ref sig .tc := ⟨.hbm, 447, rfl⟩
abbrev main_v414 : Ref sig .tc := ⟨.hbm, 448, rfl⟩
abbrev main_v415 : Ref sig .tc := ⟨.hbm, 449, rfl⟩
abbrev main_v416 : Ref sig .tc := ⟨.hbm, 450, rfl⟩
abbrev main_v417 : Ref sig .tc := ⟨.hbm, 451, rfl⟩
abbrev main_v418 : Ref sig .tc := ⟨.hbm, 452, rfl⟩
abbrev main_v419 : Ref sig .tc := ⟨.hbm, 453, rfl⟩
abbrev main_v420 : Ref sig .tc := ⟨.hbm, 454, rfl⟩
abbrev main_v421 : Ref sig .tc := ⟨.hbm, 455, rfl⟩
abbrev main_v422 : Ref sig .tc := ⟨.hbm, 456, rfl⟩
abbrev main_v423 : Ref sig .tc := ⟨.hbm, 457, rfl⟩
abbrev main_v424 : Ref sig .tc := ⟨.hbm, 458, rfl⟩
abbrev main_v425 : Ref sig .tc := ⟨.hbm, 459, rfl⟩
abbrev main_cst_13 : Ref sig .tc := ⟨.hbm, 460, rfl⟩
abbrev main_v426 : Ref sig .tc := ⟨.hbm, 461, rfl⟩
abbrev main_v427 : Ref sig .tc := ⟨.hbm, 462, rfl⟩
abbrev main_v428 : Ref sig .tc := ⟨.hbm, 463, rfl⟩
abbrev main_v429 : Ref sig .tc := ⟨.hbm, 464, rfl⟩
abbrev main_v430 : Ref sig .tc := ⟨.hbm, 465, rfl⟩
abbrev main_v431 : Ref sig .tc := ⟨.hbm, 466, rfl⟩
abbrev main_v432 : Ref sig .tc := ⟨.hbm, 467, rfl⟩
abbrev main_v433 : Ref sig .tc := ⟨.hbm, 468, rfl⟩
abbrev main_v434 : Ref sig .tc := ⟨.hbm, 469, rfl⟩
abbrev main_v435 : Ref sig .tc := ⟨.hbm, 470, rfl⟩
abbrev main_v436 : Ref sig .tc := ⟨.hbm, 471, rfl⟩
abbrev main_v437 : Ref sig .tc := ⟨.hbm, 472, rfl⟩
abbrev main_v438 : Ref sig .tc := ⟨.hbm, 473, rfl⟩
abbrev main_v439 : Ref sig .tc := ⟨.hbm, 474, rfl⟩
abbrev main_v440 : Ref sig .tc := ⟨.hbm, 475, rfl⟩
abbrev main_v441 : Ref sig .tc := ⟨.hbm, 476, rfl⟩
abbrev main_v442 : Ref sig .tc := ⟨.hbm, 477, rfl⟩
abbrev main_v443 : Ref sig .tc := ⟨.hbm, 478, rfl⟩
abbrev main_v444 : Ref sig .tc := ⟨.hbm, 479, rfl⟩
abbrev main_v445 : Ref sig .tc := ⟨.hbm, 480, rfl⟩
abbrev main_v446 : Ref sig .tc := ⟨.hbm, 481, rfl⟩
abbrev main_v447 : Ref sig .tc := ⟨.hbm, 482, rfl⟩
abbrev main_v448 : Ref sig .tc := ⟨.hbm, 483, rfl⟩
abbrev main_v449 : Ref sig .tc := ⟨.hbm, 484, rfl⟩
abbrev main_v450 : Ref sig .tc := ⟨.hbm, 485, rfl⟩
abbrev main_v451 : Ref sig .tc := ⟨.hbm, 486, rfl⟩
abbrev main_cst_14 : Ref sig .tc := ⟨.hbm, 487, rfl⟩
abbrev main_v452 : Ref sig .tc := ⟨.hbm, 488, rfl⟩
abbrev main_v453 : Ref sig .tc := ⟨.hbm, 489, rfl⟩
abbrev main_v454 : Ref sig .tc := ⟨.hbm, 490, rfl⟩
abbrev main_v455 : Ref sig .tc := ⟨.hbm, 491, rfl⟩
abbrev main_v456 : Ref sig .tc := ⟨.hbm, 492, rfl⟩
abbrev main_v457 : Ref sig .tc := ⟨.hbm, 493, rfl⟩
abbrev main_v458 : Ref sig .tc := ⟨.hbm, 494, rfl⟩
abbrev main_v459 : Ref sig .tc := ⟨.hbm, 495, rfl⟩
abbrev main_v460 : Ref sig .tc := ⟨.hbm, 496, rfl⟩
abbrev main_v461 : Ref sig .tc := ⟨.hbm, 497, rfl⟩
abbrev main_v462 : Ref sig .tc := ⟨.hbm, 498, rfl⟩
abbrev main_v463 : Ref sig .tc := ⟨.hbm, 499, rfl⟩
abbrev main_v464 : Ref sig .tc := ⟨.hbm, 500, rfl⟩
abbrev main_v465 : Ref sig .tc := ⟨.hbm, 501, rfl⟩
abbrev main_v466 : Ref sig .tc := ⟨.hbm, 502, rfl⟩
abbrev main_v467 : Ref sig .tc := ⟨.hbm, 503, rfl⟩
abbrev main_v468 : Ref sig .tc := ⟨.hbm, 504, rfl⟩
abbrev main_v469 : Ref sig .tc := ⟨.hbm, 505, rfl⟩
abbrev main_v470 : Ref sig .tc := ⟨.hbm, 506, rfl⟩
abbrev main_v471 : Ref sig .tc := ⟨.hbm, 507, rfl⟩
abbrev main_v472 : Ref sig .tc := ⟨.hbm, 508, rfl⟩
abbrev main_v473 : Ref sig .tc := ⟨.hbm, 509, rfl⟩
abbrev main_v474 : Ref sig .tc := ⟨.hbm, 510, rfl⟩
abbrev main_v475 : Ref sig .tc := ⟨.hbm, 511, rfl⟩
abbrev main_v476 : Ref sig .tc := ⟨.hbm, 512, rfl⟩
abbrev main_v477 : Ref sig .tc := ⟨.hbm, 513, rfl⟩
abbrev main_cst_15 : Ref sig .tc := ⟨.hbm, 514, rfl⟩
abbrev main_v478 : Ref sig .tc := ⟨.hbm, 515, rfl⟩
abbrev main_v479 : Ref sig .tc := ⟨.hbm, 516, rfl⟩
abbrev main_v480 : Ref sig .tc := ⟨.hbm, 517, rfl⟩
abbrev main_v481 : Ref sig .tc := ⟨.hbm, 518, rfl⟩
abbrev main_v482 : Ref sig .tc := ⟨.hbm, 519, rfl⟩
abbrev main_v483 : Ref sig .tc := ⟨.hbm, 520, rfl⟩
abbrev main_v484 : Ref sig .tc := ⟨.hbm, 521, rfl⟩
abbrev main_v485 : Ref sig .tc := ⟨.hbm, 522, rfl⟩
abbrev main_v486 : Ref sig .tc := ⟨.hbm, 523, rfl⟩
abbrev main_v487 : Ref sig .tc := ⟨.hbm, 524, rfl⟩
abbrev main_v488 : Ref sig .tc := ⟨.hbm, 525, rfl⟩
abbrev main_v489 : Ref sig .tc := ⟨.hbm, 526, rfl⟩
abbrev main_v490 : Ref sig .tc := ⟨.hbm, 527, rfl⟩
abbrev main_v491 : Ref sig .tc := ⟨.hbm, 528, rfl⟩
abbrev main_v492 : Ref sig .tc := ⟨.hbm, 529, rfl⟩
abbrev main_v493 : Ref sig .tc := ⟨.hbm, 530, rfl⟩
abbrev main_v494 : Ref sig .tc := ⟨.hbm, 531, rfl⟩
abbrev main_v495 : Ref sig .tc := ⟨.hbm, 532, rfl⟩
abbrev main_v496 : Ref sig .tc := ⟨.hbm, 533, rfl⟩
abbrev main_v497 : Ref sig .tc := ⟨.hbm, 534, rfl⟩
abbrev main_v498 : Ref sig .tc := ⟨.hbm, 535, rfl⟩
abbrev main_v499 : Ref sig .tc := ⟨.hbm, 536, rfl⟩
abbrev main_v500 : Ref sig .tc := ⟨.hbm, 537, rfl⟩
abbrev main_v501 : Ref sig .tc := ⟨.hbm, 538, rfl⟩
abbrev main_v502 : Ref sig .tc := ⟨.hbm, 539, rfl⟩
abbrev main_v503 : Ref sig .tc := ⟨.hbm, 540, rfl⟩
abbrev main_cst_16 : Ref sig .tc := ⟨.hbm, 541, rfl⟩
abbrev main_v504 : Ref sig .tc := ⟨.hbm, 542, rfl⟩
abbrev main_v505 : Ref sig .tc := ⟨.hbm, 543, rfl⟩
abbrev main_v506 : Ref sig .tc := ⟨.hbm, 544, rfl⟩
abbrev main_v507 : Ref sig .tc := ⟨.hbm, 545, rfl⟩
abbrev main_v508 : Ref sig .tc := ⟨.hbm, 546, rfl⟩
abbrev main_v509 : Ref sig .tc := ⟨.hbm, 547, rfl⟩
abbrev main_v510 : Ref sig .tc := ⟨.hbm, 548, rfl⟩
abbrev main_v511 : Ref sig .tc := ⟨.hbm, 549, rfl⟩
abbrev main_v512 : Ref sig .tc := ⟨.hbm, 550, rfl⟩
abbrev main_v513 : Ref sig .tc := ⟨.hbm, 551, rfl⟩
abbrev main_v514 : Ref sig .tc := ⟨.hbm, 552, rfl⟩
abbrev main_v515 : Ref sig .tc := ⟨.hbm, 553, rfl⟩
abbrev main_v516 : Ref sig .tc := ⟨.hbm, 554, rfl⟩
abbrev main_v517 : Ref sig .tc := ⟨.hbm, 555, rfl⟩
abbrev main_v518 : Ref sig .tc := ⟨.hbm, 556, rfl⟩
abbrev main_v519 : Ref sig .tc := ⟨.hbm, 557, rfl⟩
abbrev main_v520 : Ref sig .tc := ⟨.hbm, 558, rfl⟩
abbrev main_v521 : Ref sig .tc := ⟨.hbm, 559, rfl⟩
abbrev main_v522 : Ref sig .tc := ⟨.hbm, 560, rfl⟩
abbrev main_v523 : Ref sig .tc := ⟨.hbm, 561, rfl⟩
abbrev main_v524 : Ref sig .tc := ⟨.hbm, 562, rfl⟩
abbrev main_v525 : Ref sig .tc := ⟨.hbm, 563, rfl⟩
abbrev main_v526 : Ref sig .tc := ⟨.hbm, 564, rfl⟩
abbrev main_v527 : Ref sig .tc := ⟨.hbm, 565, rfl⟩
abbrev main_v528 : Ref sig .tc := ⟨.hbm, 566, rfl⟩
abbrev main_v529 : Ref sig .tc := ⟨.hbm, 567, rfl⟩
abbrev main_cst_17 : Ref sig .tc := ⟨.hbm, 568, rfl⟩
abbrev main_v530 : Ref sig .tc := ⟨.hbm, 569, rfl⟩
abbrev main_v531 : Ref sig .tc := ⟨.hbm, 570, rfl⟩
abbrev main_v532 : Ref sig .tc := ⟨.hbm, 571, rfl⟩
abbrev main_v533 : Ref sig .tc := ⟨.hbm, 572, rfl⟩
abbrev main_v534 : Ref sig .tc := ⟨.hbm, 573, rfl⟩
abbrev main_v535 : Ref sig .tc := ⟨.hbm, 574, rfl⟩
abbrev main_v536 : Ref sig .tc := ⟨.hbm, 575, rfl⟩
abbrev main_v537 : Ref sig .tc := ⟨.hbm, 576, rfl⟩
abbrev main_v538 : Ref sig .tc := ⟨.hbm, 577, rfl⟩
abbrev main_v539 : Ref sig .tc := ⟨.hbm, 578, rfl⟩
abbrev main_v540 : Ref sig .tc := ⟨.hbm, 579, rfl⟩
abbrev main_v541 : Ref sig .tc := ⟨.hbm, 580, rfl⟩
abbrev main_v542 : Ref sig .tc := ⟨.hbm, 581, rfl⟩
abbrev main_v543 : Ref sig .tc := ⟨.hbm, 582, rfl⟩
abbrev main_v544 : Ref sig .tc := ⟨.hbm, 583, rfl⟩
abbrev main_v545 : Ref sig .tc := ⟨.hbm, 584, rfl⟩
abbrev main_v546 : Ref sig .tc := ⟨.hbm, 585, rfl⟩
abbrev main_v547 : Ref sig .tc := ⟨.hbm, 586, rfl⟩
abbrev main_v548 : Ref sig .tc := ⟨.hbm, 587, rfl⟩
abbrev main_v549 : Ref sig .tc := ⟨.hbm, 588, rfl⟩
abbrev main_v550 : Ref sig .tc := ⟨.hbm, 589, rfl⟩
abbrev main_v551 : Ref sig .tc := ⟨.hbm, 590, rfl⟩
abbrev main_v552 : Ref sig .tc := ⟨.hbm, 591, rfl⟩
abbrev main_v553 : Ref sig .tc := ⟨.hbm, 592, rfl⟩
abbrev main_v554 : Ref sig .tc := ⟨.hbm, 593, rfl⟩
abbrev main_v555 : Ref sig .tc := ⟨.hbm, 594, rfl⟩
abbrev main_cst_18 : Ref sig .tc := ⟨.hbm, 595, rfl⟩
abbrev main_v556 : Ref sig .tc := ⟨.hbm, 596, rfl⟩
abbrev main_v557 : Ref sig .tc := ⟨.hbm, 597, rfl⟩
abbrev main_v558 : Ref sig .tc := ⟨.hbm, 598, rfl⟩
abbrev main_v559 : Ref sig .tc := ⟨.hbm, 599, rfl⟩
abbrev main_v560 : Ref sig .tc := ⟨.hbm, 600, rfl⟩
abbrev main_v561 : Ref sig .tc := ⟨.hbm, 601, rfl⟩
abbrev main_v562 : Ref sig .tc := ⟨.hbm, 602, rfl⟩
abbrev main_v563 : Ref sig .tc := ⟨.hbm, 603, rfl⟩
abbrev main_v564 : Ref sig .tc := ⟨.hbm, 604, rfl⟩
abbrev main_v565 : Ref sig .tc := ⟨.hbm, 605, rfl⟩
abbrev main_v566 : Ref sig .tc := ⟨.hbm, 606, rfl⟩
abbrev main_v567 : Ref sig .tc := ⟨.hbm, 607, rfl⟩
abbrev main_v568 : Ref sig .tc := ⟨.hbm, 608, rfl⟩
abbrev main_v569 : Ref sig .tc := ⟨.hbm, 609, rfl⟩
abbrev main_v570 : Ref sig .tc := ⟨.hbm, 610, rfl⟩
abbrev main_v571 : Ref sig .tc := ⟨.hbm, 611, rfl⟩
abbrev main_v572 : Ref sig .tc := ⟨.hbm, 612, rfl⟩
abbrev main_v573 : Ref sig .tc := ⟨.hbm, 613, rfl⟩
abbrev main_v574 : Ref sig .tc := ⟨.hbm, 614, rfl⟩
abbrev main_v575 : Ref sig .tc := ⟨.hbm, 615, rfl⟩
abbrev main_v576 : Ref sig .tc := ⟨.hbm, 616, rfl⟩
abbrev main_v577 : Ref sig .tc := ⟨.hbm, 617, rfl⟩
abbrev main_v578 : Ref sig .tc := ⟨.hbm, 618, rfl⟩
abbrev main_v579 : Ref sig .tc := ⟨.hbm, 619, rfl⟩
abbrev main_v580 : Ref sig .tc := ⟨.hbm, 620, rfl⟩
abbrev main_v581 : Ref sig .tc := ⟨.hbm, 621, rfl⟩
abbrev main_cst_19 : Ref sig .tc := ⟨.hbm, 622, rfl⟩
abbrev main_v582 : Ref sig .tc := ⟨.hbm, 623, rfl⟩
abbrev main_v583 : Ref sig .tc := ⟨.hbm, 624, rfl⟩
abbrev main_v584 : Ref sig .tc := ⟨.hbm, 625, rfl⟩
abbrev main_v585 : Ref sig .tc := ⟨.hbm, 626, rfl⟩
abbrev main_v586 : Ref sig .tc := ⟨.hbm, 627, rfl⟩
abbrev main_v587 : Ref sig .tc := ⟨.hbm, 628, rfl⟩
abbrev main_v588 : Ref sig .tc := ⟨.hbm, 629, rfl⟩
abbrev main_v589 : Ref sig .tc := ⟨.hbm, 630, rfl⟩
abbrev main_v590 : Ref sig .tc := ⟨.hbm, 631, rfl⟩
abbrev main_v591 : Ref sig .tc := ⟨.hbm, 632, rfl⟩
abbrev main_v592 : Ref sig .tc := ⟨.hbm, 633, rfl⟩
abbrev main_v593 : Ref sig .tc := ⟨.hbm, 634, rfl⟩
abbrev main_v594 : Ref sig .tc := ⟨.hbm, 635, rfl⟩
abbrev main_v595 : Ref sig .tc := ⟨.hbm, 636, rfl⟩
abbrev main_v596 : Ref sig .tc := ⟨.hbm, 637, rfl⟩
abbrev main_v597 : Ref sig .tc := ⟨.hbm, 638, rfl⟩
abbrev main_v598 : Ref sig .tc := ⟨.hbm, 639, rfl⟩
abbrev main_v599 : Ref sig .tc := ⟨.hbm, 640, rfl⟩
abbrev main_v600 : Ref sig .tc := ⟨.hbm, 641, rfl⟩
abbrev main_v601 : Ref sig .tc := ⟨.hbm, 642, rfl⟩
abbrev main_v602 : Ref sig .tc := ⟨.hbm, 643, rfl⟩
abbrev main_v603 : Ref sig .tc := ⟨.hbm, 644, rfl⟩
abbrev main_v604 : Ref sig .tc := ⟨.hbm, 645, rfl⟩
abbrev main_v605 : Ref sig .tc := ⟨.hbm, 646, rfl⟩
abbrev main_v606 : Ref sig .tc := ⟨.hbm, 647, rfl⟩
abbrev main_v607 : Ref sig .tc := ⟨.hbm, 648, rfl⟩
abbrev main_cst_20 : Ref sig .tc := ⟨.hbm, 649, rfl⟩
abbrev main_v608 : Ref sig .tc := ⟨.hbm, 650, rfl⟩
abbrev main_v609 : Ref sig .tc := ⟨.hbm, 651, rfl⟩
abbrev main_v610 : Ref sig .tc := ⟨.hbm, 652, rfl⟩
abbrev main_v611 : Ref sig .tc := ⟨.hbm, 653, rfl⟩
abbrev main_v612 : Ref sig .tc := ⟨.hbm, 654, rfl⟩
abbrev main_v613 : Ref sig .tc := ⟨.hbm, 655, rfl⟩
abbrev main_v614 : Ref sig .tc := ⟨.hbm, 656, rfl⟩
abbrev main_v615 : Ref sig .tc := ⟨.hbm, 657, rfl⟩
abbrev main_v616 : Ref sig .tc := ⟨.hbm, 658, rfl⟩
abbrev main_v617 : Ref sig .tc := ⟨.hbm, 659, rfl⟩
abbrev main_v618 : Ref sig .tc := ⟨.hbm, 660, rfl⟩
abbrev main_v619 : Ref sig .tc := ⟨.hbm, 661, rfl⟩
abbrev main_v620 : Ref sig .tc := ⟨.hbm, 662, rfl⟩
abbrev main_v621 : Ref sig .tc := ⟨.hbm, 663, rfl⟩
abbrev main_v622 : Ref sig .tc := ⟨.hbm, 664, rfl⟩
abbrev main_cst_21 : Ref sig .tc := ⟨.hbm, 665, rfl⟩
abbrev main_v623 : Ref sig .tc := ⟨.hbm, 666, rfl⟩
abbrev main_v624 : Ref sig .tc := ⟨.hbm, 667, rfl⟩
abbrev main_cst_22 : Ref sig .tc := ⟨.hbm, 668, rfl⟩
abbrev main_v625 : Ref sig .tc := ⟨.hbm, 669, rfl⟩
abbrev main_v626 : Ref sig .tc := ⟨.hbm, 670, rfl⟩
abbrev main_cst_23 : Ref sig .tc := ⟨.hbm, 671, rfl⟩
abbrev main_v627 : Ref sig .tc := ⟨.hbm, 672, rfl⟩
abbrev main_v628 : Ref sig .tc := ⟨.hbm, 673, rfl⟩
abbrev main_v629 : Ref sig .tc := ⟨.hbm, 674, rfl⟩
abbrev main_v630 : Ref sig .tc := ⟨.hbm, 675, rfl⟩
abbrev main_v631 : Ref sig .tc := ⟨.hbm, 676, rfl⟩
abbrev main_v632 : Ref sig .tc := ⟨.hbm, 677, rfl⟩
abbrev main_v633 : Ref sig .tc := ⟨.hbm, 678, rfl⟩
abbrev main_cst_24 : Ref sig .tc := ⟨.hbm, 679, rfl⟩
abbrev main_v634 : Ref sig .tc := ⟨.hbm, 680, rfl⟩
abbrev main_v635 : Ref sig .tc := ⟨.hbm, 681, rfl⟩
abbrev main_cst_25 : Ref sig .tc := ⟨.hbm, 682, rfl⟩
abbrev main_v636 : Ref sig .tc := ⟨.hbm, 683, rfl⟩
abbrev main_v637 : Ref sig .tc := ⟨.hbm, 684, rfl⟩
abbrev main_v638 : Ref sig .tc := ⟨.hbm, 685, rfl⟩
abbrev main_v639 : Ref sig .tc := ⟨.hbm, 686, rfl⟩
abbrev main_v640 : Ref sig .tc := ⟨.hbm, 687, rfl⟩
abbrev main_v641 : Ref sig .tc := ⟨.hbm, 688, rfl⟩
abbrev main_v642 : Ref sig .tc := ⟨.hbm, 689, rfl⟩
abbrev main_v643 : Ref sig .tc := ⟨.hbm, 690, rfl⟩
abbrev main_v644 : Ref sig .tc := ⟨.hbm, 691, rfl⟩
abbrev main_v645 : Ref sig .tc := ⟨.hbm, 692, rfl⟩
abbrev main_v646 : Ref sig .tc := ⟨.hbm, 693, rfl⟩
abbrev main_v647 : Ref sig .tc := ⟨.hbm, 694, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S24x1280x18x128 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S24x1280x18x128 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S24x1280x18x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S24x1280x18x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Proof.Hand.Unit.lean ====
module

public import proofs.«01_k».proof.Proof.Gen.KernelIdeal

/-! One chunk of one pair of batch entries, as the kernel computes it, cut into stages and written once over
    any arithmetic. The kernel's body is eight copies of this. -/

@[expose] public section

noncomputable section

namespace Cert.Hand

open Idealize.ShloMosaic Idealize.SL.Sem Cert.KernelIdeal Cert.KernelIdeal.Facts₀

variable {F : FTy → Type} [FloatOps F] [Named F]

/-! ## Integers: lanes, rows and masks -/

def lane : IVec S64x128 32 := iota .tc S64x128 32 [1] iota_S64x128_d1_w32
def row : IVec S64x128 32 := iota .tc S64x128 32 [0] iota_S64x128_d0_w32

/-- The column number modulo 64. -/
def lane64 : IVec S64x128 32 :=
  have w : BitVec 32 := Scalar.select (Scalar.cmpi .eq 64#32 0#32) 1#32 64#32
  have r : IVec S64x128 32 := remsi lane (broadcast S64x128 w)
  select (andi (xori (cmpi .slt r (broadcast S64x128 0#32))
      (broadcastTo S64x128 (broadcast S64x128 (Scalar.cmpi .slt w 0#32)) broadcasts_S64x128_S64x128))
    (cmpi .ne r (broadcast S64x128 0#32))) (addi r (broadcast S64x128 w)) r

def lo1 : IVec S1x128 1 :=
  cmpi .slt (extractStridedSlice S1x128 ![0, 0] lane slices_S64x128_o0_0_S1x128) (broadcast S1x128 64#32)

def lov : IVec S160x128 1 :=
  cmpi .slt (iota .tc S160x128 32 [1] iota_S160x128_d1_w32) (broadcast S160x128 64#32)

def lane32 : IVec S32x128 32 := extractStridedSlice S32x128 ![0, 0] lane slices_S64x128_o0_0_S32x128

/-- The column number modulo `n`, over 32 rows. -/
def modLane (n : BitVec 32) : IVec S32x128 32 :=
  have w : BitVec 32 := Scalar.select (Scalar.cmpi .eq n 0#32) 1#32 n
  have r : IVec S32x128 32 := remsi lane32 (broadcast S32x128 w)
  select (andi (xori (cmpi .slt r (broadcast S32x128 0#32))
      (broadcastTo S32x128 (broadcast S32x128 (Scalar.cmpi .slt w 0#32)) broadcasts_S32x128_S32x128))
    (cmpi .ne r (broadcast S32x128 0#32))) (addi r (broadcast S32x128 w)) r

def blk0 : IVec S32x128 1 := cmpi .slt (modLane 64#32) (broadcast S32x128 32#32)

def base : IVec S32x128 32 := subi lane32 (modLane 32#32)

/-- The number of the block of 32 columns. -/
def blk : IVec S32x128 32 :=
  have q : IVec S32x128 32 := divsi lane32 (broadcast S32x128 32#32)
  select (andi (cmpi .ne
      (subi (extui 32 (cmpi .sgt lane32 (broadcast S32x128 0#32)) natLt_1_32)
        (extui 32 (cmpi .slt lane32 (broadcast S32x128 0#32)) natLt_1_32))
      (broadcast S32x128 (Scalar.subi (Scalar.extui (Scalar.cmpi .sgt 32#32 0#32))
        (Scalar.extui (Scalar.cmpi .slt 32#32 0#32)))))
    (cmpi .ne (remsi lane32 (broadcast S32x128 32#32)) (broadcast S32x128 0#32)))
    (subi q (broadcast S32x128 1#32)) q

/-! ## The decays -/

/-- The doubling step of the running sum: every row gains the row `n` above it. -/
def cs1 (a : FVec F S64x128 .f32) : FVec F S64x128 .f32 :=
  addf a (concatenate S64x128 0 [⟨S1x128, broadcast S1x128 (Scalar.ofBits .f32 0x00000000#32)⟩,
    ⟨S63x128, extractStridedSlice S63x128 ![0, 0] a slices_S64x128_o0_0_S63x128⟩] concatenates_S1x128_S63x128_S64x128_d0)

def cs2 (a : FVec F S64x128 .f32) : FVec F S64x128 .f32 :=
  addf a (concatenate S64x128 0 [⟨S2x128, broadcast S2x128 (Scalar.ofBits .f32 0x00000000#32)⟩,
    ⟨S62x128, extractStridedSlice S62x128 ![0, 0] a slices_S64x128_o0_0_S62x128⟩] concatenates_S2x128_S62x128_S64x128_d0)

def cs4 (a : FVec F S64x128 .f32) : FVec F S64x128 .f32 :=
  addf a (concatenate S64x128 0 [⟨S4x128, broadcast S4x128 (Scalar.ofBits .f32 0x00000000#32)⟩,
    ⟨S60x128, extractStridedSlice S60x128 ![0, 0] a slices_S64x128_o0_0_S60x128⟩] concatenates_S4x128_S60x128_S64x128_d0)

def cs8 (a : FVec F S64x128 .f32) : FVec F S64x128 .f32 :=
  addf a (concatenate S64x128 0 [⟨S8x128, broadcast S8x128 (Scalar.ofBits .f32 0x00000000#32)⟩,
    ⟨S56x128, extractStridedSlice S56x128 ![0, 0] a slices_S64x128_o0_0_S56x128⟩] concatenates_S8x128_S56x128_S64x128_d0)

def cs16 (a : FVec F S64x128 .f32) : FVec F S64x128 .f32 :=
  addf a (concatenate S64x128 0 [⟨S16x128, broadcast S16x128 (Scalar.ofBits .f32 0x00000000#32)⟩,
    ⟨S48x128, extractStridedSlice S48x128 ![0, 0] a slices_S64x128_o0_0_S48x128⟩] concatenates_S16x128_S48x128_S64x128_d0)

def cs32 (a : FVec F S64x128 .f32) : FVec F S64x128 .f32 :=
  addf a (concatenate S64x128 0 [⟨S32x128, broadcast S32x128 (Scalar.ofBits .f32 0x00000000#32)⟩,
    ⟨S32x128, extractStridedSlice S32x128 ![0, 0] a slices_S64x128_o0_0_S32x128⟩] concatenates_S32x128_S32x128_S64x128_d0)

def gcum (g : Vec F S1x1x64x128 .f32) : FVec F S64x128 .f32 :=
  cs32 (cs16 (cs8 (cs4 (cs2 (cs1 (shapeCast S64x128 g shapeCasts_S1x1x64x128_S64x128))))))

def glast (gc : FVec F S64x128 .f32) : FVec F S1x128 .f32 :=
  extractStridedSlice S1x128 ![63, 0] gc slices_S64x128_o63_0_S1x128

def codes (k : Vec F S1x1x64x128 .fp8e4m3) : FVec F S64x128 .bf16 :=
  extf .bf16 (shapeCast S64x128 k shapeCasts_S1x1x64x128_S64x128 : FVec F S64x128 .fp8e4m3) bitsLt_fp8e4m3_bf16

def xpos (k : Vec F S1x1x64x128 .fp8e4m3) (gc : FVec F S64x128 .f32) : FVec F S64x128 .bf16 :=
  mulf (codes k) (truncf .bf16 (exp gc) bitsLt_bf16_f32)

def xneg (k : Vec F S1x1x64x128 .fp8e4m3) (gc : FVec F S64x128 .f32) : FVec F S64x128 .bf16 :=
  mulf (codes k) (truncf .bf16 (exp (subf (broadcast S64x128 (Scalar.ofBits .f32 0x00000000#32)) gc)) bitsLt_bf16_f32)

def xdec (k : Vec F S1x1x64x128 .fp8e4m3) (gc : FVec F S64x128 .f32) : FVec F S64x128 .bf16 :=
  mulf (codes k) (truncf .bf16 (exp (subf (broadcastTo S64x128 (glast gc) broadcasts_S1x128_S64x128) gc)) bitsLt_bf16_f32)

def zk : FVec F S64x128 .bf16 := broadcast S64x128 (Scalar.ofBits .bf16 0x0000#16)

def wide (a b : FVec F S64x128 .bf16) : FVec F S64x256 .bf16 :=
  concatenate S64x256 1 [⟨S64x128, a⟩, ⟨S64x128, b⟩] concatenates_S64x128_S64x128_S64x256_d1

def kqMat (kx ky qx qy : FVec F S64x128 .bf16) : FVec F S256x256 .bf16 :=
  concatenate S256x256 0 [⟨S64x256, wide kx zk⟩, ⟨S64x256, wide zk ky⟩, ⟨S64x256, wide qx zk⟩, ⟨S64x256, wide zk qy⟩]
    concatenates_S64x256_S64x256_S64x256_S64x256_S256x256_d0

def aqMat (nx ny : FVec F S64x128 .bf16) (kq : FVec F S256x256 .bf16) : FVec F S64x256 .f32 :=
  matmul dot_S64x256_S256x256_S64x256_1_1_0_0_n_n none (wide nx ny) kq (constant S64x256 .f32 0x00000000#32)

def uT (aq : FVec F S64x256 .f32) (ksv bv : FVec F S1x128 .f32) : FVec F S64x128 .f32 :=
  select (cmpi .sgt lane64 row)
    (mulf (extractStridedSlice S64x128 ![0, 0] aq slices_S64x256_o0_0_S64x128)
      (broadcastTo S64x128 (mulf bv (mulf ksv ksv)) broadcasts_S1x128_S64x128))
    (broadcast S64x128 (Scalar.ofBits .f32 0x00000000#32))

def qkT (aq : FVec F S64x256 .f32) : FVec F S64x128 .f32 :=
  select (cmpi .sge lane64 row) (extractStridedSlice S64x128 ![0, 128] aq slices_S64x256_o0_128_S64x128)
    (broadcast S64x128 (Scalar.ofBits .f32 0x00000000#32))

/-! ## The inverse by back substitution -/

def dBlk (u : FVec F S64x128 .f32) : FVec F S32x128 .f32 :=
  select blk0 (extractStridedSlice S32x128 ![0, 0] u slices_S64x128_o0_0_S32x128)
    (extractStridedSlice S32x128 ![32, 0] u slices_S64x128_o32_0_S32x128)

theorem slices_group (i : Fin 4) : S32x128.Slices ![8 * i.val, 0] S8x128 := by
  fin_cases i <;> decide

theorem slices_group64 (i : Fin 4) : S64x128.Slices ![8 * i.val, 0] S8x128 := by
  fin_cases i <;> decide

theorem slices_rowOf (a : Fin 8) : S8x128.Slices ![a.val, 0] S1x128 := by
  fin_cases a <;> decide

def eye8 (i : Fin 4) : FVec F S8x128 .f32 :=
  select (cmpi .eq (extractStridedSlice S8x128 ![8 * i.val, 0] (modLane 32#32) (slices_group i))
      (extractStridedSlice S8x128 ![8 * i.val, 0] row (slices_group64 i)))
    (broadcast S8x128 (Scalar.ofBits .f32 0x3F800000#32)) (broadcast S8x128 (Scalar.ofBits .f32 0x00000000#32))

def gidx (j : BitVec 32) : IVec S8x128 32 :=
  have a : IVec S8x128 32 := addi (extractStridedSlice S8x128 ![0, 0] base slices_S32x128_o0_0_S8x128) (broadcast S8x128 j)
  shapeCast S8x128 (shapeCast S8x128x1 (select (cmpi .slt a (broadcast S8x128 0#32)) (addi a (broadcast S8x128 128#32)) a)
    shapeCasts_S8x128_S8x128x1) shapeCasts_S8x128x1_S8x128

/-- One row taken off one group of eight. -/
def elim (d r : FVec F S8x128 .f32) (j : BitVec 32) (rj : FVec F S1x128 .f32) : FVec F S8x128 .f32 :=
  subf r (mulf (dynamicGather 1 d (gidx j)) (broadcastTo S8x128 rj broadcasts_S1x128_S8x128))

/-- Row `31 - n` taken off every group above it, after the rows below it. -/
def backSub (d : FVec F S32x128 .f32) : ℕ → Fin 4 → FVec F S8x128 .f32
  | 0 => eye8
  | n + 1 => fun i =>
    if 8 * i.val < 31 - n then
      elim (extractStridedSlice S8x128 ![8 * i.val, 0] d (slices_group i)) (backSub d n i) (BitVec.ofNat 32 (31 - n))
        (extractStridedSlice S1x128 ![(31 - n) % 8, 0] (backSub d n ⟨(31 - n) / 8, by omega⟩)
          (slices_rowOf ⟨(31 - n) % 8, by omega⟩))
    else backSub d n i

def rc (d : FVec F S32x128 .f32) : FVec F S32x128 .f32 :=
  concatenate S32x128 0 [⟨S8x128, backSub d 31 0⟩, ⟨S8x128, backSub d 31 1⟩, ⟨S8x128, backSub d 31 2⟩, ⟨S8x128, backSub d 31 3⟩]
    concatenates_S8x128_S8x128_S8x128_S8x128_S32x128_d0

def z32 : FVec F S32x128 .f32 := broadcast S32x128 (Scalar.ofBits .f32 0x00000000#32)

def only (n : BitVec 32) (x : FVec F S32x128 .f32) : FVec F S32x128 .f32 :=
  select (cmpi .eq blk (broadcast S32x128 n)) x z32

def stack4 (a b c d : FVec F S32x128 .f32) : FVec F S128x128 .f32 :=
  concatenate S128x128 0 [⟨S32x128, a⟩, ⟨S32x128, b⟩, ⟨S32x128, c⟩, ⟨S32x128, d⟩]
    concatenates_S32x128_S32x128_S32x128_S32x128_S128x128_d0

def mm32 (a : FVec F S32x128 .f32) (b : FVec F S128x128 .f32) : FVec F S32x128 .f32 :=
  matmul dot_S32x128_S128x128_S32x128_1_0_0_1_n_n (some .fp32) a b (constant S32x128 .f32 0x00000000#32)

def zMat (u : FVec F S64x128 .f32) (r : FVec F S32x128 .f32) : FVec F S32x128 .f32 :=
  mm32 (select blk0 z32 (extractStridedSlice S32x128 ![0, 0] u slices_S64x128_o0_0_S32x128)) (stack4 z32 (only 1#32 r) z32 (only 3#32 r))

def r12 (r z : FVec F S32x128 .f32) : FVec F S32x128 .f32 :=
  mm32 (select blk0 r z32) (stack4 (only 1#32 z) z32 (only 3#32 z) z32)

def rInv (r r12 : FVec F S32x128 .f32) : FVec F S64x128 .f32 :=
  concatenate S64x128 0 [⟨S32x128, select blk0 r (subf z32 r12)⟩, ⟨S32x128, select blk0 z32 r⟩] concatenates_S32x128_S32x128_S64x128_d0

def inverse (u : FVec F S64x128 .f32) : FVec F S64x128 .f32 :=
  have r := rc (dBlk u)
  rInv r (r12 r (zMat u r))

/-! ## Reads off the state, the outputs, and the state's update -/

def hi16 (x : FVec F S160x128 .f32) : FVec F S160x128 .f32 := extf .f32 (truncf .bf16 x)

def part0 (x : FVec F S160x128 .f32) : FVec F S160x128 .bf16 := truncf .bf16 (hi16 x) bitsLt_bf16_f32
def part1 (x : FVec F S160x128 .f32) : FVec F S160x128 .bf16 := truncf .bf16 (hi16 (subf x (hi16 x))) bitsLt_bf16_f32
def part2 (x : FVec F S160x128 .f32) : FVec F S160x128 .bf16 :=
  truncf .bf16 (subf (subf x (hi16 x)) (hi16 (subf x (hi16 x)))) bitsLt_bf16_f32

def wide160 (a b : FVec F S160x128 .bf16) : FVec F S160x256 .bf16 :=
  concatenate S160x256 1 [⟨S160x128, a⟩, ⟨S160x128, b⟩] concatenates_S160x128_S160x128_S160x256_d1

def mmNT (a : FVec F S160x256 .bf16) (kq : FVec F S256x256 .bf16) : FVec F S160x256 .f32 :=
  matmul dot_S160x256_S256x256_S160x256_1_1_0_0_n_n none a kq (constant S160x256 .f32 0x00000000#32)

def xqMat (sx sy : FVec F S160x128 .f32) (kq : FVec F S256x256 .bf16) : FVec F S160x256 .f32 :=
  addf (addf (mmNT (wide160 (part0 sx) (part0 sy)) kq) (mmNT (wide160 (part1 sx) (part1 sy)) kq))
    (mmNT (wide160 (part2 sx) (part2 sy)) kq)

def rrMat (ksv bv : FVec F S1x128 .f32) (vp : FVec F S160x128 .f32) (xq : FVec F S160x256 .f32) : FVec F S160x128 .f32 :=
  mulf (broadcastTo S160x128 (mulf ksv bv) broadcasts_S1x128_S160x128)
    (subf vp (mulf (broadcastTo S160x128 ksv broadcasts_S1x128_S160x128)
      (extractStridedSlice S160x128 ![0, 0] xq slices_S160x256_o0_0_S160x128)))

/-- The two halves of the columns as two diagonal blocks. -/
def bdiag (r : FVec F S64x128 .f32) : FVec F S128x128 .f32 :=
  have lom : IVec S64x128 1 := cmpi .slt lane (broadcast S64x128 64#32)
  have z : FVec F S64x128 .f32 := broadcast S64x128 (Scalar.ofBits .f32 0x00000000#32)
  concatenate S128x128 0 [⟨S64x128, select lom r z⟩, ⟨S64x128, select lom z r⟩] concatenates_S64x128_S64x128_S128x128_d0

def mm128 (a : FVec F S160x128 .f32) (b : FVec F S128x128 .f32) : FVec F S160x128 .f32 :=
  matmul dot_S160x128_S128x128_S160x128_1_0_0_1_n_n (some .fp32) a b (constant S160x128 .f32 0x00000000#32)

def oMat (qsv : FVec F S1x128 .f32) (xq : FVec F S160x256 .f32) (u : FVec F S160x128 .f32) (qk : FVec F S64x128 .f32) : FVec F S160x128 .f32 :=
  mulf (broadcastTo S160x128 (mulf (broadcast S1x128 (Scalar.ofBits .f32 0x3DB504F3#32)) qsv) broadcasts_S1x128_S160x128)
    (addf (extractStridedSlice S160x128 ![0, 128] xq slices_S160x256_o0_128_S160x128) (mm128 u (bdiag qk)))

def kdMat (dx dy : FVec F S64x128 .bf16) : FVec F S128x256 .bf16 :=
  concatenate S128x256 0 [⟨S64x256, wide dx zk⟩, ⟨S64x256, wide zk dy⟩] concatenates_S64x256_S64x256_S128x256_d0

def mmUpd (a : FVec F S160x128 .bf16) (kd : FVec F S128x256 .bf16) : FVec F S160x256 .f32 :=
  matmul dot_S160x128_S128x256_S160x256_1_0_0_1_n_n none a kd (constant S160x256 .f32 0x00000000#32)

def updMat (u : FVec F S160x128 .f32) (kd : FVec F S128x256 .bf16) : FVec F S160x256 .f32 :=
  addf (addf (mmUpd (part0 u) kd) (mmUpd (part1 u) kd)) (mmUpd (part2 u) kd)

def newX (s : FVec F S160x128 .f32) (dec : FVec F S1x128 .f32) (upd : FVec F S160x256 .f32) : FVec F S160x128 .f32 :=
  addf (mulf s (broadcastTo S160x128 dec broadcasts_S1x128_S160x128))
    (extractStridedSlice S160x128 ![0, 0] upd slices_S160x256_o0_0_S160x128)

def newY (s : FVec F S160x128 .f32) (dec : FVec F S1x128 .f32) (upd : FVec F S160x256 .f32) : FVec F S160x128 .f32 :=
  addf (mulf s (broadcastTo S160x128 dec broadcasts_S1x128_S160x128))
    (extractStridedSlice S160x128 ![0, 128] upd slices_S160x256_o0_128_S160x128)

/-! ## A chunk of a pair -/

/-- What a chunk reads of a pair `x`, `y` of batch entries: scales, codes, decays, and beta and the values already
    brought to the pair's lanes. -/
structure In (F : FTy → Type) where
  (ksx ksy qsx qsy : F .f32)
  (gx gy : Vec F S1x1x64x128 .f32)
  (kx ky qx qy : Vec F S1x1x64x128 .fp8e4m3)
  bv : FVec F S1x128 .f32
  vp : FVec F S160x128 .f32

def two (a b : F .f32) : FVec F S1x128 .f32 := select lo1 (broadcast S1x128 a) (broadcast S1x128 b)

namespace In

variable (I : In F)

def ksv : FVec F S1x128 .f32 := two I.ksx I.ksy
def qsv : FVec F S1x128 .f32 := two I.qsx I.qsy
def gcx : FVec F S64x128 .f32 := gcum I.gx
def gcy : FVec F S64x128 .f32 := gcum I.gy
def kq : FVec F S256x256 .bf16 := kqMat (xpos I.kx I.gcx) (xpos I.ky I.gcy) (xpos I.qx I.gcx) (xpos I.qy I.gcy)
def aq : FVec F S64x256 .f32 := aqMat (xneg I.kx I.gcx) (xneg I.ky I.gcy) I.kq
def rinv : FVec F S64x128 .f32 := inverse (uT I.aq I.ksv I.bv)
def xq (sx sy : FVec F S160x128 .f32) : FVec F S160x256 .f32 := xqMat sx sy I.kq
def u (sx sy : FVec F S160x128 .f32) : FVec F S160x128 .f32 := mm128 (rrMat I.ksv I.bv I.vp (I.xq sx sy)) (bdiag I.rinv)
def o (sx sy : FVec F S160x128 .f32) : FVec F S160x128 .f32 := oMat I.qsv (I.xq sx sy) (I.u sx sy) (qkT I.aq)
def upd (sx sy : FVec F S160x128 .f32) : FVec F S160x256 .f32 := updMat (I.u sx sy) (kdMat (xdec I.kx I.gcx) (xdec I.ky I.gcy))
def sx' (sx sy : FVec F S160x128 .f32) : FVec F S160x128 .f32 := newX sx (exp (glast I.gcx)) (I.upd sx sy)
def sy' (sx sy : FVec F S160x128 .f32) : FVec F S160x128 .f32 := newY sy (exp (glast I.gcy)) (I.upd sx sy)

end In

/-! ## Beta and the values brought to the pair's lanes, and the two results of a pair -/

def b2 (b : Vec F S1x1x128 .f32) : FVec F S1x128 .f32 := shapeCast S1x128 b shapeCasts_S1x1x128_S1x128
def bvA (bx by' : Vec F S1x1x128 .f32) : FVec F S1x128 .f32 :=
  select lo1 (b2 bx) (dynamicRotate 1 64#32 none (b2 by') rotates_S1x128_d1)
def bvB (bx by' : Vec F S1x1x128 .f32) : FVec F S1x128 .f32 :=
  select lo1 (dynamicRotate 1 64#32 none (b2 bx) rotates_S1x128_d1) (b2 by')

def v2 (v : Vec F S1x1x160x128 .bf16) : FVec F S160x128 .f32 :=
  extf .f32 (shapeCast S160x128 v shapeCasts_S1x1x160x128_S160x128 : FVec F S160x128 .bf16) bitsLt_bf16_f32
def roll (x : FVec F S160x128 .f32) : FVec F S160x128 .f32 := dynamicRotate 1 64#32 none x rotates_S160x128_d1
def vpA (vx vy : Vec F S1x1x160x128 .bf16) : FVec F S160x128 .f32 := select lov (v2 vx) (roll (v2 vy))
def vpB (vx vy : Vec F S1x1x160x128 .bf16) : FVec F S160x128 .f32 := select lov (roll (v2 vx)) (v2 vy)

def s2 (s : Vec F S1x1x160x128 .f32) : FVec F S160x128 .f32 := shapeCast S160x128 s shapeCasts_S1x1x160x128_S160x128
def s4 (s : FVec F S160x128 .f32) : FVec F S1x1x160x128 .f32 := shapeCast S1x1x160x128 s shapeCasts_S160x128_S1x1x160x128

def oX (o0 o1 : FVec F S160x128 .f32) : FVec F S160x128 .f32 := select lov o0 o1
def oY (o0 o1 : FVec F S160x128 .f32) : FVec F S160x128 .f32 := roll (select lov o1 o0)

def invRms (o : FVec F S160x128 .f32) : FVec F S1x128 .f32 :=
  rsqrt (addf (mulf (shapeCast S1x128 (multiReduction .add [0] S128 (mulf o o) 0x00000000#32 reduces_S160x128_S128 (.inl rfl) rfl)
      shapeCasts_S128_S1x128) (broadcast S1x128 (Named.named κ "inv_n_v" 0x3BCCCCCD#32)))
    (broadcast S1x128 (Scalar.ofBits .f32 0x358637BD#32)))

def yOut (o : FVec F S160x128 .f32) (gate : Vec F S1x160x128 .bf16) (w : Vec F S160x128 .f32) : FVec F S1x160x128 .bf16 :=
  shapeCast S1x160x128 (truncf .bf16 (mulf (mulf (mulf o (broadcastTo S160x128 (invRms o) broadcasts_S1x128_S160x128)) w)
      (logistic (extf .f32 (shapeCast S160x128 gate shapeCasts_S1x160x128_S160x128 : FVec F S160x128 .bf16) bitsLt_bf16_f32)))
    bitsLt_bf16_f32 : FVec F S160x128 .bf16) shapeCasts_S160x128_S1x160x128

def oOut (o : FVec F S160x128 .f32) : FVec F S1x160x128 .bf16 :=
  shapeCast S1x160x128 (truncf .bf16 o bitsLt_bf16_f32 : FVec F S160x128 .bf16) shapeCasts_S160x128_S1x160x128

def wbc (w : Vec F S160x1 .f32) : FVec F S160x128 .f32 :=
  shapeCast S160x128 (broadcastTo S160x128 (shapeCast S160x1 (shapeCast S160x1 w shapeCasts_S160x1_S160x1 : FVec F S160x1 .f32)
    shapeCasts_S160x1_S160x1 : FVec F S160x1 .f32) broadcasts_S160x1_S160x128 : FVec F S160x128 .f32) shapeCasts_S160x128_S160x128

end Cert.Hand

end
-- ==== Proof.Hand.Pieces.lean ====
module

public import proofs.«01_k».proof.Proof.Hand.Unit
public import proofs.«01_k».proof.Proof.Gen.KernelIdeal.Frame.RunB

/-! What a grid point's stores leave, as pieces, in terms of the chunks of the four pairs. -/

@[expose] public section

set_option maxRecDepth 100000

noncomputable section

namespace Cert.Hand

open Idealize.ShloMosaic Idealize.SL.Sem Cert.KernelIdeal Cert.KernelIdeal.Facts₀

variable {F : FTy → Type} [FloatOps F] [Named F]

abbrev Piece12 (F : FTy → Type) := View.Piece (Elt F) S8x1x160x128 .f32
abbrev Piece10 (F : FTy → Type) := View.Piece (Elt F) S8x160x128 .bf16

/-- Everything a grid point loads: per batch entry of the group, and per chunk where the load is of one chunk. -/
structure Ld (F : FTy → Type) where
  (qs ks : Fin 8 → Fin 2 → F .f32)
  (q k : Fin 8 → Fin 2 → Vec F S1x1x64x128 .fp8e4m3)
  g : Fin 8 → Fin 2 → Vec F S1x1x64x128 .f32
  b : Fin 8 → Vec F S1x1x128 .f32
  v : Fin 8 → Vec F S1x1x160x128 .bf16
  gate : Fin 8 → Vec F S1x160x128 .bf16
  w : Vec F S160x128 .f32

theorem inb_row (b : Fin 8) : ∀ a, (![b.val, 0, 0, 0] : Fin 4 → Nat) a + S1x1x160x128.size a ≤ S8x1x160x128.size a := by
  revert b; decide
theorem inb_out (b : Fin 8) : ∀ a, (![b.val, 0, 0] : Fin 3 → Nat) a + S1x160x128.size a ≤ S8x160x128.size a := by
  revert b; decide
theorem inb_seq (b : Fin 8) (c : Fin 2) : ∀ a, (![b.val, 0, 64 * c.val, 0] : Fin 4 → Nat) a + S1x1x64x128.size a ≤ S8x1x128x128.size a := by
  revert b c; decide
theorem inb_beta (b : Fin 8) : ∀ a, (![0, b.val, 0] : Fin 3 → Nat) a + S1x1x128.size a ≤ S1x8x128.size a := by
  revert b; decide
theorem inb_whole : ∀ a, (![0, 0, 0, 0] : Fin 4 → Nat) a + S8x1x160x128.size a ≤ S8x1x160x128.size a := by decide

def rowOf (b : Fin 8) : Rect S8x1x160x128 := Rect.unit ![b.val, 0, 0, 0] S1x1x160x128.size (inb_row b)
def outOf (b : Fin 8) : Rect S8x160x128 := Rect.unit ![b.val, 0, 0] S1x160x128.size (inb_out b)
def seqOf (b : Fin 8) (c : Fin 2) : Rect S8x1x128x128 := Rect.unit ![b.val, 0, 64 * c.val, 0] S1x1x64x128.size (inb_seq b c)
def betaOf (b : Fin 8) : Rect S1x8x128 := Rect.unit ![0, b.val, 0] S1x1x128.size (inb_beta b)

/-- The chunk's number, as the kernel computes it. -/
def chunkWord (n : Fin 10) (c : Fin 2) : ℕ :=
  (Scalar.indexCast (Scalar.addi (Scalar.muli 2#32 (BitVec.ofNat 32 n.val)) (BitVec.ofNat 32 c.val)) : BitVec 32).toNat

theorem chunkWord_eq : ∀ (n : Fin 10) (c : Fin 2), chunkWord n c = 2 * n.val + c.val := by decide

theorem inb_scale (n : Fin 10) (b : Fin 8) (c : Fin 2) : ∀ a, (![0, b.val, chunkWord n c] : Fin 3 → Nat) a + S1x1x1.size a ≤ S1x8x20.size a := by
  rw [chunkWord_eq]; revert n b c; decide

def scaleOf (n : Fin 10) (b : Fin 8) (c : Fin 2) : Rect S1x8x20 := Rect.unit ![0, b.val, chunkWord n c] S1x1x1.size (inb_scale n b c)

namespace Ld

variable (L : Ld F)

/-- The first chunk of the pair `x`, `y`: the lower lanes are `x`'s. -/
def inA (x y : Fin 8) : In F :=
  ⟨L.ks x 0, L.ks y 0, L.qs x 0, L.qs y 0, L.g x 0, L.g y 0, L.k x 0, L.k y 0, L.q x 0, L.q y 0, bvA (L.b x) (L.b y), vpA (L.v x) (L.v y)⟩

/-- The second chunk: the lower lanes are `y`'s. -/
def inB (x y : Fin 8) : In F :=
  ⟨L.ks y 1, L.ks x 1, L.qs y 1, L.qs x 1, L.g y 1, L.g x 1, L.k y 1, L.k x 1, L.q y 1, L.q x 1, bvB (L.b y) (L.b x), vpB (L.v y) (L.v x)⟩

variable (first again : List (Piece12 F) → Fin 8 → Vec F S1x1x160x128 .f32)

/-- The states' pieces after the first chunk of a pair. -/
def mid (x y : Fin 8) (acc : List (Piece12 F)) : List (Piece12 F) :=
  ⟨rowOf y, s4 ((L.inA x y).sy' (s2 (first acc x)) (s2 (first acc y)))⟩
    :: ⟨rowOf x, s4 ((L.inA x y).sx' (s2 (first acc x)) (s2 (first acc y)))⟩ :: acc

/-- The states' pieces after the second. -/
def second (x y : Fin 8) (m : List (Piece12 F)) : List (Piece12 F) :=
  ⟨rowOf x, s4 ((L.inB x y).sy' (s2 (again m y)) (s2 (again m x)))⟩
    :: ⟨rowOf y, s4 ((L.inB x y).sx' (s2 (again m y)) (s2 (again m x)))⟩ :: m

def o0 (x y : Fin 8) (acc : List (Piece12 F)) : FVec F S160x128 .f32 := (L.inA x y).o (s2 (first acc x)) (s2 (first acc y))
def o1 (x y : Fin 8) (m : List (Piece12 F)) : FVec F S160x128 .f32 := (L.inB x y).o (s2 (again m y)) (s2 (again m x))

/-- The stores of the outputs of a pair, from what its two chunks give. -/
def ys (x y : Fin 8) (a b : FVec F S160x128 .f32) (r : List (Piece10 F)) : List (Piece10 F) :=
  ⟨outOf y, yOut (oY a b) (L.gate y) L.w⟩ :: ⟨outOf x, yOut (oX a b) (L.gate x) L.w⟩ :: r
def os (x y : Fin 8) (a b : FVec F S160x128 .f32) (r : List (Piece10 F)) : List (Piece10 F) :=
  ⟨outOf y, oOut (oY a b)⟩ :: ⟨outOf x, oOut (oX a b)⟩ :: r

/-- The states' pieces before the pair `p`. -/
def acc1 (z : List (Piece12 F)) : List (Piece12 F) := L.second again 0 1 (L.mid first 0 1 z)
def acc2 (z : List (Piece12 F)) : List (Piece12 F) := L.second again 2 3 (L.mid first 2 3 (L.acc1 first again z))
def acc3 (z : List (Piece12 F)) : List (Piece12 F) := L.second again 4 5 (L.mid first 4 5 (L.acc2 first again z))
def acc4 (z : List (Piece12 F)) : List (Piece12 F) := L.second again 6 7 (L.mid first 6 7 (L.acc3 first again z))

theorem accs1 (z : List (Piece12 F)) : L.acc1 first again z = L.second again 0 1 (L.mid first 0 1 z) := rfl
theorem accs2 (z : List (Piece12 F)) : L.acc2 first again z = L.second again 2 3 (L.mid first 2 3 (L.acc1 first again z)) := rfl
theorem accs3 (z : List (Piece12 F)) : L.acc3 first again z = L.second again 4 5 (L.mid first 4 5 (L.acc2 first again z)) := rfl
theorem accs4 (z : List (Piece12 F)) : L.acc4 first again z = L.second again 6 7 (L.mid first 6 7 (L.acc3 first again z)) := rfl

/-- All the stores of the normalized outputs, and of the outputs themselves. -/
def allY (z : List (Piece12 F)) : List (Piece10 F) :=
  (L.ys 6 7 (L.o0 first 6 7 (L.acc3 first again z)) (L.o1 again 6 7 (L.mid first 6 7 (L.acc3 first again z)))
    (L.ys 4 5 (L.o0 first 4 5 (L.acc2 first again z)) (L.o1 again 4 5 (L.mid first 4 5 (L.acc2 first again z)))
    (L.ys 2 3 (L.o0 first 2 3 (L.acc1 first again z)) (L.o1 again 2 3 (L.mid first 2 3 (L.acc1 first again z)))
    (L.ys 0 1 (L.o0 first 0 1 z) (L.o1 again 0 1 (L.mid first 0 1 z))
    []))))
def allO (z : List (Piece12 F)) : List (Piece10 F) :=
  (os 6 7 (L.o0 first 6 7 (L.acc3 first again z)) (L.o1 again 6 7 (L.mid first 6 7 (L.acc3 first again z)))
    (os 4 5 (L.o0 first 4 5 (L.acc2 first again z)) (L.o1 again 4 5 (L.mid first 4 5 (L.acc2 first again z)))
    (os 2 3 (L.o0 first 2 3 (L.acc1 first again z)) (L.o1 again 2 3 (L.mid first 2 3 (L.acc1 first again z)))
    (os 0 1 (L.o0 first 0 1 z) (L.o1 again 0 1 (L.mid first 0 1 z))
    []))))

end Ld

section

variable (c : Dev nD) (i : grid0.Coords) (arg3 : Memref sig .tc .smem S1x8x20 .f32) (harg3 : arg3.IsWhole) (arg4 : Memref sig .tc .smem S1x8x20 .f32) (harg4 : arg4.IsWhole) (arg5 : Memref sig .tc .vmem S8x1x128x128 .fp8e4m3) (harg5 : arg5.IsWhole) (arg6 : Memref sig .tc .vmem S8x1x128x128 .fp8e4m3) (harg6 : arg6.IsWhole) (arg7 : Memref sig .tc .vmem S8x1x160x128 .bf16) (harg7 : arg7.IsWhole) (arg8 : Memref sig .tc .vmem S8x1x128x128 .f32) (harg8 : arg8.IsWhole) (arg9 : Memref sig .tc .vmem S1x8x128 .f32) (harg9 : arg9.IsWhole) (arg10 : Memref sig .tc .vmem S8x1x160x128 .f32) (harg10 : arg10.IsWhole) (arg11 : Memref sig .tc .vmem S8x160x128 .bf16) (harg11 : arg11.IsWhole) (arg12 : Memref sig .tc .vmem S160x1 .f32) (harg12 : arg12.IsWhole) (arg13 : Memref sig .tc .vmem S8x160x128 .bf16) (harg13 : arg13.IsWhole) (arg14 : Memref sig .tc .vmem S8x160x128 .bf16) (harg14 : arg14.IsWhole) (arg15 : Memref sig .tc .vmem S8x1x160x128 .f32) (harg15 : arg15.IsWhole) (arg16 : Memref sig .tc .vmem S160x128 .f32) (harg16 : arg16.IsWhole)
  (x0 : Vec F S1x8x20 .f32) (x1 : Vec F S1x8x20 .f32) (x2 : Vec F S8x1x128x128 .fp8e4m3) (x3 : Vec F S8x1x128x128 .fp8e4m3) (x4 : Vec F S8x1x160x128 .bf16) (x5 : Vec F S8x1x128x128 .f32) (x6 : Vec F S1x8x128 .f32) (x7 : Vec F S8x1x160x128 .f32) (x8 : Vec F S8x160x128 .bf16) (x9 : Vec F S160x1 .f32) (xo12 : Vec F S8x1x160x128 .f32) (xs0 : Vec F S160x128 .f32)

/-- The loads of a grid point, as the run spells them. -/
def loads (w : Vec F S160x128 .f32) : Ld F where
  qs b c := View.readAt (Elt F) arg3.view (scaleOf (i 2) b c).toLoadRect (harg3.unread x0) (Shape.Idx.first (show 0 < S1x1x1.numel by decide))
  ks b c := View.readAt (Elt F) arg4.view (scaleOf (i 2) b c).toLoadRect (harg4.unread x1) (Shape.Idx.first (show 0 < S1x1x1.numel by decide))
  q b c := View.readAt (Elt F) arg5.view (seqOf b c).toLoadRect (harg5.unread x2)
  k b c := View.readAt (Elt F) arg6.view (seqOf b c).toLoadRect (harg6.unread x3)
  v b := View.readAt (Elt F) arg7.view (rowOf b).toLoadRect (harg7.unread x4)
  g b c := View.readAt (Elt F) arg8.view (seqOf b c).toLoadRect (harg8.unread x5)
  b b := View.readAt (Elt F) arg9.view (betaOf b).toLoadRect (harg9.unread x6)
  gate b := View.readAt (Elt F) arg11.view (outOf b).toLoadRect (harg11.unread x8)
  w := w

/-- A state read back off the pieces stored so far. -/
def reload (acc : List (Piece12 F)) (b : Fin 8) : Vec F S1x1x160x128 .f32 := arg15.view.readCov acc (rowOf b).toLoadRect

/-- The whole state block as stored at a head's first step. -/
def base12 : List (Piece12 F) :=
  [⟨Rect.unit ![0, 0, 0, 0] S8x1x160x128.size inb_whole,
    shapeCast S8x1x160x128 (View.readAt (Elt F) arg10.view (Rect.unit ![0, 0, 0, 0] S8x1x160x128.size inb_whole).toLoadRect (harg10.unread x7)) (by decide)⟩]

/-- The weights kept from a head's first step. -/
def keptW (x : Vec F S160x128 .f32) : Vec F S160x128 .f32 :=
  View.readAt (Elt F) arg16.view (Rect.unit ![0, 0] S160x128.size inb_S160x128_S160x128_0_0).toLoadRect (harg16.unread x)

/-- A state read off the block that the step before left. -/
def kept (x : Vec F S8x1x160x128 .f32) (_ : List (Piece12 F)) (b : Fin 8) : Vec F S1x1x160x128 .f32 :=
  View.readAt (Elt F) arg15.view (rowOf b).toLoadRect (harg15.unread x)

end

open Cert.KernelIdeal.Gen

section

set_option maxHeartbeats 1000000

variable (c : Dev nD) (i : grid0.Coords) (arg3 : Memref sig .tc .smem S1x8x20 .f32) (harg3 : arg3.IsWhole) (arg4 : Memref sig .tc .smem S1x8x20 .f32) (harg4 : arg4.IsWhole) (arg5 : Memref sig .tc .vmem S8x1x128x128 .fp8e4m3) (harg5 : arg5.IsWhole) (arg6 : Memref sig .tc .vmem S8x1x128x128 .fp8e4m3) (harg6 : arg6.IsWhole) (arg7 : Memref sig .tc .vmem S8x1x160x128 .bf16) (harg7 : arg7.IsWhole) (arg8 : Memref sig .tc .vmem S8x1x128x128 .f32) (harg8 : arg8.IsWhole) (arg9 : Memref sig .tc .vmem S1x8x128 .f32) (harg9 : arg9.IsWhole) (arg10 : Memref sig .tc .vmem S8x1x160x128 .f32) (harg10 : arg10.IsWhole) (arg11 : Memref sig .tc .vmem S8x160x128 .bf16) (harg11 : arg11.IsWhole) (arg12 : Memref sig .tc .vmem S160x1 .f32) (harg12 : arg12.IsWhole) (arg13 : Memref sig .tc .vmem S8x160x128 .bf16) (harg13 : arg13.IsWhole) (arg14 : Memref sig .tc .vmem S8x160x128 .bf16) (harg14 : arg14.IsWhole) (arg15 : Memref sig .tc .vmem S8x1x160x128 .f32) (harg15 : arg15.IsWhole) (arg16 : Memref sig .tc .vmem S160x128 .f32) (harg16 : arg16.IsWhole)
  (x0 : Vec F S1x8x20 .f32) (x1 : Vec F S1x8x20 .f32) (x2 : Vec F S8x1x128x128 .fp8e4m3) (x3 : Vec F S8x1x128x128 .fp8e4m3) (x4 : Vec F S8x1x160x128 .bf16) (x5 : Vec F S8x1x128x128 .f32) (x6 : Vec F S1x8x128 .f32) (x7 : Vec F S8x1x160x128 .f32) (x8 : Vec F S8x160x128 .bf16) (x9 : Vec F S160x1 .f32) (xo12 : Vec F S8x1x160x128 .f32) (xs0 : Vec F S160x128 .f32)

theorem midA0 (W : Vec F S160x128 .f32) : kernelRun0_A.sl.H12_3 (F := F) c i arg4 harg4 arg5 harg5 arg6 harg6 arg7 harg7 arg8 harg8 arg9 harg9 arg10 harg10 arg15 x1 x2 x3 x4 x5 x6 x7
    = (loads i arg3 harg3 arg4 harg4 arg5 harg5 arg6 harg6 arg7 harg7 arg8 harg8 arg9 harg9 arg11 harg11 x0 x1 x2 x3 x4 x5 x6 x8 W).mid (reload arg15) 0 1 (base12 arg10 harg10 x7) := by
  dsimp only [Ld.mid, Ld.second, Ld.inA, Ld.inB, Ld.o0, Ld.o1, Ld.ys, Ld.os, loads, reload, kept, base12, In.sx', In.sy', In.upd, In.u, In.xq, In.o, In.gcx, In.gcy, In.kq, In.aq, In.rinv, In.ksv, In.qsv]; rfl

theorem ozA0 (W : Vec F S160x128 .f32) : kernelRun0_A.sl.v1524 (F := F) c i arg3 harg3 arg4 harg4 arg5 harg5 arg6 harg6 arg7 harg7 arg8 harg8 arg9 harg9 arg10 harg10 arg15 x0 x1 x2 x3 x4 x5 x6 x7
    = (loads i arg3 harg3 arg4 harg4 arg5 harg5 arg6 harg6 arg7 harg7 arg8 harg8 arg9 harg9 arg11 harg11 x0 x1 x2 x3 x4 x5 x6 x8 W).o0 (reload arg15) 0 1 (base12 arg10 harg10 x7) := by
  dsimp only [Ld.mid, Ld.second, Ld.inA, Ld.inB, Ld.o0, Ld.o1, Ld.ys, Ld.os, loads, reload, kept, base12, In.sx', In.sy', In.upd, In.u, In.xq, In.o, In.gcx, In.gcy, In.kq, In.aq, In.rinv, In.ksv, In.qsv]; rfl

theorem ooA0 (W : Vec F S160x128 .f32) : kernelRun0_A.sl.v3057 (F := F) c i arg3 harg3 arg4 harg4 arg5 harg5 arg6 harg6 arg7 harg7 arg8 harg8 arg9 harg9 arg10 harg10 arg15 x0 x1 x2 x3 x4 x5 x6 x7
    = (loads i arg3 harg3 arg4 harg4 arg5 harg5 arg6 harg6 arg7 harg7 arg8 harg8 arg9 harg9 arg11 harg11 x0 x1 x2 x3 x4 x5 x6 x8 W).o1 (reload arg15) 0 1 (kernelRun0_A.sl.H12_3 (F := F) c i arg4 harg4 arg5 harg5 arg6 harg6 arg7 harg7 arg8 harg8 arg9 harg9 arg10 harg10 arg15 x1 x2 x3 x4 x5 x6 x7) := by
  dsimp only [Ld.mid, Ld.second, Ld.inA, Ld.inB, Ld.o0, Ld.o1, Ld.ys, Ld.os, loads, reload, kept, base12, In.sx', In.sy', In.upd, In.u, In.xq, In.o, In.gcx, In.gcy, In.kq, In.aq, In.rinv, In.ksv, In.qsv]; rfl

theorem midA1 (W : Vec F S160x128 .f32) : kernelRun0_A.sl.H12_7 (F := F) c i arg4 harg4 arg5 harg5 arg6 harg6 arg7 harg7 arg8 harg8 arg9 harg9 arg10 harg10 arg15 x1 x2 x3 x4 x5 x6 x7
    = (loads i arg3 harg3 arg4 harg4 arg5 harg5 arg6 harg6 arg7 harg7 arg8 harg8 arg9 harg9 arg11 harg11 x0 x1 x2 x3 x4 x5 x6 x8 W).mid (reload arg15) 2 3 ((loads i arg3 harg3 arg4 harg4 arg5 harg5 arg6 harg6 arg7 harg7 arg8 harg8 arg9 harg9 arg11 harg11 x0 x1 x2 x3 x4 x5 x6 x8 W).second (reload arg15) 0 1 (kernelRun0_A.sl.H12_3 (F := F) c i arg4 harg4 arg5 harg5 arg6 harg6 arg7 harg7 arg8 harg8 arg9 harg9 arg10 harg10 arg15 x1 x2 x3 x4 x5 x6 x7)) := by
  dsimp only [Ld.mid, Ld.second, Ld.inA, Ld.inB, Ld.o0, Ld.o1, Ld.ys, Ld.os, loads, reload, kept, base12, In.sx', In.sy', In.upd, In.u, In.xq, In.o, In.gcx, In.gcy, In.kq, In.aq, In.rinv, In.ksv, In.qsv]; rfl

theorem ozA1 (W : Vec F S160x128 .f32) : kernelRun0_A.sl.v4643 (F := F) c i arg3 harg3 arg4 harg4 arg5 harg5 arg6 harg6 arg7 harg7 arg8 harg8 arg9 harg9 arg10 harg10 arg15 x0 x1 x2 x3 x4 x5 x6 x7
    = (loads i arg3 harg3 arg4 harg4 arg5 harg5 arg6 harg6 arg7 harg7 arg8 harg8 arg9 harg9 arg11 harg11 x0 x1 x2 x3 x4 x5 x6 x8 W).o0 (reload arg15) 2 3 ((loads i arg3 harg3 arg4 harg4 arg5 harg5 arg6 harg6 arg7 harg7 arg8 harg8 arg9 harg9 arg11 harg11 x0 x1 x2 x3 x4 x5 x6 x8 W).second (reload arg15) 0 1 (kernelRun0_A.sl.H12_3 (F := F) c i arg4 harg4 arg5 harg5 arg6 harg6 arg7 harg7 arg8 harg8 arg9 harg9 arg10 harg10 arg15 x1 x2 x3 x4 x5 x6 x7)) := by
  dsimp only [Ld.mid, Ld.second, Ld.inA, Ld.inB, Ld.o0, Ld.o1, Ld.ys, Ld.os, loads, reload, kept, base12, In.sx', In.sy', In.upd, In.u, In.xq, In.o, In.gcx, In.gcy, In.kq, In.aq, In.rinv, In.ksv, In.qsv]; rfl

theorem ooA1 (W : Vec F S160x128 .f32) : kernelRun0_A.sl.v6176 (F := F) c i arg3 harg3 arg4 harg4 arg5 harg5 arg6 harg6 arg7 harg7 arg8 harg8 arg9 harg9 arg10 harg10 arg15 x0 x1 x2 x3 x4 x5 x6 x7
    = (loads i arg3 harg3 arg4 harg4 arg5 harg5 arg6 harg6 arg7 harg7 arg8 harg8 arg9 harg9 arg11 harg11 x0 x1 x2 x3 x4 x5 x6 x8 W).o1 (reload arg15) 2 3 (kernelRun0_A.sl.H12_7 (F := F) c i arg4 harg4 arg5 harg5 arg6 harg6 arg7 harg7 arg8 harg8 arg9 harg9 arg10 harg10 arg15 x1 x2 x3 x4 x5 x6 x7) := by
  dsimp only [Ld.mid, Ld.second, Ld.inA, Ld.inB, Ld.o0, Ld.o1, Ld.ys, Ld.os, loads, reload, kept, base12, In.sx', In.sy', In.upd, In.u, In.xq, In.o, In.gcx, In.gcy, In.kq, In.aq, In.rinv, In.ksv, In.qsv]; rfl

theorem midA2 (W : Vec F S160x128 .f32) : kernelRun0_A.sl.H12_11 (F := F) c i arg4 harg4 arg5 harg5 arg6 harg6 arg7 harg7 arg8 harg8 arg9 harg9 arg10 harg10 arg15 x1 x2 x3 x4 x5 x6 x7
    = (loads i arg3 harg3 arg4 harg4 arg5 harg5 arg6 harg6 arg7 harg7 arg8 harg8 arg9 harg9 arg11 harg11 x0 x1 x2 x3 x4 x5 x6 x8 W).mid (reload arg15) 4 5 ((loads i arg3 harg3 arg4 harg4 arg5 harg5 arg6 harg6 arg7 harg7 arg8 harg8 arg9 harg9 arg11 harg11 x0 x1 x2 x3 x4 x5 x6 x8 W).second (reload arg15) 2 3 (kernelRun0_A.sl.H12_7 (F := F) c i arg4 harg4 arg5 harg5 arg6 harg6 arg7 harg7 arg8 harg8 arg9 harg9 arg10 harg10 arg15 x1 x2 x3 x4 x5 x6 x7)) := by
  dsimp only [Ld.mid, Ld.second, Ld.inA, Ld.inB, Ld.o0, Ld.o1, Ld.ys, Ld.os, loads, reload, kept, base12, In.sx', In.sy', In.upd, In.u, In.xq, In.o, In.gcx, In.gcy, In.kq, In.aq, In.rinv, In.ksv, In.qsv]; rfl

theorem ozA2 (W : Vec F S160x128 .f32) : kernelRun0_A.sl.v7762 (F := F) c i arg3 harg3 arg4 harg4 arg5 harg5 arg6 harg6 arg7 harg7 arg8 harg8 arg9 harg9 arg10 harg10 arg15 x0 x1 x2 x3 x4 x5 x6 x7
    = (loads i arg3 harg3 arg4 harg4 arg5 harg5 arg6 harg6 arg7 harg7 arg8 harg8 arg9 harg9 arg11 harg11 x0 x1 x2 x3 x4 x5 x6 x8 W).o0 (reload arg15) 4 5 ((loads i arg3 harg3 arg4 harg4 arg5 harg5 arg6 harg6 arg7 harg7 arg8 harg8 arg9 harg9 arg11 harg11 x0 x1 x2 x3 x4 x5 x6 x8 W).second (reload arg15) 2 3 (kernelRun0_A.sl.H12_7 (F := F) c i arg4 harg4 arg5 harg5 arg6 harg6 arg7 harg7 arg8 harg8 arg9 harg9 arg10 harg10 arg15 x1 x2 x3 x4 x5 x6 x7)) := by
  dsimp only [Ld.mid, Ld.second, Ld.inA, Ld.inB, Ld.o0, Ld.o1, Ld.ys, Ld.os, loads, reload, kept, base12, In.sx', In.sy', In.upd, In.u, In.xq, In.o, In.gcx, In.gcy, In.kq, In.aq, In.rinv, In.ksv, In.qsv]; rfl

theorem ooA2 (W : Vec F S160x128 .f32) : kernelRun0_A.sl.v9295 (F := F) c i arg3 harg3 arg4 harg4 arg5 harg5 arg6 harg6 arg7 harg7 arg8 harg8 arg9 harg9 arg10 harg10 arg15 x0 x1 x2 x3 x4 x5 x6 x7
    = (loads i arg3 harg3 arg4 harg4 arg5 harg5 arg6 harg6 arg7 harg7 arg8 harg8 arg9 harg9 arg11 harg11 x0 x1 x2 x3 x4 x5 x6 x8 W).o1 (reload arg15) 4 5 (kernelRun0_A.sl.H12_11 (F := F) c i arg4 harg4 arg5 harg5 arg6 harg6 arg7 harg7 arg8 harg8 arg9 harg9 arg10 harg10 arg15 x1 x2 x3 x4 x5 x6 x7) := by
  dsimp only [Ld.mid, Ld.second, Ld.inA, Ld.inB, Ld.o0, Ld.o1, Ld.ys, Ld.os, loads, reload, kept, base12, In.sx', In.sy', In.upd, In.u, In.xq, In.o, In.gcx, In.gcy, In.kq, In.aq, In.rinv, In.ksv, In.qsv]; rfl

theorem midA3 (W : Vec F S160x128 .f32) : kernelRun0_A.sl.H12_15 (F := F) c i arg4 harg4 arg5 harg5 arg6 harg6 arg7 harg7 arg8 harg8 arg9 harg9 arg10 harg10 arg15 x1 x2 x3 x4 x5 x6 x7
    = (loads i arg3 harg3 arg4 harg4 arg5 harg5 arg6 harg6 arg7 harg7 arg8 harg8 arg9 harg9 arg11 harg11 x0 x1 x2 x3 x4 x5 x6 x8 W).mid (reload arg15) 6 7 ((loads i arg3 harg3 arg4 harg4 arg5 harg5 arg6 harg6 arg7 harg7 arg8 harg8 arg9 harg9 arg11 harg11 x0 x1 x2 x3 x4 x5 x6 x8 W).second (reload arg15) 4 5 (kernelRun0_A.sl.H12_11 (F := F) c i arg4 harg4 arg5 harg5 arg6 harg6 arg7 harg7 arg8 harg8 arg9 harg9 arg10 harg10 arg15 x1 x2 x3 x4 x5 x6 x7)) := by
  dsimp only [Ld.mid, Ld.second, Ld.inA, Ld.inB, Ld.o0, Ld.o1, Ld.ys, Ld.os, loads, reload, kept, base12, In.sx', In.sy', In.upd, In.u, In.xq, In.o, In.gcx, In.gcy, In.kq, In.aq, In.rinv, In.ksv, In.qsv]; rfl

theorem ozA3 (W : Vec F S160x128 .f32) : kernelRun0_A.sl.v10881 (F := F) c i arg3 harg3 arg4 harg4 arg5 harg5 arg6 harg6 arg7 harg7 arg8 harg8 arg9 harg9 arg10 harg10 arg15 x0 x1 x2 x3 x4 x5 x6 x7
    = (loads i arg3 harg3 arg4 harg4 arg5 harg5 arg6 harg6 arg7 harg7 arg8 harg8 arg9 harg9 arg11 harg11 x0 x1 x2 x3 x4 x5 x6 x8 W).o0 (reload arg15) 6 7 ((loads i arg3 harg3 arg4 harg4 arg5 harg5 arg6 harg6 arg7 harg7 arg8 harg8 arg9 harg9 arg11 harg11 x0 x1 x2 x3 x4 x5 x6 x8 W).second (reload arg15) 4 5 (kernelRun0_A.sl.H12_11 (F := F) c i arg4 harg4 arg5 harg5 arg6 harg6 arg7 harg7 arg8 harg8 arg9 harg9 arg10 harg10 arg15 x1 x2 x3 x4 x5 x6 x7)) := by
  dsimp only [Ld.mid, Ld.second, Ld.inA, Ld.inB, Ld.o0, Ld.o1, Ld.ys, Ld.os, loads, reload, kept, base12, In.sx', In.sy', In.upd, In.u, In.xq, In.o, In.gcx, In.gcy, In.kq, In.aq, In.rinv, In.ksv, In.qsv]; rfl

theorem midB0 (W : Vec F S160x128 .f32) : kernelRun0_B.sl.H12_2 (F := F) c i arg4 harg4 arg5 harg5 arg6 harg6 arg7 harg7 arg8 harg8 arg9 harg9 arg15 harg15 x1 x2 x3 x4 x5 x6 xo12
    = (loads i arg3 harg3 arg4 harg4 arg5 harg5 arg6 harg6 arg7 harg7 arg8 harg8 arg9 harg9 arg11 harg11 x0 x1 x2 x3 x4 x5 x6 x8 W).mid (kept arg15 harg15 xo12) 0 1 [] := by
  dsimp only [Ld.mid, Ld.second, Ld.inA, Ld.inB, Ld.o0, Ld.o1, Ld.ys, Ld.os, loads, reload, kept, base12, In.sx', In.sy', In.upd, In.u, In.xq, In.o, In.gcx, In.gcy, In.kq, In.aq, In.rinv, In.ksv, In.qsv]; rfl

theorem ozB0 (W : Vec F S160x128 .f32) : kernelRun0_B.sl.v1524 (F := F) c i arg3 harg3 arg4 harg4 arg5 harg5 arg6 harg6 arg7 harg7 arg8 harg8 arg9 harg9 arg15 harg15 x0 x1 x2 x3 x4 x5 x6 xo12
    = (loads i arg3 harg3 arg4 harg4 arg5 harg5 arg6 harg6 arg7 harg7 arg8 harg8 arg9 harg9 arg11 harg11 x0 x1 x2 x3 x4 x5 x6 x8 W).o0 (kept arg15 harg15 xo12) 0 1 [] := by
  dsimp only [Ld.mid, Ld.second, Ld.inA, Ld.inB, Ld.o0, Ld.o1, Ld.ys, Ld.os, loads, reload, kept, base12, In.sx', In.sy', In.upd, In.u, In.xq, In.o, In.gcx, In.gcy, In.kq, In.aq, In.rinv, In.ksv, In.qsv]; rfl

theorem ooB0 (W : Vec F S160x128 .f32) : kernelRun0_B.sl.v3057 (F := F) c i arg3 harg3 arg4 harg4 arg5 harg5 arg6 harg6 arg7 harg7 arg8 harg8 arg9 harg9 arg15 harg15 x0 x1 x2 x3 x4 x5 x6 xo12
    = (loads i arg3 harg3 arg4 harg4 arg5 harg5 arg6 harg6 arg7 harg7 arg8 harg8 arg9 harg9 arg11 harg11 x0 x1 x2 x3 x4 x5 x6 x8 W).o1 (reload arg15) 0 1 (kernelRun0_B.sl.H12_2 (F := F) c i arg4 harg4 arg5 harg5 arg6 harg6 arg7 harg7 arg8 harg8 arg9 harg9 arg15 harg15 x1 x2 x3 x4 x5 x6 xo12) := by
  dsimp only [Ld.mid, Ld.second, Ld.inA, Ld.inB, Ld.o0, Ld.o1, Ld.ys, Ld.os, loads, reload, kept, base12, In.sx', In.sy', In.upd, In.u, In.xq, In.o, In.gcx, In.gcy, In.kq, In.aq, In.rinv, In.ksv, In.qsv]; rfl

theorem midB1 (W : Vec F S160x128 .f32) : kernelRun0_B.sl.H12_6 (F := F) c i arg4 harg4 arg5 harg5 arg6 harg6 arg7 harg7 arg8 harg8 arg9 harg9 arg15 harg15 x1 x2 x3 x4 x5 x6 xo12
    = (loads i arg3 harg3 arg4 harg4 arg5 harg5 arg6 harg6 arg7 harg7 arg8 harg8 arg9 harg9 arg11 harg11 x0 x1 x2 x3 x4 x5 x6 x8 W).mid (kept arg15 harg15 xo12) 2 3 ((loads i arg3 harg3 arg4 harg4 arg5 harg5 arg6 harg6 arg7 harg7 arg8 harg8 arg9 harg9 arg11 harg11 x0 x1 x2 x3 x4 x5 x6 x8 W).second (reload arg15) 0 1 (kernelRun0_B.sl.H12_2 (F := F) c i arg4 harg4 arg5 harg5 arg6 harg6 arg7 harg7 arg8 harg8 arg9 harg9 arg15 harg15 x1 x2 x3 x4 x5 x6 xo12)) := by
  dsimp only [Ld.mid, Ld.second, Ld.inA, Ld.inB, Ld.o0, Ld.o1, Ld.ys, Ld.os, loads, reload, kept, base12, In.sx', In.sy', In.upd, In.u, In.xq, In.o, In.gcx, In.gcy, In.kq, In.aq, In.rinv, In.ksv, In.qsv]; rfl

theorem ozB1 (W : Vec F S160x128 .f32) : kernelRun0_B.sl.v4643 (F := F) c i arg3 harg3 arg4 harg4 arg5 harg5 arg6 harg6 arg7 harg7 arg8 harg8 arg9 harg9 arg15 harg15 x0 x1 x2 x3 x4 x5 x6 xo12
    = (loads i arg3 harg3 arg4 harg4 arg5 harg5 arg6 harg6 arg7 harg7 arg8 harg8 arg9 harg9 arg11 harg11 x0 x1 x2 x3 x4 x5 x6 x8 W).o0 (kept arg15 harg15 xo12) 2 3 ((loads i arg3 harg3 arg4 harg4 arg5 harg5 arg6 harg6 arg7 harg7 arg8 harg8 arg9 harg9 arg11 harg11 x0 x1 x2 x3 x4 x5 x6 x8 W).second (reload arg15) 0 1 (kernelRun0_B.sl.H12_2 (F := F) c i arg4 harg4 arg5 harg5 arg6 harg6 arg7 harg7 arg8 harg8 arg9 harg9 arg15 harg15 x1 x2 x3 x4 x5 x6 xo12)) := by
  dsimp only [Ld.mid, Ld.second, Ld.inA, Ld.inB, Ld.o0, Ld.o1, Ld.ys, Ld.os, loads, reload, kept, base12, In.sx', In.sy', In.upd, In.u, In.xq, In.o, In.gcx, In.gcy, In.kq, In.aq, In.rinv, In.ksv, In.qsv]; rfl

theorem ooB1 (W : Vec F S160x128 .f32) : kernelRun0_B.sl.v6176 (F := F) c i arg3 harg3 arg4 harg4 arg5 harg5 arg6 harg6 arg7 harg7 arg8 harg8 arg9 harg9 arg15 harg15 x0 x1 x2 x3 x4 x5 x6 xo12
    = (loads i arg3 harg3 arg4 harg4 arg5 harg5 arg6 harg6 arg7 harg7 arg8 harg8 arg9 harg9 arg11 harg11 x0 x1 x2 x3 x4 x5 x6 x8 W).o1 (reload arg15) 2 3 (kernelRun0_B.sl.H12_6 (F := F) c i arg4 harg4 arg5 harg5 arg6 harg6 arg7 harg7 arg8 harg8 arg9 harg9 arg15 harg15 x1 x2 x3 x4 x5 x6 xo12) := by
  dsimp only [Ld.mid, Ld.second, Ld.inA, Ld.inB, Ld.o0, Ld.o1, Ld.ys, Ld.os, loads, reload, kept, base12, In.sx', In.sy', In.upd, In.u, In.xq, In.o, In.gcx, In.gcy, In.kq, In.aq, In.rinv, In.ksv, In.qsv]; rfl

theorem midB2 (W : Vec F S160x128 .f32) : kernelRun0_B.sl.H12_10 (F := F) c i arg4 harg4 arg5 harg5 arg6 harg6 arg7 harg7 arg8 harg8 arg9 harg9 arg15 harg15 x1 x2 x3 x4 x5 x6 xo12
    = (loads i arg3 harg3 arg4 harg4 arg5 harg5 arg6 harg6 arg7 harg7 arg8 harg8 arg9 harg9 arg11 harg11 x0 x1 x2 x3 x4 x5 x6 x8 W).mid (kept arg15 harg15 xo12) 4 5 ((loads i arg3 harg3 arg4 harg4 arg5 harg5 arg6 harg6 arg7 harg7 arg8 harg8 arg9 harg9 arg11 harg11 x0 x1 x2 x3 x4 x5 x6 x8 W).second (reload arg15) 2 3 (kernelRun0_B.sl.H12_6 (F := F) c i arg4 harg4 arg5 harg5 arg6 harg6 arg7 harg7 arg8 harg8 arg9 harg9 arg15 harg15 x1 x2 x3 x4 x5 x6 xo12)) := by
  dsimp only [Ld.mid, Ld.second, Ld.inA, Ld.inB, Ld.o0, Ld.o1, Ld.ys, Ld.os, loads, reload, kept, base12, In.sx', In.sy', In.upd, In.u, In.xq, In.o, In.gcx, In.gcy, In.kq, In.aq, In.rinv, In.ksv, In.qsv]; rfl

theorem ozB2 (W : Vec F S160x128 .f32) : kernelRun0_B.sl.v7762 (F := F) c i arg3 harg3 arg4 harg4 arg5 harg5 arg6 harg6 arg7 harg7 arg8 harg8 arg9 harg9 arg15 harg15 x0 x1 x2 x3 x4 x5 x6 xo12
    = (loads i arg3 harg3 arg4 harg4 arg5 harg5 arg6 harg6 arg7 harg7 arg8 harg8 arg9 harg9 arg11 harg11 x0 x1 x2 x3 x4 x5 x6 x8 W).o0 (kept arg15 harg15 xo12) 4 5 ((loads i arg3 harg3 arg4 harg4 arg5 harg5 arg6 harg6 arg7 harg7 arg8 harg8 arg9 harg9 arg11 harg11 x0 x1 x2 x3 x4 x5 x6 x8 W).second (reload arg15) 2 3 (kernelRun0_B.sl.H12_6 (F := F) c i arg4 harg4 arg5 harg5 arg6 harg6 arg7 harg7 arg8 harg8 arg9 harg9 arg15 harg15 x1 x2 x3 x4 x5 x6 xo12)) := by
  dsimp only [Ld.mid, Ld.second, Ld.inA, Ld.inB, Ld.o0, Ld.o1, Ld.ys, Ld.os, loads, reload, kept, base12, In.sx', In.sy', In.upd, In.u, In.xq, In.o, In.gcx, In.gcy, In.kq, In.aq, In.rinv, In.ksv, In.qsv]; rfl

theorem ooB2 (W : Vec F S160x128 .f32) : kernelRun0_B.sl.v9295 (F := F) c i arg3 harg3 arg4 harg4 arg5 harg5 arg6 harg6 arg7 harg7 arg8 harg8 arg9 harg9 arg15 harg15 x0 x1 x2 x3 x4 x5 x6 xo12
    = (loads i arg3 harg3 arg4 harg4 arg5 harg5 arg6 harg6 arg7 harg7 arg8 harg8 arg9 harg9 arg11 harg11 x0 x1 x2 x3 x4 x5 x6 x8 W).o1 (reload arg15) 4 5 (kernelRun0_B.sl.H12_10 (F := F) c i arg4 harg4 arg5 harg5 arg6 harg6 arg7 harg7 arg8 harg8 arg9 harg9 arg15 harg15 x1 x2 x3 x4 x5 x6 xo12) := by
  dsimp only [Ld.mid, Ld.second, Ld.inA, Ld.inB, Ld.o0, Ld.o1, Ld.ys, Ld.os, loads, reload, kept, base12, In.sx', In.sy', In.upd, In.u, In.xq, In.o, In.gcx, In.gcy, In.kq, In.aq, In.rinv, In.ksv, In.qsv]; rfl

theorem midB3 (W : Vec F S160x128 .f32) : kernelRun0_B.sl.H12_14 (F := F) c i arg4 harg4 arg5 harg5 arg6 harg6 arg7 harg7 arg8 harg8 arg9 harg9 arg15 harg15 x1 x2 x3 x4 x5 x6 xo12
    = (loads i arg3 harg3 arg4 harg4 arg5 harg5 arg6 harg6 arg7 harg7 arg8 harg8 arg9 harg9 arg11 harg11 x0 x1 x2 x3 x4 x5 x6 x8 W).mid (kept arg15 harg15 xo12) 6 7 ((loads i arg3 harg3 arg4 harg4 arg5 harg5 arg6 harg6 arg7 harg7 arg8 harg8 arg9 harg9 arg11 harg11 x0 x1 x2 x3 x4 x5 x6 x8 W).second (reload arg15) 4 5 (kernelRun0_B.sl.H12_10 (F := F) c i arg4 harg4 arg5 harg5 arg6 harg6 arg7 harg7 arg8 harg8 arg9 harg9 arg15 harg15 x1 x2 x3 x4 x5 x6 xo12)) := by
  dsimp only [Ld.mid, Ld.second, Ld.inA, Ld.inB, Ld.o0, Ld.o1, Ld.ys, Ld.os, loads, reload, kept, base12, In.sx', In.sy', In.upd, In.u, In.xq, In.o, In.gcx, In.gcy, In.kq, In.aq, In.rinv, In.ksv, In.qsv]; rfl

theorem ozB3 (W : Vec F S160x128 .f32) : kernelRun0_B.sl.v10881 (F := F) c i arg3 harg3 arg4 harg4 arg5 harg5 arg6 harg6 arg7 harg7 arg8 harg8 arg9 harg9 arg15 harg15 x0 x1 x2 x3 x4 x5 x6 xo12
    = (loads i arg3 harg3 arg4 harg4 arg5 harg5 arg6 harg6 arg7 harg7 arg8 harg8 arg9 harg9 arg11 harg11 x0 x1 x2 x3 x4 x5 x6 x8 W).o0 (kept arg15 harg15 xo12) 6 7 ((loads i arg3 harg3 arg4 harg4 arg5 harg5 arg6 harg6 arg7 harg7 arg8 harg8 arg9 harg9 arg11 harg11 x0 x1 x2 x3 x4 x5 x6 x8 W).second (reload arg15) 4 5 (kernelRun0_B.sl.H12_10 (F := F) c i arg4 harg4 arg5 harg5 arg6 harg6 arg7 harg7 arg8 harg8 arg9 harg9 arg15 harg15 x1 x2 x3 x4 x5 x6 xo12)) := by
  dsimp only [Ld.mid, Ld.second, Ld.inA, Ld.inB, Ld.o0, Ld.o1, Ld.ys, Ld.os, loads, reload, kept, base12, In.sx', In.sy', In.upd, In.u, In.xq, In.o, In.gcx, In.gcy, In.kq, In.aq, In.rinv, In.ksv, In.qsv]; rfl

end

end Cert.Hand

end
-- ==== Proof.Hand.Runs.lean ====
module

public import proofs.«01_k».proof.Proof.Hand.Pieces
public import proofs.«01_k».proof.Proof.Gen.KernelIdeal.Frame.RunB

/-! What a grid point's stores leave: the pieces of all four pairs. -/

@[expose] public section

set_option maxRecDepth 100000

noncomputable section

namespace Cert.Hand

open Idealize.ShloMosaic Idealize.SL.Sem Cert.KernelIdeal Cert.KernelIdeal.Facts₀

variable {F : FTy → Type} [FloatOps F] [Named F]

open Cert.KernelIdeal.Gen

section

set_option maxHeartbeats 1000000

variable (c : Dev nD) (i : grid0.Coords) (arg3 : Memref sig .tc .smem S1x8x20 .f32) (harg3 : arg3.IsWhole) (arg4 : Memref sig .tc .smem S1x8x20 .f32) (harg4 : arg4.IsWhole) (arg5 : Memref sig .tc .vmem S8x1x128x128 .fp8e4m3) (harg5 : arg5.IsWhole) (arg6 : Memref sig .tc .vmem S8x1x128x128 .fp8e4m3) (harg6 : arg6.IsWhole) (arg7 : Memref sig .tc .vmem S8x1x160x128 .bf16) (harg7 : arg7.IsWhole) (arg8 : Memref sig .tc .vmem S8x1x128x128 .f32) (harg8 : arg8.IsWhole) (arg9 : Memref sig .tc .vmem S1x8x128 .f32) (harg9 : arg9.IsWhole) (arg10 : Memref sig .tc .vmem S8x1x160x128 .f32) (harg10 : arg10.IsWhole) (arg11 : Memref sig .tc .vmem S8x160x128 .bf16) (harg11 : arg11.IsWhole) (arg12 : Memref sig .tc .vmem S160x1 .f32) (harg12 : arg12.IsWhole) (arg13 : Memref sig .tc .vmem S8x160x128 .bf16) (harg13 : arg13.IsWhole) (arg14 : Memref sig .tc .vmem S8x160x128 .bf16) (harg14 : arg14.IsWhole) (arg15 : Memref sig .tc .vmem S8x1x160x128 .f32) (harg15 : arg15.IsWhole) (arg16 : Memref sig .tc .vmem S160x128 .f32) (harg16 : arg16.IsWhole)
  (x0 : Vec F S1x8x20 .f32) (x1 : Vec F S1x8x20 .f32) (x2 : Vec F S8x1x128x128 .fp8e4m3) (x3 : Vec F S8x1x128x128 .fp8e4m3) (x4 : Vec F S8x1x160x128 .bf16) (x5 : Vec F S8x1x128x128 .f32) (x6 : Vec F S1x8x128 .f32) (x7 : Vec F S8x1x160x128 .f32) (x8 : Vec F S8x160x128 .bf16) (x9 : Vec F S160x1 .f32) (xo12 : Vec F S8x1x160x128 .f32) (xs0 : Vec F S160x128 .f32)

theorem pre12A (hc : cond0_0 i) : (kernelRun0_A (F := F) c i arg3 harg3 arg4 harg4 arg5 harg5 arg6 harg6 arg7 harg7 arg8 harg8 arg9 harg9 arg10 harg10 arg11 harg11 arg12 harg12 arg13 harg13 arg14 harg14 arg15 harg15 arg16 harg16 hc x0 x1 x2 x3 x4 x5 x6 x7 x8 x9).2.2.1 = (loads i arg3 harg3 arg4 harg4 arg5 harg5 arg6 harg6 arg7 harg7 arg8 harg8 arg9 harg9 arg11 harg11 x0 x1 x2 x3 x4 x5 x6 x8 (kernelRun0_A.sl.v3110 (F := F) c arg12 harg12 arg16 x9)).second (reload arg15) 6 7 (kernelRun0_A.sl.H12_15 (F := F) c i arg4 harg4 arg5 harg5 arg6 harg6 arg7 harg7 arg8 harg8 arg9 harg9 arg10 harg10 arg15 x1 x2 x3 x4 x5 x6 x7) := by dsimp only [Ld.mid, Ld.second, Ld.inA, Ld.inB, Ld.o0, Ld.o1, Ld.ys, Ld.os, loads, reload, kept, base12, In.sx', In.sy', In.upd, In.u, In.xq, In.o, In.gcx, In.gcy, In.kq, In.aq, In.rinv, In.ksv, In.qsv, keptW]; rfl

theorem pre10A (hc : cond0_0 i) : (kernelRun0_A (F := F) c i arg3 harg3 arg4 harg4 arg5 harg5 arg6 harg6 arg7 harg7 arg8 harg8 arg9 harg9 arg10 harg10 arg11 harg11 arg12 harg12 arg13 harg13 arg14 harg14 arg15 harg15 arg16 harg16 hc x0 x1 x2 x3 x4 x5 x6 x7 x8 x9).1 = ((loads i arg3 harg3 arg4 harg4 arg5 harg5 arg6 harg6 arg7 harg7 arg8 harg8 arg9 harg9 arg11 harg11 x0 x1 x2 x3 x4 x5 x6 x8 (kernelRun0_A.sl.v3110 (F := F) c arg12 harg12 arg16 x9)).ys 6 7 (kernelRun0_A.sl.v10881 (F := F) c i arg3 harg3 arg4 harg4 arg5 harg5 arg6 harg6 arg7 harg7 arg8 harg8 arg9 harg9 arg10 harg10 arg15 x0 x1 x2 x3 x4 x5 x6 x7) ((loads i arg3 harg3 arg4 harg4 arg5 harg5 arg6 harg6 arg7 harg7 arg8 harg8 arg9 harg9 arg11 harg11 x0 x1 x2 x3 x4 x5 x6 x8 (kernelRun0_A.sl.v3110 (F := F) c arg12 harg12 arg16 x9)).o1 (reload arg15) 6 7 (kernelRun0_A.sl.H12_15 (F := F) c i arg4 harg4 arg5 harg5 arg6 harg6 arg7 harg7 arg8 harg8 arg9 harg9 arg10 harg10 arg15 x1 x2 x3 x4 x5 x6 x7)) ((loads i arg3 harg3 arg4 harg4 arg5 harg5 arg6 harg6 arg7 harg7 arg8 harg8 arg9 harg9 arg11 harg11 x0 x1 x2 x3 x4 x5 x6 x8 (kernelRun0_A.sl.v3110 (F := F) c arg12 harg12 arg16 x9)).ys 4 5 (kernelRun0_A.sl.v7762 (F := F) c i arg3 harg3 arg4 harg4 arg5 harg5 arg6 harg6 arg7 harg7 arg8 harg8 arg9 harg9 arg10 harg10 arg15 x0 x1 x2 x3 x4 x5 x6 x7) (kernelRun0_A.sl.v9295 (F := F) c i arg3 harg3 arg4 harg4 arg5 harg5 arg6 harg6 arg7 harg7 arg8 harg8 arg9 harg9 arg10 harg10 arg15 x0 x1 x2 x3 x4 x5 x6 x7) ((loads i arg3 harg3 arg4 harg4 arg5 harg5 arg6 harg6 arg7 harg7 arg8 harg8 arg9 harg9 arg11 harg11 x0 x1 x2 x3 x4 x5 x6 x8 (kernelRun0_A.sl.v3110 (F := F) c arg12 harg12 arg16 x9)).ys 2 3 (kernelRun0_A.sl.v4643 (F := F) c i arg3 harg3 arg4 harg4 arg5 harg5 arg6 harg6 arg7 harg7 arg8 harg8 arg9 harg9 arg10 harg10 arg15 x0 x1 x2 x3 x4 x5 x6 x7) (kernelRun0_A.sl.v6176 (F := F) c i arg3 harg3 arg4 harg4 arg5 harg5 arg6 harg6 arg7 harg7 arg8 harg8 arg9 harg9 arg10 harg10 arg15 x0 x1 x2 x3 x4 x5 x6 x7) ((loads i arg3 harg3 arg4 harg4 arg5 harg5 arg6 harg6 arg7 harg7 arg8 harg8 arg9 harg9 arg11 harg11 x0 x1 x2 x3 x4 x5 x6 x8 (kernelRun0_A.sl.v3110 (F := F) c arg12 harg12 arg16 x9)).ys 0 1 (kernelRun0_A.sl.v1524 (F := F) c i arg3 harg3 arg4 harg4 arg5 harg5 arg6 harg6 arg7 harg7 arg8 harg8 arg9 harg9 arg10 harg10 arg15 x0 x1 x2 x3 x4 x5 x6 x7) (kernelRun0_A.sl.v3057 (F := F) c i arg3 harg3 arg4 harg4 arg5 harg5 arg6 harg6 arg7 harg7 arg8 harg8 arg9 harg9 arg10 harg10 arg15 x0 x1 x2 x3 x4 x5 x6 x7) [])))) := by dsimp only [Ld.mid, Ld.second, Ld.inA, Ld.inB, Ld.o0, Ld.o1, Ld.ys, Ld.os, loads, reload, kept, base12, In.sx', In.sy', In.upd, In.u, In.xq, In.o, In.gcx, In.gcy, In.kq, In.aq, In.rinv, In.ksv, In.qsv, keptW]; rfl

theorem pre11A (hc : cond0_0 i) : (kernelRun0_A (F := F) c i arg3 harg3 arg4 harg4 arg5 harg5 arg6 harg6 arg7 harg7 arg8 harg8 arg9 harg9 arg10 harg10 arg11 harg11 arg12 harg12 arg13 harg13 arg14 harg14 arg15 harg15 arg16 harg16 hc x0 x1 x2 x3 x4 x5 x6 x7 x8 x9).2.1 = (Ld.os 6 7 (kernelRun0_A.sl.v10881 (F := F) c i arg3 harg3 arg4 harg4 arg5 harg5 arg6 harg6 arg7 harg7 arg8 harg8 arg9 harg9 arg10 harg10 arg15 x0 x1 x2 x3 x4 x5 x6 x7) ((loads i arg3 harg3 arg4 harg4 arg5 harg5 arg6 harg6 arg7 harg7 arg8 harg8 arg9 harg9 arg11 harg11 x0 x1 x2 x3 x4 x5 x6 x8 (kernelRun0_A.sl.v3110 (F := F) c arg12 harg12 arg16 x9)).o1 (reload arg15) 6 7 (kernelRun0_A.sl.H12_15 (F := F) c i arg4 harg4 arg5 harg5 arg6 harg6 arg7 harg7 arg8 harg8 arg9 harg9 arg10 harg10 arg15 x1 x2 x3 x4 x5 x6 x7)) (Ld.os 4 5 (kernelRun0_A.sl.v7762 (F := F) c i arg3 harg3 arg4 harg4 arg5 harg5 arg6 harg6 arg7 harg7 arg8 harg8 arg9 harg9 arg10 harg10 arg15 x0 x1 x2 x3 x4 x5 x6 x7) (kernelRun0_A.sl.v9295 (F := F) c i arg3 harg3 arg4 harg4 arg5 harg5 arg6 harg6 arg7 harg7 arg8 harg8 arg9 harg9 arg10 harg10 arg15 x0 x1 x2 x3 x4 x5 x6 x7) (Ld.os 2 3 (kernelRun0_A.sl.v4643 (F := F) c i arg3 harg3 arg4 harg4 arg5 harg5 arg6 harg6 arg7 harg7 arg8 harg8 arg9 harg9 arg10 harg10 arg15 x0 x1 x2 x3 x4 x5 x6 x7) (kernelRun0_A.sl.v6176 (F := F) c i arg3 harg3 arg4 harg4 arg5 harg5 arg6 harg6 arg7 harg7 arg8 harg8 arg9 harg9 arg10 harg10 arg15 x0 x1 x2 x3 x4 x5 x6 x7) (Ld.os 0 1 (kernelRun0_A.sl.v1524 (F := F) c i arg3 harg3 arg4 harg4 arg5 harg5 arg6 harg6 arg7 harg7 arg8 harg8 arg9 harg9 arg10 harg10 arg15 x0 x1 x2 x3 x4 x5 x6 x7) (kernelRun0_A.sl.v3057 (F := F) c i arg3 harg3 arg4 harg4 arg5 harg5 arg6 harg6 arg7 harg7 arg8 harg8 arg9 harg9 arg10 harg10 arg15 x0 x1 x2 x3 x4 x5 x6 x7) [])))) := by dsimp only [Ld.mid, Ld.second, Ld.inA, Ld.inB, Ld.o0, Ld.o1, Ld.ys, Ld.os, loads, reload, kept, base12, In.sx', In.sy', In.upd, In.u, In.xq, In.o, In.gcx, In.gcy, In.kq, In.aq, In.rinv, In.ksv, In.qsv, keptW]; rfl

theorem chainA0 (W : Vec F S160x128 .f32) : kernelRun0_A.sl.H12_3 (F := F) c i arg4 harg4 arg5 harg5 arg6 harg6 arg7 harg7 arg8 harg8 arg9 harg9 arg10 harg10 arg15 x1 x2 x3 x4 x5 x6 x7 = ((loads i arg3 harg3 arg4 harg4 arg5 harg5 arg6 harg6 arg7 harg7 arg8 harg8 arg9 harg9 arg11 harg11 x0 x1 x2 x3 x4 x5 x6 x8 W).mid (reload arg15) 0 1 (base12 arg10 harg10 x7)) := by
  rw [midA0 (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg11 := arg11) (harg11 := harg11) (x0 := x0) (x1 := x1) (x2 := x2) (x3 := x3) (x4 := x4) (x5 := x5) (x6 := x6) (x8 := x8) (W := W)]

theorem ozA0_eq (W : Vec F S160x128 .f32) : kernelRun0_A.sl.v1524 (F := F) c i arg3 harg3 arg4 harg4 arg5 harg5 arg6 harg6 arg7 harg7 arg8 harg8 arg9 harg9 arg10 harg10 arg15 x0 x1 x2 x3 x4 x5 x6 x7 = (loads i arg3 harg3 arg4 harg4 arg5 harg5 arg6 harg6 arg7 harg7 arg8 harg8 arg9 harg9 arg11 harg11 x0 x1 x2 x3 x4 x5 x6 x8 W).o0 (reload arg15) 0 1 (base12 arg10 harg10 x7) := by
  rw [ozA0 (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg11 := arg11) (harg11 := harg11) (x0 := x0) (x1 := x1) (x2 := x2) (x3 := x3) (x4 := x4) (x5 := x5) (x6 := x6) (x8 := x8) (W := W)]

theorem ooA0_eq (W : Vec F S160x128 .f32) : kernelRun0_A.sl.v3057 (F := F) c i arg3 harg3 arg4 harg4 arg5 harg5 arg6 harg6 arg7 harg7 arg8 harg8 arg9 harg9 arg10 harg10 arg15 x0 x1 x2 x3 x4 x5 x6 x7 = (loads i arg3 harg3 arg4 harg4 arg5 harg5 arg6 harg6 arg7 harg7 arg8 harg8 arg9 harg9 arg11 harg11 x0 x1 x2 x3 x4 x5 x6 x8 W).o1 (reload arg15) 0 1 ((loads i arg3 harg3 arg4 harg4 arg5 harg5 arg6 harg6 arg7 harg7 arg8 harg8 arg9 harg9 arg11 harg11 x0 x1 x2 x3 x4 x5 x6 x8 W).mid (reload arg15) 0 1 (base12 arg10 harg10 x7)) := by
  rw [ooA0 (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg11 := arg11) (harg11 := harg11) (x0 := x0) (x1 := x1) (x2 := x2) (x3 := x3) (x4 := x4) (x5 := x5) (x6 := x6) (x8 := x8) (W := W), chainA0 (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg11 := arg11) (harg11 := harg11) (x0 := x0) (x1 := x1) (x2 := x2) (x3 := x3) (x4 := x4) (x5 := x5) (x6 := x6) (x8 := x8) (W := W)]

theorem chainA1 (W : Vec F S160x128 .f32) : kernelRun0_A.sl.H12_7 (F := F) c i arg4 harg4 arg5 harg5 arg6 harg6 arg7 harg7 arg8 harg8 arg9 harg9 arg10 harg10 arg15 x1 x2 x3 x4 x5 x6 x7 = ((loads i arg3 harg3 arg4 harg4 arg5 harg5 arg6 harg6 arg7 harg7 arg8 harg8 arg9 harg9 arg11 harg11 x0 x1 x2 x3 x4 x5 x6 x8 W).mid (reload arg15) 2 3 ((loads i arg3 harg3 arg4 harg4 arg5 harg5 arg6 harg6 arg7 harg7 arg8 harg8 arg9 harg9 arg11 harg11 x0 x1 x2 x3 x4 x5 x6 x8 W).acc1 (reload arg15) (reload arg15) (base12 arg10 harg10 x7))) := by
  rw [midA1 (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg11 := arg11) (harg11 := harg11) (x0 := x0) (x1 := x1) (x2 := x2) (x3 := x3) (x4 := x4) (x5 := x5) (x6 := x6) (x8 := x8) (W := W), chainA0 (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg11 := arg11) (harg11 := harg11) (x0 := x0) (x1 := x1) (x2 := x2) (x3 := x3) (x4 := x4) (x5 := x5) (x6 := x6) (x8 := x8) (W := W), ← Ld.accs1]

theorem ozA1_eq (W : Vec F S160x128 .f32) : kernelRun0_A.sl.v4643 (F := F) c i arg3 harg3 arg4 harg4 arg5 harg5 arg6 harg6 arg7 harg7 arg8 harg8 arg9 harg9 arg10 harg10 arg15 x0 x1 x2 x3 x4 x5 x6 x7 = (loads i arg3 harg3 arg4 harg4 arg5 harg5 arg6 harg6 arg7 harg7 arg8 harg8 arg9 harg9 arg11 harg11 x0 x1 x2 x3 x4 x5 x6 x8 W).o0 (reload arg15) 2 3 ((loads i arg3 harg3 arg4 harg4 arg5 harg5 arg6 harg6 arg7 harg7 arg8 harg8 arg9 harg9 arg11 harg11 x0 x1 x2 x3 x4 x5 x6 x8 W).acc1 (reload arg15) (reload arg15) (base12 arg10 harg10 x7)) := by
  rw [ozA1 (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg11 := arg11) (harg11 := harg11) (x0 := x0) (x1 := x1) (x2 := x2) (x3 := x3) (x4 := x4) (x5 := x5) (x6 := x6) (x8 := x8) (W := W), chainA0 (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg11 := arg11) (harg11 := harg11) (x0 := x0) (x1 := x1) (x2 := x2) (x3 := x3) (x4 := x4) (x5 := x5) (x6 := x6) (x8 := x8) (W := W), ← Ld.accs1]

theorem ooA1_eq (W : Vec F S160x128 .f32) : kernelRun0_A.sl.v6176 (F := F) c i arg3 harg3 arg4 harg4 arg5 harg5 arg6 harg6 arg7 harg7 arg8 harg8 arg9 harg9 arg10 harg10 arg15 x0 x1 x2 x3 x4 x5 x6 x7 = (loads i arg3 harg3 arg4 harg4 arg5 harg5 arg6 harg6 arg7 harg7 arg8 harg8 arg9 harg9 arg11 harg11 x0 x1 x2 x3 x4 x5 x6 x8 W).o1 (reload arg15) 2 3 ((loads i arg3 harg3 arg4 harg4 arg5 harg5 arg6 harg6 arg7 harg7 arg8 harg8 arg9 harg9 arg11 harg11 x0 x1 x2 x3 x4 x5 x6 x8 W).mid (reload arg15) 2 3 ((loads i arg3 harg3 arg4 harg4 arg5 harg5 arg6 harg6 arg7 harg7 arg8 harg8 arg9 harg9 arg11 harg11 x0 x1 x2 x3 x4 x5 x6 x8 W).acc1 (reload arg15) (reload arg15) (base12 arg10 harg10 x7))) := by
  rw [ooA1 (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg11 := arg11) (harg11 := harg11) (x0 := x0) (x1 := x1) (x2 := x2) (x3 := x3) (x4 := x4) (x5 := x5) (x6 := x6) (x8 := x8) (W := W), chainA1 (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg11 := arg11) (harg11 := harg11) (x0 := x0) (x1 := x1) (x2 := x2) (x3 := x3) (x4 := x4) (x5 := x5) (x6 := x6) (x8 := x8) (W := W)]

theorem chainA2 (W : Vec F S160x128 .f32) : kernelRun0_A.sl.H12_11 (F := F) c i arg4 harg4 arg5 harg5 arg6 harg6 arg7 harg7 arg8 harg8 arg9 harg9 arg10 harg10 arg15 x1 x2 x3 x4 x5 x6 x7 = ((loads i arg3 harg3 arg4 harg4 arg5 harg5 arg6 harg6 arg7 harg7 arg8 harg8 arg9 harg9 arg11 harg11 x0 x1 x2 x3 x4 x5 x6 x8 W).mid (reload arg15) 4 5 ((loads i arg3 harg3 arg4 harg4 arg5 harg5 arg6 harg6 arg7 harg7 arg8 harg8 arg9 harg9 arg11 harg11 x0 x1 x2 x3 x4 x5 x6 x8 W).acc2 (reload arg15) (reload arg15) (base12 arg10 harg10 x7))) := by
  rw [midA2 (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg11 := arg11) (harg11 := harg11) (x0 := x0) (x1 := x1) (x2 := x2) (x3 := x3) (x4 := x4) (x5 := x5) (x6 := x6) (x8 := x8) (W := W), chainA1 (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg11 := arg11) (harg11 := harg11) (x0 := x0) (x1 := x1) (x2 := x2) (x3 := x3) (x4 := x4) (x5 := x5) (x6 := x6) (x8 := x8) (W := W), ← Ld.accs2]

theorem ozA2_eq (W : Vec F S160x128 .f32) : kernelRun0_A.sl.v7762 (F := F) c i arg3 harg3 arg4 harg4 arg5 harg5 arg6 harg6 arg7 harg7 arg8 harg8 arg9 harg9 arg10 harg10 arg15 x0 x1 x2 x3 x4 x5 x6 x7 = (loads i arg3 harg3 arg4 harg4 arg5 harg5 arg6 harg6 arg7 harg7 arg8 harg8 arg9 harg9 arg11 harg11 x0 x1 x2 x3 x4 x5 x6 x8 W).o0 (reload arg15) 4 5 ((loads i arg3 harg3 arg4 harg4 arg5 harg5 arg6 harg6 arg7 harg7 arg8 harg8 arg9 harg9 arg11 harg11 x0 x1 x2 x3 x4 x5 x6 x8 W).acc2 (reload arg15) (reload arg15) (base12 arg10 harg10 x7)) := by
  rw [ozA2 (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg11 := arg11) (harg11 := harg11) (x0 := x0) (x1 := x1) (x2 := x2) (x3 := x3) (x4 := x4) (x5 := x5) (x6 := x6) (x8 := x8) (W := W), chainA1 (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg11 := arg11) (harg11 := harg11) (x0 := x0) (x1 := x1) (x2 := x2) (x3 := x3) (x4 := x4) (x5 := x5) (x6 := x6) (x8 := x8) (W := W), ← Ld.accs2]

theorem ooA2_eq (W : Vec F S160x128 .f32) : kernelRun0_A.sl.v9295 (F := F) c i arg3 harg3 arg4 harg4 arg5 harg5 arg6 harg6 arg7 harg7 arg8 harg8 arg9 harg9 arg10 harg10 arg15 x0 x1 x2 x3 x4 x5 x6 x7 = (loads i arg3 harg3 arg4 harg4 arg5 harg5 arg6 harg6 arg7 harg7 arg8 harg8 arg9 harg9 arg11 harg11 x0 x1 x2 x3 x4 x5 x6 x8 W).o1 (reload arg15) 4 5 ((loads i arg3 harg3 arg4 harg4 arg5 harg5 arg6 harg6 arg7 harg7 arg8 harg8 arg9 harg9 arg11 harg11 x0 x1 x2 x3 x4 x5 x6 x8 W).mid (reload arg15) 4 5 ((loads i arg3 harg3 arg4 harg4 arg5 harg5 arg6 harg6 arg7 harg7 arg8 harg8 arg9 harg9 arg11 harg11 x0 x1 x2 x3 x4 x5 x6 x8 W).acc2 (reload arg15) (reload arg15) (base12 arg10 harg10 x7))) := by
  rw [ooA2 (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg11 := arg11) (harg11 := harg11) (x0 := x0) (x1 := x1) (x2 := x2) (x3 := x3) (x4 := x4) (x5 := x5) (x6 := x6) (x8 := x8) (W := W), chainA2 (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg11 := arg11) (harg11 := harg11) (x0 := x0) (x1 := x1) (x2 := x2) (x3 := x3) (x4 := x4) (x5 := x5) (x6 := x6) (x8 := x8) (W := W)]

theorem chainA3 (W : Vec F S160x128 .f32) : kernelRun0_A.sl.H12_15 (F := F) c i arg4 harg4 arg5 harg5 arg6 harg6 arg7 harg7 arg8 harg8 arg9 harg9 arg10 harg10 arg15 x1 x2 x3 x4 x5 x6 x7 = ((loads i arg3 harg3 arg4 harg4 arg5 harg5 arg6 harg6 arg7 harg7 arg8 harg8 arg9 harg9 arg11 harg11 x0 x1 x2 x3 x4 x5 x6 x8 W).mid (reload arg15) 6 7 ((loads i arg3 harg3 arg4 harg4 arg5 harg5 arg6 harg6 arg7 harg7 arg8 harg8 arg9 harg9 arg11 harg11 x0 x1 x2 x3 x4 x5 x6 x8 W).acc3 (reload arg15) (reload arg15) (base12 arg10 harg10 x7))) := by
  rw [midA3 (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg11 := arg11) (harg11 := harg11) (x0 := x0) (x1 := x1) (x2 := x2) (x3 := x3) (x4 := x4) (x5 := x5) (x6 := x6) (x8 := x8) (W := W), chainA2 (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg11 := arg11) (harg11 := harg11) (x0 := x0) (x1 := x1) (x2 := x2) (x3 := x3) (x4 := x4) (x5 := x5) (x6 := x6) (x8 := x8) (W := W), ← Ld.accs3]

theorem ozA3_eq (W : Vec F S160x128 .f32) : kernelRun0_A.sl.v10881 (F := F) c i arg3 harg3 arg4 harg4 arg5 harg5 arg6 harg6 arg7 harg7 arg8 harg8 arg9 harg9 arg10 harg10 arg15 x0 x1 x2 x3 x4 x5 x6 x7 = (loads i arg3 harg3 arg4 harg4 arg5 harg5 arg6 harg6 arg7 harg7 arg8 harg8 arg9 harg9 arg11 harg11 x0 x1 x2 x3 x4 x5 x6 x8 W).o0 (reload arg15) 6 7 ((loads i arg3 harg3 arg4 harg4 arg5 harg5 arg6 harg6 arg7 harg7 arg8 harg8 arg9 harg9 arg11 harg11 x0 x1 x2 x3 x4 x5 x6 x8 W).acc3 (reload arg15) (reload arg15) (base12 arg10 harg10 x7)) := by
  rw [ozA3 (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg11 := arg11) (harg11 := harg11) (x0 := x0) (x1 := x1) (x2 := x2) (x3 := x3) (x4 := x4) (x5 := x5) (x6 := x6) (x8 := x8) (W := W), chainA2 (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg11 := arg11) (harg11 := harg11) (x0 := x0) (x1 := x1) (x2 := x2) (x3 := x3) (x4 := x4) (x5 := x5) (x6 := x6) (x8 := x8) (W := W), ← Ld.accs3]

theorem run12A (hc : cond0_0 i) : (kernelRun0_A (F := F) c i arg3 harg3 arg4 harg4 arg5 harg5 arg6 harg6 arg7 harg7 arg8 harg8 arg9 harg9 arg10 harg10 arg11 harg11 arg12 harg12 arg13 harg13 arg14 harg14 arg15 harg15 arg16 harg16 hc x0 x1 x2 x3 x4 x5 x6 x7 x8 x9).2.2.1 = (loads i arg3 harg3 arg4 harg4 arg5 harg5 arg6 harg6 arg7 harg7 arg8 harg8 arg9 harg9 arg11 harg11 x0 x1 x2 x3 x4 x5 x6 x8 (kernelRun0_A.sl.v3110 (F := F) c arg12 harg12 arg16 x9)).acc4 (reload arg15) (reload arg15) (base12 arg10 harg10 x7) := by
  rw [pre12A, chainA3 (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg11 := arg11) (harg11 := harg11) (x0 := x0) (x1 := x1) (x2 := x2) (x3 := x3) (x4 := x4) (x5 := x5) (x6 := x6) (x8 := x8) (W := (kernelRun0_A.sl.v3110 (F := F) c arg12 harg12 arg16 x9)), ← Ld.accs4]

theorem run10A (hc : cond0_0 i) : (kernelRun0_A (F := F) c i arg3 harg3 arg4 harg4 arg5 harg5 arg6 harg6 arg7 harg7 arg8 harg8 arg9 harg9 arg10 harg10 arg11 harg11 arg12 harg12 arg13 harg13 arg14 harg14 arg15 harg15 arg16 harg16 hc x0 x1 x2 x3 x4 x5 x6 x7 x8 x9).1 = (loads i arg3 harg3 arg4 harg4 arg5 harg5 arg6 harg6 arg7 harg7 arg8 harg8 arg9 harg9 arg11 harg11 x0 x1 x2 x3 x4 x5 x6 x8 (kernelRun0_A.sl.v3110 (F := F) c arg12 harg12 arg16 x9)).allY (reload arg15) (reload arg15) (base12 arg10 harg10 x7) := by
  rw [pre10A, ozA0_eq (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg11 := arg11) (harg11 := harg11) (x0 := x0) (x1 := x1) (x2 := x2) (x3 := x3) (x4 := x4) (x5 := x5) (x6 := x6) (x8 := x8) (W := (kernelRun0_A.sl.v3110 (F := F) c arg12 harg12 arg16 x9)), ozA1_eq (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg11 := arg11) (harg11 := harg11) (x0 := x0) (x1 := x1) (x2 := x2) (x3 := x3) (x4 := x4) (x5 := x5) (x6 := x6) (x8 := x8) (W := (kernelRun0_A.sl.v3110 (F := F) c arg12 harg12 arg16 x9)), ozA2_eq (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg11 := arg11) (harg11 := harg11) (x0 := x0) (x1 := x1) (x2 := x2) (x3 := x3) (x4 := x4) (x5 := x5) (x6 := x6) (x8 := x8) (W := (kernelRun0_A.sl.v3110 (F := F) c arg12 harg12 arg16 x9)), ozA3_eq (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg11 := arg11) (harg11 := harg11) (x0 := x0) (x1 := x1) (x2 := x2) (x3 := x3) (x4 := x4) (x5 := x5) (x6 := x6) (x8 := x8) (W := (kernelRun0_A.sl.v3110 (F := F) c arg12 harg12 arg16 x9)), ooA0_eq (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg11 := arg11) (harg11 := harg11) (x0 := x0) (x1 := x1) (x2 := x2) (x3 := x3) (x4 := x4) (x5 := x5) (x6 := x6) (x8 := x8) (W := (kernelRun0_A.sl.v3110 (F := F) c arg12 harg12 arg16 x9)), ooA1_eq (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg11 := arg11) (harg11 := harg11) (x0 := x0) (x1 := x1) (x2 := x2) (x3 := x3) (x4 := x4) (x5 := x5) (x6 := x6) (x8 := x8) (W := (kernelRun0_A.sl.v3110 (F := F) c arg12 harg12 arg16 x9)), ooA2_eq (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg11 := arg11) (harg11 := harg11) (x0 := x0) (x1 := x1) (x2 := x2) (x3 := x3) (x4 := x4) (x5 := x5) (x6 := x6) (x8 := x8) (W := (kernelRun0_A.sl.v3110 (F := F) c arg12 harg12 arg16 x9)), chainA3 (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg11 := arg11) (harg11 := harg11) (x0 := x0) (x1 := x1) (x2 := x2) (x3 := x3) (x4 := x4) (x5 := x5) (x6 := x6) (x8 := x8) (W := (kernelRun0_A.sl.v3110 (F := F) c arg12 harg12 arg16 x9)), Ld.allY]

theorem run11A (hc : cond0_0 i) : (kernelRun0_A (F := F) c i arg3 harg3 arg4 harg4 arg5 harg5 arg6 harg6 arg7 harg7 arg8 harg8 arg9 harg9 arg10 harg10 arg11 harg11 arg12 harg12 arg13 harg13 arg14 harg14 arg15 harg15 arg16 harg16 hc x0 x1 x2 x3 x4 x5 x6 x7 x8 x9).2.1 = (loads i arg3 harg3 arg4 harg4 arg5 harg5 arg6 harg6 arg7 harg7 arg8 harg8 arg9 harg9 arg11 harg11 x0 x1 x2 x3 x4 x5 x6 x8 (kernelRun0_A.sl.v3110 (F := F) c arg12 harg12 arg16 x9)).allO (reload arg15) (reload arg15) (base12 arg10 harg10 x7) := by
  rw [pre11A, ozA0_eq (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg11 := arg11) (harg11 := harg11) (x0 := x0) (x1 := x1) (x2 := x2) (x3 := x3) (x4 := x4) (x5 := x5) (x6 := x6) (x8 := x8) (W := (kernelRun0_A.sl.v3110 (F := F) c arg12 harg12 arg16 x9)), ozA1_eq (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg11 := arg11) (harg11 := harg11) (x0 := x0) (x1 := x1) (x2 := x2) (x3 := x3) (x4 := x4) (x5 := x5) (x6 := x6) (x8 := x8) (W := (kernelRun0_A.sl.v3110 (F := F) c arg12 harg12 arg16 x9)), ozA2_eq (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg11 := arg11) (harg11 := harg11) (x0 := x0) (x1 := x1) (x2 := x2) (x3 := x3) (x4 := x4) (x5 := x5) (x6 := x6) (x8 := x8) (W := (kernelRun0_A.sl.v3110 (F := F) c arg12 harg12 arg16 x9)), ozA3_eq (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg11 := arg11) (harg11 := harg11) (x0 := x0) (x1 := x1) (x2 := x2) (x3 := x3) (x4 := x4) (x5 := x5) (x6 := x6) (x8 := x8) (W := (kernelRun0_A.sl.v3110 (F := F) c arg12 harg12 arg16 x9)), ooA0_eq (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg11 := arg11) (harg11 := harg11) (x0 := x0) (x1 := x1) (x2 := x2) (x3 := x3) (x4 := x4) (x5 := x5) (x6 := x6) (x8 := x8) (W := (kernelRun0_A.sl.v3110 (F := F) c arg12 harg12 arg16 x9)), ooA1_eq (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg11 := arg11) (harg11 := harg11) (x0 := x0) (x1 := x1) (x2 := x2) (x3 := x3) (x4 := x4) (x5 := x5) (x6 := x6) (x8 := x8) (W := (kernelRun0_A.sl.v3110 (F := F) c arg12 harg12 arg16 x9)), ooA2_eq (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg11 := arg11) (harg11 := harg11) (x0 := x0) (x1 := x1) (x2 := x2) (x3 := x3) (x4 := x4) (x5 := x5) (x6 := x6) (x8 := x8) (W := (kernelRun0_A.sl.v3110 (F := F) c arg12 harg12 arg16 x9)), chainA3 (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg11 := arg11) (harg11 := harg11) (x0 := x0) (x1 := x1) (x2 := x2) (x3 := x3) (x4 := x4) (x5 := x5) (x6 := x6) (x8 := x8) (W := (kernelRun0_A.sl.v3110 (F := F) c arg12 harg12 arg16 x9)), Ld.allO]

theorem pre12B (hc : ¬cond0_0 i) : (kernelRun0_B (F := F) c i arg3 harg3 arg4 harg4 arg5 harg5 arg6 harg6 arg7 harg7 arg8 harg8 arg9 harg9 arg10 harg10 arg11 harg11 arg12 harg12 arg13 harg13 arg14 harg14 arg15 harg15 arg16 harg16 hc x0 x1 x2 x3 x4 x5 x6 x7 x8 x9 xo12 xs0).2.2.1 = (loads i arg3 harg3 arg4 harg4 arg5 harg5 arg6 harg6 arg7 harg7 arg8 harg8 arg9 harg9 arg11 harg11 x0 x1 x2 x3 x4 x5 x6 x8 (keptW arg16 harg16 xs0)).second (reload arg15) 6 7 (kernelRun0_B.sl.H12_14 (F := F) c i arg4 harg4 arg5 harg5 arg6 harg6 arg7 harg7 arg8 harg8 arg9 harg9 arg15 harg15 x1 x2 x3 x4 x5 x6 xo12) := by dsimp only [Ld.mid, Ld.second, Ld.inA, Ld.inB, Ld.o0, Ld.o1, Ld.ys, Ld.os, loads, reload, kept, base12, In.sx', In.sy', In.upd, In.u, In.xq, In.o, In.gcx, In.gcy, In.kq, In.aq, In.rinv, In.ksv, In.qsv, keptW]; rfl

theorem pre10B (hc : ¬cond0_0 i) : (kernelRun0_B (F := F) c i arg3 harg3 arg4 harg4 arg5 harg5 arg6 harg6 arg7 harg7 arg8 harg8 arg9 harg9 arg10 harg10 arg11 harg11 arg12 harg12 arg13 harg13 arg14 harg14 arg15 harg15 arg16 harg16 hc x0 x1 x2 x3 x4 x5 x6 x7 x8 x9 xo12 xs0).1 = ((loads i arg3 harg3 arg4 harg4 arg5 harg5 arg6 harg6 arg7 harg7 arg8 harg8 arg9 harg9 arg11 harg11 x0 x1 x2 x3 x4 x5 x6 x8 (keptW arg16 harg16 xs0)).ys 6 7 (kernelRun0_B.sl.v10881 (F := F) c i arg3 harg3 arg4 harg4 arg5 harg5 arg6 harg6 arg7 harg7 arg8 harg8 arg9 harg9 arg15 harg15 x0 x1 x2 x3 x4 x5 x6 xo12) ((loads i arg3 harg3 arg4 harg4 arg5 harg5 arg6 harg6 arg7 harg7 arg8 harg8 arg9 harg9 arg11 harg11 x0 x1 x2 x3 x4 x5 x6 x8 (keptW arg16 harg16 xs0)).o1 (reload arg15) 6 7 (kernelRun0_B.sl.H12_14 (F := F) c i arg4 harg4 arg5 harg5 arg6 harg6 arg7 harg7 arg8 harg8 arg9 harg9 arg15 harg15 x1 x2 x3 x4 x5 x6 xo12)) ((loads i arg3 harg3 arg4 harg4 arg5 harg5 arg6 harg6 arg7 harg7 arg8 harg8 arg9 harg9 arg11 harg11 x0 x1 x2 x3 x4 x5 x6 x8 (keptW arg16 harg16 xs0)).ys 4 5 (kernelRun0_B.sl.v7762 (F := F) c i arg3 harg3 arg4 harg4 arg5 harg5 arg6 harg6 arg7 harg7 arg8 harg8 arg9 harg9 arg15 harg15 x0 x1 x2 x3 x4 x5 x6 xo12) (kernelRun0_B.sl.v9295 (F := F) c i arg3 harg3 arg4 harg4 arg5 harg5 arg6 harg6 arg7 harg7 arg8 harg8 arg9 harg9 arg15 harg15 x0 x1 x2 x3 x4 x5 x6 xo12) ((loads i arg3 harg3 arg4 harg4 arg5 harg5 arg6 harg6 arg7 harg7 arg8 harg8 arg9 harg9 arg11 harg11 x0 x1 x2 x3 x4 x5 x6 x8 (keptW arg16 harg16 xs0)).ys 2 3 (kernelRun0_B.sl.v4643 (F := F) c i arg3 harg3 arg4 harg4 arg5 harg5 arg6 harg6 arg7 harg7 arg8 harg8 arg9 harg9 arg15 harg15 x0 x1 x2 x3 x4 x5 x6 xo12) (kernelRun0_B.sl.v6176 (F := F) c i arg3 harg3 arg4 harg4 arg5 harg5 arg6 harg6 arg7 harg7 arg8 harg8 arg9 harg9 arg15 harg15 x0 x1 x2 x3 x4 x5 x6 xo12) ((loads i arg3 harg3 arg4 harg4 arg5 harg5 arg6 harg6 arg7 harg7 arg8 harg8 arg9 harg9 arg11 harg11 x0 x1 x2 x3 x4 x5 x6 x8 (keptW arg16 harg16 xs0)).ys 0 1 (kernelRun0_B.sl.v1524 (F := F) c i arg3 harg3 arg4 harg4 arg5 harg5 arg6 harg6 arg7 harg7 arg8 harg8 arg9 harg9 arg15 harg15 x0 x1 x2 x3 x4 x5 x6 xo12) (kernelRun0_B.sl.v3057 (F := F) c i arg3 harg3 arg4 harg4 arg5 harg5 arg6 harg6 arg7 harg7 arg8 harg8 arg9 harg9 arg15 harg15 x0 x1 x2 x3 x4 x5 x6 xo12) [])))) := by dsimp only [Ld.mid, Ld.second, Ld.inA, Ld.inB, Ld.o0, Ld.o1, Ld.ys, Ld.os, loads, reload, kept, base12, In.sx', In.sy', In.upd, In.u, In.xq, In.o, In.gcx, In.gcy, In.kq, In.aq, In.rinv, In.ksv, In.qsv, keptW]; rfl

theorem pre11B (hc : ¬cond0_0 i) : (kernelRun0_B (F := F) c i arg3 harg3 arg4 harg4 arg5 harg5 arg6 harg6 arg7 harg7 arg8 harg8 arg9 harg9 arg10 harg10 arg11 harg11 arg12 harg12 arg13 harg13 arg14 harg14 arg15 harg15 arg16 harg16 hc x0 x1 x2 x3 x4 x5 x6 x7 x8 x9 xo12 xs0).2.1 = (Ld.os 6 7 (kernelRun0_B.sl.v10881 (F := F) c i arg3 harg3 arg4 harg4 arg5 harg5 arg6 harg6 arg7 harg7 arg8 harg8 arg9 harg9 arg15 harg15 x0 x1 x2 x3 x4 x5 x6 xo12) ((loads i arg3 harg3 arg4 harg4 arg5 harg5 arg6 harg6 arg7 harg7 arg8 harg8 arg9 harg9 arg11 harg11 x0 x1 x2 x3 x4 x5 x6 x8 (keptW arg16 harg16 xs0)).o1 (reload arg15) 6 7 (kernelRun0_B.sl.H12_14 (F := F) c i arg4 harg4 arg5 harg5 arg6 harg6 arg7 harg7 arg8 harg8 arg9 harg9 arg15 harg15 x1 x2 x3 x4 x5 x6 xo12)) (Ld.os 4 5 (kernelRun0_B.sl.v7762 (F := F) c i arg3 harg3 arg4 harg4 arg5 harg5 arg6 harg6 arg7 harg7 arg8 harg8 arg9 harg9 arg15 harg15 x0 x1 x2 x3 x4 x5 x6 xo12) (kernelRun0_B.sl.v9295 (F := F) c i arg3 harg3 arg4 harg4 arg5 harg5 arg6 harg6 arg7 harg7 arg8 harg8 arg9 harg9 arg15 harg15 x0 x1 x2 x3 x4 x5 x6 xo12) (Ld.os 2 3 (kernelRun0_B.sl.v4643 (F := F) c i arg3 harg3 arg4 harg4 arg5 harg5 arg6 harg6 arg7 harg7 arg8 harg8 arg9 harg9 arg15 harg15 x0 x1 x2 x3 x4 x5 x6 xo12) (kernelRun0_B.sl.v6176 (F := F) c i arg3 harg3 arg4 harg4 arg5 harg5 arg6 harg6 arg7 harg7 arg8 harg8 arg9 harg9 arg15 harg15 x0 x1 x2 x3 x4 x5 x6 xo12) (Ld.os 0 1 (kernelRun0_B.sl.v1524 (F := F) c i arg3 harg3 arg4 harg4 arg5 harg5 arg6 harg6 arg7 harg7 arg8 harg8 arg9 harg9 arg15 harg15 x0 x1 x2 x3 x4 x5 x6 xo12) (kernelRun0_B.sl.v3057 (F := F) c i arg3 harg3 arg4 harg4 arg5 harg5 arg6 harg6 arg7 harg7 arg8 harg8 arg9 harg9 arg15 harg15 x0 x1 x2 x3 x4 x5 x6 xo12) [])))) := by dsimp only [Ld.mid, Ld.second, Ld.inA, Ld.inB, Ld.o0, Ld.o1, Ld.ys, Ld.os, loads, reload, kept, base12, In.sx', In.sy', In.upd, In.u, In.xq, In.o, In.gcx, In.gcy, In.kq, In.aq, In.rinv, In.ksv, In.qsv, keptW]; rfl

theorem chainB0 (W : Vec F S160x128 .f32) : kernelRun0_B.sl.H12_2 (F := F) c i arg4 harg4 arg5 harg5 arg6 harg6 arg7 harg7 arg8 harg8 arg9 harg9 arg15 harg15 x1 x2 x3 x4 x5 x6 xo12 = ((loads i arg3 harg3 arg4 harg4 arg5 harg5 arg6 harg6 arg7 harg7 arg8 harg8 arg9 harg9 arg11 harg11 x0 x1 x2 x3 x4 x5 x6 x8 W).mid (kept arg15 harg15 xo12) 0 1 []) := by
  rw [midB0 (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg11 := arg11) (harg11 := harg11) (x0 := x0) (x1 := x1) (x2 := x2) (x3 := x3) (x4 := x4) (x5 := x5) (x6 := x6) (x8 := x8) (W := W)]

theorem ozB0_eq (W : Vec F S160x128 .f32) : kernelRun0_B.sl.v1524 (F := F) c i arg3 harg3 arg4 harg4 arg5 harg5 arg6 harg6 arg7 harg7 arg8 harg8 arg9 harg9 arg15 harg15 x0 x1 x2 x3 x4 x5 x6 xo12 = (loads i arg3 harg3 arg4 harg4 arg5 harg5 arg6 harg6 arg7 harg7 arg8 harg8 arg9 harg9 arg11 harg11 x0 x1 x2 x3 x4 x5 x6 x8 W).o0 (kept arg15 harg15 xo12) 0 1 [] := by
  rw [ozB0 (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg11 := arg11) (harg11 := harg11) (x0 := x0) (x1 := x1) (x2 := x2) (x3 := x3) (x4 := x4) (x5 := x5) (x6 := x6) (x8 := x8) (W := W)]

theorem ooB0_eq (W : Vec F S160x128 .f32) : kernelRun0_B.sl.v3057 (F := F) c i arg3 harg3 arg4 harg4 arg5 harg5 arg6 harg6 arg7 harg7 arg8 harg8 arg9 harg9 arg15 harg15 x0 x1 x2 x3 x4 x5 x6 xo12 = (loads i arg3 harg3 arg4 harg4 arg5 harg5 arg6 harg6 arg7 harg7 arg8 harg8 arg9 harg9 arg11 harg11 x0 x1 x2 x3 x4 x5 x6 x8 W).o1 (reload arg15) 0 1 ((loads i arg3 harg3 arg4 harg4 arg5 harg5 arg6 harg6 arg7 harg7 arg8 harg8 arg9 harg9 arg11 harg11 x0 x1 x2 x3 x4 x5 x6 x8 W).mid (kept arg15 harg15 xo12) 0 1 []) := by
  rw [ooB0 (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg11 := arg11) (harg11 := harg11) (x0 := x0) (x1 := x1) (x2 := x2) (x3 := x3) (x4 := x4) (x5 := x5) (x6 := x6) (x8 := x8) (W := W), chainB0 (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg11 := arg11) (harg11 := harg11) (x0 := x0) (x1 := x1) (x2 := x2) (x3 := x3) (x4 := x4) (x5 := x5) (x6 := x6) (x8 := x8) (W := W)]

theorem chainB1 (W : Vec F S160x128 .f32) : kernelRun0_B.sl.H12_6 (F := F) c i arg4 harg4 arg5 harg5 arg6 harg6 arg7 harg7 arg8 harg8 arg9 harg9 arg15 harg15 x1 x2 x3 x4 x5 x6 xo12 = ((loads i arg3 harg3 arg4 harg4 arg5 harg5 arg6 harg6 arg7 harg7 arg8 harg8 arg9 harg9 arg11 harg11 x0 x1 x2 x3 x4 x5 x6 x8 W).mid (kept arg15 harg15 xo12) 2 3 ((loads i arg3 harg3 arg4 harg4 arg5 harg5 arg6 harg6 arg7 harg7 arg8 harg8 arg9 harg9 arg11 harg11 x0 x1 x2 x3 x4 x5 x6 x8 W).acc1 (kept arg15 harg15 xo12) (reload arg15) [])) := by
  rw [midB1 (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg11 := arg11) (harg11 := harg11) (x0 := x0) (x1 := x1) (x2 := x2) (x3 := x3) (x4 := x4) (x5 := x5) (x6 := x6) (x8 := x8) (W := W), chainB0 (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg11 := arg11) (harg11 := harg11) (x0 := x0) (x1 := x1) (x2 := x2) (x3 := x3) (x4 := x4) (x5 := x5) (x6 := x6) (x8 := x8) (W := W), ← Ld.accs1]

theorem ozB1_eq (W : Vec F S160x128 .f32) : kernelRun0_B.sl.v4643 (F := F) c i arg3 harg3 arg4 harg4 arg5 harg5 arg6 harg6 arg7 harg7 arg8 harg8 arg9 harg9 arg15 harg15 x0 x1 x2 x3 x4 x5 x6 xo12 = (loads i arg3 harg3 arg4 harg4 arg5 harg5 arg6 harg6 arg7 harg7 arg8 harg8 arg9 harg9 arg11 harg11 x0 x1 x2 x3 x4 x5 x6 x8 W).o0 (kept arg15 harg15 xo12) 2 3 ((loads i arg3 harg3 arg4 harg4 arg5 harg5 arg6 harg6 arg7 harg7 arg8 harg8 arg9 harg9 arg11 harg11 x0 x1 x2 x3 x4 x5 x6 x8 W).acc1 (kept arg15 harg15 xo12) (reload arg15) []) := by
  rw [ozB1 (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg11 := arg11) (harg11 := harg11) (x0 := x0) (x1 := x1) (x2 := x2) (x3 := x3) (x4 := x4) (x5 := x5) (x6 := x6) (x8 := x8) (W := W), chainB0 (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg11 := arg11) (harg11 := harg11) (x0 := x0) (x1 := x1) (x2 := x2) (x3 := x3) (x4 := x4) (x5 := x5) (x6 := x6) (x8 := x8) (W := W), ← Ld.accs1]

theorem ooB1_eq (W : Vec F S160x128 .f32) : kernelRun0_B.sl.v6176 (F := F) c i arg3 harg3 arg4 harg4 arg5 harg5 arg6 harg6 arg7 harg7 arg8 harg8 arg9 harg9 arg15 harg15 x0 x1 x2 x3 x4 x5 x6 xo12 = (loads i arg3 harg3 arg4 harg4 arg5 harg5 arg6 harg6 arg7 harg7 arg8 harg8 arg9 harg9 arg11 harg11 x0 x1 x2 x3 x4 x5 x6 x8 W).o1 (reload arg15) 2 3 ((loads i arg3 harg3 arg4 harg4 arg5 harg5 arg6 harg6 arg7 harg7 arg8 harg8 arg9 harg9 arg11 harg11 x0 x1 x2 x3 x4 x5 x6 x8 W).mid (kept arg15 harg15 xo12) 2 3 ((loads i arg3 harg3 arg4 harg4 arg5 harg5 arg6 harg6 arg7 harg7 arg8 harg8 arg9 harg9 arg11 harg11 x0 x1 x2 x3 x4 x5 x6 x8 W).acc1 (kept arg15 harg15 xo12) (reload arg15) [])) := by
  rw [ooB1 (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg11 := arg11) (harg11 := harg11) (x0 := x0) (x1 := x1) (x2 := x2) (x3 := x3) (x4 := x4) (x5 := x5) (x6 := x6) (x8 := x8) (W := W), chainB1 (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg11 := arg11) (harg11 := harg11) (x0 := x0) (x1 := x1) (x2 := x2) (x3 := x3) (x4 := x4) (x5 := x5) (x6 := x6) (x8 := x8) (W := W)]

theorem chainB2 (W : Vec F S160x128 .f32) : kernelRun0_B.sl.H12_10 (F := F) c i arg4 harg4 arg5 harg5 arg6 harg6 arg7 harg7 arg8 harg8 arg9 harg9 arg15 harg15 x1 x2 x3 x4 x5 x6 xo12 = ((loads i arg3 harg3 arg4 harg4 arg5 harg5 arg6 harg6 arg7 harg7 arg8 harg8 arg9 harg9 arg11 harg11 x0 x1 x2 x3 x4 x5 x6 x8 W).mid (kept arg15 harg15 xo12) 4 5 ((loads i arg3 harg3 arg4 harg4 arg5 harg5 arg6 harg6 arg7 harg7 arg8 harg8 arg9 harg9 arg11 harg11 x0 x1 x2 x3 x4 x5 x6 x8 W).acc2 (kept arg15 harg15 xo12) (reload arg15) [])) := by
  rw [midB2 (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg11 := arg11) (harg11 := harg11) (x0 := x0) (x1 := x1) (x2 := x2) (x3 := x3) (x4 := x4) (x5 := x5) (x6 := x6) (x8 := x8) (W := W), chainB1 (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg11 := arg11) (harg11 := harg11) (x0 := x0) (x1 := x1) (x2 := x2) (x3 := x3) (x4 := x4) (x5 := x5) (x6 := x6) (x8 := x8) (W := W), ← Ld.accs2]

theorem ozB2_eq (W : Vec F S160x128 .f32) : kernelRun0_B.sl.v7762 (F := F) c i arg3 harg3 arg4 harg4 arg5 harg5 arg6 harg6 arg7 harg7 arg8 harg8 arg9 harg9 arg15 harg15 x0 x1 x2 x3 x4 x5 x6 xo12 = (loads i arg3 harg3 arg4 harg4 arg5 harg5 arg6 harg6 arg7 harg7 arg8 harg8 arg9 harg9 arg11 harg11 x0 x1 x2 x3 x4 x5 x6 x8 W).o0 (kept arg15 harg15 xo12) 4 5 ((loads i arg3 harg3 arg4 harg4 arg5 harg5 arg6 harg6 arg7 harg7 arg8 harg8 arg9 harg9 arg11 harg11 x0 x1 x2 x3 x4 x5 x6 x8 W).acc2 (kept arg15 harg15 xo12) (reload arg15) []) := by
  rw [ozB2 (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg11 := arg11) (harg11 := harg11) (x0 := x0) (x1 := x1) (x2 := x2) (x3 := x3) (x4 := x4) (x5 := x5) (x6 := x6) (x8 := x8) (W := W), chainB1 (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg11 := arg11) (harg11 := harg11) (x0 := x0) (x1 := x1) (x2 := x2) (x3 := x3) (x4 := x4) (x5 := x5) (x6 := x6) (x8 := x8) (W := W), ← Ld.accs2]

theorem ooB2_eq (W : Vec F S160x128 .f32) : kernelRun0_B.sl.v9295 (F := F) c i arg3 harg3 arg4 harg4 arg5 harg5 arg6 harg6 arg7 harg7 arg8 harg8 arg9 harg9 arg15 harg15 x0 x1 x2 x3 x4 x5 x6 xo12 = (loads i arg3 harg3 arg4 harg4 arg5 harg5 arg6 harg6 arg7 harg7 arg8 harg8 arg9 harg9 arg11 harg11 x0 x1 x2 x3 x4 x5 x6 x8 W).o1 (reload arg15) 4 5 ((loads i arg3 harg3 arg4 harg4 arg5 harg5 arg6 harg6 arg7 harg7 arg8 harg8 arg9 harg9 arg11 harg11 x0 x1 x2 x3 x4 x5 x6 x8 W).mid (kept arg15 harg15 xo12) 4 5 ((loads i arg3 harg3 arg4 harg4 arg5 harg5 arg6 harg6 arg7 harg7 arg8 harg8 arg9 harg9 arg11 harg11 x0 x1 x2 x3 x4 x5 x6 x8 W).acc2 (kept arg15 harg15 xo12) (reload arg15) [])) := by
  rw [ooB2 (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg11 := arg11) (harg11 := harg11) (x0 := x0) (x1 := x1) (x2 := x2) (x3 := x3) (x4 := x4) (x5 := x5) (x6 := x6) (x8 := x8) (W := W), chainB2 (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg11 := arg11) (harg11 := harg11) (x0 := x0) (x1 := x1) (x2 := x2) (x3 := x3) (x4 := x4) (x5 := x5) (x6 := x6) (x8 := x8) (W := W)]

theorem chainB3 (W : Vec F S160x128 .f32) : kernelRun0_B.sl.H12_14 (F := F) c i arg4 harg4 arg5 harg5 arg6 harg6 arg7 harg7 arg8 harg8 arg9 harg9 arg15 harg15 x1 x2 x3 x4 x5 x6 xo12 = ((loads i arg3 harg3 arg4 harg4 arg5 harg5 arg6 harg6 arg7 harg7 arg8 harg8 arg9 harg9 arg11 harg11 x0 x1 x2 x3 x4 x5 x6 x8 W).mid (kept arg15 harg15 xo12) 6 7 ((loads i arg3 harg3 arg4 harg4 arg5 harg5 arg6 harg6 arg7 harg7 arg8 harg8 arg9 harg9 arg11 harg11 x0 x1 x2 x3 x4 x5 x6 x8 W).acc3 (kept arg15 harg15 xo12) (reload arg15) [])) := by
  rw [midB3 (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg11 := arg11) (harg11 := harg11) (x0 := x0) (x1 := x1) (x2 := x2) (x3 := x3) (x4 := x4) (x5 := x5) (x6 := x6) (x8 := x8) (W := W), chainB2 (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg11 := arg11) (harg11 := harg11) (x0 := x0) (x1 := x1) (x2 := x2) (x3 := x3) (x4 := x4) (x5 := x5) (x6 := x6) (x8 := x8) (W := W), ← Ld.accs3]

theorem ozB3_eq (W : Vec F S160x128 .f32) : kernelRun0_B.sl.v10881 (F := F) c i arg3 harg3 arg4 harg4 arg5 harg5 arg6 harg6 arg7 harg7 arg8 harg8 arg9 harg9 arg15 harg15 x0 x1 x2 x3 x4 x5 x6 xo12 = (loads i arg3 harg3 arg4 harg4 arg5 harg5 arg6 harg6 arg7 harg7 arg8 harg8 arg9 harg9 arg11 harg11 x0 x1 x2 x3 x4 x5 x6 x8 W).o0 (kept arg15 harg15 xo12) 6 7 ((loads i arg3 harg3 arg4 harg4 arg5 harg5 arg6 harg6 arg7 harg7 arg8 harg8 arg9 harg9 arg11 harg11 x0 x1 x2 x3 x4 x5 x6 x8 W).acc3 (kept arg15 harg15 xo12) (reload arg15) []) := by
  rw [ozB3 (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg11 := arg11) (harg11 := harg11) (x0 := x0) (x1 := x1) (x2 := x2) (x3 := x3) (x4 := x4) (x5 := x5) (x6 := x6) (x8 := x8) (W := W), chainB2 (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg11 := arg11) (harg11 := harg11) (x0 := x0) (x1 := x1) (x2 := x2) (x3 := x3) (x4 := x4) (x5 := x5) (x6 := x6) (x8 := x8) (W := W), ← Ld.accs3]

theorem run12B (hc : ¬cond0_0 i) : (kernelRun0_B (F := F) c i arg3 harg3 arg4 harg4 arg5 harg5 arg6 harg6 arg7 harg7 arg8 harg8 arg9 harg9 arg10 harg10 arg11 harg11 arg12 harg12 arg13 harg13 arg14 harg14 arg15 harg15 arg16 harg16 hc x0 x1 x2 x3 x4 x5 x6 x7 x8 x9 xo12 xs0).2.2.1 = (loads i arg3 harg3 arg4 harg4 arg5 harg5 arg6 harg6 arg7 harg7 arg8 harg8 arg9 harg9 arg11 harg11 x0 x1 x2 x3 x4 x5 x6 x8 (keptW arg16 harg16 xs0)).acc4 (kept arg15 harg15 xo12) (reload arg15) [] := by
  rw [pre12B, chainB3 (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg11 := arg11) (harg11 := harg11) (x0 := x0) (x1 := x1) (x2 := x2) (x3 := x3) (x4 := x4) (x5 := x5) (x6 := x6) (x8 := x8) (W := (keptW arg16 harg16 xs0)), ← Ld.accs4]

theorem run10B (hc : ¬cond0_0 i) : (kernelRun0_B (F := F) c i arg3 harg3 arg4 harg4 arg5 harg5 arg6 harg6 arg7 harg7 arg8 harg8 arg9 harg9 arg10 harg10 arg11 harg11 arg12 harg12 arg13 harg13 arg14 harg14 arg15 harg15 arg16 harg16 hc x0 x1 x2 x3 x4 x5 x6 x7 x8 x9 xo12 xs0).1 = (loads i arg3 harg3 arg4 harg4 arg5 harg5 arg6 harg6 arg7 harg7 arg8 harg8 arg9 harg9 arg11 harg11 x0 x1 x2 x3 x4 x5 x6 x8 (keptW arg16 harg16 xs0)).allY (kept arg15 harg15 xo12) (reload arg15) [] := by
  rw [pre10B, ozB0_eq (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg11 := arg11) (harg11 := harg11) (x0 := x0) (x1 := x1) (x2 := x2) (x3 := x3) (x4 := x4) (x5 := x5) (x6 := x6) (x8 := x8) (W := (keptW arg16 harg16 xs0)), ozB1_eq (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg11 := arg11) (harg11 := harg11) (x0 := x0) (x1 := x1) (x2 := x2) (x3 := x3) (x4 := x4) (x5 := x5) (x6 := x6) (x8 := x8) (W := (keptW arg16 harg16 xs0)), ozB2_eq (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg11 := arg11) (harg11 := harg11) (x0 := x0) (x1 := x1) (x2 := x2) (x3 := x3) (x4 := x4) (x5 := x5) (x6 := x6) (x8 := x8) (W := (keptW arg16 harg16 xs0)), ozB3_eq (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg11 := arg11) (harg11 := harg11) (x0 := x0) (x1 := x1) (x2 := x2) (x3 := x3) (x4 := x4) (x5 := x5) (x6 := x6) (x8 := x8) (W := (keptW arg16 harg16 xs0)), ooB0_eq (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg11 := arg11) (harg11 := harg11) (x0 := x0) (x1 := x1) (x2 := x2) (x3 := x3) (x4 := x4) (x5 := x5) (x6 := x6) (x8 := x8) (W := (keptW arg16 harg16 xs0)), ooB1_eq (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg11 := arg11) (harg11 := harg11) (x0 := x0) (x1 := x1) (x2 := x2) (x3 := x3) (x4 := x4) (x5 := x5) (x6 := x6) (x8 := x8) (W := (keptW arg16 harg16 xs0)), ooB2_eq (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg11 := arg11) (harg11 := harg11) (x0 := x0) (x1 := x1) (x2 := x2) (x3 := x3) (x4 := x4) (x5 := x5) (x6 := x6) (x8 := x8) (W := (keptW arg16 harg16 xs0)), chainB3 (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg11 := arg11) (harg11 := harg11) (x0 := x0) (x1 := x1) (x2 := x2) (x3 := x3) (x4 := x4) (x5 := x5) (x6 := x6) (x8 := x8) (W := (keptW arg16 harg16 xs0)), Ld.allY]

theorem run11B (hc : ¬cond0_0 i) : (kernelRun0_B (F := F) c i arg3 harg3 arg4 harg4 arg5 harg5 arg6 harg6 arg7 harg7 arg8 harg8 arg9 harg9 arg10 harg10 arg11 harg11 arg12 harg12 arg13 harg13 arg14 harg14 arg15 harg15 arg16 harg16 hc x0 x1 x2 x3 x4 x5 x6 x7 x8 x9 xo12 xs0).2.1 = (loads i arg3 harg3 arg4 harg4 arg5 harg5 arg6 harg6 arg7 harg7 arg8 harg8 arg9 harg9 arg11 harg11 x0 x1 x2 x3 x4 x5 x6 x8 (keptW arg16 harg16 xs0)).allO (kept arg15 harg15 xo12) (reload arg15) [] := by
  rw [pre11B, ozB0_eq (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg11 := arg11) (harg11 := harg11) (x0 := x0) (x1 := x1) (x2 := x2) (x3 := x3) (x4 := x4) (x5 := x5) (x6 := x6) (x8 := x8) (W := (keptW arg16 harg16 xs0)), ozB1_eq (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg11 := arg11) (harg11 := harg11) (x0 := x0) (x1 := x1) (x2 := x2) (x3 := x3) (x4 := x4) (x5 := x5) (x6 := x6) (x8 := x8) (W := (keptW arg16 harg16 xs0)), ozB2_eq (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg11 := arg11) (harg11 := harg11) (x0 := x0) (x1 := x1) (x2 := x2) (x3 := x3) (x4 := x4) (x5 := x5) (x6 := x6) (x8 := x8) (W := (keptW arg16 harg16 xs0)), ozB3_eq (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg11 := arg11) (harg11 := harg11) (x0 := x0) (x1 := x1) (x2 := x2) (x3 := x3) (x4 := x4) (x5 := x5) (x6 := x6) (x8 := x8) (W := (keptW arg16 harg16 xs0)), ooB0_eq (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg11 := arg11) (harg11 := harg11) (x0 := x0) (x1 := x1) (x2 := x2) (x3 := x3) (x4 := x4) (x5 := x5) (x6 := x6) (x8 := x8) (W := (keptW arg16 harg16 xs0)), ooB1_eq (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg11 := arg11) (harg11 := harg11) (x0 := x0) (x1 := x1) (x2 := x2) (x3 := x3) (x4 := x4) (x5 := x5) (x6 := x6) (x8 := x8) (W := (keptW arg16 harg16 xs0)), ooB2_eq (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg11 := arg11) (harg11 := harg11) (x0 := x0) (x1 := x1) (x2 := x2) (x3 := x3) (x4 := x4) (x5 := x5) (x6 := x6) (x8 := x8) (W := (keptW arg16 harg16 xs0)), chainB3 (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg11 := arg11) (harg11 := harg11) (x0 := x0) (x1 := x1) (x2 := x2) (x3 := x3) (x4 := x4) (x5 := x5) (x6 := x6) (x8 := x8) (W := (keptW arg16 harg16 xs0)), Ld.allO]

end

end Cert.Hand

end
-- ==== Proof.Hand.Ints.lean ====
module

public import proofs.«01_k».proof.Proof.Hand.Unit
public import Idealize.ShloMosaic.Lib.Pointwise

/-! The integer masks of the kernel at an index. -/

@[expose] public section

noncomputable section

namespace Cert.Hand

open Idealize.ShloMosaic Idealize.SL.Sem Cert.KernelIdeal Cert.KernelIdeal.Facts₀

theorem lane_apply (t : Fin 64) (l : Fin 128) : lane (ix2 t l) = BitVec.ofNat 32 l.val := by
  pointwise [lane]

theorem row_apply (t : Fin 64) (l : Fin 128) : row (ix2 t l) = BitVec.ofNat 32 t.val := by
  pointwise [row]

theorem lane64_apply (t : Fin 64) (l : Fin 128) : lane64 (ix2 t l) = BitVec.ofNat 32 (l.val % 64) := by
  pointwise [lane64, lane]
  revert l; decide +kernel

theorem lo1_apply (z : Fin 1) (l : Fin 128) : lo1 (ix2 z l) = if l.val < 64 then 1#1 else 0#1 := by
  pointwise [lo1, lane]
  revert l; decide +kernel

theorem lov_apply (v : Fin 160) (l : Fin 128) : lov (ix2 v l) = if l.val < 64 then 1#1 else 0#1 := by
  pointwise [lov]
  revert l; decide +kernel

theorem lane32_apply (t : Fin 32) (l : Fin 128) : lane32 (ix2 t l) = BitVec.ofNat 32 l.val := by
  pointwise [lane32, lane]

theorem modLane_apply (t : Fin 32) (l : Fin 128) : modLane 32#32 (ix2 t l) = BitVec.ofNat 32 (l.val % 32) := by
  pointwise [modLane, lane32_apply]
  revert l; decide +kernel

theorem blk0_apply (t : Fin 32) (l : Fin 128) : blk0 (ix2 t l) = if l.val % 64 < 32 then 1#1 else 0#1 := by
  pointwise [blk0, modLane, lane32_apply]
  revert l; decide +kernel

theorem base_apply (t : Fin 32) (l : Fin 128) : base (ix2 t l) = BitVec.ofNat 32 (32 * (l.val / 32)) := by
  pointwise [base, modLane_apply, lane32_apply]
  revert l; decide +kernel

theorem blk_apply (t : Fin 32) (l : Fin 128) : blk (ix2 t l) = BitVec.ofNat 32 (l.val / 32) := by
  pointwise [blk, lane32_apply]
  revert l; decide +kernel

theorem gidx_apply (j : Fin 32) (t : Fin 8) (l : Fin 128) :
    gidx (BitVec.ofNat 32 j.val) (ix2 t l) = BitVec.ofNat 32 (32 * (l.val / 32) + j.val) := by
  pointwise [gidx, base_apply]
  revert l j; decide +kernel

end Cert.Hand

end
-- ==== Proof.Hand.Math.lean ====
module

public import Mathlib.LinearAlgebra.Matrix.NonsingularInverse
public import Mathlib.Data.Real.Basic
public import Mathlib.Analysis.SpecialFunctions.Exp

/-! The linear algebra over the reals behind the two programs: the terminating Neumann product and the blocked
    back substitution both give the inverse of the identity plus a strictly triangular matrix. -/

@[expose] public section

noncomputable section

namespace Cert.Hand

open Matrix

/-- A power of a strictly lower triangular matrix is zero nearer and nearer to the lower left corner. -/
theorem pow_strictLower {n : ℕ} (N : Matrix (Fin n) (Fin n) ℝ) (hN : ∀ i j, i ≤ j → N i j = 0) (k : ℕ) :
    ∀ i j : Fin n, (i : ℕ) < j + k → (N ^ k) i j = 0 := by
  induction k with
  | zero => intro i j h; rw [pow_zero, Matrix.one_apply_ne]; intro e; subst e; omega
  | succ k ih =>
    intro i j h
    rw [pow_succ, Matrix.mul_apply]
    refine Finset.sum_eq_zero fun l _ => ?_
    by_cases hl : (i : ℕ) < l + k
    · rw [ih i l hl, zero_mul]
    · rw [hN l j (by rw [Fin.le_def]; omega), mul_zero]

/-- The powers the reference forms: each is the square of the one before. -/
def nPow {n : ℕ} (N : Matrix (Fin n) (Fin n) ℝ) : ℕ → Matrix (Fin n) (Fin n) ℝ
  | 0 => N
  | k + 1 => nPow N k * nPow N k

/-- The partial products of the Neumann series. -/
def nInv {n : ℕ} (N : Matrix (Fin n) (Fin n) ℝ) : ℕ → Matrix (Fin n) (Fin n) ℝ
  | 0 => 1 + N
  | k + 1 => nInv N k + nInv N k * nPow N (k + 1)

theorem nPow_eq {n : ℕ} (N : Matrix (Fin n) (Fin n) ℝ) (k : ℕ) : nPow N k = N ^ (2 ^ k) := by
  induction k with
  | zero => simp [nPow]
  | succ k ih => rw [nPow, ih, ← pow_add]; congr 1; ring

theorem nInv_mul {n : ℕ} (N : Matrix (Fin n) (Fin n) ℝ) (k : ℕ) : nInv N k * (1 - N) = 1 - N ^ (2 ^ (k + 1)) := by
  induction k with
  | zero => rw [nInv, zero_add, pow_one, pow_two]; noncomm_ring
  | succ k ih =>
    have hc : nPow N (k + 1) * (1 - N) = (1 - N) * nPow N (k + 1) := by
      rw [nPow_eq]
      exact ((Commute.one_right _).sub_right ((Commute.refl N).pow_left _)).eq
    rw [nInv, add_mul, mul_assoc, hc, ← mul_assoc, ih, nPow_eq, sub_mul, one_mul, ← pow_add]
    have : 2 ^ (k + 1) + 2 ^ (k + 1) = 2 ^ (k + 1 + 1) := by ring
    rw [this]; abel

/-- Five squarings give the inverse at size 64. -/
theorem nInv_five (A : Matrix (Fin 64) (Fin 64) ℝ) (hA : ∀ i j, i ≤ j → A i j = 0) : nInv (-A) 5 * (1 + A) = 1 := by
  have h := nInv_mul (-A) 5
  rw [sub_neg_eq_add] at h
  rw [h]
  have : (-A) ^ (2 ^ (5 + 1)) = 0 := by
    ext i j
    exact pow_strictLower (-A) (fun i j h => by simp [hA i j h]) _ i j (by have := i.isLt; norm_num; omega)
  rw [this, sub_zero]

/-- Back substitution: after `m` steps the rows below `31 - m` are eliminated. -/
def bsub (D : Fin 32 → Fin 32 → ℝ) : ℕ → Fin 32 → Fin 32 → ℝ
  | 0, i, k => if i = k then 1 else 0
  | m + 1, i, k => bsub D m i k - D i ⟨31 - m, by omega⟩ * bsub D m ⟨31 - m, by omega⟩ k

theorem bsub_zero (D : Fin 32 → Fin 32 → ℝ) (i k : Fin 32) : bsub D 0 i k = if i = k then 1 else 0 := rfl
theorem bsub_succ (D : Fin 32 → Fin 32 → ℝ) (m : ℕ) (i k : Fin 32) :
    bsub D (m + 1) i k = bsub D m i k - D i ⟨31 - m, by omega⟩ * bsub D m ⟨31 - m, by omega⟩ k := rfl

/-- What the 31 steps end with. -/
def bfin (D : Fin 32 → Fin 32 → ℝ) : Fin 32 → Fin 32 → ℝ := bsub D 31

theorem bsub_row (D : Fin 32 → Fin 32 → ℝ) (hD : ∀ i j, j ≤ i → D i j = 0) (i k : Fin 32) (m : ℕ) (h : 31 - m ≤ i) (hm : m ≤ 31) :
    bfin D i k = bsub D m i k := by
  have key : ∀ d, m + d ≤ 31 → bsub D (m + d) i k = bsub D m i k := by
    intro d
    induction d with
    | zero => intro _; rfl
    | succ d ih =>
      intro hd
      rw [← add_assoc, bsub_succ, ih (by omega), hD i _ (by rw [Fin.le_def]; show 31 - (m + d) ≤ i; omega), zero_mul, sub_zero]
  have := key (31 - m) (by omega)
  rw [show m + (31 - m) = 31 by omega] at this
  exact this

theorem bsub_sum (D : Fin 32 → Fin 32 → ℝ) (hD : ∀ i j, j ≤ i → D i j = 0) (i k : Fin 32) (m : ℕ) (hm : m ≤ 31) :
    bsub D m i k = (if i = k then 1 else 0) - ∑ j : Fin 32, if 31 - m < (j : ℕ) then D i j * bfin D j k else 0 := by
  induction m with
  | zero =>
    have : ∀ j : Fin 32, (if 31 - 0 < (j : ℕ) then D i j * bfin D j k else 0) = 0 := fun j => if_neg (by omega)
    simp only [this, bsub_zero, Finset.sum_const_zero, sub_zero]
  | succ m ih =>
    rw [bsub_succ, ih (by omega), ← bsub_row D hD ⟨31 - m, by omega⟩ k m (le_refl _) (by omega), sub_sub]
    congr 1
    rw [← Finset.sum_erase_add _ _ (Finset.mem_univ (⟨31 - m, by omega⟩ : Fin 32))]
    rw [← Finset.sum_erase_add (a := (⟨31 - m, by omega⟩ : Fin 32)) _ (fun j : Fin 32 => if 31 - (m + 1) < (j : ℕ) then D i j * bfin D j k else 0) (Finset.mem_univ _)]
    rw [if_neg (lt_irrefl _), if_pos (show 31 - (m + 1) < 31 - m by omega), add_zero]
    congr 1
    refine Finset.sum_congr rfl fun j hj => ?_
    have hne : (j : ℕ) ≠ 31 - m := fun e => (Finset.mem_erase.mp hj).1 (Fin.ext e)
    by_cases h : 31 - m < (j : ℕ)
    · rw [if_pos h, if_pos (by omega)]
    · rw [if_neg h, if_neg (by omega)]

/-- What the back substitution ends with solves the triangular system. -/
theorem bsub_solves (D : Fin 32 → Fin 32 → ℝ) (hD : ∀ i j, j ≤ i → D i j = 0) (i k : Fin 32) :
    bfin D i k + ∑ j, D i j * bfin D j k = if i = k then 1 else 0 := by
  have h := bsub_sum D hD i k 31 (le_refl _)
  rw [show bsub D 31 = bfin D from rfl] at h
  rw [h]
  have : ∑ j : Fin 32, (if 31 - 31 < (j : ℕ) then D i j * bfin D j k else 0) = ∑ j, D i j * bfin D j k := by
    refine Finset.sum_congr rfl fun j _ => ?_
    by_cases h : 31 - 31 < (j : ℕ)
    · rw [if_pos h]
    · rw [if_neg h, hD i j (by rw [Fin.le_def]; omega), zero_mul]
  rw [this]; ring

/-- Low and high half of the 64 positions. -/
abbrev lo (i : Fin 32) : Fin 64 := ⟨i, by omega⟩
abbrev hi (i : Fin 32) : Fin 64 := ⟨i + 32, by omega⟩

theorem sum_halves {M : Type*} [AddCommMonoid M] (f : Fin 64 → M) : ∑ t, f t = ∑ i, f (lo i) + ∑ i, f (hi i) := by
  rw [show (∑ t, f t) = ∑ t : Fin (32 + 32), f t from rfl, Fin.sum_univ_add]
  congr 1
theorem half_cases {P : Fin 64 → Prop} (hl : ∀ i, P (lo i)) (hh : ∀ i, P (hi i)) (t : Fin 64) : P t := by
  by_cases h : (t : ℕ) < 32
  · exact hl ⟨t, h⟩
  · have := hh ⟨t - 32, by omega⟩
    rwa [show hi ⟨(t : ℕ) - 32, by omega⟩ = t from Fin.ext (by show (t : ℕ) - 32 + 32 = t; omega)] at this

/-- The two diagonal blocks of a 64 by 64 matrix solved apart and joined. -/
def blockInv (U : Matrix (Fin 64) (Fin 64) ℝ) : Matrix (Fin 64) (Fin 64) ℝ := fun t s =>
  let r1 := bfin (fun i j => U (lo i) (lo j))
  let r2 := bfin (fun i j => U (hi i) (hi j))
  if ht : (t : ℕ) < 32 then
    if hs : (s : ℕ) < 32 then r1 ⟨t, ht⟩ ⟨s, hs⟩
    else -∑ k, r1 ⟨t, ht⟩ k * ∑ l, U (lo k) (hi l) * r2 l ⟨s - 32, by omega⟩
  else if hs : (s : ℕ) < 32 then 0 else r2 ⟨t - 32, by omega⟩ ⟨s - 32, by omega⟩

theorem blockInv_ll (U : Matrix (Fin 64) (Fin 64) ℝ) (i j : Fin 32) :
    blockInv U (lo i) (lo j) = bfin (fun i j => U (lo i) (lo j)) i j := by simp [blockInv]
theorem blockInv_lh (U : Matrix (Fin 64) (Fin 64) ℝ) (i j : Fin 32) :
    blockInv U (lo i) (hi j) = -∑ k, bfin (fun i j => U (lo i) (lo j)) i k * ∑ l, U (lo k) (hi l) * bfin (fun i j => U (hi i) (hi j)) l j := by
  simp [blockInv]
theorem blockInv_hl (U : Matrix (Fin 64) (Fin 64) ℝ) (i j : Fin 32) : blockInv U (hi i) (lo j) = 0 := by simp [blockInv]
theorem blockInv_hh (U : Matrix (Fin 64) (Fin 64) ℝ) (i j : Fin 32) :
    blockInv U (hi i) (hi j) = bfin (fun i j => U (hi i) (hi j)) i j := by simp [blockInv]

/-- The joined blocks are the inverse of the identity plus the strictly upper triangular matrix. -/
theorem blockInv_solves (U : Matrix (Fin 64) (Fin 64) ℝ) (hU : ∀ i j, j ≤ i → U i j = 0) : (1 + U) * blockInv U = 1 := by
  have h1 : ∀ i j : Fin 32, j ≤ i → (fun i j => U (lo i) (lo j)) i j = 0 := fun i j h => hU _ _ h
  have h2 : ∀ i j : Fin 32, j ≤ i → (fun i j => U (hi i) (hi j)) i j = 0 := fun i j h => hU _ _ (by rw [Fin.le_def] at h ⊢; show (j : ℕ) + 32 ≤ i + 32; omega)
  have h3 : ∀ i j : Fin 32, U (hi i) (lo j) = 0 := fun i j => hU _ _ (by rw [Fin.le_def]; show (j : ℕ) ≤ i + 32; omega)
  have el : ∀ i j : Fin 32, ((lo i : Fin 64) = lo j) = (i = j) := fun i j => by simp [Fin.ext_iff]
  have eh : ∀ i j : Fin 32, ((hi i : Fin 64) = hi j) = (i = j) := fun i j => by simp [Fin.ext_iff]
  rw [add_mul, one_mul]
  ext t s
  rw [Matrix.add_apply, Matrix.mul_apply, sum_halves, Matrix.one_apply]
  refine half_cases (P := fun t => blockInv U t s + (∑ i, U t (lo i) * blockInv U (lo i) s + ∑ i, U t (hi i) * blockInv U (hi i) s) = if t = s then 1 else 0) ?_ ?_ t
  · intro i
    refine half_cases (P := fun s => blockInv U (lo i) s + (∑ k, U (lo i) (lo k) * blockInv U (lo k) s + ∑ k, U (lo i) (hi k) * blockInv U (hi k) s) = if lo i = s then 1 else 0) ?_ ?_ s
    · intro j
      simp only [blockInv_ll, blockInv_hl, mul_zero, Finset.sum_const_zero, add_zero, el]
      exact bsub_solves _ h1 i j
    · intro j
      simp only [blockInv_lh, blockInv_hh]
      rw [if_neg (by intro e; have := congrArg Fin.val e; simp at this; omega)]
      set z : Fin 32 → ℝ := fun k => ∑ l, U (lo k) (hi l) * bfin (fun i j => U (hi i) (hi j)) l j with hz
      have hs : ∀ a : Fin 32, ∑ k, bfin (fun i j => U (lo i) (lo j)) a k * z k + ∑ b, U (lo a) (lo b) * ∑ k, bfin (fun i j => U (lo i) (lo j)) b k * z k = z a := by
        intro a
        simp only [Finset.mul_sum]
        rw [Finset.sum_comm, ← Finset.sum_add_distrib]
        have : ∀ k, bfin (fun i j => U (lo i) (lo j)) a k * z k + ∑ b, U (lo a) (lo b) * (bfin (fun i j => U (lo i) (lo j)) b k * z k) = (if a = k then 1 else 0) * z k := by
          intro k
          rw [← bsub_solves _ h1 a k, add_mul, Finset.sum_mul]
          simp only [mul_assoc]
        simp only [this, ite_mul, one_mul, zero_mul, Finset.sum_ite_eq, Finset.mem_univ, if_true]
      have := hs i
      simp only [mul_neg, Finset.sum_neg_distrib]
      have hz' : ∑ k, U (lo i) (hi k) * bfin (fun i j => U (hi i) (hi j)) k j = z i := rfl
      rw [hz']
      linarith
  · intro i
    refine half_cases (P := fun s => blockInv U (hi i) s + (∑ k, U (hi i) (lo k) * blockInv U (lo k) s + ∑ k, U (hi i) (hi k) * blockInv U (hi k) s) = if hi i = s then 1 else 0) ?_ ?_ s
    · intro j
      simp only [blockInv_hl, h3, mul_zero, zero_mul, Finset.sum_const_zero, add_zero]
      rw [if_neg (by intro e; have := congrArg Fin.val e; simp at this; omega)]
    · intro j
      simp only [blockInv_hh, h3, zero_mul, Finset.sum_const_zero, zero_add, eh]
      exact bsub_solves _ h2 i j

/-- Two one-sided inverses of a matrix and of its transpose are each other's transpose. -/
theorem inv_transpose (A T R : Matrix (Fin 64) (Fin 64) ℝ) (hT : T * (1 + A) = 1) (hR : (1 + Aᵀ) * R = 1) : R = Tᵀ := by
  have h : Tᵀ = R := by
    have h2 : (1 + Aᵀ) * Tᵀ = 1 := by
      have := congrArg Matrix.transpose hT
      rwa [Matrix.transpose_mul, Matrix.transpose_add, Matrix.transpose_one] at this
    have h3 : R * (1 + Aᵀ) = 1 := mul_eq_one_comm.mp hR
    calc Tᵀ = (R * (1 + Aᵀ)) * Tᵀ := by rw [h3, one_mul]
      _ = R := by rw [mul_assoc, h2, mul_one]
  exact h.symm

end Cert.Hand
-- ==== Proof.Hand.Vals.lean ====
module

public import proofs.«01_k».proof.Proof.Hand.Ints
public import proofs.«01_k».proof.Proof.Hand.Math
public import Idealize.ShloMosaic.Lib.IdealHost

/-! The stages of a chunk, read at an index over the extended reals, when what they are given is real. -/

@[expose] public section

set_option maxRecDepth 16384

noncomputable section

namespace Cert.Hand

open Idealize.ShloMosaic Idealize.SL.Sem Cert.KernelIdeal Cert.KernelIdeal.Facts₀

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem coe_ite (p : Prop) [Decidable p] (a b : ℝ) : ((if p then a else b : ℝ) : EReal) = if p then (a : EReal) else b := by
  split <;> rfl

/-! ## The running sum -/

/-- The last `n` terms up to `t`. -/
def lastSum (G : ℕ → ℝ) (n t : ℕ) : ℝ := ∑ i ∈ Finset.range n, if i ≤ t then G (t - i) else 0

theorem lastSum_double (G : ℕ → ℝ) (n t : ℕ) :
    lastSum G (n + n) t = lastSum G n t + if t < n then 0 else lastSum G n (t - n) := by
  unfold lastSum
  rw [Finset.sum_range_add]
  congr 1
  split
  · refine Finset.sum_eq_zero fun i _ => ?_
    rw [if_neg (by omega)]
  · refine Finset.sum_congr rfl fun i _ => ?_
    by_cases h : n + i ≤ t
    · rw [if_pos h, if_pos (by omega), show t - (n + i) = t - n - i by omega]
    · rw [if_neg h, if_neg (by omega)]

theorem lastSum_all (G : ℕ → ℝ) (n t : ℕ) (h : t < n) : lastSum G n t = ∑ s ∈ Finset.range n, if s ≤ t then G s else 0 := by
  unfold lastSum
  have e : ∀ f : ℕ → ℝ, (∑ i ∈ Finset.range n, if i ≤ t then f i else 0) = ∑ i ∈ Finset.range (t + 1), f i := by
    intro f
    rw [← Finset.sum_filter]
    congr 1
    ext i; simp; omega
  rw [e (fun i => G (t - i)), e G, ← Finset.sum_range_reflect]
  refine Finset.sum_congr rfl fun i hi => ?_
  simp at hi
  congr 1
  omega

theorem cs1_apply (a : FVec Ideal S64x128 .f32) (t : Fin 64) (c : Fin 128) :
    cs1 a (ix2 t c) = a (ix2 t c) + if h : t.val < 1 then 0 else a (ix2 ⟨t.val - 1, by omega⟩ c) := by
  pointwise [cs1]

theorem cs2_apply (a : FVec Ideal S64x128 .f32) (t : Fin 64) (c : Fin 128) :
    cs2 a (ix2 t c) = a (ix2 t c) + if h : t.val < 2 then 0 else a (ix2 ⟨t.val - 2, by omega⟩ c) := by
  pointwise [cs2]

theorem cs4_apply (a : FVec Ideal S64x128 .f32) (t : Fin 64) (c : Fin 128) :
    cs4 a (ix2 t c) = a (ix2 t c) + if h : t.val < 4 then 0 else a (ix2 ⟨t.val - 4, by omega⟩ c) := by
  pointwise [cs4]

theorem cs8_apply (a : FVec Ideal S64x128 .f32) (t : Fin 64) (c : Fin 128) :
    cs8 a (ix2 t c) = a (ix2 t c) + if h : t.val < 8 then 0 else a (ix2 ⟨t.val - 8, by omega⟩ c) := by
  pointwise [cs8]

theorem cs16_apply (a : FVec Ideal S64x128 .f32) (t : Fin 64) (c : Fin 128) :
    cs16 a (ix2 t c) = a (ix2 t c) + if h : t.val < 16 then 0 else a (ix2 ⟨t.val - 16, by omega⟩ c) := by
  pointwise [cs16]

theorem cs32_apply (a : FVec Ideal S64x128 .f32) (t : Fin 64) (c : Fin 128) :
    cs32 a (ix2 t c) = a (ix2 t c) + if h : t.val < 32 then 0 else a (ix2 ⟨t.val - 32, by omega⟩ c) := by
  pointwise [cs32]

theorem double_step (a b : FVec Ideal S64x128 .f32) (G : Fin 128 → ℕ → ℝ) (n m : ℕ) (hm : m = n + n)
    (hb : ∀ (t : Fin 64) (c : Fin 128), b (ix2 t c) = a (ix2 t c) + if h : t.val < n then 0 else a (ix2 ⟨t.val - n, by omega⟩ c))
    (ha : ∀ (t : Fin 64) (c : Fin 128), a (ix2 t c) = ((lastSum (G c) n t : ℝ) : EReal)) (t : Fin 64) (c : Fin 128) :
    b (ix2 t c) = ((lastSum (G c) m t : ℝ) : EReal) := by
  subst hm
  rw [hb, lastSum_double, ha, EReal.coe_add]
  congr 1
  split
  · rfl
  · rw [ha]

/-- The running sum down the rows. -/
def cum (G : Fin 64 → Fin 128 → ℝ) (t : Fin 64) (c : Fin 128) : ℝ := ∑ s : Fin 64, if s ≤ t then G s c else 0

theorem gcum_apply (g : Vec Ideal S1x1x64x128 .f32) (G : Fin 64 → Fin 128 → ℝ)
    (hg : ∀ t c, g (ix4 0 0 t c) = ((G t c : ℝ) : EReal)) (t : Fin 64) (c : Fin 128) :
    gcum g (ix2 t c) = ((cum G t c : ℝ) : EReal) := by
  let Gn : Fin 128 → ℕ → ℝ := fun c s => if h : s < 64 then G ⟨s, h⟩ c else 0
  have h0 : ∀ (t : Fin 64) (c : Fin 128), (shapeCast S64x128 g shapeCasts_S1x1x64x128_S64x128 : FVec Ideal S64x128 .f32) (ix2 t c)
      = ((lastSum (Gn c) 1 t : ℝ) : EReal) := by
    intro t c
    pointwise
    rw [hg]
    simp [lastSum, Gn]
  have h1 := double_step _ _ Gn 1 2 rfl (cs1_apply _) h0
  have h2 := double_step _ _ Gn 2 4 rfl (cs2_apply _) h1
  have h3 := double_step _ _ Gn 4 8 rfl (cs4_apply _) h2
  have h4 := double_step _ _ Gn 8 16 rfl (cs8_apply _) h3
  have h5 := double_step _ _ Gn 16 32 rfl (cs16_apply _) h4
  have h6 := double_step _ _ Gn 32 64 rfl (cs32_apply _) h5
  rw [gcum, h6, lastSum_all _ _ _ t.isLt, ← Fin.sum_univ_eq_sum_range (fun s => if s ≤ t.val then Gn c s else 0) 64]
  congr 1

/-! ## Decayed codes -/

theorem xpos_apply (k : Vec Ideal S1x1x64x128 .fp8e4m3) (gc : FVec Ideal S64x128 .f32) (K G : Fin 64 → Fin 128 → ℝ)
    (hk : ∀ t c, k (ix4 0 0 t c) = ((K t c : ℝ) : EReal)) (hg : ∀ t c, gc (ix2 t c) = ((G t c : ℝ) : EReal)) (t : Fin 64) (c : Fin 128) :
    xpos k gc (ix2 t c) = ((K t c * Real.exp (G t c) : ℝ) : EReal) := by
  pointwise [xpos, codes, hk, hg]
  rw [Ideal.exp_coe, ← EReal.coe_mul]

theorem xneg_apply (k : Vec Ideal S1x1x64x128 .fp8e4m3) (gc : FVec Ideal S64x128 .f32) (K G : Fin 64 → Fin 128 → ℝ)
    (hk : ∀ t c, k (ix4 0 0 t c) = ((K t c : ℝ) : EReal)) (hg : ∀ t c, gc (ix2 t c) = ((G t c : ℝ) : EReal)) (t : Fin 64) (c : Fin 128) :
    xneg k gc (ix2 t c) = ((K t c * Real.exp (-G t c) : ℝ) : EReal) := by
  pointwise [xneg, codes, hk, hg]
  rw [← EReal.coe_zero, ← EReal.coe_sub, Ideal.exp_coe, ← EReal.coe_mul, zero_sub]

theorem glast_apply (gc : FVec Ideal S64x128 .f32) (z : Fin 1) (c : Fin 128) : glast gc (ix2 z c) = gc (ix2 63 c) := by
  pointwise [glast]

theorem xdec_apply (k : Vec Ideal S1x1x64x128 .fp8e4m3) (gc : FVec Ideal S64x128 .f32) (K G : Fin 64 → Fin 128 → ℝ)
    (hk : ∀ t c, k (ix4 0 0 t c) = ((K t c : ℝ) : EReal)) (hg : ∀ t c, gc (ix2 t c) = ((G t c : ℝ) : EReal)) (t : Fin 64) (c : Fin 128) :
    xdec k gc (ix2 t c) = ((K t c * Real.exp (G 63 c - G t c) : ℝ) : EReal) := by
  pointwise [xdec, codes, hk, hg, glast_apply]
  rw [← EReal.coe_sub, Ideal.exp_coe, ← EReal.coe_mul]

end Cert.Hand

end
-- ==== Proof.Hand.Inverse.lean ====
module

public import proofs.«01_k».proof.Proof.Hand.Vals

/-! The inverse by back substitution, read at an index. -/

@[expose] public section

set_option maxRecDepth 16384

noncomputable section

namespace Cert.Hand

open Idealize.ShloMosaic Idealize.SL.Sem Cert.KernelIdeal Cert.KernelIdeal.Facts₀

/-- Column `k` of the block `b` of 32 columns. -/
def ql (b : Fin 4) (k : Fin 32) : Fin 128 := ⟨32 * b.val + k.val, by omega⟩

theorem eye_word : ∀ (i : Fin 4) (r : Fin 8) (b : Fin 4) (k : Fin 32),
    IntOp.cmpi .eq (BitVec.ofNat 32 ((ql b k).val % 32)) (BitVec.ofNat 32 (8 * i.val + r.val))
      = if (⟨8 * i.val + r.val, by omega⟩ : Fin 32) = k then 1#1 else 0#1 := by
  decide +kernel

theorem eye8_apply (i : Fin 4) (r : Fin 8) (b : Fin 4) (k : Fin 32) :
    (eye8 i : FVec Ideal S8x128 .f32) (ix2 r (ql b k)) = (((if (⟨8 * i.val + r.val, by omega⟩ : Fin 32) = k then 1 else 0 : ℝ)) : EReal) := by
  pointwise [eye8, modLane_apply, row_apply]
  rw [eye_word]
  split <;> simp [Scalar.select]

theorem gather_word : ∀ (b : Fin 4) (k j : Fin 32),
    (⟨(BitVec.ofNat 32 (32 * ((ql b k).val / 32) + j.val)).toNat % 128, Nat.mod_lt _ (by omega)⟩ : Fin 128) = ql b j := by
  decide +kernel

theorem elim_apply (d r : FVec Ideal S8x128 .f32) (j : Fin 32) (rj : FVec Ideal S1x128 .f32) (a : Fin 8) (b : Fin 4) (k : Fin 32) :
    elim d r (BitVec.ofNat 32 j.val) rj (ix2 a (ql b k)) = r (ix2 a (ql b k)) - d (ix2 a (ql b j)) * rj (ix2 0 (ql b k)) := by
  pointwise [elim, gidx_apply]
  rw [gather_word]

theorem backSub_apply (d : FVec Ideal S32x128 .f32) (D : Fin 4 → Fin 32 → Fin 32 → ℝ)
    (hd : ∀ b i j, d (ix2 i (ql b j)) = ((D b i j : ℝ) : EReal)) (hD : ∀ b i j, j ≤ i → D b i j = 0) (n : ℕ) (hn : n ≤ 31) :
    ∀ (i : Fin 4) (r : Fin 8) (b : Fin 4) (k : Fin 32),
      backSub d n i (ix2 r (ql b k)) = ((bsub (D b) n ⟨8 * i.val + r.val, by omega⟩ k : ℝ) : EReal) := by
  induction n with
  | zero =>
    intro i r b k
    rw [backSub, eye8_apply, bsub_zero]
  | succ n ih =>
    intro i r b k
    have ih := ih (by omega)
    rw [bsub_succ, backSub]
    dsimp only
    split
    · have e := elim_apply (extractStridedSlice S8x128 ![8 * i.val, 0] d (slices_group i)) (backSub d n i) ⟨31 - n, by omega⟩
        (extractStridedSlice S1x128 ![(31 - n) % 8, 0] (backSub d n ⟨(31 - n) / 8, by omega⟩)
          (slices_rowOf ⟨(31 - n) % 8, by omega⟩)) r b k
      rw [e, ih]
      have e1 : (extractStridedSlice S8x128 ![8 * i.val, 0] d (slices_group i) : FVec Ideal S8x128 .f32) (ix2 r (ql b ⟨31 - n, by omega⟩))
          = d (ix2 ⟨8 * i.val + r.val, by omega⟩ (ql b ⟨31 - n, by omega⟩)) := by
        pointwise
      have e2 : (extractStridedSlice S1x128 ![(31 - n) % 8, 0] (backSub d n ⟨(31 - n) / 8, by omega⟩)
          (slices_rowOf ⟨(31 - n) % 8, by omega⟩) : FVec Ideal S1x128 .f32) (ix2 0 (ql b k))
          = backSub d n ⟨(31 - n) / 8, by omega⟩ (ix2 ⟨(31 - n) % 8, by omega⟩ (ql b k)) := by
        pointwise
      have e3 : (⟨8 * ((31 - n) / 8) + (31 - n) % 8, by omega⟩ : Fin 32) = ⟨31 - n, by omega⟩ := by
        ext; show 8 * ((31 - n) / 8) + (31 - n) % 8 = 31 - n; omega
      rw [e1, e2, hd, ih, ← EReal.coe_mul, ← EReal.coe_sub, e3]
    · rename_i h
      rw [ih, hD b _ _ (by rw [Fin.le_def]; show 31 - n ≤ 8 * i.val + r.val; omega), zero_mul, sub_zero]

theorem rc_apply (d : FVec Ideal S32x128 .f32) (D : Fin 4 → Fin 32 → Fin 32 → ℝ)
    (hd : ∀ b i j, d (ix2 i (ql b j)) = ((D b i j : ℝ) : EReal)) (hD : ∀ b i j, j ≤ i → D b i j = 0)
    (i : Fin 32) (b : Fin 4) (k : Fin 32) : rc d (ix2 i (ql b k)) = ((bfin (D b) i k : ℝ) : EReal) := by
  have h := backSub_apply d D hd hD 31 (le_refl _)
  pointwise [rc, h]
  simp only [bfin]
  split
  · rfl
  split
  · congr 2; ext; show 8 + (i.val - 8) = i.val; omega
  split
  · congr 2; ext; show 16 + (i.val - 8 - 8) = i.val; omega
  · congr 2; ext; show 24 + (i.val - 8 - 8 - 8) = i.val; omega

theorem sum_ql {M : Type*} [AddCommMonoid M] (f : Fin 128 → M) : ∑ x, f x = ∑ b : Fin 4, ∑ k : Fin 32, f (ql b k) := by
  rw [← Fintype.sum_prod_type' (fun b k => f (ql b k)), ← Equiv.sum_comp (finProdFinEquiv (m := 4) (n := 32)) f]
  refine Finset.sum_congr rfl fun x _ => congrArg f ?_
  ext; show x.2.val + 32 * x.1.val = 32 * x.1.val + x.2.val; omega

theorem mm32_apply (a : FVec Ideal S32x128 .f32) (b : FVec Ideal S128x128 .f32) (i : Fin 32) (q : Fin 128) :
    mm32 a b (ix2 i q) = ∑ e : Fin 4, ∑ l : Fin 32, a (ix2 i (ql e l)) * b (ix2 (ql e l) q) := by
  rw [← sum_ql fun x => a (ix2 i x) * b (ix2 x q)]
  pointwise [mm32]

theorem stack4_apply (a b c d : FVec Ideal S32x128 .f32) (l : Fin 32) (q : Fin 128) :
    stack4 a b c d (ix2 (ql 0 l) q) = a (ix2 l q) ∧ stack4 a b c d (ix2 (ql 1 l) q) = b (ix2 l q)
      ∧ stack4 a b c d (ix2 (ql 2 l) q) = c (ix2 l q) ∧ stack4 a b c d (ix2 (ql 3 l) q) = d (ix2 l q) := by
  refine ⟨?_, ?_, ?_, ?_⟩ <;> pointwise [stack4, ql]
  · rw [dif_neg (by omega), dif_neg (by omega), dif_pos (by omega)]
    congr 2; ext; show 64 + l.val - 32 - 32 = l.val; omega
  · rw [dif_neg (by omega), dif_neg (by omega), dif_neg (by omega)]
    congr 2; ext; show 96 + l.val - 32 - 32 - 32 = l.val; omega

theorem only_word : ∀ (n b : Fin 4) (k : Fin 32),
    IntOp.cmpi .eq (BitVec.ofNat 32 ((ql b k).val / 32)) (BitVec.ofNat 32 n.val) = if b = n then 1#1 else 0#1 := by
  decide +kernel

theorem only_apply (n : Fin 4) (x : FVec Ideal S32x128 .f32) (l : Fin 32) (b : Fin 4) (k : Fin 32) :
    only (BitVec.ofNat 32 n.val) x (ix2 l (ql b k)) = if b = n then x (ix2 l (ql b k)) else 0 := by
  pointwise [only, z32, blk_apply]
  rw [only_word]
  split <;> simp [Scalar.select]

theorem blk0_ql (l : Fin 32) (b : Fin 4) (k : Fin 32) : blk0 (ix2 l (ql b k)) = if b = 0 ∨ b = 2 then 1#1 else 0#1 := by
  rw [blk0_apply]
  revert b k
  decide +kernel

theorem z32_apply (l : Fin 32) (q : Fin 128) : (z32 : FVec Ideal S32x128 .f32) (ix2 l q) = 0 := by
  pointwise [z32]

theorem select_ql (a c : FVec Ideal S32x128 .f32) (l : Fin 32) (b : Fin 4) (k : Fin 32) :
    select blk0 a c (ix2 l (ql b k)) = if b = 0 ∨ b = 2 then a (ix2 l (ql b k)) else c (ix2 l (ql b k)) := by
  show Scalar.select (blk0 (ix2 l (ql b k))) _ _ = _
  rw [blk0_ql]
  split <;> simp [Scalar.select]

theorem top_apply (u : FVec Ideal S64x128 .f32) (i : Fin 32) (q : Fin 128) :
    extractStridedSlice S32x128 ![0, 0] u slices_S64x128_o0_0_S32x128 (ix2 i q) = u (ix2 (lo i) q) := by
  pointwise [lo]

theorem bottom_apply (u : FVec Ideal S64x128 .f32) (i : Fin 32) (q : Fin 128) :
    extractStridedSlice S32x128 ![32, 0] u slices_S64x128_o32_0_S32x128 (ix2 i q) = u (ix2 (hi i) q) := by
  pointwise [hi]
  congr 2; ext; exact Nat.add_comm _ _

theorem dBlk_apply (u : FVec Ideal S64x128 .f32) (i : Fin 32) (b : Fin 4) (j : Fin 32) :
    dBlk u (ix2 i (ql b j)) = if b = 0 ∨ b = 2 then u (ix2 (lo i) (ql b j)) else u (ix2 (hi i) (ql b j)) := by
  rw [dBlk, select_ql, top_apply, bottom_apply]

theorem z_apply (u : FVec Ideal S64x128 .f32) (r : FVec Ideal S32x128 .f32) (i : Fin 32) (k : Fin 32) :
    zMat u r (ix2 i (ql 1 k)) = ∑ l : Fin 32, u (ix2 (lo i) (ql 1 l)) * r (ix2 l (ql 1 k))
      ∧ zMat u r (ix2 i (ql 3 k)) = ∑ l : Fin 32, u (ix2 (lo i) (ql 3 l)) * r (ix2 l (ql 3 k)) := by
  have h1 : ∀ l b k, only 1#32 r (ix2 l (ql b k)) = if b = 1 then r (ix2 l (ql b k)) else 0 := only_apply 1 r
  have h3 : ∀ l b k, only 3#32 r (ix2 l (ql b k)) = if b = 3 then r (ix2 l (ql b k)) else 0 := only_apply 3 r
  constructor <;>
  · rw [zMat, mm32_apply, Fin.sum_univ_four]
    simp [select_ql, stack4_apply, z32_apply, top_apply, h1, h3]

theorem r12_apply (r z : FVec Ideal S32x128 .f32) (i : Fin 32) (k : Fin 32) :
    r12 r z (ix2 i (ql 1 k)) = ∑ l : Fin 32, r (ix2 i (ql 0 l)) * z (ix2 l (ql 1 k))
      ∧ r12 r z (ix2 i (ql 3 k)) = ∑ l : Fin 32, r (ix2 i (ql 2 l)) * z (ix2 l (ql 3 k)) := by
  have h1 : ∀ l b k, only 1#32 z (ix2 l (ql b k)) = if b = 1 then z (ix2 l (ql b k)) else 0 := only_apply 1 z
  have h3 : ∀ l b k, only 3#32 z (ix2 l (ql b k)) = if b = 3 then z (ix2 l (ql b k)) else 0 := only_apply 3 z
  constructor <;>
  · rw [r12, mm32_apply, Fin.sum_univ_four]
    simp [select_ql, stack4_apply, z32_apply, h1, h3]

theorem rInv_apply (r s : FVec Ideal S32x128 .f32) (i : Fin 32) (b : Fin 4) (k : Fin 32) :
    rInv r s (ix2 (lo i) (ql b k)) = (if b = 0 ∨ b = 2 then r (ix2 i (ql b k)) else - s (ix2 i (ql b k)))
      ∧ rInv r s (ix2 (hi i) (ql b k)) = (if b = 0 ∨ b = 2 then 0 else r (ix2 i (ql b k))) := by
  have e1 : rInv r s (ix2 (lo i) (ql b k)) = select blk0 r (subf z32 s) (ix2 i (ql b k)) := by
    pointwise [rInv, lo]
  have e2 : rInv r s (ix2 (hi i) (ql b k)) = select blk0 z32 r (ix2 i (ql b k)) := by
    pointwise [rInv, hi]
    rw [dif_neg (by omega)]
    simp only [Nat.add_sub_cancel, Fin.eta]
  rw [e1, e2, select_ql, select_ql, z32_apply]
  refine ⟨?_, rfl⟩
  split
  · rfl
  · show z32 (ix2 i (ql b k)) - s (ix2 i (ql b k)) = _
    rw [z32_apply, zero_sub]

/-- Lane `s` of the half `h`. -/
def hl (h : Fin 2) (s : Fin 64) : Fin 128 := ⟨64 * h.val + s.val, by omega⟩

/-- The block of 32 columns that is half `e` of half `h`. -/
def bq (h e : Fin 2) : Fin 4 := ⟨2 * h.val + e.val, by omega⟩

theorem hl_lo (h : Fin 2) (j : Fin 32) : hl h (lo j) = ql (bq h 0) j := by
  ext; show 64 * h.val + j.val = 32 * (2 * h.val + 0) + j.val; omega

theorem hl_hi (h : Fin 2) (j : Fin 32) : hl h (hi j) = ql (bq h 1) j := by
  ext; show 64 * h.val + (j.val + 32) = 32 * (2 * h.val + 1) + j.val; omega

/-- Of two strictly upper triangular matrices side by side: the two inverses of the identity plus each. -/
theorem inverse_apply (u : FVec Ideal S64x128 .f32) (U : Fin 2 → Matrix (Fin 64) (Fin 64) ℝ)
    (hu : ∀ h t s, u (ix2 t (hl h s)) = ((U h t s : ℝ) : EReal)) (hU : ∀ h t s, s ≤ t → U h t s = 0)
    (h : Fin 2) (t s : Fin 64) : inverse u (ix2 t (hl h s)) = ((blockInv (U h) t s : ℝ) : EReal) := by
  let D : Fin 4 → Fin 32 → Fin 32 → ℝ := fun b i j =>
    ![U 0 (lo i) (lo j), U 0 (hi i) (hi j), U 1 (lo i) (lo j), U 1 (hi i) (hi j)] b
  have hll : ∀ h i j, u (ix2 (lo i) (ql (bq h 0) j)) = ((U h (lo i) (lo j) : ℝ) : EReal) := fun h i j => by rw [← hl_lo, hu]
  have hlh : ∀ h i j, u (ix2 (lo i) (ql (bq h 1) j)) = ((U h (lo i) (hi j) : ℝ) : EReal) := fun h i j => by rw [← hl_hi, hu]
  have hhh : ∀ h i j, u (ix2 (hi i) (ql (bq h 1) j)) = ((U h (hi i) (hi j) : ℝ) : EReal) := fun h i j => by rw [← hl_hi, hu]
  have hlo : ∀ i j : Fin 32, j ≤ i → lo j ≤ lo i := fun i j h => h
  have hhi : ∀ i j : Fin 32, j ≤ i → hi j ≤ hi i := fun i j h => by
    rw [Fin.le_def] at h ⊢; show j.val + 32 ≤ i.val + 32; omega
  have hd : ∀ b i j, dBlk u (ix2 i (ql b j)) = ((D b i j : ℝ) : EReal) := by
    intro b i j
    rw [dBlk_apply]
    fin_cases b
    · exact hll 0 i j
    · exact hhh 0 i j
    · exact hll 1 i j
    · exact hhh 1 i j
  have hD : ∀ b i j, j ≤ i → D b i j = 0 := by
    intro b i j hij
    fin_cases b
    · exact hU 0 _ _ (hlo _ _ hij)
    · exact hU 0 _ _ (hhi _ _ hij)
    · exact hU 1 _ _ (hlo _ _ hij)
    · exact hU 1 _ _ (hhi _ _ hij)
  have hr := rc_apply (dBlk u) D hd hD
  have e12 : ∀ (h : Fin 2) i k, r12 (rc (dBlk u)) (zMat u (rc (dBlk u))) (ix2 i (ql (bq h 1) k))
      = ((∑ l, bfin (fun i j => U h (lo i) (lo j)) i l * ∑ m, U h (lo l) (hi m) * bfin (fun i j => U h (hi i) (hi j)) m k : ℝ) : EReal) := by
    intro h i k
    simp only [coe_sum, EReal.coe_mul]
    fin_cases h
    · refine (r12_apply _ _ i k).1.trans (Finset.sum_congr rfl fun l _ => ?_)
      rw [(z_apply _ _ l k).1, hr]
      simp only [hr]
      congr 1
      refine Finset.sum_congr rfl fun m _ => ?_
      exact congrArg₂ (· * ·) (hlh 0 l m) rfl
    · refine (r12_apply _ _ i k).2.trans (Finset.sum_congr rfl fun l _ => ?_)
      rw [(z_apply _ _ l k).2, hr]
      simp only [hr]
      congr 1
      refine Finset.sum_congr rfl fun m _ => ?_
      exact congrArg₂ (· * ·) (hlh 1 l m) rfl
  unfold inverse
  induction t using half_cases with
  | hl i =>
    induction s using half_cases with
    | hl j =>
      rw [hl_lo, (rInv_apply _ _ i _ j).1, blockInv_ll, hr]
      fin_cases h <;> rfl
    | hh j =>
      rw [hl_hi, (rInv_apply _ _ i _ j).1, blockInv_lh, e12, if_neg (by revert h; decide), EReal.coe_neg]
  | hh i =>
    induction s using half_cases with
    | hl j =>
      rw [hl_lo, (rInv_apply _ _ i _ j).2, blockInv_hl, if_pos (by revert h; decide)]
      rfl
    | hh j =>
      rw [hl_hi, (rInv_apply _ _ i _ j).2, blockInv_hh, hr]
      fin_cases h <;> rfl

end Cert.Hand

end
-- ==== Proof.Hand.Stages.lean ====
module

public import proofs.«01_k».proof.Proof.Hand.Inverse
public import proofs.«01_k».proof.Proof.Hand.Unit

/-! The matrix stages of a chunk, read at an index. -/

@[expose] public section

set_option maxRecDepth 16384

noncomputable section

namespace Cert.Hand

open Idealize.ShloMosaic Idealize.SL.Sem Cert.KernelIdeal Cert.KernelIdeal.Facts₀

/-- Column `l` of the half `w` of 256 columns. -/
def wl (w : Fin 2) (l : Fin 128) : Fin 256 := ⟨128 * w.val + l.val, by omega⟩

theorem sum_wl {M : Type*} [AddCommMonoid M] (f : Fin 256 → M) : ∑ x, f x = ∑ w : Fin 2, ∑ l : Fin 128, f (wl w l) := by
  rw [← Fintype.sum_prod_type' (fun w l => f (wl w l)), ← Equiv.sum_comp (finProdFinEquiv (m := 2) (n := 128)) f]
  refine Finset.sum_congr rfl fun x _ => congrArg f ?_
  ext; show x.2.val + 128 * x.1.val = 128 * x.1.val + x.2.val; omega

theorem sum_hl {M : Type*} [AddCommMonoid M] (f : Fin 128 → M) : ∑ x, f x = ∑ h : Fin 2, ∑ s : Fin 64, f (hl h s) := by
  rw [← Fintype.sum_prod_type' (fun h s => f (hl h s)), ← Equiv.sum_comp (finProdFinEquiv (m := 2) (n := 64)) f]
  refine Finset.sum_congr rfl fun x _ => congrArg f ?_
  ext; show x.2.val + 64 * x.1.val = 64 * x.1.val + x.2.val; omega

theorem wide_apply (a b : FVec Ideal S64x128 .bf16) (t : Fin 64) (h : Fin 2) (c : Fin 128) :
    wide a b (ix2 t (wl h c)) = if h = 0 then a (ix2 t c) else b (ix2 t c) := by
  fin_cases h <;> pointwise [wide, wl]

theorem wide160_apply (a b : FVec Ideal S160x128 .bf16) (t : Fin 160) (h : Fin 2) (c : Fin 128) :
    wide160 a b (ix2 t (wl h c)) = if h = 0 then a (ix2 t c) else b (ix2 t c) := by
  fin_cases h <;> pointwise [wide160, wl]

theorem zk_apply (t : Fin 64) (c : Fin 128) : (zk : FVec Ideal S64x128 .bf16) (ix2 t c) = 0 := by
  pointwise [zk]

theorem kqMat_rows (kx ky qx qy : FVec Ideal S64x128 .bf16) (w h : Fin 2) (s : Fin 64) (q : Fin 256) :
    kqMat kx ky qx qy (ix2 (wl w (hl h s)) q)
      = if w = 0 then (if h = 0 then wide kx zk (ix2 s q) else wide zk ky (ix2 s q))
        else (if h = 0 then wide qx zk (ix2 s q) else wide zk qy (ix2 s q)) := by
  fin_cases w <;> fin_cases h <;> pointwise [kqMat, wl, hl]
  · rw [dif_neg (by omega), dif_neg (by omega), dif_pos (by omega)]
    congr 2; ext; show 128 + s.val - 64 - 64 = s.val; omega
  · rw [dif_neg (by omega), dif_neg (by omega), dif_neg (by omega)]
    congr 2; ext; show 128 + (64 + s.val) - 64 - 64 - 64 = s.val; omega

theorem kdMat_rows (dx dy : FVec Ideal S64x128 .bf16) (h : Fin 2) (s : Fin 64) (q : Fin 256) :
    kdMat dx dy (ix2 (hl h s) q) = if h = 0 then wide dx zk (ix2 s q) else wide zk dy (ix2 s q) := by
  fin_cases h <;> pointwise [kdMat, hl]

theorem lom_word : ∀ l : Fin 128, IntOp.cmpi .slt (BitVec.ofNat 32 l.val) 64#32 = if l.val < 64 then 1#1 else 0#1 := by
  decide +kernel

theorem bdiag_rows (r : FVec Ideal S64x128 .f32) (h' h : Fin 2) (t s : Fin 64) :
    bdiag r (ix2 (hl h' t) (hl h s)) = if h' = h then r (ix2 t (hl h s)) else 0 := by
  fin_cases h' <;> fin_cases h <;> pointwise [bdiag, hl, lane_apply]
  · rw [lom_word ⟨s.val, by omega⟩, if_pos s.isLt]; rfl
  · rw [lom_word ⟨64 + s.val, by omega⟩, if_neg (by show ¬ 64 + s.val < 64; omega)]; rfl
  · rw [lom_word ⟨s.val, by omega⟩, if_pos s.isLt]; rfl
  · rw [lom_word ⟨64 + s.val, by omega⟩, if_neg (by show ¬ 64 + s.val < 64; omega)]; rfl

theorem mm128_apply (a : FVec Ideal S160x128 .f32) (b : FVec Ideal S128x128 .f32) (i : Fin 160) (q : Fin 128) :
    mm128 a b (ix2 i q) = ∑ x : Fin 128, a (ix2 i x) * b (ix2 x q) := by
  pointwise [mm128]

theorem mmUpd_apply (a : FVec Ideal S160x128 .bf16) (b : FVec Ideal S128x256 .bf16) (i : Fin 160) (q : Fin 256) :
    mmUpd a b (ix2 i q) = ∑ x : Fin 128, a (ix2 i x) * b (ix2 x q) := by
  pointwise [mmUpd]

theorem mmNT_apply (a : FVec Ideal S160x256 .bf16) (b : FVec Ideal S256x256 .bf16) (i : Fin 160) (q : Fin 256) :
    mmNT a b (ix2 i q) = ∑ x : Fin 256, a (ix2 i x) * b (ix2 q x) := by
  pointwise [mmNT]

theorem aqMat_apply (nx ny : FVec Ideal S64x128 .bf16) (b : FVec Ideal S256x256 .bf16) (i : Fin 64) (q : Fin 256) :
    aqMat nx ny b (ix2 i q) = ∑ x : Fin 256, wide nx ny (ix2 i x) * b (ix2 q x) := by
  pointwise [aqMat]

theorem parts_apply (x : FVec Ideal S160x128 .f32) (i : Fin 160) (c : Fin 128) (r : ℝ) (hx : x (ix2 i c) = (r : EReal)) :
    part0 x (ix2 i c) = (r : EReal) ∧ part1 x (ix2 i c) = 0 ∧ part2 x (ix2 i c) = 0 := by
  refine ⟨?_, ?_, ?_⟩ <;> pointwise [part0, part1, part2, hi16, hx]
  · rw [← EReal.coe_sub, sub_self, EReal.coe_zero]
  · rw [← EReal.coe_sub, sub_self, ← EReal.coe_sub, sub_self, EReal.coe_zero]

theorem sgt_word : ∀ (h : Fin 2) (s t : Fin 64),
    IntOp.cmpi .sgt (BitVec.ofNat 32 ((hl h s).val % 64)) (BitVec.ofNat 32 t.val) = if t < s then 1#1 else 0#1 := by
  decide +kernel

theorem sge_word : ∀ (h : Fin 2) (s t : Fin 64),
    IntOp.cmpi .sge (BitVec.ofNat 32 ((hl h s).val % 64)) (BitVec.ofNat 32 t.val) = if t ≤ s then 1#1 else 0#1 := by
  decide +kernel

theorem uT_apply (aq : FVec Ideal S64x256 .f32) (ksv bv : FVec Ideal S1x128 .f32) (t : Fin 64) (h : Fin 2) (s : Fin 64) :
    uT aq ksv bv (ix2 t (hl h s)) = if t < s then aq (ix2 t (wl 0 (hl h s))) * (bv (ix2 0 (hl h s)) * (ksv (ix2 0 (hl h s)) * ksv (ix2 0 (hl h s)))) else 0 := by
  pointwise [uT, lane64_apply, row_apply, wl]
  rw [sgt_word]
  split <;> simp [Scalar.select]

theorem qkT_apply (aq : FVec Ideal S64x256 .f32) (t : Fin 64) (h : Fin 2) (s : Fin 64) :
    qkT aq (ix2 t (hl h s)) = if t ≤ s then aq (ix2 t (wl 1 (hl h s))) else 0 := by
  pointwise [qkT, lane64_apply, row_apply, wl]
  rw [sge_word]
  split <;> simp [Scalar.select]

theorem rrMat_apply (ksv bv : FVec Ideal S1x128 .f32) (vp : FVec Ideal S160x128 .f32) (xq : FVec Ideal S160x256 .f32) (v : Fin 160) (l : Fin 128) :
    rrMat ksv bv vp xq (ix2 v l) = (ksv (ix2 0 l) * bv (ix2 0 l)) * (vp (ix2 v l) - ksv (ix2 0 l) * xq (ix2 v (wl 0 l))) := by
  pointwise [rrMat, wl]

theorem oMat_apply (qsv : FVec Ideal S1x128 .f32) (xq : FVec Ideal S160x256 .f32) (u : FVec Ideal S160x128 .f32) (qk : FVec Ideal S64x128 .f32) (v : Fin 160) (l : Fin 128) :
    oMat qsv xq u qk (ix2 v l) = (Ideal.ofBits .f32 0x3DB504F3#32 * qsv (ix2 0 l)) * (xq (ix2 v (wl 1 l)) + mm128 u (bdiag qk) (ix2 v l)) := by
  pointwise [oMat, wl]

theorem newX_apply (s : FVec Ideal S160x128 .f32) (dec : FVec Ideal S1x128 .f32) (upd : FVec Ideal S160x256 .f32) (v : Fin 160) (c : Fin 128) :
    newX s dec upd (ix2 v c) = s (ix2 v c) * dec (ix2 0 c) + upd (ix2 v (wl 0 c)) := by
  pointwise [newX, wl]

theorem newY_apply (s : FVec Ideal S160x128 .f32) (dec : FVec Ideal S1x128 .f32) (upd : FVec Ideal S160x256 .f32) (v : Fin 160) (c : Fin 128) :
    newY s dec upd (ix2 v c) = s (ix2 v c) * dec (ix2 0 c) + upd (ix2 v (wl 1 c)) := by
  pointwise [newY, wl]

theorem two_apply (a b : Ideal .f32) (h : Fin 2) (s : Fin 64) : two a b (ix2 0 (hl h s)) = if h = 0 then a else b := by
  pointwise [two, lo1_apply]
  have e : (hl h s).val < 64 ↔ h = 0 := by
    show 64 * h.val + s.val < 64 ↔ _
    rw [Fin.ext_iff]; show _ ↔ h.val = 0; omega
  by_cases hh : h = 0
  · rw [if_pos (e.2 hh), if_pos hh]; rfl
  · rw [if_neg (fun x => hh (e.1 x)), if_neg hh]; rfl

end Cert.Hand

end
-- ==== Proof.Hand.Chunk.lean ====
module

public import proofs.«01_k».proof.Proof.Hand.Stages

/-! One chunk of one head over the reals, and the kernel's chunk of a pair shown to compute it for both entries. -/

@[expose] public section

set_option maxRecDepth 16384

noncomputable section

namespace Cert.Hand

open Idealize.ShloMosaic Idealize.SL.Sem Cert.KernelIdeal Cert.KernelIdeal.Facts₀

/-- What a chunk of one head of one batch entry is given. -/
structure Chunk where
  (ks qs : ℝ)
  (g k q : Fin 64 → Fin 128 → ℝ)
  b : Fin 64 → ℝ
  v : Fin 64 → Fin 160 → ℝ

namespace Chunk

variable (X : Chunk)

def gc : Fin 64 → Fin 128 → ℝ := cum X.g
def kpos (t : Fin 64) (c : Fin 128) : ℝ := X.k t c * Real.exp (X.gc t c)
def qpos (t : Fin 64) (c : Fin 128) : ℝ := X.q t c * Real.exp (X.gc t c)
def kneg (t : Fin 64) (c : Fin 128) : ℝ := X.k t c * Real.exp (-X.gc t c)
def kdec (t : Fin 64) (c : Fin 128) : ℝ := X.k t c * Real.exp (X.gc 63 c - X.gc t c)

/-- The strictly lower triangular matrix of the chunk's own writes. -/
def akk : Matrix (Fin 64) (Fin 64) ℝ := fun t s =>
  if s < t then X.b t * (X.ks * X.ks) * ∑ c, X.kpos t c * X.kneg s c else 0
def qk (t s : Fin 64) : ℝ := if s ≤ t then ∑ c, X.qpos t c * X.kneg s c else 0
/-- The inverse of the identity plus `akk`. -/
def tinv : Matrix (Fin 64) (Fin 64) ℝ := nInv (-X.akk) 5

/-- The chunk's new values at the state `S`. -/
def u (S : Fin 128 → Fin 160 → ℝ) (s : Fin 64) (v : Fin 160) : ℝ :=
  ∑ t, X.tinv s t * (X.b t * (X.v t v - X.ks * ∑ c, X.kpos t c * S c v))
/-- The chunk's output at the state `S`, under the output's scale `σ`. -/
def o (σ : ℝ) (S : Fin 128 → Fin 160 → ℝ) (t : Fin 64) (v : Fin 160) : ℝ :=
  σ * X.qs * (∑ c, X.qpos t c * S c v + X.ks * ∑ s, X.qk t s * X.u S s v)
/-- The state after the chunk. -/
def next (S : Fin 128 → Fin 160 → ℝ) (c : Fin 128) (v : Fin 160) : ℝ :=
  Real.exp (X.gc 63 c) * S c v + X.ks * ∑ t, X.kdec t c * X.u S t v

theorem akk_upper (i j : Fin 64) (h : i ≤ j) : X.akk i j = 0 := if_neg (not_lt.2 h)

theorem blockInv_akk : blockInv X.akk.transpose = X.tinv.transpose :=
  inv_transpose X.akk X.tinv _ (nInv_five _ X.akk_upper) (blockInv_solves _ fun i j h => X.akk_upper j i h)

end Chunk

/-- What a chunk reads of a pair is the real data of the two entries. -/
structure Holds (I : In Ideal) (X : Fin 2 → Chunk) : Prop where
  ksx : I.ksx = ((X 0).ks : EReal)
  ksy : I.ksy = ((X 1).ks : EReal)
  qsx : I.qsx = ((X 0).qs : EReal)
  qsy : I.qsy = ((X 1).qs : EReal)
  gx : ∀ t c, I.gx (ix4 0 0 t c) = ((X 0).g t c : EReal)
  gy : ∀ t c, I.gy (ix4 0 0 t c) = ((X 1).g t c : EReal)
  kx : ∀ t c, I.kx (ix4 0 0 t c) = ((X 0).k t c : EReal)
  ky : ∀ t c, I.ky (ix4 0 0 t c) = ((X 1).k t c : EReal)
  qx : ∀ t c, I.qx (ix4 0 0 t c) = ((X 0).q t c : EReal)
  qy : ∀ t c, I.qy (ix4 0 0 t c) = ((X 1).q t c : EReal)
  bv : ∀ h s, I.bv (ix2 0 (hl h s)) = ((X h).b s : EReal)
  vp : ∀ v h s, I.vp (ix2 v (hl h s)) = ((X h).v s v : EReal)

/-- The output's scale as the programs write it. -/
def scaleR : ℝ := (Ideal.ofBits .f32 0x3DB504F3#32).toReal

theorem scale_eq : (Ideal.ofBits .f32 0x3DB504F3#32 : EReal) = (scaleR : EReal) := by
  refine (EReal.coe_toReal ?_ ?_).symm <;>
  · simp [Ideal.ofBits, Ideal.ieee, -EReal.coe_mul]

theorem mm_bdiag {h : Fin 2} {a : FVec Ideal S160x128 .f32} {A : Fin 64 → ℝ} {r : FVec Ideal S64x128 .f32} {R : Fin 64 → ℝ} (v : Fin 160) (s : Fin 64)
    (ha : ∀ t, a (ix2 v (hl h t)) = (A t : EReal)) (hr : ∀ t, r (ix2 t (hl h s)) = (R t : EReal)) :
    mm128 a (bdiag r) (ix2 v (hl h s)) = ((∑ t, A t * R t : ℝ) : EReal) := by
  rw [mm128_apply, sum_hl]
  simp only [bdiag_rows, hr, mul_ite, mul_zero]
  rw [Finset.sum_eq_single h]
  · simp only [↓reduceIte, ha, ← EReal.coe_mul, ← coe_sum]
  · intro h' _ e
    simp [e]
  · simp

section

variable {I : In Ideal} {X : Fin 2 → Chunk} (H : Holds I X)
include H

theorem Holds.ksv (h : Fin 2) (s : Fin 64) : I.ksv (ix2 0 (hl h s)) = ((X h).ks : EReal) := by
  rw [In.ksv, two_apply, H.ksx, H.ksy]
  fin_cases h <;> rfl

theorem Holds.qsv (h : Fin 2) (s : Fin 64) : I.qsv (ix2 0 (hl h s)) = ((X h).qs : EReal) := by
  rw [In.qsv, two_apply, H.qsx, H.qsy]
  fin_cases h <;> rfl

theorem Holds.gcx (t : Fin 64) (c : Fin 128) : I.gcx (ix2 t c) = ((X 0).gc t c : EReal) := gcum_apply _ _ H.gx t c
theorem Holds.gcy (t : Fin 64) (c : Fin 128) : I.gcy (ix2 t c) = ((X 1).gc t c : EReal) := gcum_apply _ _ H.gy t c

theorem Holds.kq (w h : Fin 2) (s : Fin 64) (h' : Fin 2) (c : Fin 128) : I.kq (ix2 (wl w (hl h s)) (wl h' c))
    = ((if h' = h then (if w = 0 then (X h).kpos s c else (X h).qpos s c) else 0 : ℝ) : EReal) := by
  rw [In.kq, kqMat_rows]
  simp only [wide_apply, zk_apply, xpos_apply _ _ _ _ H.kx H.gcx, xpos_apply _ _ _ _ H.ky H.gcy,
    xpos_apply _ _ _ _ H.qx H.gcx, xpos_apply _ _ _ _ H.qy H.gcy]
  fin_cases w <;> fin_cases h <;> fin_cases h' <;> rfl

theorem Holds.neg (t : Fin 64) (h : Fin 2) (c : Fin 128) :
    wide (xneg I.kx I.gcx) (xneg I.ky I.gcy) (ix2 t (wl h c)) = ((X h).kneg t c : EReal) := by
  rw [wide_apply, xneg_apply _ _ _ _ H.kx H.gcx, xneg_apply _ _ _ _ H.ky H.gcy]
  fin_cases h <;> rfl

theorem Holds.aq (t : Fin 64) (w h : Fin 2) (s : Fin 64) : I.aq (ix2 t (wl w (hl h s)))
    = ((∑ c, (X h).kneg t c * (if w = 0 then (X h).kpos s c else (X h).qpos s c) : ℝ) : EReal) := by
  rw [In.aq, aqMat_apply, sum_wl]
  simp only [H.neg, H.kq, ← EReal.coe_mul, ← coe_sum]
  congr 1
  fin_cases h <;> simp

theorem Holds.u_t (t : Fin 64) (h : Fin 2) (s : Fin 64) : uT I.aq I.ksv I.bv (ix2 t (hl h s)) = (((X h).akk.transpose t s : ℝ) : EReal) := by
  rw [uT_apply, H.aq, H.bv, H.ksv, Matrix.transpose_apply, Chunk.akk, coe_ite]
  split
  · simp only [← EReal.coe_mul]
    congr 1
    rw [mul_comm]
    congr 1
    exact Finset.sum_congr rfl fun c _ => mul_comm _ _
  · rfl

theorem Holds.qk_t (t : Fin 64) (h : Fin 2) (s : Fin 64) : qkT I.aq (ix2 t (hl h s)) = (((X h).qk s t : ℝ) : EReal) := by
  rw [qkT_apply, H.aq, Chunk.qk, coe_ite]
  split
  · congr 1
    exact Finset.sum_congr rfl fun c _ => mul_comm _ _
  · rfl

theorem Holds.rinv (t : Fin 64) (h : Fin 2) (s : Fin 64) : I.rinv (ix2 t (hl h s)) = (((X h).tinv s t : ℝ) : EReal) := by
  rw [In.rinv, inverse_apply _ (fun h => (X h).akk.transpose) (fun h t s => H.u_t t h s) (fun h t s e => (X h).akk_upper s t e),
    Chunk.blockInv_akk, Matrix.transpose_apply]

variable {S : Fin 2 → Fin 128 → Fin 160 → ℝ} {sx sy : FVec Ideal S160x128 .f32}
  (hx : ∀ v c, sx (ix2 v c) = ((S 0 c v : ℝ) : EReal)) (hy : ∀ v c, sy (ix2 v c) = ((S 1 c v : ℝ) : EReal))
include hx hy

theorem Holds.xq (v : Fin 160) (w h : Fin 2) (s : Fin 64) : I.xq sx sy (ix2 v (wl w (hl h s)))
    = ((∑ c, S h c v * (if w = 0 then (X h).kpos s c else (X h).qpos s c) : ℝ) : EReal) := by
  have px := fun c => parts_apply sx v c _ (hx v c)
  have py := fun c => parts_apply sy v c _ (hy v c)
  show (mmNT _ _ _ + mmNT _ _ _) + mmNT _ _ _ = _
  rw [mmNT_apply, mmNT_apply, mmNT_apply, sum_wl, sum_wl, sum_wl]
  simp only [wide160_apply, px, py, H.kq]
  simp only [ite_self, zero_mul, Finset.sum_const_zero, add_zero]
  have e : ∀ (h' : Fin 2) (c : Fin 128), (if h' = 0 then ((S 0 c v : ℝ) : EReal) else ((S 1 c v : ℝ) : EReal)) = ((S h' c v : ℝ) : EReal) := by
    intro h' c; fin_cases h' <;> rfl
  simp only [e, ← EReal.coe_mul, ← coe_sum]
  congr 1
  fin_cases h <;> simp

theorem Holds.rr (v : Fin 160) (h : Fin 2) (s : Fin 64) : rrMat I.ksv I.bv I.vp (I.xq sx sy) (ix2 v (hl h s))
    = (((X h).ks * ((X h).b s * ((X h).v s v - (X h).ks * ∑ c, (X h).kpos s c * S h c v)) : ℝ) : EReal) := by
  rw [rrMat_apply, H.ksv, H.bv, H.vp, H.xq hx hy]
  simp only [← EReal.coe_mul, ← EReal.coe_sub, ↓reduceIte]
  congr 1
  rw [mul_assoc]
  congr 4
  exact Finset.sum_congr rfl fun c _ => mul_comm _ _

theorem Holds.u_apply (v : Fin 160) (h : Fin 2) (s : Fin 64) : I.u sx sy (ix2 v (hl h s))
    = (((X h).ks * (X h).u (S h) s v : ℝ) : EReal) := by
  rw [In.u, mm_bdiag v s (fun t => H.rr hx hy v h t) (fun t => H.rinv t h s), Chunk.u, Finset.mul_sum]
  congr 1
  refine Finset.sum_congr rfl fun t _ => ?_
  ring

theorem Holds.o_apply (v : Fin 160) (h : Fin 2) (s : Fin 64) : I.o sx sy (ix2 v (hl h s)) = (((X h).o scaleR (S h) s v : ℝ) : EReal) := by
  rw [In.o, oMat_apply, H.qsv, H.xq hx hy, mm_bdiag v s (fun t => H.u_apply hx hy v h t) (fun t => H.qk_t t h s), scale_eq,
    ← EReal.coe_mul, ← EReal.coe_add, ← EReal.coe_mul, Chunk.o, Finset.mul_sum]
  congr 3
  · refine Finset.sum_congr rfl fun c _ => ?_
    rw [if_neg (by decide), mul_comm]
  · refine Finset.sum_congr rfl fun t _ => ?_
    ring

theorem Holds.kd (h : Fin 2) (s : Fin 64) (h' : Fin 2) (c : Fin 128) : kdMat (xdec I.kx I.gcx) (xdec I.ky I.gcy) (ix2 (hl h s) (wl h' c))
    = ((if h' = h then (X h).kdec s c else 0 : ℝ) : EReal) := by
  rw [kdMat_rows]
  simp only [wide_apply, zk_apply, xdec_apply _ _ _ _ H.kx H.gcx, xdec_apply _ _ _ _ H.ky H.gcy]
  fin_cases h <;> fin_cases h' <;> rfl

theorem Holds.upd_apply (v : Fin 160) (h : Fin 2) (c : Fin 128) : I.upd sx sy (ix2 v (wl h c))
    = (((X h).ks * ∑ t, (X h).kdec t c * (X h).u (S h) t v : ℝ) : EReal) := by
  have pu : ∀ h s, part0 (I.u sx sy) (ix2 v (hl h s)) = _ ∧ part1 (I.u sx sy) (ix2 v (hl h s)) = 0 ∧ part2 (I.u sx sy) (ix2 v (hl h s)) = 0 :=
    fun h s => parts_apply _ v (hl h s) _ (H.u_apply hx hy v h s)
  show (mmUpd _ _ _ + mmUpd _ _ _) + mmUpd _ _ _ = _
  rw [mmUpd_apply, mmUpd_apply, mmUpd_apply, sum_hl, sum_hl, sum_hl]
  simp only [pu, H.kd hx hy]
  simp only [zero_mul, Finset.sum_const_zero, add_zero, ← EReal.coe_mul, ← coe_sum]
  congr 1
  rw [Finset.mul_sum, Finset.sum_eq_single h]
  · refine Finset.sum_congr rfl fun t _ => ?_
    rw [if_pos rfl]; ring
  · intro h' _ e
    simp [Ne.symm e]
  · simp

theorem Holds.sx_apply (v : Fin 160) (c : Fin 128) : I.sx' sx sy (ix2 v c) = (((X 0).next (S 0) c v : ℝ) : EReal) := by
  rw [In.sx', newX_apply, hx, H.upd_apply hx hy]
  show _ * Ideal.exp (glast I.gcx (ix2 0 c)) + _ = _
  rw [glast_apply, H.gcx, Ideal.exp_coe, ← EReal.coe_mul, ← EReal.coe_add, Chunk.next, mul_comm]

theorem Holds.sy_apply (v : Fin 160) (c : Fin 128) : I.sy' sx sy (ix2 v c) = (((X 1).next (S 1) c v : ℝ) : EReal) := by
  rw [In.sy', newY_apply, hy, H.upd_apply hx hy]
  show _ * Ideal.exp (glast I.gcy (ix2 0 c)) + _ = _
  rw [glast_apply, H.gcy, Ideal.exp_coe, ← EReal.coe_mul, ← EReal.coe_add, Chunk.next, mul_comm]

end

end Cert.Hand

end
-- ==== Proof.Hand.Point.lean ====
module

public import Idealize.ShloMosaic.Lib.KernelVsHost
public import proofs.«01_k».proof.Proof.Hand.Runs
public import proofs.«01_k».proof.Proof.Hand.Chunk

/-! A grid point in real numbers: the states and the outputs its stores leave. -/

@[expose] public section

set_option maxRecDepth 100000

noncomputable section

namespace Cert.Hand

open Idealize.ShloMosaic Idealize.SL.Sem Cert.KernelIdeal Cert.KernelIdeal.Facts₀

/-! ## Looking a row up -/

theorem row_emb (b : Fin 8) (v : Fin 160) (c : Fin 128) : (rowOf b).emb (ix4 0 0 v c) = ix4 b 0 v c := by
  funext a
  apply Fin.ext
  match a with
  | ⟨0, _⟩ => show b.val + 1 * 0 = b.val; omega
  | ⟨1, _⟩ => rfl
  | ⟨2, _⟩ => show 0 + 1 * v.val = v.val; omega
  | ⟨3, _⟩ => show 0 + 1 * c.val = c.val; omega

theorem out_emb (b : Fin 8) (v : Fin 160) (c : Fin 128) : (outOf b).emb (ix3 0 v c) = ix3 b v c := by
  funext a
  apply Fin.ext
  match a with
  | ⟨0, _⟩ => show b.val + 1 * 0 = b.val; omega
  | ⟨1, _⟩ => show 0 + 1 * v.val = v.val; omega
  | ⟨2, _⟩ => show 0 + 1 * c.val = c.val; omega

theorem not_mem_row (b b' : Fin 8) (h : b ≠ b') (v : Fin 160) (c : Fin 128) : (ix4 b 0 v c : S8x1x160x128.Idx) ∉ (rowOf b').set := by
  intro hm
  obtain ⟨j, hj⟩ := (rowOf b').exists_idx_of_mem hm
  have e : b'.val + 1 * (j 0).val = b.val := congrArg (fun y : S8x1x160x128.Idx => (y 0).val) hj
  have h0 : (j 0).val < 1 := (j 0).isLt
  exact h (Fin.ext (by omega))

theorem not_mem_out (b b' : Fin 8) (h : b ≠ b') (v : Fin 160) (c : Fin 128) : (ix3 b v c : S8x160x128.Idx) ∉ (outOf b').set := by
  intro hm
  obtain ⟨j, hj⟩ := (outOf b').exists_idx_of_mem hm
  have e : b'.val + 1 * (j 0).val = b.val := congrArg (fun y : S8x160x128.Idx => (y 0).val) hj
  have h0 : (j 0).val < 1 := (j 0).isLt
  exact h (Fin.ext (by omega))

theorem canon_row (b b' : Fin 8) (s : Vec Ideal S1x1x160x128 .f32) (L : List (Piece12 Ideal)) (v : Fin 160) (c : Fin 128) :
    View.canon ((⟨rowOf b', s⟩ : Piece12 Ideal) :: L) (ix4 b 0 v c) = if b = b' then s (ix4 0 0 v c) else View.canon L (ix4 b 0 v c) := by
  split
  · next h => subst h; rw [← row_emb]; exact View.canon_cons_emb _ _ _ _
  · next h => exact View.canon_cons_of_not_mem _ _ (not_mem_row b b' h v c)

theorem canon_out (b b' : Fin 8) (s : Vec Ideal S1x160x128 .bf16) (L : List (Piece10 Ideal)) (v : Fin 160) (c : Fin 128) :
    View.canon ((⟨outOf b', s⟩ : Piece10 Ideal) :: L) (ix3 b v c) = if b = b' then s (ix3 0 v c) else View.canon L (ix3 b v c) := by
  split
  · next h => subst h; rw [← out_emb]; exact View.canon_cons_emb _ _ _ _
  · next h => exact View.canon_cons_of_not_mem _ _ (not_mem_out b b' h v c)

/-! ## The pairs -/

/-- The loads are the real numbers `X`, per batch entry and chunk. -/
structure Reads (L : Ld Ideal) (X : Fin 8 → Fin 2 → Chunk) : Prop where
  qs : ∀ b c, L.qs b c = ((X b c).qs : EReal)
  ks : ∀ b c, L.ks b c = ((X b c).ks : EReal)
  g : ∀ b c t d, L.g b c (ix4 0 0 t d) = ((X b c).g t d : EReal)
  k : ∀ b c t d, L.k b c (ix4 0 0 t d) = ((X b c).k t d : EReal)
  q : ∀ b c t d, L.q b c (ix4 0 0 t d) = ((X b c).q t d : EReal)
  b : ∀ b c s, L.b b (ix3 0 0 (hl c s)) = ((X b c).b s : EReal)
  v : ∀ b c s v, L.v b (ix4 0 0 v (hl c s)) = ((X b c).v s v : EReal)

theorem half_lt (h : Fin 2) (s : Fin 64) : (hl h s).val < 64 ↔ h = 0 := by
  revert h s; decide

theorem rot_lane : ∀ (h : Fin 2) (s : Fin 64), (hl (1 - h) s).val = ((hl h s).val + 128 - (64#32).toNat % 128) % 128 := by decide

theorem rot_beta (x : FVec Ideal S1x128 .f32) (h : Fin 2) (s : Fin 64) :
    dynamicRotate 1 64#32 none x rotates_S1x128_d1 (ix2 0 (hl h s)) = x (ix2 0 (hl (1 - h) s)) :=
  dynamicRotate_apply _ _ _ _ _ _ fun a => match a with
    | ⟨0, _⟩ => rfl
    | ⟨1, _⟩ => rot_lane h s

theorem roll_apply (x : FVec Ideal S160x128 .f32) (v : Fin 160) (h : Fin 2) (s : Fin 64) :
    roll x (ix2 v (hl h s)) = x (ix2 v (hl (1 - h) s)) :=
  dynamicRotate_apply _ _ _ _ _ _ fun a => match a with
    | ⟨0, _⟩ => rfl
    | ⟨1, _⟩ => rot_lane h s

theorem b2_apply (b : Vec Ideal S1x1x128 .f32) (l : Fin 128) : b2 b (ix2 0 l) = b (ix3 0 0 l) := by pointwise [b2]
theorem v2_apply (x : Vec Ideal S1x1x160x128 .bf16) (v : Fin 160) (l : Fin 128) : v2 x (ix2 v l) = x (ix4 0 0 v l) := by pointwise [v2]
theorem s2_apply (x : Vec Ideal S1x1x160x128 .f32) (v : Fin 160) (l : Fin 128) : s2 x (ix2 v l) = x (ix4 0 0 v l) := by pointwise [s2]
theorem s4_apply (x : FVec Ideal S160x128 .f32) (v : Fin 160) (l : Fin 128) : s4 x (ix4 0 0 v l) = x (ix2 v l) := by pointwise [s4]

theorem selLo1 (a b : FVec Ideal S1x128 .f32) (h : Fin 2) (s : Fin 64) :
    select lo1 a b (ix2 0 (hl h s)) = if h = 0 then a (ix2 0 (hl h s)) else b (ix2 0 (hl h s)) := by
  pointwise [lo1_apply]
  by_cases hh : h = 0
  · rw [if_pos ((half_lt h s).2 hh), if_pos hh]; rfl
  · rw [if_neg (fun e => hh ((half_lt h s).1 e)), if_neg hh]; rfl

theorem selLov (a b : FVec Ideal S160x128 .f32) (v : Fin 160) (h : Fin 2) (s : Fin 64) :
    select lov a b (ix2 v (hl h s)) = if h = 0 then a (ix2 v (hl h s)) else b (ix2 v (hl h s)) := by
  pointwise [lov_apply]
  by_cases hh : h = 0
  · rw [if_pos ((half_lt h s).2 hh), if_pos hh]; rfl
  · rw [if_neg (fun e => hh ((half_lt h s).1 e)), if_neg hh]; rfl

variable {L : Ld Ideal} {X : Fin 8 → Fin 2 → Chunk} (R : Reads L X)
include R

theorem Reads.holdsA (x y : Fin 8) : Holds (L.inA x y) ![X x 0, X y 0] where
  ksx := R.ks x 0
  ksy := R.ks y 0
  qsx := R.qs x 0
  qsy := R.qs y 0
  gx := R.g x 0
  gy := R.g y 0
  kx := R.k x 0
  ky := R.k y 0
  qx := R.q x 0
  qy := R.q y 0
  bv h s := by
    show bvA _ _ _ = _
    rw [bvA, selLo1, rot_beta, b2_apply, b2_apply]
    fin_cases h
    · exact R.b x 0 s
    · exact R.b y 0 s
  vp v h s := by
    show vpA _ _ _ = _
    rw [vpA, selLov, roll_apply, v2_apply, v2_apply]
    fin_cases h
    · exact R.v x 0 s v
    · exact R.v y 0 s v

theorem Reads.holdsB (x y : Fin 8) : Holds (L.inB x y) ![X y 1, X x 1] where
  ksx := R.ks y 1
  ksy := R.ks x 1
  qsx := R.qs y 1
  qsy := R.qs x 1
  gx := R.g y 1
  gy := R.g x 1
  kx := R.k y 1
  ky := R.k x 1
  qx := R.q y 1
  qy := R.q x 1
  bv h s := by
    show bvB _ _ _ = _
    rw [bvB, selLo1, rot_beta, b2_apply, b2_apply]
    fin_cases h
    · exact R.b y 1 s
    · exact R.b x 1 s
  vp v h s := by
    show vpB _ _ _ = _
    rw [vpB, selLov, roll_apply, v2_apply, v2_apply]
    fin_cases h
    · exact R.v y 1 s v
    · exact R.v x 1 s v

omit R

/-- The state after both chunks, and the outputs of the two. -/
def twice (X : Fin 2 → Chunk) (S : Fin 128 → Fin 160 → ℝ) : Fin 128 → Fin 160 → ℝ := (X 1).next ((X 0).next S)
def outs (X : Fin 2 → Chunk) (S : Fin 128 → Fin 160 → ℝ) (c : Fin 2) : Fin 64 → Fin 160 → ℝ :=
  if c = 0 then (X 0).o scaleR S else (X 1).o scaleR ((X 0).next S)

/-- How states are read: off the pieces where those hold the row, and where they do not by `first`. -/
structure Rules (first again : List (Piece12 Ideal) → Fin 8 → Vec Ideal S1x1x160x128 .f32) : Prop where
  skip : ∀ b b' s acc, b ≠ b' → first (⟨rowOf b', s⟩ :: acc) b = first acc b
  head : ∀ b s acc, again (⟨rowOf b, s⟩ :: acc) b = s
  next : ∀ b b' s acc, b ≠ b' → again (⟨rowOf b', s⟩ :: acc) b = again acc b

section

variable {first again : List (Piece12 Ideal) → Fin 8 → Vec Ideal S1x1x160x128 .f32} (U : Rules first again)
  {S : Fin 8 → Fin 128 → Fin 160 → ℝ} {acc : List (Piece12 Ideal)} {x y : Fin 8} (hxy : x ≠ y)
  (hx : ∀ v c, first acc x (ix4 0 0 v c) = (S x c v : EReal)) (hy : ∀ v c, first acc y (ix4 0 0 v c) = (S y c v : EReal))
include R hx hy

theorem mid_x (v : Fin 160) (c : Fin 128) : s4 ((L.inA x y).sx' (s2 (first acc x)) (s2 (first acc y))) (ix4 0 0 v c)
    = (((X x 0).next (S x) c v : ℝ) : EReal) := by
  rw [s4_apply]
  exact (R.holdsA x y).sx_apply (S := ![S x, S y]) (fun v c => (s2_apply _ v c).trans (hx v c)) (fun v c => (s2_apply _ v c).trans (hy v c)) v c

theorem mid_y (v : Fin 160) (c : Fin 128) : s4 ((L.inA x y).sy' (s2 (first acc x)) (s2 (first acc y))) (ix4 0 0 v c)
    = (((X y 0).next (S y) c v : ℝ) : EReal) := by
  rw [s4_apply]
  exact (R.holdsA x y).sy_apply (S := ![S x, S y]) (fun v c => (s2_apply _ v c).trans (hx v c)) (fun v c => (s2_apply _ v c).trans (hy v c)) v c

theorem o0_apply (v : Fin 160) (h : Fin 2) (s : Fin 64) : L.o0 first x y acc (ix2 v (hl h s))
    = (((![X x 0, X y 0] h).o scaleR (![S x, S y] h) s v : ℝ) : EReal) :=
  (R.holdsA x y).o_apply (S := ![S x, S y]) (fun v c => (s2_apply _ v c).trans (hx v c)) (fun v c => (s2_apply _ v c).trans (hy v c)) v h s

include U hxy

theorem again_y (v : Fin 160) (c : Fin 128) : s2 (again (L.mid first x y acc) y) (ix2 v c) = (((X y 0).next (S y) c v : ℝ) : EReal) := by
  rw [s2_apply, Ld.mid]
  exact (congrFun (U.head y _ _) _).trans (mid_y R hx hy v c)

theorem again_x (v : Fin 160) (c : Fin 128) : s2 (again (L.mid first x y acc) x) (ix2 v c) = (((X x 0).next (S x) c v : ℝ) : EReal) := by
  rw [s2_apply, Ld.mid]
  exact (congrFun (U.next x y _ _ hxy) _).trans ((congrFun (U.head x _ acc) _).trans (mid_x R hx hy v c))

theorem o1_apply (v : Fin 160) (h : Fin 2) (s : Fin 64) : L.o1 again x y (L.mid first x y acc) (ix2 v (hl h s))
    = (((![X y 1, X x 1] h).o scaleR (![(X y 0).next (S y), (X x 0).next (S x)] h) s v : ℝ) : EReal) :=
  (R.holdsB x y).o_apply (S := ![(X y 0).next (S y), (X x 0).next (S x)]) (again_y R U hxy hx hy) (again_x R U hxy hx hy) v h s

theorem ox_apply (v : Fin 160) (c : Fin 2) (s : Fin 64) :
    oX (L.o0 first x y acc) (L.o1 again x y (L.mid first x y acc)) (ix2 v (hl c s)) = ((outs (X x) (S x) c s v : ℝ) : EReal) := by
  rw [oX, selLov, o0_apply R hx hy, o1_apply R U hxy hx hy]
  fin_cases c <;> rfl

theorem oy_apply (v : Fin 160) (c : Fin 2) (s : Fin 64) :
    oY (L.o0 first x y acc) (L.o1 again x y (L.mid first x y acc)) (ix2 v (hl c s)) = ((outs (X y) (S y) c s v : ℝ) : EReal) := by
  rw [oY, roll_apply, selLov, o0_apply R hx hy, o1_apply R U hxy hx hy]
  fin_cases c <;> rfl

theorem canon_second (b : Fin 8) (v : Fin 160) (c : Fin 128) :
    View.canon (L.second again x y (L.mid first x y acc)) (ix4 b 0 v c)
      = if b = x ∨ b = y then ((twice (X b) (S b) c v : ℝ) : EReal) else View.canon acc (ix4 b 0 v c) := by
  rw [Ld.second, canon_row, canon_row, s4_apply, s4_apply,
    (R.holdsB x y).sy_apply (S := ![(X y 0).next (S y), (X x 0).next (S x)]) (again_y R U hxy hx hy) (again_x R U hxy hx hy),
    (R.holdsB x y).sx_apply (S := ![(X y 0).next (S y), (X x 0).next (S x)]) (again_y R U hxy hx hy) (again_x R U hxy hx hy)]
  by_cases h1 : b = x
  · subst h1; simp; rfl
  · by_cases h2 : b = y
    · subst h2; simp [h1]; rfl
    · rw [if_neg h1, if_neg h2, if_neg (by tauto), Ld.mid, canon_row, canon_row, if_neg h1, if_neg h2]

end

/-- The reading of a row is past a pair that does not hold it. -/
theorem Rules.pair {first again : List (Piece12 Ideal) → Fin 8 → Vec Ideal S1x1x160x128 .f32} (U : Rules first again)
    (x y b : Fin 8) (h1 : b ≠ x) (h2 : b ≠ y) (acc : List (Piece12 Ideal)) :
    first (L.second again x y (L.mid first x y acc)) b = first acc b := by
  rw [Ld.second, Ld.mid]
  exact (U.skip _ _ _ _ h1).trans ((U.skip _ _ _ _ h2).trans ((U.skip _ _ _ _ h2).trans (U.skip _ _ _ _ h1)))

section

variable {first again : List (Piece12 Ideal) → Fin 8 → Vec Ideal S1x1x160x128 .f32} (U : Rules first again)
  {S : Fin 8 → Fin 128 → Fin 160 → ℝ} {z : List (Piece12 Ideal)}
  (hz : ∀ b v c, first z b (ix4 0 0 v c) = (S b c v : EReal))
include R U hz

theorem canon_acc (b : Fin 8) (v : Fin 160) (c : Fin 128) :
    View.canon (L.acc4 first again z) (ix4 b 0 v c) = ((twice (X b) (S b) c v : ℝ) : EReal) := by
  have h1 : ∀ b : Fin 8, b ≠ 0 → b ≠ 1 → first (L.acc1 first again z) b = first z b := fun b h h' => U.pair 0 1 b h h' z
  have h2 : ∀ b : Fin 8, b ≠ 2 → b ≠ 3 → first (L.acc2 first again z) b = first (L.acc1 first again z) b := fun b h h' => U.pair 2 3 b h h' _
  have h3 : ∀ b : Fin 8, b ≠ 4 → b ≠ 5 → first (L.acc3 first again z) b = first (L.acc2 first again z) b := fun b h h' => U.pair 4 5 b h h' _
  rw [Ld.accs4, canon_second (S := S) R U (by decide) (by rw [h3 _ (by decide) (by decide), h2 _ (by decide) (by decide), h1 _ (by decide) (by decide)]; exact hz 6)
      (by rw [h3 _ (by decide) (by decide), h2 _ (by decide) (by decide), h1 _ (by decide) (by decide)]; exact hz 7),
    Ld.accs3, canon_second (S := S) R U (by decide) (by rw [h2 _ (by decide) (by decide), h1 _ (by decide) (by decide)]; exact hz 4)
      (by rw [h2 _ (by decide) (by decide), h1 _ (by decide) (by decide)]; exact hz 5),
    Ld.accs2, canon_second (S := S) R U (by decide) (by rw [h1 _ (by decide) (by decide)]; exact hz 2) (by rw [h1 _ (by decide) (by decide)]; exact hz 3),
    Ld.accs1, canon_second (S := S) R U (by decide) (hz 0) (hz 1)]
  fin_cases b <;> simp

end

end Cert.Hand

end
-- ==== Proof.Hand.Blocks.lean ====
module

public import proofs.«01_k».proof.Proof.Hand.Point

/-! What a grid point leaves of its two outputs, and how it reads the states it has stored. -/

@[expose] public section

set_option maxRecDepth 100000

noncomputable section

namespace Cert.Hand

open Idealize.ShloMosaic Idealize.SL.Sem Cert.KernelIdeal Cert.KernelIdeal.Facts₀

/-- The gated, normalised column of an output: entry `v` of `r`, under the gate and the weight of that entry. -/
def yR (r : Fin 160 → ℝ) (gate w : EReal) (v : Fin 160) : EReal :=
  ((r v : EReal) * Ideal.rsqrt ((((∑ u, r u * r u) * (1 / 160) : ℝ) : EReal) + Ideal.ofBits .f32 0x358637BD#32)) * w * Ideal.logistic gate

theorem inv_n : (Named.named κ "inv_n_v" 0x3BCCCCCD#32 : Ideal .f32) = ((1 / 160 : ℝ) : EReal) :=
  IdealRules.named_const.ideal_named_scalar _ _ _ _ rfl

theorem sumsq (o : FVec Ideal S160x128 .f32) (l : Fin 128) (r : Fin 160 → ℝ) (h : ∀ v, o (ix2 v l) = (r v : EReal)) :
    multiReduction .add [0] S128 (mulf o o) 0x00000000#32 reduces_S160x128_S128 (.inl rfl) rfl (ix1 l) = ((∑ u, r u * r u : ℝ) : EReal) := by
  refine (Ideal.multiReduction_add_single _ _ _ _ _ _).trans ?_
  rw [coe_sum]
  refine Finset.sum_congr rfl fun u _ => ?_
  have e : reduces_S160x128_S128.lift (ix1 l) u = ix2 u l := funext fun a => match a with
    | ⟨0, _⟩ => rfl
    | ⟨1, _⟩ => rfl
  rw [e]
  exact (congrArg₂ (fun a b : EReal => a * b) (h u) (h u)).trans (EReal.coe_mul _ _).symm

theorem yOut_apply (o : FVec Ideal S160x128 .f32) (gate : Vec Ideal S1x160x128 .bf16) (w : Vec Ideal S160x128 .f32)
    (l : Fin 128) (r : Fin 160 → ℝ) (h : ∀ v, o (ix2 v l) = (r v : EReal)) (v : Fin 160) :
    yOut o gate w (ix3 0 v l) = yR r (gate (ix3 0 v l)) (w (ix2 v l)) v := by
  have hs := sumsq o l r h
  unfold yOut invRms
  generalize multiReduction .add [0] S128 (mulf o o) 0x00000000#32 reduces_S160x128_S128 (.inl rfl) rfl = z at hs ⊢
  pointwise [hs, h, inv_n]
  rw [yR, ← EReal.coe_mul]

theorem oOut_apply (o : FVec Ideal S160x128 .f32) (v : Fin 160) (l : Fin 128) : oOut o (ix3 0 v l) = o (ix2 v l) := by pointwise [oOut]

theorem entries : ∀ b : Fin 8, b = 0 ∨ b = 1 ∨ b = 2 ∨ b = 3 ∨ b = 4 ∨ b = 5 ∨ b = 6 ∨ b = 7 := by decide

section

variable {L : Ld Ideal} {X : Fin 8 → Fin 2 → Chunk} (R : Reads L X)
  {first again : List (Piece12 Ideal) → Fin 8 → Vec Ideal S1x1x160x128 .f32} (U : Rules first again)
  {S : Fin 8 → Fin 128 → Fin 160 → ℝ} {z : List (Piece12 Ideal)}
  (hz : ∀ b v c, first z b (ix4 0 0 v c) = (S b c v : EReal))
include U hz

theorem at1 (b : Fin 8) (h : b ≠ 0) (h' : b ≠ 1) (v : Fin 160) (c : Fin 128) :
    first (L.acc1 first again z) b (ix4 0 0 v c) = (S b c v : EReal) :=
  (congrFun (U.pair 0 1 b h h' z) _).trans (hz b v c)
theorem at2 (b : Fin 8) (h : b ≠ 0) (h' : b ≠ 1) (k : b ≠ 2) (k' : b ≠ 3) (v : Fin 160) (c : Fin 128) :
    first (L.acc2 first again z) b (ix4 0 0 v c) = (S b c v : EReal) :=
  (congrFun (U.pair 2 3 b k k' _) _).trans (at1 U hz b h h' v c)
theorem at3 (b : Fin 8) (h : b ≠ 0) (h' : b ≠ 1) (k : b ≠ 2) (k' : b ≠ 3) (q : b ≠ 4) (q' : b ≠ 5) (v : Fin 160) (c : Fin 128) :
    first (L.acc3 first again z) b (ix4 0 0 v c) = (S b c v : EReal) :=
  (congrFun (U.pair 4 5 b q q' _) _).trans (at2 U hz b h h' k k' v c)

include R

theorem out0 (v : Fin 160) (c : Fin 2) (s : Fin 64) :
    oX (L.o0 first 0 1 z) (L.o1 again 0 1 (L.mid first 0 1 z)) (ix2 v (hl c s)) = ((outs (X 0) (S 0) c s v : ℝ) : EReal) :=
  ox_apply R U (by decide) (hz 0) (hz 1) v c s

theorem out1 (v : Fin 160) (c : Fin 2) (s : Fin 64) :
    oY (L.o0 first 0 1 z) (L.o1 again 0 1 (L.mid first 0 1 z)) (ix2 v (hl c s)) = ((outs (X 1) (S 1) c s v : ℝ) : EReal) :=
  oy_apply R U (by decide) (hz 0) (hz 1) v c s

theorem out2 (v : Fin 160) (c : Fin 2) (s : Fin 64) :
    oX (L.o0 first 2 3 (L.acc1 first again z)) (L.o1 again 2 3 (L.mid first 2 3 (L.acc1 first again z))) (ix2 v (hl c s)) = ((outs (X 2) (S 2) c s v : ℝ) : EReal) :=
  ox_apply R U (by decide) (at1 U hz 2 (by decide) (by decide)) (at1 U hz 3 (by decide) (by decide)) v c s

theorem out3 (v : Fin 160) (c : Fin 2) (s : Fin 64) :
    oY (L.o0 first 2 3 (L.acc1 first again z)) (L.o1 again 2 3 (L.mid first 2 3 (L.acc1 first again z))) (ix2 v (hl c s)) = ((outs (X 3) (S 3) c s v : ℝ) : EReal) :=
  oy_apply R U (by decide) (at1 U hz 2 (by decide) (by decide)) (at1 U hz 3 (by decide) (by decide)) v c s

theorem out4 (v : Fin 160) (c : Fin 2) (s : Fin 64) :
    oX (L.o0 first 4 5 (L.acc2 first again z)) (L.o1 again 4 5 (L.mid first 4 5 (L.acc2 first again z))) (ix2 v (hl c s)) = ((outs (X 4) (S 4) c s v : ℝ) : EReal) :=
  ox_apply R U (by decide) (at2 U hz 4 (by decide) (by decide) (by decide) (by decide)) (at2 U hz 5 (by decide) (by decide) (by decide) (by decide)) v c s

theorem out5 (v : Fin 160) (c : Fin 2) (s : Fin 64) :
    oY (L.o0 first 4 5 (L.acc2 first again z)) (L.o1 again 4 5 (L.mid first 4 5 (L.acc2 first again z))) (ix2 v (hl c s)) = ((outs (X 5) (S 5) c s v : ℝ) : EReal) :=
  oy_apply R U (by decide) (at2 U hz 4 (by decide) (by decide) (by decide) (by decide)) (at2 U hz 5 (by decide) (by decide) (by decide) (by decide)) v c s

theorem out6 (v : Fin 160) (c : Fin 2) (s : Fin 64) :
    oX (L.o0 first 6 7 (L.acc3 first again z)) (L.o1 again 6 7 (L.mid first 6 7 (L.acc3 first again z))) (ix2 v (hl c s)) = ((outs (X 6) (S 6) c s v : ℝ) : EReal) :=
  ox_apply R U (by decide) (at3 U hz 6 (by decide) (by decide) (by decide) (by decide) (by decide) (by decide)) (at3 U hz 7 (by decide) (by decide) (by decide) (by decide) (by decide) (by decide)) v c s

theorem out7 (v : Fin 160) (c : Fin 2) (s : Fin 64) :
    oY (L.o0 first 6 7 (L.acc3 first again z)) (L.o1 again 6 7 (L.mid first 6 7 (L.acc3 first again z))) (ix2 v (hl c s)) = ((outs (X 7) (S 7) c s v : ℝ) : EReal) :=
  oy_apply R U (by decide) (at3 U hz 6 (by decide) (by decide) (by decide) (by decide) (by decide) (by decide)) (at3 U hz 7 (by decide) (by decide) (by decide) (by decide) (by decide) (by decide)) v c s

theorem canon_allO (b : Fin 8) (v : Fin 160) (c : Fin 2) (s : Fin 64) :
    View.canon (L.allO first again z) (ix3 b v (hl c s)) = ((outs (X b) (S b) c s v : ℝ) : EReal) := by
  rw [Ld.allO]
  unfold Ld.os
  rw [canon_out, canon_out, canon_out, canon_out, canon_out, canon_out, canon_out, canon_out]
  rcases entries b with rfl | rfl | rfl | rfl | rfl | rfl | rfl | rfl
  · rw [if_neg (by decide), if_neg (by decide), if_neg (by decide), if_neg (by decide), if_neg (by decide), if_neg (by decide), if_neg (by decide), if_pos rfl, oOut_apply, out0 R U hz]
  · rw [if_neg (by decide), if_neg (by decide), if_neg (by decide), if_neg (by decide), if_neg (by decide), if_neg (by decide), if_pos rfl, oOut_apply, out1 R U hz]
  · rw [if_neg (by decide), if_neg (by decide), if_neg (by decide), if_neg (by decide), if_neg (by decide), if_pos rfl, oOut_apply, out2 R U hz]
  · rw [if_neg (by decide), if_neg (by decide), if_neg (by decide), if_neg (by decide), if_pos rfl, oOut_apply, out3 R U hz]
  · rw [if_neg (by decide), if_neg (by decide), if_neg (by decide), if_pos rfl, oOut_apply, out4 R U hz]
  · rw [if_neg (by decide), if_neg (by decide), if_pos rfl, oOut_apply, out5 R U hz]
  · rw [if_neg (by decide), if_pos rfl, oOut_apply, out6 R U hz]
  · rw [if_pos rfl, oOut_apply, out7 R U hz]

theorem canon_allY (b : Fin 8) (v : Fin 160) (c : Fin 2) (s : Fin 64) :
    View.canon (L.allY first again z) (ix3 b v (hl c s)) = yR (outs (X b) (S b) c s) (L.gate b (ix3 0 v (hl c s))) (L.w (ix2 v (hl c s))) v := by
  rw [Ld.allY]
  unfold Ld.ys
  rw [canon_out, canon_out, canon_out, canon_out, canon_out, canon_out, canon_out, canon_out]
  rcases entries b with rfl | rfl | rfl | rfl | rfl | rfl | rfl | rfl
  · rw [if_neg (by decide), if_neg (by decide), if_neg (by decide), if_neg (by decide), if_neg (by decide), if_neg (by decide), if_neg (by decide), if_pos rfl, yOut_apply _ _ _ _ _ (fun v => out0 R U hz v c s)]
  · rw [if_neg (by decide), if_neg (by decide), if_neg (by decide), if_neg (by decide), if_neg (by decide), if_neg (by decide), if_pos rfl, yOut_apply _ _ _ _ _ (fun v => out1 R U hz v c s)]
  · rw [if_neg (by decide), if_neg (by decide), if_neg (by decide), if_neg (by decide), if_neg (by decide), if_pos rfl, yOut_apply _ _ _ _ _ (fun v => out2 R U hz v c s)]
  · rw [if_neg (by decide), if_neg (by decide), if_neg (by decide), if_neg (by decide), if_pos rfl, yOut_apply _ _ _ _ _ (fun v => out3 R U hz v c s)]
  · rw [if_neg (by decide), if_neg (by decide), if_neg (by decide), if_pos rfl, yOut_apply _ _ _ _ _ (fun v => out4 R U hz v c s)]
  · rw [if_neg (by decide), if_neg (by decide), if_pos rfl, yOut_apply _ _ _ _ _ (fun v => out5 R U hz v c s)]
  · rw [if_neg (by decide), if_pos rfl, yOut_apply _ _ _ _ _ (fun v => out6 R U hz v c s)]
  · rw [if_pos rfl, yOut_apply _ _ _ _ _ (fun v => out7 R U hz v c s)]

end

/-! ## The two ways a state is read -/

theorem row_idx (b : Fin 8) (v : Fin 160) (c : Fin 128) : (rowOf b).toLoadRect.idx (ix4 0 0 v c) = ix4 b 0 v c := row_emb b v c

theorem any4 (j : S1x1x160x128.Idx) : ∃ v c, j = ix4 0 0 v c :=
  ⟨j 2, j 3, funext fun a => match a with
    | ⟨0, _⟩ => Fin.ext (Nat.lt_one_iff.1 (j 0).isLt)
    | ⟨1, _⟩ => Fin.ext (Nat.lt_one_iff.1 (j 1).isLt)
    | ⟨2, _⟩ => rfl
    | ⟨3, _⟩ => rfl⟩

section

variable (arg15 : Memref sig .tc .vmem S8x1x160x128 .f32) (harg15 : arg15.IsWhole)

theorem reload_apply (acc : List (Piece12 Ideal)) (b : Fin 8) (v : Fin 160) (c : Fin 128) :
    reload arg15 acc b (ix4 0 0 v c) = View.canon acc (ix4 b 0 v c) := by
  rw [reload, View.readCov_eq_canon']
  show View.canon acc ((rowOf b).toLoadRect.idx (ix4 0 0 v c)) = _
  rw [row_idx]

theorem reload_head (b : Fin 8) (s : Vec Ideal S1x1x160x128 .f32) (acc : List (Piece12 Ideal)) :
    reload arg15 (⟨rowOf b, s⟩ :: acc) b = s := by
  funext j
  obtain ⟨v, c, rfl⟩ := any4 j
  rw [reload_apply, canon_row, if_pos rfl]

theorem reload_next (b b' : Fin 8) (s : Vec Ideal S1x1x160x128 .f32) (acc : List (Piece12 Ideal)) (h : b ≠ b') :
    reload arg15 (⟨rowOf b', s⟩ :: acc) b = reload arg15 acc b := by
  funext j
  obtain ⟨v, c, rfl⟩ := any4 j
  rw [reload_apply, reload_apply, canon_row, if_neg h]

theorem rulesA : Rules (reload arg15) (reload arg15) := ⟨fun b b' s acc h => reload_next arg15 b b' s acc h, reload_head arg15, reload_next arg15⟩
theorem rulesB (x : Vec Ideal S8x1x160x128 .f32) : Rules (kept arg15 harg15 x) (reload arg15) :=
  ⟨fun _ _ _ _ _ => rfl, reload_head arg15, reload_next arg15⟩

theorem kept_apply (x : Vec Ideal S8x1x160x128 .f32) (acc : List (Piece12 Ideal)) (b : Fin 8) (v : Fin 160) (c : Fin 128) :
    kept arg15 harg15 x acc b (ix4 0 0 v c) = x (ix4 b 0 v c) := by
  rw [kept, View.readAt_eq_ld, harg15.read_unread]
  show x ((rowOf b).toLoadRect.idx (ix4 0 0 v c)) = _
  rw [row_idx]

theorem start_apply (arg10 : Memref sig .tc .vmem S8x1x160x128 .f32) (harg10 : arg10.IsWhole) (x7 : Vec Ideal S8x1x160x128 .f32)
    (b : Fin 8) (v : Fin 160) (c : Fin 128) :
    reload arg15 (base12 arg10 harg10 x7) b (ix4 0 0 v c) = x7 (ix4 b 0 v c) := by
  rw [reload_apply, base12]
  have e : ∀ j : S8x1x160x128.Idx, (Rect.unit ![0, 0, 0, 0] S8x1x160x128.size inb_whole).emb j = j := fun j =>
    funext fun a => Fin.ext (by
      match a with
      | ⟨0, _⟩ => show 0 + 1 * (j 0).val = (j 0).val; omega
      | ⟨1, _⟩ => show 0 + 1 * (j 1).val = (j 1).val; omega
      | ⟨2, _⟩ => show 0 + 1 * (j 2).val = (j 2).val; omega
      | ⟨3, _⟩ => show 0 + 1 * (j 3).val = (j 3).val; omega)
  refine (congrArg _ (e _).symm).trans ((View.canon_cons_emb _ _ _ _).trans ?_)
  refine (congrFun (shapeCast_self (s := S8x1x160x128) _ _) _).trans ?_
  rw [View.readAt_eq_ld, harg10.read_unread]
  exact congrArg x7 (e _)

end

end Cert.Hand

end
-- ==== Proof.Hand.Data.lean ====
module

public import proofs.«01_k».proof.Proof.Hand.Blocks

/-! The problem's real data, read off the argument arrays, and its recurrence over the chunks. -/

@[expose] public section

set_option maxRecDepth 100000

noncomputable section

namespace Cert.Hand

open Idealize.ShloMosaic Idealize.SL.Sem Cert.KernelIdeal Cert.KernelIdeal.Facts₀

/-- The argument arrays. -/
structure Args where
  a0 : Vec Ideal S24x1280x18x128 .f32
  a1 : Vec Ideal S24x20x18 .f32
  a2 : Vec Ideal S24x1280x18x128 .f32
  a3 : Vec Ideal S24x20x18 .f32
  a4 : Vec Ideal S24x1280x18x160 .bf16
  a5 : Vec Ideal S24x1280x18x128 .f32
  a6 : Vec Ideal S24x1280x18 .f32
  a7 : Vec Ideal S24x18x128x160 .f32
  a8 : Vec Ideal S24x1280x2880 .bf16
  a9 : Vec Ideal S160 .f32

/-- Position `t` of chunk `n`. -/
def seq (n : ℕ) (t : Fin 64) : Fin 1280 := ⟨(64 * n + t.val) % 1280, Nat.mod_lt _ (by decide)⟩
def chunkNo (n : ℕ) : Fin 20 := ⟨n % 20, Nat.mod_lt _ (by decide)⟩
def col (h : Fin 18) (v : Fin 160) : Fin 2880 := ⟨160 * h.val + v.val, by omega⟩

namespace Args

variable (A : Args)

/-- Every entry that enters the recurrence is a real number. -/
structure Real : Prop where
  r0 : ∀ i, A.a0 i = (((A.a0 i : EReal).toReal : ℝ) : EReal)
  r1 : ∀ i, A.a1 i = (((A.a1 i : EReal).toReal : ℝ) : EReal)
  r2 : ∀ i, A.a2 i = (((A.a2 i : EReal).toReal : ℝ) : EReal)
  r3 : ∀ i, A.a3 i = (((A.a3 i : EReal).toReal : ℝ) : EReal)
  r4 : ∀ i, A.a4 i = (((A.a4 i : EReal).toReal : ℝ) : EReal)
  r5 : ∀ i, A.a5 i = (((A.a5 i : EReal).toReal : ℝ) : EReal)
  r6 : ∀ i, A.a6 i = (((A.a6 i : EReal).toReal : ℝ) : EReal)
  r7 : ∀ i, A.a7 i = (((A.a7 i : EReal).toReal : ℝ) : EReal)

def chunk (b : Fin 24) (h : Fin 18) (n : ℕ) : Chunk where
  ks := (A.a3 (ix3 b (chunkNo n) h) : EReal).toReal
  qs := (A.a1 (ix3 b (chunkNo n) h) : EReal).toReal
  g t d := (A.a5 (ix4 b (seq n t) h d) : EReal).toReal
  k t d := (A.a2 (ix4 b (seq n t) h d) : EReal).toReal
  q t d := (A.a0 (ix4 b (seq n t) h d) : EReal).toReal
  b t := (A.a6 (ix3 b (seq n t) h) : EReal).toReal
  v t v := (A.a4 (ix4 b (seq n t) h v) : EReal).toReal

/-- The state before chunk `n`. -/
def state (b : Fin 24) (h : Fin 18) : ℕ → Fin 128 → Fin 160 → ℝ
  | 0 => fun c v => (A.a7 (ix4 b h c v) : EReal).toReal
  | n + 1 => (A.chunk b h n).next (state b h n)

def out (b : Fin 24) (h : Fin 18) (n : ℕ) : Fin 64 → Fin 160 → ℝ := (A.chunk b h n).o scaleR (A.state b h n)

def gated (b : Fin 24) (h : Fin 18) (n : ℕ) (s : Fin 64) (v : Fin 160) : EReal :=
  yR (A.out b h n s) (A.a8 (ix3 b (seq n s) (col h v))) (A.a9 (ix1 v)) v

end Args

/-! ## A grid point's loads -/

section

variable (i : grid0.Coords)
  (arg3 : Memref sig .tc .smem S1x8x20 .f32) (harg3 : arg3.IsWhole) (arg4 : Memref sig .tc .smem S1x8x20 .f32) (harg4 : arg4.IsWhole)
  (arg5 : Memref sig .tc .vmem S8x1x128x128 .fp8e4m3) (harg5 : arg5.IsWhole) (arg6 : Memref sig .tc .vmem S8x1x128x128 .fp8e4m3) (harg6 : arg6.IsWhole)
  (arg7 : Memref sig .tc .vmem S8x1x160x128 .bf16) (harg7 : arg7.IsWhole) (arg8 : Memref sig .tc .vmem S8x1x128x128 .f32) (harg8 : arg8.IsWhole)
  (arg9 : Memref sig .tc .vmem S1x8x128 .f32) (harg9 : arg9.IsWhole) (arg11 : Memref sig .tc .vmem S8x160x128 .bf16) (harg11 : arg11.IsWhole)
  (x0 x1 : Vec Ideal S1x8x20 .f32) (x2 x3 : Vec Ideal S8x1x128x128 .fp8e4m3) (x4 : Vec Ideal S8x1x160x128 .bf16) (x5 : Vec Ideal S8x1x128x128 .f32)
  (x6 : Vec Ideal S1x8x128 .f32) (x8 : Vec Ideal S8x160x128 .bf16) (W : Vec Ideal S160x128 .f32)

def half (n : Fin 10) (c : Fin 2) : Fin 20 := ⟨2 * n.val + c.val, by omega⟩

theorem scale_idx (n : Fin 10) (b : Fin 8) (c : Fin 2) :
    (scaleOf n b c).toLoadRect.idx (Shape.Idx.first (show 0 < S1x1x1.numel by decide)) = ix3 0 b (half n c) := by
  have e := chunkWord_eq n c
  funext a
  apply Fin.ext
  match a with
  | ⟨0, _⟩ => rfl
  | ⟨1, _⟩ => show b.val + 1 * 0 = b.val; omega
  | ⟨2, _⟩ => show chunkWord n c + 1 * 0 = 2 * n.val + c.val; omega

theorem seq_idx (b : Fin 8) (c : Fin 2) (t : Fin 64) (d : Fin 128) : (seqOf b c).toLoadRect.idx (ix4 0 0 t d) = ix4 b 0 (hl c t) d := by
  funext a
  apply Fin.ext
  match a with
  | ⟨0, _⟩ => show b.val + 1 * 0 = b.val; omega
  | ⟨1, _⟩ => rfl
  | ⟨2, _⟩ => show 64 * c.val + 1 * t.val = (hl c t).val; simp only [hl]; omega
  | ⟨3, _⟩ => show 0 + 1 * d.val = d.val; omega

theorem beta_idx (b : Fin 8) (l : Fin 128) : (betaOf b).toLoadRect.idx (ix3 0 0 l) = ix3 0 b l := by
  funext a
  apply Fin.ext
  match a with
  | ⟨0, _⟩ => rfl
  | ⟨1, _⟩ => show b.val + 1 * 0 = b.val; omega
  | ⟨2, _⟩ => show 0 + 1 * l.val = l.val; omega

theorem out_idx (b : Fin 8) (v : Fin 160) (l : Fin 128) : (outOf b).toLoadRect.idx (ix3 0 v l) = ix3 b v l := out_emb b v l

theorem loads_reads {X : Fin 8 → Fin 2 → Chunk}
    (h0 : ∀ b c, x0 (ix3 0 b (half (i 2) c)) = ((X b c).qs : EReal)) (h1 : ∀ b c, x1 (ix3 0 b (half (i 2) c)) = ((X b c).ks : EReal))
    (h2 : ∀ b c t d, x2 (ix4 b 0 (hl c t) d) = ((X b c).q t d : EReal)) (h3 : ∀ b c t d, x3 (ix4 b 0 (hl c t) d) = ((X b c).k t d : EReal))
    (h4 : ∀ b c t v, x4 (ix4 b 0 v (hl c t)) = ((X b c).v t v : EReal)) (h5 : ∀ b c t d, x5 (ix4 b 0 (hl c t) d) = ((X b c).g t d : EReal))
    (h6 : ∀ b c t, x6 (ix3 0 b (hl c t)) = ((X b c).b t : EReal)) :
    Reads (loads i arg3 harg3 arg4 harg4 arg5 harg5 arg6 harg6 arg7 harg7 arg8 harg8 arg9 harg9 arg11 harg11 x0 x1 x2 x3 x4 x5 x6 x8 W) X where
  qs b c := by
    dsimp only [loads]
    rw [View.readAt_eq_ld, harg3.read_unread]
    exact (congrArg x0 (scale_idx (i 2) b c)).trans (h0 b c)
  ks b c := by
    dsimp only [loads]
    rw [View.readAt_eq_ld, harg4.read_unread]
    exact (congrArg x1 (scale_idx (i 2) b c)).trans (h1 b c)
  q b c t d := by
    dsimp only [loads]
    rw [View.readAt_eq_ld, harg5.read_unread]
    exact (congrArg x2 (seq_idx b c t d)).trans (h2 b c t d)
  k b c t d := by
    dsimp only [loads]
    rw [View.readAt_eq_ld, harg6.read_unread]
    exact (congrArg x3 (seq_idx b c t d)).trans (h3 b c t d)
  g b c t d := by
    dsimp only [loads]
    rw [View.readAt_eq_ld, harg8.read_unread]
    exact (congrArg x5 (seq_idx b c t d)).trans (h5 b c t d)
  b b c t := by
    dsimp only [loads]
    rw [View.readAt_eq_ld, harg9.read_unread]
    exact (congrArg x6 (beta_idx b (hl c t))).trans (h6 b c t)
  v b c t v := by
    dsimp only [loads]
    rw [View.readAt_eq_ld, harg7.read_unread]
    exact (congrArg x4 (row_idx b v (hl c t))).trans (h4 b c t v)

theorem loads_gate (b : Fin 8) (v : Fin 160) (l : Fin 128) :
    (loads i arg3 harg3 arg4 harg4 arg5 harg5 arg6 harg6 arg7 harg7 arg8 harg8 arg9 harg9 arg11 harg11 x0 x1 x2 x3 x4 x5 x6 x8 W).gate b (ix3 0 v l)
      = x8 (ix3 b v l) := by
  dsimp only [loads]
  rw [View.readAt_eq_ld, harg11.read_unread]
  exact congrArg x8 (out_idx b v l)

end

end Cert.Hand

end
-- ==== Proof.Hand.Entry.lean ====
module

public import proofs.«01_k».proof.Proof.Hand.Data
public import proofs.«01_k».proof.Proof.Gen.KernelIdeal.Frame
public import proofs.«01_k».proof.Proof.Gen.KernelIdeal.Run
public import Idealize.ShloMosaic.Lib.Pipeline.ValueKit

/-! The blocks that a grid point reads, as entries of the argument arrays. -/

@[expose] public section

set_option maxRecDepth 100000

noncomputable section

namespace Cert.Hand

open Idealize.ShloMosaic Idealize.ShloMosaic.TcCoe Idealize.SL.Sem Idealize.ShloMosaic.StableHlo Cert.KernelIdeal Cert.KernelIdeal.Gen

variable (m : (ℓ : Loc nD τ sig) → Buf (Elt Ideal) ℓ) (c : Dev nD)

/-- The argument arrays in memory. -/
def args : Args where
  a0 := m ((c.tc : Thread nD τ).loc main_arg0)
  a1 := m ((c.tc : Thread nD τ).loc main_arg1)
  a2 := m ((c.tc : Thread nD τ).loc main_arg2)
  a3 := m ((c.tc : Thread nD τ).loc main_arg3)
  a4 := m ((c.tc : Thread nD τ).loc main_arg4)
  a5 := m ((c.tc : Thread nD τ).loc main_arg5)
  a6 := m ((c.tc : Thread nD τ).loc main_arg6)
  a7 := m ((c.tc : Thread nD τ).loc main_arg7)
  a8 := m ((c.tc : Thread nD τ).loc main_arg8)
  a9 := m ((c.tc : Thread nD τ).loc main_arg9)

theorem V_v2 (h : Fin 18) (b : Fin 24) (j : Fin 20) : V m c main_v2 (ix3 h b j) = (args m c).a1 (ix3 b j h) := by
  dsimp only [V, V0]
  simp only [hostOps0, List.flatten_cons, List.flatten_nil, List.append_nil, List.cons_append, List.nil_append]
  after_results
  pointwise [args]

theorem V_v3 (h : Fin 18) (b : Fin 24) (j : Fin 20) : V m c main_v3 (ix3 h b j) = (args m c).a3 (ix3 b j h) := by
  dsimp only [V, V0]
  simp only [hostOps0, List.flatten_cons, List.flatten_nil, List.append_nil, List.cons_append, List.nil_append]
  after_results
  pointwise [args]

theorem V_v4 (b : Fin 24) (h : Fin 18) (r : Fin 1280) (d : Fin 128) : V m c main_v4 (ix4 b h r d) = (args m c).a0 (ix4 b r h d) := by
  dsimp only [V, V0]
  simp only [hostOps0, List.flatten_cons, List.flatten_nil, List.append_nil, List.cons_append, List.nil_append]
  after_results
  pointwise [args]

theorem V_v5 (b : Fin 24) (h : Fin 18) (r : Fin 1280) (d : Fin 128) : V m c main_v5 (ix4 b h r d) = (args m c).a2 (ix4 b r h d) := by
  dsimp only [V, V0]
  simp only [hostOps0, List.flatten_cons, List.flatten_nil, List.append_nil, List.cons_append, List.nil_append]
  after_results
  pointwise [args]

theorem V_v6 (b : Fin 24) (h : Fin 18) (v : Fin 160) (r : Fin 1280) : V m c main_v6 (ix4 b h v r) = (args m c).a4 (ix4 b r h v) := by
  dsimp only [V, V0]
  simp only [hostOps0, List.flatten_cons, List.flatten_nil, List.append_nil, List.cons_append, List.nil_append]
  after_results
  pointwise [args]

theorem V_v7 (b : Fin 24) (h : Fin 18) (r : Fin 1280) (d : Fin 128) : V m c main_v7 (ix4 b h r d) = (args m c).a5 (ix4 b r h d) := by
  dsimp only [V, V0]
  simp only [hostOps0, List.flatten_cons, List.flatten_nil, List.append_nil, List.cons_append, List.nil_append]
  after_results
  pointwise [args]

theorem V_v8 (h : Fin 18) (b : Fin 24) (r : Fin 1280) : V m c main_v8 (ix3 h b r) = (args m c).a6 (ix3 b r h) := by
  dsimp only [V, V0]
  simp only [hostOps0, List.flatten_cons, List.flatten_nil, List.append_nil, List.cons_append, List.nil_append]
  after_results
  pointwise [args]

theorem V_v9 (b : Fin 24) (h : Fin 18) (v : Fin 160) (d : Fin 128) : V m c main_v9 (ix4 b h v d) = (args m c).a7 (ix4 b h d v) := by
  dsimp only [V, V0]
  simp only [hostOps0, List.flatten_cons, List.flatten_nil, List.append_nil, List.cons_append, List.nil_append]
  after_results
  pointwise [args]

theorem V_v10 (b : Fin 24) (l : Fin 2880) (r : Fin 1280) : V m c main_v10 (ix3 b l r) = (args m c).a8 (ix3 b r l) := by
  dsimp only [V, V0]
  simp only [hostOps0, List.flatten_cons, List.flatten_nil, List.append_nil, List.cons_append, List.nil_append]
  after_results
  pointwise [args]

theorem V_v11 (v : Fin 160) : V m c main_v11 (ix2 v 0) = (args m c).a9 (ix1 v) := by
  dsimp only [V, V0]
  simp only [hostOps0, List.flatten_cons, List.flatten_nil, List.append_nil, List.cons_append, List.nil_append]
  after_results
  pointwise [args]

theorem coord0 (t : Fin cfg0.N) : (grid0.coords t 0).val = t.val / 30 % 18 := Pipeline.Grid.coords_val t 0 (by decide) rfl
theorem coord1 (t : Fin cfg0.N) : (grid0.coords t 1).val = t.val / 10 % 3 := Pipeline.Grid.coords_val t 1 (by decide) rfl
theorem coord2 (t : Fin cfg0.N) : (grid0.coords t 2).val = t.val / 1 % 10 := Pipeline.Grid.coords_val t 2 (by decide) rfl

def head (t : ℕ) : Fin 18 := ⟨t / 30 % 18, Nat.mod_lt _ (by decide)⟩
def entry (t : ℕ) (b : Fin 8) : Fin 24 := ⟨8 * (t / 10 % 3) + b.val, by omega⟩
def stp (t : ℕ) : Fin 10 := ⟨t % 10, Nat.mod_lt _ (by decide)⟩

/-- The token at place `r` of the tile of 128 that point `t` takes. -/
def tok (t : ℕ) (r : Fin 128) : Fin 1280 := ⟨128 * (t % 10) + r.val, by omega⟩

theorem blkr0 (t : Fin cfg0.N) (b : Fin 8) (j : Fin 20) : iblk m c 0 t (ix3 0 b j) = (args m c).a1 (ix3 (entry t.val b) j (head t.val)) := by
  have e0 := coord0 t
  have e1 := coord1 t
  have e2 := coord2 t
  refine .trans ?_ (V_v2 m c _ _ _)
  show V m c main_v2 _ = V m c main_v2 _
  congr 1
  funext a
  refine Fin.ext ?_
  refine (Pipeline.Window.rect_emb_val win0_0 t _ a).trans ?_
  match a with
  | 0 => show (BitVec.ofNat 32 (grid0.coords t 0).val).toNat * 1 + 0 = t.val / 30 % 18; rw [BitVec.toNat_ofNat, e0]; omega
  | 1 => show (BitVec.ofNat 32 (grid0.coords t 1).val).toNat * 8 + b.val = 8 * (t.val / 10 % 3) + b.val; rw [BitVec.toNat_ofNat, e1]; omega
  | 2 => show (0#32).toNat * 20 + j.val = j.val; simp

theorem blkr1 (t : Fin cfg0.N) (b : Fin 8) (j : Fin 20) : iblk m c 1 t (ix3 0 b j) = (args m c).a3 (ix3 (entry t.val b) j (head t.val)) := by
  have e0 := coord0 t
  have e1 := coord1 t
  have e2 := coord2 t
  refine .trans ?_ (V_v3 m c _ _ _)
  show V m c main_v3 _ = V m c main_v3 _
  congr 1
  funext a
  refine Fin.ext ?_
  refine (Pipeline.Window.rect_emb_val win0_1 t _ a).trans ?_
  match a with
  | 0 => show (BitVec.ofNat 32 (grid0.coords t 0).val).toNat * 1 + 0 = t.val / 30 % 18; rw [BitVec.toNat_ofNat, e0]; omega
  | 1 => show (BitVec.ofNat 32 (grid0.coords t 1).val).toNat * 8 + b.val = 8 * (t.val / 10 % 3) + b.val; rw [BitVec.toNat_ofNat, e1]; omega
  | 2 => show (0#32).toNat * 20 + j.val = j.val; simp

theorem blkr2 (t : Fin cfg0.N) (b : Fin 8) (r : Fin 128) (d : Fin 128) : iblk m c 2 t (ix4 b 0 r d) = (args m c).a0 (ix4 (entry t.val b) (tok t.val r) (head t.val) d) := by
  have e0 := coord0 t
  have e1 := coord1 t
  have e2 := coord2 t
  refine .trans ?_ (V_v4 m c _ _ _ _)
  show V m c main_v4 _ = V m c main_v4 _
  congr 1
  funext a
  refine Fin.ext ?_
  refine (Pipeline.Window.rect_emb_val win0_2 t _ a).trans ?_
  match a with
  | 0 => show (BitVec.ofNat 32 (grid0.coords t 1).val).toNat * 8 + b.val = 8 * (t.val / 10 % 3) + b.val; rw [BitVec.toNat_ofNat, e1]; omega
  | 1 => show (BitVec.ofNat 32 (grid0.coords t 0).val).toNat * 1 + 0 = t.val / 30 % 18; rw [BitVec.toNat_ofNat, e0]; omega
  | 2 => show (BitVec.ofNat 32 (grid0.coords t 2).val).toNat * 128 + r.val = 128 * (t.val % 10) + r.val; rw [BitVec.toNat_ofNat, e2]; omega
  | 3 => show (0#32).toNat * 128 + d.val = d.val; simp

theorem blkr3 (t : Fin cfg0.N) (b : Fin 8) (r : Fin 128) (d : Fin 128) : iblk m c 3 t (ix4 b 0 r d) = (args m c).a2 (ix4 (entry t.val b) (tok t.val r) (head t.val) d) := by
  have e0 := coord0 t
  have e1 := coord1 t
  have e2 := coord2 t
  refine .trans ?_ (V_v5 m c _ _ _ _)
  show V m c main_v5 _ = V m c main_v5 _
  congr 1
  funext a
  refine Fin.ext ?_
  refine (Pipeline.Window.rect_emb_val win0_3 t _ a).trans ?_
  match a with
  | 0 => show (BitVec.ofNat 32 (grid0.coords t 1).val).toNat * 8 + b.val = 8 * (t.val / 10 % 3) + b.val; rw [BitVec.toNat_ofNat, e1]; omega
  | 1 => show (BitVec.ofNat 32 (grid0.coords t 0).val).toNat * 1 + 0 = t.val / 30 % 18; rw [BitVec.toNat_ofNat, e0]; omega
  | 2 => show (BitVec.ofNat 32 (grid0.coords t 2).val).toNat * 128 + r.val = 128 * (t.val % 10) + r.val; rw [BitVec.toNat_ofNat, e2]; omega
  | 3 => show (0#32).toNat * 128 + d.val = d.val; simp

theorem blkr4 (t : Fin cfg0.N) (b : Fin 8) (v : Fin 160) (r : Fin 128) : iblk m c 4 t (ix4 b 0 v r) = (args m c).a4 (ix4 (entry t.val b) (tok t.val r) (head t.val) v) := by
  have e0 := coord0 t
  have e1 := coord1 t
  have e2 := coord2 t
  refine .trans ?_ (V_v6 m c _ _ _ _)
  show V m c main_v6 _ = V m c main_v6 _
  congr 1
  funext a
  refine Fin.ext ?_
  refine (Pipeline.Window.rect_emb_val win0_4 t _ a).trans ?_
  match a with
  | 0 => show (BitVec.ofNat 32 (grid0.coords t 1).val).toNat * 8 + b.val = 8 * (t.val / 10 % 3) + b.val; rw [BitVec.toNat_ofNat, e1]; omega
  | 1 => show (BitVec.ofNat 32 (grid0.coords t 0).val).toNat * 1 + 0 = t.val / 30 % 18; rw [BitVec.toNat_ofNat, e0]; omega
  | 2 => show (0#32).toNat * 160 + v.val = v.val; simp
  | 3 => show (BitVec.ofNat 32 (grid0.coords t 2).val).toNat * 128 + r.val = 128 * (t.val % 10) + r.val; rw [BitVec.toNat_ofNat, e2]; omega

theorem blkr5 (t : Fin cfg0.N) (b : Fin 8) (r : Fin 128) (d : Fin 128) : iblk m c 5 t (ix4 b 0 r d) = (args m c).a5 (ix4 (entry t.val b) (tok t.val r) (head t.val) d) := by
  have e0 := coord0 t
  have e1 := coord1 t
  have e2 := coord2 t
  refine .trans ?_ (V_v7 m c _ _ _ _)
  show V m c main_v7 _ = V m c main_v7 _
  congr 1
  funext a
  refine Fin.ext ?_
  refine (Pipeline.Window.rect_emb_val win0_5 t _ a).trans ?_
  match a with
  | 0 => show (BitVec.ofNat 32 (grid0.coords t 1).val).toNat * 8 + b.val = 8 * (t.val / 10 % 3) + b.val; rw [BitVec.toNat_ofNat, e1]; omega
  | 1 => show (BitVec.ofNat 32 (grid0.coords t 0).val).toNat * 1 + 0 = t.val / 30 % 18; rw [BitVec.toNat_ofNat, e0]; omega
  | 2 => show (BitVec.ofNat 32 (grid0.coords t 2).val).toNat * 128 + r.val = 128 * (t.val % 10) + r.val; rw [BitVec.toNat_ofNat, e2]; omega
  | 3 => show (0#32).toNat * 128 + d.val = d.val; simp

theorem blkr6 (t : Fin cfg0.N) (b : Fin 8) (r : Fin 128) : iblk m c 6 t (ix3 0 b r) = (args m c).a6 (ix3 (entry t.val b) (tok t.val r) (head t.val)) := by
  have e0 := coord0 t
  have e1 := coord1 t
  have e2 := coord2 t
  refine .trans ?_ (V_v8 m c _ _ _)
  show V m c main_v8 _ = V m c main_v8 _
  congr 1
  funext a
  refine Fin.ext ?_
  refine (Pipeline.Window.rect_emb_val win0_6 t _ a).trans ?_
  match a with
  | 0 => show (BitVec.ofNat 32 (grid0.coords t 0).val).toNat * 1 + 0 = t.val / 30 % 18; rw [BitVec.toNat_ofNat, e0]; omega
  | 1 => show (BitVec.ofNat 32 (grid0.coords t 1).val).toNat * 8 + b.val = 8 * (t.val / 10 % 3) + b.val; rw [BitVec.toNat_ofNat, e1]; omega
  | 2 => show (BitVec.ofNat 32 (grid0.coords t 2).val).toNat * 128 + r.val = 128 * (t.val % 10) + r.val; rw [BitVec.toNat_ofNat, e2]; omega

theorem blkr7 (t : Fin cfg0.N) (b : Fin 8) (v : Fin 160) (d : Fin 128) : iblk m c 7 t (ix4 b 0 v d) = (args m c).a7 (ix4 (entry t.val b) (head t.val) d v) := by
  have e0 := coord0 t
  have e1 := coord1 t
  have e2 := coord2 t
  refine .trans ?_ (V_v9 m c _ _ _ _)
  show V m c main_v9 _ = V m c main_v9 _
  congr 1
  funext a
  refine Fin.ext ?_
  refine (Pipeline.Window.rect_emb_val win0_7 t _ a).trans ?_
  match a with
  | 0 => show (BitVec.ofNat 32 (grid0.coords t 1).val).toNat * 8 + b.val = 8 * (t.val / 10 % 3) + b.val; rw [BitVec.toNat_ofNat, e1]; omega
  | 1 => show (BitVec.ofNat 32 (grid0.coords t 0).val).toNat * 1 + 0 = t.val / 30 % 18; rw [BitVec.toNat_ofNat, e0]; omega
  | 2 => show (0#32).toNat * 160 + v.val = v.val; simp
  | 3 => show (0#32).toNat * 128 + d.val = d.val; simp

theorem blkr8 (t : Fin cfg0.N) (b : Fin 8) (v : Fin 160) (r : Fin 128) : iblk m c 8 t (ix3 b v r) = (args m c).a8 (ix3 (entry t.val b) (tok t.val r) (col (head t.val) v)) := by
  have e0 := coord0 t
  have e1 := coord1 t
  have e2 := coord2 t
  refine .trans ?_ (V_v10 m c _ _ _)
  show V m c main_v10 _ = V m c main_v10 _
  congr 1
  funext a
  refine Fin.ext ?_
  refine (Pipeline.Window.rect_emb_val win0_8 t _ a).trans ?_
  match a with
  | 0 => show (BitVec.ofNat 32 (grid0.coords t 1).val).toNat * 8 + b.val = 8 * (t.val / 10 % 3) + b.val; rw [BitVec.toNat_ofNat, e1]; omega
  | 1 => show (BitVec.ofNat 32 (grid0.coords t 0).val).toNat * 160 + v.val = 160 * (t.val / 30 % 18) + v.val; rw [BitVec.toNat_ofNat, e0]; omega
  | 2 => show (BitVec.ofNat 32 (grid0.coords t 2).val).toNat * 128 + r.val = 128 * (t.val % 10) + r.val; rw [BitVec.toNat_ofNat, e2]; omega

theorem blkr9 (t : Fin cfg0.N) (v : Fin 160) : iblk m c 9 t (ix2 v 0) = (args m c).a9 (ix1 v) := by
  have e0 := coord0 t
  have e1 := coord1 t
  have e2 := coord2 t
  refine .trans ?_ (V_v11 m c _)
  show V m c main_v11 _ = V m c main_v11 _
  congr 1
  funext a
  refine Fin.ext ?_
  refine (Pipeline.Window.rect_emb_val win0_9 t _ a).trans ?_
  match a with
  | 0 => show (0#32).toNat * 160 + v.val = v.val; simp
  | 1 => show (0#32).toNat * 1 + 0 = 0; simp

end Cert.Hand

end
-- ==== Proof.Hand.Cases.lean ====
module

public import proofs.«01_k».proof.Proof.Hand.Data
public import proofs.«01_k».proof.Proof.Gen.KernelIdeal.Frame

/-! What one grid point leaves in its output blocks and in the scratch, in both cases of the branch. -/

@[expose] public section

set_option maxRecDepth 100000

noncomputable section

namespace Cert.Hand

open Idealize.ShloMosaic Idealize.SL.Sem Cert.KernelIdeal Cert.KernelIdeal.Facts₀

open Cert.KernelIdeal.Gen

variable (c : Dev nD) (i : grid0.Coords) (arg3 : Memref sig .tc .smem S1x8x20 .f32) (harg3 : arg3.IsWhole) (arg4 : Memref sig .tc .smem S1x8x20 .f32) (harg4 : arg4.IsWhole) (arg5 : Memref sig .tc .vmem S8x1x128x128 .fp8e4m3) (harg5 : arg5.IsWhole) (arg6 : Memref sig .tc .vmem S8x1x128x128 .fp8e4m3) (harg6 : arg6.IsWhole) (arg7 : Memref sig .tc .vmem S8x1x160x128 .bf16) (harg7 : arg7.IsWhole) (arg8 : Memref sig .tc .vmem S8x1x128x128 .f32) (harg8 : arg8.IsWhole) (arg9 : Memref sig .tc .vmem S1x8x128 .f32) (harg9 : arg9.IsWhole) (arg10 : Memref sig .tc .vmem S8x1x160x128 .f32) (harg10 : arg10.IsWhole) (arg11 : Memref sig .tc .vmem S8x160x128 .bf16) (harg11 : arg11.IsWhole) (arg12 : Memref sig .tc .vmem S160x1 .f32) (harg12 : arg12.IsWhole) (arg13 : Memref sig .tc .vmem S8x160x128 .bf16) (harg13 : arg13.IsWhole) (arg14 : Memref sig .tc .vmem S8x160x128 .bf16) (harg14 : arg14.IsWhole) (arg15 : Memref sig .tc .vmem S8x1x160x128 .f32) (harg15 : arg15.IsWhole) (arg16 : Memref sig .tc .vmem S160x128 .f32) (harg16 : arg16.IsWhole)
  (x0 : Vec Ideal S1x8x20 .f32) (x1 : Vec Ideal S1x8x20 .f32) (x2 : Vec Ideal S8x1x128x128 .fp8e4m3) (x3 : Vec Ideal S8x1x128x128 .fp8e4m3) (x4 : Vec Ideal S8x1x160x128 .bf16) (x5 : Vec Ideal S8x1x128x128 .f32) (x6 : Vec Ideal S1x8x128 .f32) (x7 : Vec Ideal S8x1x160x128 .f32) (x8 : Vec Ideal S8x160x128 .bf16) (x9 : Vec Ideal S160x1 .f32) (xo12 : Vec Ideal S8x1x160x128 .f32) (xs0 : Vec Ideal S160x128 .f32)

theorem spread_word (v : Fin 160) (l : Fin 128) : kernelRun0_A.sl.v12512 (F := Ideal) c arg12 harg12 x9 (ix2 v l) = x9 (ix2 v 0) := by
  pointwise [kernelRun0_A.sl.v12512, kernelRun0_A.sl.v12509]
  unfold kernelRun0_A.sl.v12508
  have e : ∀ (x : Vec Ideal S160x1 .f32) h, shapeCast S160x1 x h = x := fun x h => shapeCast_self x h
  refine (congrFun (e _ _) _).trans ?_
  unfold kernelRun0_A.sl.v12507
  refine (congrFun (e _ _) _).trans ?_
  rw [View.readAt_eq_ld, harg12.read_unread]
  show x9 _ = x9 _
  congr 1
  funext a
  apply Fin.ext
  match a with
  | ⟨0, _⟩ => show 0 + 1 * v.val = v.val; omega
  | ⟨1, _⟩ => rfl

theorem weight_read (v : Fin 160) (l : Fin 128) : kernelRun0_A.sl.v3110 (F := Ideal) c arg12 harg12 arg16 x9 (ix2 v l) = x9 (ix2 v 0) := by
  unfold kernelRun0_A.sl.v3110
  unfold kernelRun0_A.sl.HS0_1
  refine (congrFun (View.readCov_unit_zero _ (by decide) _ _) _).trans ?_
  exact spread_word c arg12 harg12 x9 v l

theorem keptW_apply (v : Fin 160) (l : Fin 128) : keptW arg16 harg16 xs0 (ix2 v l) = xs0 (ix2 v l) := by
  rw [keptW, View.readAt_eq_ld, harg16.read_unread]
  show xs0 _ = _
  congr 1
  funext a
  apply Fin.ext
  match a with
  | ⟨0, _⟩ => show 0 + 1 * v.val = v.val; omega
  | ⟨1, _⟩ => show 0 + 1 * l.val = l.val; omega

variable {X : Fin 8 → Fin 2 → Chunk} {S : Fin 8 → Fin 128 → Fin 160 → ℝ}

theorem caseA_acc (hc : cond0_0 i) (h0 : ∀ b c, x0 (ix3 0 b (half (i 2) c)) = ((X b c).qs : EReal)) (h1 : ∀ b c, x1 (ix3 0 b (half (i 2) c)) = ((X b c).ks : EReal))
    (h2 : ∀ b c t d, x2 (ix4 b 0 (hl c t) d) = ((X b c).q t d : EReal)) (h3 : ∀ b c t d, x3 (ix4 b 0 (hl c t) d) = ((X b c).k t d : EReal))
    (h4 : ∀ b c t v, x4 (ix4 b 0 v (hl c t)) = ((X b c).v t v : EReal)) (h5 : ∀ b c t d, x5 (ix4 b 0 (hl c t) d) = ((X b c).g t d : EReal))
    (h6 : ∀ b c t, x6 (ix3 0 b (hl c t)) = ((X b c).b t : EReal))
    (h7 : ∀ b v c, x7 (ix4 b 0 v c) = ((S b c v : ℝ) : EReal)) (b : Fin 8) (v : Fin 160) (d : Fin 128) :
    out0_A_12 (F := Ideal) c i arg3 harg3 arg4 harg4 arg5 harg5 arg6 harg6 arg7 harg7 arg8 harg8 arg9 harg9 arg10 harg10 arg11 harg11 arg12 harg12 arg13 harg13 arg14 harg14 arg15 harg15 arg16 harg16 hc x0 x1 x2 x3 x4 x5 x6 x7 x8 x9 (ix4 b 0 v d) = ((twice (X b) (S b) d v : ℝ) : EReal) := by
  refine (congrFun ((View.read_writes_junk_eq_canon _ _).trans (congrArg View.canon (run12A c i arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 hc))) _).trans ?_
  exact canon_acc (loads_reads i arg3 harg3 arg4 harg4 arg5 harg5 arg6 harg6 arg7 harg7 arg8 harg8 arg9 harg9 arg11 harg11 x0 x1 x2 x3 x4 x5 x6 x8 (kernelRun0_A.sl.v3110 (F := Ideal) c arg12 harg12 arg16 x9) h0 h1 h2 h3 h4 h5 h6) (rulesA arg15) (fun b v c => (start_apply arg15 arg10 harg10 x7 b v c).trans (h7 b v c)) b v d

theorem caseA_o (hc : cond0_0 i) (h0 : ∀ b c, x0 (ix3 0 b (half (i 2) c)) = ((X b c).qs : EReal)) (h1 : ∀ b c, x1 (ix3 0 b (half (i 2) c)) = ((X b c).ks : EReal))
    (h2 : ∀ b c t d, x2 (ix4 b 0 (hl c t) d) = ((X b c).q t d : EReal)) (h3 : ∀ b c t d, x3 (ix4 b 0 (hl c t) d) = ((X b c).k t d : EReal))
    (h4 : ∀ b c t v, x4 (ix4 b 0 v (hl c t)) = ((X b c).v t v : EReal)) (h5 : ∀ b c t d, x5 (ix4 b 0 (hl c t) d) = ((X b c).g t d : EReal))
    (h6 : ∀ b c t, x6 (ix3 0 b (hl c t)) = ((X b c).b t : EReal))
    (h7 : ∀ b v c, x7 (ix4 b 0 v c) = ((S b c v : ℝ) : EReal)) (b : Fin 8) (v : Fin 160) (cc : Fin 2) (s : Fin 64) :
    out0_A_11 (F := Ideal) c i arg3 harg3 arg4 harg4 arg5 harg5 arg6 harg6 arg7 harg7 arg8 harg8 arg9 harg9 arg10 harg10 arg11 harg11 arg12 harg12 arg13 harg13 arg14 harg14 arg15 harg15 arg16 harg16 hc x0 x1 x2 x3 x4 x5 x6 x7 x8 x9 (ix3 b v (hl cc s)) = ((outs (X b) (S b) cc s v : ℝ) : EReal) := by
  refine (congrFun ((View.read_writes_junk_eq_canon _ _).trans (congrArg View.canon (run11A c i arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 hc))) _).trans ?_
  exact canon_allO (loads_reads i arg3 harg3 arg4 harg4 arg5 harg5 arg6 harg6 arg7 harg7 arg8 harg8 arg9 harg9 arg11 harg11 x0 x1 x2 x3 x4 x5 x6 x8 (kernelRun0_A.sl.v3110 (F := Ideal) c arg12 harg12 arg16 x9) h0 h1 h2 h3 h4 h5 h6) (rulesA arg15) (fun b v c => (start_apply arg15 arg10 harg10 x7 b v c).trans (h7 b v c)) b v cc s

theorem caseA_y (hc : cond0_0 i) (h0 : ∀ b c, x0 (ix3 0 b (half (i 2) c)) = ((X b c).qs : EReal)) (h1 : ∀ b c, x1 (ix3 0 b (half (i 2) c)) = ((X b c).ks : EReal))
    (h2 : ∀ b c t d, x2 (ix4 b 0 (hl c t) d) = ((X b c).q t d : EReal)) (h3 : ∀ b c t d, x3 (ix4 b 0 (hl c t) d) = ((X b c).k t d : EReal))
    (h4 : ∀ b c t v, x4 (ix4 b 0 v (hl c t)) = ((X b c).v t v : EReal)) (h5 : ∀ b c t d, x5 (ix4 b 0 (hl c t) d) = ((X b c).g t d : EReal))
    (h6 : ∀ b c t, x6 (ix3 0 b (hl c t)) = ((X b c).b t : EReal))
    (h7 : ∀ b v c, x7 (ix4 b 0 v c) = ((S b c v : ℝ) : EReal)) (b : Fin 8) (v : Fin 160) (cc : Fin 2) (s : Fin 64) :
    out0_A_10 (F := Ideal) c i arg3 harg3 arg4 harg4 arg5 harg5 arg6 harg6 arg7 harg7 arg8 harg8 arg9 harg9 arg10 harg10 arg11 harg11 arg12 harg12 arg13 harg13 arg14 harg14 arg15 harg15 arg16 harg16 hc x0 x1 x2 x3 x4 x5 x6 x7 x8 x9 (ix3 b v (hl cc s)) = yR (outs (X b) (S b) cc s) (x8 (ix3 b v (hl cc s))) (x9 (ix2 v 0)) v := by
  refine (congrFun ((View.read_writes_junk_eq_canon _ _).trans (congrArg View.canon (run10A c i arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 hc))) _).trans ?_
  refine (canon_allY (loads_reads i arg3 harg3 arg4 harg4 arg5 harg5 arg6 harg6 arg7 harg7 arg8 harg8 arg9 harg9 arg11 harg11 x0 x1 x2 x3 x4 x5 x6 x8 (kernelRun0_A.sl.v3110 (F := Ideal) c arg12 harg12 arg16 x9) h0 h1 h2 h3 h4 h5 h6) (rulesA arg15) (fun b v c => (start_apply arg15 arg10 harg10 x7 b v c).trans (h7 b v c)) b v cc s).trans ?_
  rw [loads_gate]
  exact congrArg (fun w => yR (outs (X b) (S b) cc s) (x8 (ix3 b v (hl cc s))) w v) (weight_read c arg12 harg12 arg16 x9 v (hl cc s))

theorem caseB_acc (hc : ¬cond0_0 i) (h0 : ∀ b c, x0 (ix3 0 b (half (i 2) c)) = ((X b c).qs : EReal)) (h1 : ∀ b c, x1 (ix3 0 b (half (i 2) c)) = ((X b c).ks : EReal))
    (h2 : ∀ b c t d, x2 (ix4 b 0 (hl c t) d) = ((X b c).q t d : EReal)) (h3 : ∀ b c t d, x3 (ix4 b 0 (hl c t) d) = ((X b c).k t d : EReal))
    (h4 : ∀ b c t v, x4 (ix4 b 0 v (hl c t)) = ((X b c).v t v : EReal)) (h5 : ∀ b c t d, x5 (ix4 b 0 (hl c t) d) = ((X b c).g t d : EReal))
    (h6 : ∀ b c t, x6 (ix3 0 b (hl c t)) = ((X b c).b t : EReal))
    (h7 : ∀ b v c, xo12 (ix4 b 0 v c) = ((S b c v : ℝ) : EReal)) (b : Fin 8) (v : Fin 160) (d : Fin 128) :
    out0_B_12 (F := Ideal) c i arg3 harg3 arg4 harg4 arg5 harg5 arg6 harg6 arg7 harg7 arg8 harg8 arg9 harg9 arg10 harg10 arg11 harg11 arg12 harg12 arg13 harg13 arg14 harg14 arg15 harg15 arg16 harg16 hc x0 x1 x2 x3 x4 x5 x6 x7 x8 x9 xo12 xs0 (ix4 b 0 v d) = ((twice (X b) (S b) d v : ℝ) : EReal) := by
  refine (congrFun ((View.read_writes_junk_eq_canon _ _).trans (congrArg View.canon (run12B c i arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 xo12 xs0 hc))) _).trans ?_
  exact canon_acc (loads_reads i arg3 harg3 arg4 harg4 arg5 harg5 arg6 harg6 arg7 harg7 arg8 harg8 arg9 harg9 arg11 harg11 x0 x1 x2 x3 x4 x5 x6 x8 (keptW arg16 harg16 xs0) h0 h1 h2 h3 h4 h5 h6) (rulesB arg15 harg15 xo12) (fun b v c => (kept_apply arg15 harg15 xo12 [] b v c).trans (h7 b v c)) b v d

theorem caseB_o (hc : ¬cond0_0 i) (h0 : ∀ b c, x0 (ix3 0 b (half (i 2) c)) = ((X b c).qs : EReal)) (h1 : ∀ b c, x1 (ix3 0 b (half (i 2) c)) = ((X b c).ks : EReal))
    (h2 : ∀ b c t d, x2 (ix4 b 0 (hl c t) d) = ((X b c).q t d : EReal)) (h3 : ∀ b c t d, x3 (ix4 b 0 (hl c t) d) = ((X b c).k t d : EReal))
    (h4 : ∀ b c t v, x4 (ix4 b 0 v (hl c t)) = ((X b c).v t v : EReal)) (h5 : ∀ b c t d, x5 (ix4 b 0 (hl c t) d) = ((X b c).g t d : EReal))
    (h6 : ∀ b c t, x6 (ix3 0 b (hl c t)) = ((X b c).b t : EReal))
    (h7 : ∀ b v c, xo12 (ix4 b 0 v c) = ((S b c v : ℝ) : EReal)) (b : Fin 8) (v : Fin 160) (cc : Fin 2) (s : Fin 64) :
    out0_B_11 (F := Ideal) c i arg3 harg3 arg4 harg4 arg5 harg5 arg6 harg6 arg7 harg7 arg8 harg8 arg9 harg9 arg10 harg10 arg11 harg11 arg12 harg12 arg13 harg13 arg14 harg14 arg15 harg15 arg16 harg16 hc x0 x1 x2 x3 x4 x5 x6 x7 x8 x9 xo12 xs0 (ix3 b v (hl cc s)) = ((outs (X b) (S b) cc s v : ℝ) : EReal) := by
  refine (congrFun ((View.read_writes_junk_eq_canon _ _).trans (congrArg View.canon (run11B c i arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 xo12 xs0 hc))) _).trans ?_
  exact canon_allO (loads_reads i arg3 harg3 arg4 harg4 arg5 harg5 arg6 harg6 arg7 harg7 arg8 harg8 arg9 harg9 arg11 harg11 x0 x1 x2 x3 x4 x5 x6 x8 (keptW arg16 harg16 xs0) h0 h1 h2 h3 h4 h5 h6) (rulesB arg15 harg15 xo12) (fun b v c => (kept_apply arg15 harg15 xo12 [] b v c).trans (h7 b v c)) b v cc s

theorem caseB_y (hc : ¬cond0_0 i) (h0 : ∀ b c, x0 (ix3 0 b (half (i 2) c)) = ((X b c).qs : EReal)) (h1 : ∀ b c, x1 (ix3 0 b (half (i 2) c)) = ((X b c).ks : EReal))
    (h2 : ∀ b c t d, x2 (ix4 b 0 (hl c t) d) = ((X b c).q t d : EReal)) (h3 : ∀ b c t d, x3 (ix4 b 0 (hl c t) d) = ((X b c).k t d : EReal))
    (h4 : ∀ b c t v, x4 (ix4 b 0 v (hl c t)) = ((X b c).v t v : EReal)) (h5 : ∀ b c t d, x5 (ix4 b 0 (hl c t) d) = ((X b c).g t d : EReal))
    (h6 : ∀ b c t, x6 (ix3 0 b (hl c t)) = ((X b c).b t : EReal))
    (h7 : ∀ b v c, xo12 (ix4 b 0 v c) = ((S b c v : ℝ) : EReal)) (b : Fin 8) (v : Fin 160) (cc : Fin 2) (s : Fin 64) :
    out0_B_10 (F := Ideal) c i arg3 harg3 arg4 harg4 arg5 harg5 arg6 harg6 arg7 harg7 arg8 harg8 arg9 harg9 arg10 harg10 arg11 harg11 arg12 harg12 arg13 harg13 arg14 harg14 arg15 harg15 arg16 harg16 hc x0 x1 x2 x3 x4 x5 x6 x7 x8 x9 xo12 xs0 (ix3 b v (hl cc s)) = yR (outs (X b) (S b) cc s) (x8 (ix3 b v (hl cc s))) (xs0 (ix2 v (hl cc s))) v := by
  refine (congrFun ((View.read_writes_junk_eq_canon _ _).trans (congrArg View.canon (run10B c i arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 xo12 xs0 hc))) _).trans ?_
  refine (canon_allY (loads_reads i arg3 harg3 arg4 harg4 arg5 harg5 arg6 harg6 arg7 harg7 arg8 harg8 arg9 harg9 arg11 harg11 x0 x1 x2 x3 x4 x5 x6 x8 (keptW arg16 harg16 xs0) h0 h1 h2 h3 h4 h5 h6) (rulesB arg15 harg15 xo12) (fun b v c => (kept_apply arg15 harg15 xo12 [] b v c).trans (h7 b v c)) b v cc s).trans ?_
  rw [loads_gate]
  exact congrArg (fun w => yR (outs (X b) (S b) cc s) (x8 (ix3 b v (hl cc s))) w v) (keptW_apply arg16 harg16 xs0 v (hl cc s))

theorem caseA_w (hc : cond0_0 i) (v : Fin 160) (l : Fin 128) :
    sout0_A_0 (F := Ideal) c i arg3 harg3 arg4 harg4 arg5 harg5 arg6 harg6 arg7 harg7 arg8 harg8 arg9 harg9 arg10 harg10 arg11 harg11 arg12 harg12 arg13 harg13 arg14 harg14 arg15 harg15 arg16 harg16 hc x0 x1 x2 x3 x4 x5 x6 x7 x8 x9 (ix2 v l) = x9 (ix2 v 0) := by
  refine (congrFun (View.read_writes_junk_eq_canon _ _) _).trans ?_
  refine (congrFun (View.canon_unit_zero (S := S160x128) (off := ![0, 0]) (by decide) _ _) _).trans ?_
  exact spread_word c arg12 harg12 x9 v l

end Cert.Hand

end
-- ==== Proof.Hand.Grid.lean ====
module

public import proofs.«01_k».proof.Proof.Hand.Entry
public import proofs.«01_k».proof.Proof.Hand.Cases

/-! What the grid leaves: at every point, the chunks' outputs and the running state of each entry and head. -/

@[expose] public section

set_option maxRecDepth 100000

noncomputable section

namespace Cert.Hand

open Idealize.ShloMosaic Idealize.ShloMosaic.TcCoe Idealize.SL.Sem Idealize.ShloMosaic.StableHlo Cert.KernelIdeal Cert.KernelIdeal.Gen

variable (m : (ℓ : Loc nD τ sig) → Buf (Elt Ideal) ℓ) (c : Dev nD)

/-- The two chunks of batch entry `b` that point `t` runs. -/
def chunks (t : ℕ) (b : Fin 8) (cc : Fin 2) : Chunk := (args m c).chunk (entry t b) (head t) (half (stp t) cc).val

theorem chunkNo_half (n : Fin 10) (cc : Fin 2) : chunkNo (half n cc).val = half n cc := Fin.ext (Nat.mod_eq_of_lt (half n cc).isLt)

theorem half_val (n : Fin 10) (cc : Fin 2) : (half n cc).val = 2 * n.val + cc.val := rfl

theorem tok_seq (t : ℕ) (cc : Fin 2) (s : Fin 64) : tok t (hl cc s) = seq (half (stp t) cc).val s := by
  refine Fin.ext ?_
  show 128 * (t % 10) + (hl cc s).val = (64 * (2 * (t % 10) + cc.val) + s.val) % 1280
  have e : (hl cc s).val = 64 * cc.val + s.val := rfl
  omega

theorem twice_state (t : ℕ) (b : Fin 8) :
    twice (chunks m c t b) ((args m c).state (entry t b) (head t) (2 * (t % 10))) = (args m c).state (entry t b) (head t) (2 * (t % 10) + 2) := rfl

theorem outs_out (t : ℕ) (b : Fin 8) (cc : Fin 2) :
    outs (chunks m c t b) ((args m c).state (entry t b) (head t) (2 * (t % 10))) cc = (args m c).out (entry t b) (head t) (2 * (t % 10) + cc.val) := by
  match cc with
  | 0 => rfl
  | 1 => rfl

theorem two_stp (t : Fin cfg0.N) : grid0.coords t 2 = stp t.val := Fin.ext ((coord2 t).trans (by rw [Nat.div_one]; rfl))

section

variable (H : (args m c).Real) (t : Fin cfg0.N)
include H

theorem in0 (b : Fin 8) (cc : Fin 2) : iblk m c 0 t (ix3 0 b (half (grid0.coords t 2) cc)) = ((chunks m c t.val b cc).qs : EReal) := by
  rw [two_stp]
  refine (blkr0 m c t b _).trans ?_
  rw [← chunkNo_half]
  exact H.r1 _

theorem in1 (b : Fin 8) (cc : Fin 2) : iblk m c 1 t (ix3 0 b (half (grid0.coords t 2) cc)) = ((chunks m c t.val b cc).ks : EReal) := by
  rw [two_stp]
  refine (blkr1 m c t b _).trans ?_
  rw [← chunkNo_half]
  exact H.r3 _

theorem in2 (b : Fin 8) (cc : Fin 2) (s : Fin 64) (d : Fin 128) : iblk m c 2 t (ix4 b 0 (hl cc s) d) = ((chunks m c t.val b cc).q s d : EReal) := by
  refine (blkr2 m c t b _ d).trans ?_
  rw [tok_seq]
  exact H.r0 _

theorem in3 (b : Fin 8) (cc : Fin 2) (s : Fin 64) (d : Fin 128) : iblk m c 3 t (ix4 b 0 (hl cc s) d) = ((chunks m c t.val b cc).k s d : EReal) := by
  refine (blkr3 m c t b _ d).trans ?_
  rw [tok_seq]
  exact H.r2 _

theorem in4 (b : Fin 8) (cc : Fin 2) (s : Fin 64) (v : Fin 160) : iblk m c 4 t (ix4 b 0 v (hl cc s)) = ((chunks m c t.val b cc).v s v : EReal) := by
  refine (blkr4 m c t b v _).trans ?_
  rw [tok_seq]
  exact H.r4 _

theorem in5 (b : Fin 8) (cc : Fin 2) (s : Fin 64) (d : Fin 128) : iblk m c 5 t (ix4 b 0 (hl cc s) d) = ((chunks m c t.val b cc).g s d : EReal) := by
  refine (blkr5 m c t b _ d).trans ?_
  rw [tok_seq]
  exact H.r5 _

theorem in6 (b : Fin 8) (cc : Fin 2) (s : Fin 64) : iblk m c 6 t (ix3 0 b (hl cc s)) = ((chunks m c t.val b cc).b s : EReal) := by
  refine (blkr6 m c t b _).trans ?_
  rw [tok_seq]
  exact H.r6 _

theorem in7 (b : Fin 8) (v : Fin 160) (d : Fin 128) (h0 : t.val % 10 = 0) :
    iblk m c 7 t (ix4 b 0 v d) = (((args m c).state (entry t.val b) (head t.val) (2 * (t.val % 10)) d v : ℝ) : EReal) := by
  refine (blkr7 m c t b v d).trans ?_
  rw [h0]
  exact H.r7 _

end

/-- What a point leaves. -/
structure Left (t : Fin cfg0.N) : Prop where
  acc : ∀ (b : Fin 8) (v : Fin 160) (d : Fin 128), (outsAt0 m c t.val t.isLt).2.2.1 (ix4 b 0 v d)
    = (((args m c).state (entry t.val b) (head t.val) (2 * (t.val % 10) + 2) d v : ℝ) : EReal)
  w : ∀ (v : Fin 160) (l : Fin 128), (outsAt0 m c t.val t.isLt).2.2.2 (ix2 v l) = (args m c).a9 (ix1 v)
  o : ∀ (b : Fin 8) (v : Fin 160) (cc : Fin 2) (s : Fin 64), (outsAt0 m c t.val t.isLt).2.1 (ix3 b v (hl cc s))
    = (((args m c).out (entry t.val b) (head t.val) (2 * (t.val % 10) + cc.val) s v : ℝ) : EReal)
  y : ∀ (b : Fin 8) (v : Fin 160) (cc : Fin 2) (s : Fin 64), (outsAt0 m c t.val t.isLt).1 (ix3 b v (hl cc s))
    = (args m c).gated (entry t.val b) (head t.val) (2 * (t.val % 10) + cc.val) s v

variable (H : (args m c).Real)
include H

set_option maxHeartbeats 400000 in
theorem left_first (t : Fin cfg0.N) (h0 : t.val % 10 = 0) : Left m c t := by
  have h7 := fun b v d => in7 m c H t b v d h0
  have e8 : ∀ (b : Fin 8) (v : Fin 160) (cc : Fin 2) (s : Fin 64), iblk m c 8 t (ix3 b v (hl cc s)) = (args m c).a8 (ix3 (entry t.val b) (seq (2 * (t.val % 10) + cc.val) s) (col (head t.val) v)) :=
    fun b v cc s => (blkr8 m c t b v (hl cc s)).trans (by rw [tok_seq]; rfl)
  have e := outsAt0_A m c t h0
  refine ⟨fun b v d => ?_, fun v l => ?_, fun b v cc s => ?_, fun b v cc s => ?_⟩
  · rw [e, ← twice_state]
    dsimp only
    exact caseA_acc c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (X := chunks m c t.val) (S := fun b => (args m c).state (entry t.val b) (head t.val) (2 * (t.val % 10))) ((hcond0_0 t).mpr h0) (in0 m c H t) (in1 m c H t) (in2 m c H t) (in3 m c H t) (in4 m c H t) (in5 m c H t) (in6 m c H t) h7 b v d
  · rw [e]
    dsimp only
    exact (caseA_w c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) ((hcond0_0 t).mpr h0) v l).trans (blkr9 m c t v)
  · rw [e, ← outs_out]
    dsimp only
    exact caseA_o c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (X := chunks m c t.val) (S := fun b => (args m c).state (entry t.val b) (head t.val) (2 * (t.val % 10))) ((hcond0_0 t).mpr h0) (in0 m c H t) (in1 m c H t) (in2 m c H t) (in3 m c H t) (in4 m c H t) (in5 m c H t) (in6 m c H t) h7 b v cc s
  · rw [e, Args.gated, ← outs_out, ← e8, ← blkr9 m c t v]
    dsimp only
    exact caseA_y c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (X := chunks m c t.val) (S := fun b => (args m c).state (entry t.val b) (head t.val) (2 * (t.val % 10))) ((hcond0_0 t).mpr h0) (in0 m c H t) (in1 m c H t) (in2 m c H t) (in3 m c H t) (in4 m c H t) (in5 m c H t) (in6 m c H t) h7 b v cc s

set_option maxHeartbeats 400000 in
theorem left_next (t : Fin cfg0.N) (h0 : ¬t.val % 10 = 0) (ht : t.val - 1 < cfg0.N) (P : Left m c ⟨t.val - 1, ht⟩) : Left m c t := by
  have hh : head (t.val - 1) = head t.val := by
    refine Fin.ext ?_
    show (t.val - 1) / 30 % 18 = t.val / 30 % 18
    omega
  have hn : ∀ b, entry (t.val - 1) b = entry t.val b := fun b => by
    refine Fin.ext ?_
    show 8 * ((t.val - 1) / 10 % 3) + b.val = 8 * (t.val / 10 % 3) + b.val
    omega
  have hs : 2 * ((t.val - 1) % 10) + 2 = 2 * (t.val % 10) := by omega
  have h7 : ∀ (b : Fin 8) (v : Fin 160) (d : Fin 128), (outsAt0 m c (t.val - 1) ht).2.2.1 (ix4 b 0 v d)
      = (((args m c).state (entry t.val b) (head t.val) (2 * (t.val % 10)) d v : ℝ) : EReal) := fun b v d => by
    refine (P.acc b v d).trans ?_
    show (((args m c).state (entry (t.val - 1) b) (head (t.val - 1)) (2 * ((t.val - 1) % 10) + 2) d v : ℝ) : EReal) = _
    rw [hh, hn, hs]
  have e8 : ∀ (b : Fin 8) (v : Fin 160) (cc : Fin 2) (s : Fin 64), iblk m c 8 t (ix3 b v (hl cc s)) = (args m c).a8 (ix3 (entry t.val b) (seq (2 * (t.val % 10) + cc.val) s) (col (head t.val) v)) :=
    fun b v cc s => (blkr8 m c t b v (hl cc s)).trans (by rw [tok_seq]; rfl)
  have e := outsAt0_B m c t h0
  have hw : ∀ (v : Fin 160) (l : Fin 128), (outsAt0 m c (t.val - 1) ht).2.2.2 (ix2 v l) = (args m c).a9 (ix1 v) := P.w
  refine ⟨fun b v d => ?_, fun v l => ?_, fun b v cc s => ?_, fun b v cc s => ?_⟩
  · rw [e, ← twice_state]
    dsimp only
    exact caseB_acc c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) ht).2.2.1 (outsAt0 m c (t.val - 1) ht).2.2.2 (X := chunks m c t.val) (S := fun b => (args m c).state (entry t.val b) (head t.val) (2 * (t.val % 10))) (fun h => h0 ((hcond0_0 t).mp h)) (in0 m c H t) (in1 m c H t) (in2 m c H t) (in3 m c H t) (in4 m c H t) (in5 m c H t) (in6 m c H t) h7 b v d
  · rw [e]
    dsimp only
    exact hw v l
  · rw [e, ← outs_out]
    dsimp only
    exact caseB_o c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) ht).2.2.1 (outsAt0 m c (t.val - 1) ht).2.2.2 (X := chunks m c t.val) (S := fun b => (args m c).state (entry t.val b) (head t.val) (2 * (t.val % 10))) (fun h => h0 ((hcond0_0 t).mp h)) (in0 m c H t) (in1 m c H t) (in2 m c H t) (in3 m c H t) (in4 m c H t) (in5 m c H t) (in6 m c H t) h7 b v cc s
  · rw [e, Args.gated, ← outs_out, ← e8, ← hw v (hl cc s)]
    dsimp only
    exact caseB_y c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) ht).2.2.1 (outsAt0 m c (t.val - 1) ht).2.2.2 (X := chunks m c t.val) (S := fun b => (args m c).state (entry t.val b) (head t.val) (2 * (t.val % 10))) (fun h => h0 ((hcond0_0 t).mp h)) (in0 m c H t) (in1 m c H t) (in2 m c H t) (in3 m c H t) (in4 m c H t) (in5 m c H t) (in6 m c H t) h7 b v cc s

theorem left : ∀ (n : ℕ) (hn : n < cfg0.N), Left m c ⟨n, hn⟩
  | 0, hn => left_first m c H ⟨0, hn⟩ rfl
  | n + 1, hn => by
    by_cases h0 : (n + 1) % 10 = 0
    · exact left_first m c H ⟨n + 1, hn⟩ h0
    · exact left_next m c H ⟨n + 1, hn⟩ h0 (Nat.lt_of_succ_lt hn) (left n (Nat.lt_of_succ_lt hn))

end Cert.Hand

end
-- ==== Proof.Hand.KArr.lean ====
module

public import proofs.«01_k».proof.Proof.Hand.Grid

/-! The three arrays that the kernel's region leaves, element by element. -/

@[expose] public section

set_option maxRecDepth 100000

noncomputable section

namespace Cert.Hand

open Idealize.ShloMosaic Idealize.ShloMosaic.TcCoe Idealize.SL.Sem Idealize.ShloMosaic.StableHlo Cert.KernelIdeal Cert.KernelIdeal.Gen

/-- The head and the value channel of a column of the outputs, and the chunk and the place of a token. -/
def hd (r : Fin 2880) : Fin 18 := ⟨r.val / 160, by omega⟩
def vl (r : Fin 2880) : Fin 160 := ⟨r.val % 160, by omega⟩
def cn (s : Fin 1280) : Fin 20 := ⟨s.val / 64, by omega⟩
def pl (s : Fin 1280) : Fin 64 := ⟨s.val % 64, by omega⟩

variable (m : (ℓ : Loc nD τ sig) → Buf (Elt Ideal) ℓ) (c : Dev nD)

theorem emb10 (t : Fin cfg0.N) (b : Fin 8) (v : Fin 160) (l : Fin 128) :
    ((cfg0.win 10).blk t).view.emb (ix3 b v l) = (ix3 (entry t.val b) (col (head t.val) v) (tok t.val l) : S24x2880x1280.Idx) := by
  have e0 := coord0 t
  have e1 := coord1 t
  have e2 := coord2 t
  funext a
  refine Fin.ext ?_
  refine (Pipeline.Window.rect_emb_val win0_10 t _ a).trans ?_
  match a with
  | 0 => show (BitVec.ofNat 32 (grid0.coords t 1).val).toNat * 8 + b.val = 8 * (t.val / 10 % 3) + b.val; rw [BitVec.toNat_ofNat, e1]; omega
  | 1 => show (BitVec.ofNat 32 (grid0.coords t 0).val).toNat * 160 + v.val = 160 * (t.val / 30 % 18) + v.val; rw [BitVec.toNat_ofNat, e0]; omega
  | 2 => show (BitVec.ofNat 32 (grid0.coords t 2).val).toNat * 128 + l.val = 128 * (t.val % 10) + l.val; rw [BitVec.toNat_ofNat, e2]; omega

theorem emb11 (t : Fin cfg0.N) (b : Fin 8) (v : Fin 160) (l : Fin 128) :
    ((cfg0.win 11).blk t).view.emb (ix3 b v l) = (ix3 (entry t.val b) (col (head t.val) v) (tok t.val l) : S24x2880x1280.Idx) := by
  have e0 := coord0 t
  have e1 := coord1 t
  have e2 := coord2 t
  funext a
  refine Fin.ext ?_
  refine (Pipeline.Window.rect_emb_val win0_11 t _ a).trans ?_
  match a with
  | 0 => show (BitVec.ofNat 32 (grid0.coords t 1).val).toNat * 8 + b.val = 8 * (t.val / 10 % 3) + b.val; rw [BitVec.toNat_ofNat, e1]; omega
  | 1 => show (BitVec.ofNat 32 (grid0.coords t 0).val).toNat * 160 + v.val = 160 * (t.val / 30 % 18) + v.val; rw [BitVec.toNat_ofNat, e0]; omega
  | 2 => show (BitVec.ofNat 32 (grid0.coords t 2).val).toNat * 128 + l.val = 128 * (t.val % 10) + l.val; rw [BitVec.toNat_ofNat, e2]; omega

theorem emb12 (t : Fin cfg0.N) (b : Fin 8) (v : Fin 160) (l : Fin 128) :
    ((cfg0.win 12).blk t).view.emb (ix4 b 0 v l) = (ix4 (entry t.val b) (head t.val) v l : S24x18x160x128.Idx) := by
  have e0 := coord0 t
  have e1 := coord1 t
  funext a
  refine Fin.ext ?_
  refine (Pipeline.Window.rect_emb_val win0_12 t _ a).trans ?_
  match a with
  | 0 => show (BitVec.ofNat 32 (grid0.coords t 1).val).toNat * 8 + b.val = 8 * (t.val / 10 % 3) + b.val; rw [BitVec.toNat_ofNat, e1]; omega
  | 1 => show (BitVec.ofNat 32 (grid0.coords t 0).val).toNat * 1 + 0 = t.val / 30 % 18; rw [BitVec.toNat_ofNat, e0]; omega
  | 2 => show (0#32).toNat * 160 + v.val = v.val; simp
  | 3 => show (0#32).toNat * 128 + l.val = l.val; simp

theorem hl_split (l : Fin 128) : l = hl ⟨l.val / 64, by omega⟩ ⟨l.val % 64, by omega⟩ :=
  Fin.ext (show l.val = 64 * (l.val / 64) + l.val % 64 by omega)

theorem hd_col (h : Fin 18) (v : Fin 160) : hd (col h v) = h := Fin.ext (show (160 * h.val + v.val) / 160 = h.val by omega)
theorem vl_col (h : Fin 18) (v : Fin 160) : vl (col h v) = v := Fin.ext (show (160 * h.val + v.val) % 160 = v.val by omega)
theorem cn_tok (t : ℕ) (cc : Fin 2) (s : Fin 64) : (cn (tok t (hl cc s))).val = 2 * (t % 10) + cc.val :=
  show (128 * (t % 10) + (64 * cc.val + s.val)) / 64 = 2 * (t % 10) + cc.val by omega
theorem pl_tok (t : ℕ) (cc : Fin 2) (s : Fin 64) : pl (tok t (hl cc s)) = s :=
  Fin.ext (show (128 * (t % 10) + (64 * cc.val + s.val)) % 64 = s.val by omega)

variable (H : (args m c).Real)
include H

theorem arr_o : (Gen.dats m 0 c).arrAt 11 cfg0.N
    = fun i : S24x2880x1280.Idx => (((args m c).out (i 0) (hd (i 1)) (cn (i 2)).val (pl (i 2)) (vl (i 1)) : ℝ) : EReal) := by
  refine (Gen.dats m 0 c).arrAt_eq_of_covers 11 _ (by decide +kernel) fun t hf y => ?_
  obtain ⟨b, v, l, rfl⟩ : ∃ (b : Fin 8) (v : Fin 160) (l : Fin 128), y = ix3 b v l := ⟨y 0, y 1, y 2, by funext a; match a with | 0 => rfl | 1 => rfl | 2 => rfl⟩
  blk_simp
  rw [after0_11, emb11, hl_split l]
  refine ((left m c H t.val t.isLt).o b v _ _).trans ?_
  dsimp only
  show _ = (((args m c).out (entry t.val b) (hd (col (head t.val) v)) (cn (tok t.val (hl _ _))).val (pl (tok t.val (hl _ _))) (vl (col (head t.val) v)) : ℝ) : EReal)
  rw [hd_col, vl_col, cn_tok, pl_tok]

theorem arr_y : (Gen.dats m 0 c).arrAt 10 cfg0.N
    = fun i : S24x2880x1280.Idx => (args m c).gated (i 0) (hd (i 1)) (cn (i 2)).val (pl (i 2)) (vl (i 1)) := by
  refine (Gen.dats m 0 c).arrAt_eq_of_covers 10 _ (by decide +kernel) fun t hf y => ?_
  obtain ⟨b, v, l, rfl⟩ : ∃ (b : Fin 8) (v : Fin 160) (l : Fin 128), y = ix3 b v l := ⟨y 0, y 1, y 2, by funext a; match a with | 0 => rfl | 1 => rfl | 2 => rfl⟩
  blk_simp
  rw [after0_10, emb10, hl_split l]
  refine ((left m c H t.val t.isLt).y b v _ _).trans ?_
  dsimp only
  show _ = (args m c).gated (entry t.val b) (hd (col (head t.val) v)) (cn (tok t.val (hl _ _))).val (pl (tok t.val (hl _ _))) (vl (col (head t.val) v))
  rw [hd_col, vl_col, cn_tok, pl_tok]

theorem arr_s : (Gen.dats m 0 c).arrAt 12 cfg0.N
    = fun i : S24x18x160x128.Idx => (((args m c).state (i 0) (i 1) 20 (i 3) (i 2) : ℝ) : EReal) := by
  refine (Gen.dats m 0 c).arrAt_eq_of_covers 12 _ (by decide +kernel) fun t hf y => ?_
  have h9 := (flush0_12 t).mp hf
  obtain ⟨b, v, l, rfl⟩ : ∃ (b : Fin 8) (v : Fin 160) (l : Fin 128), y = ix4 b 0 v l :=
    ⟨y 0, y 2, y 3, by funext a; match a with | 0 => rfl | 1 => exact Subsingleton.elim (α := Fin 1) _ _ | 2 => rfl | 3 => rfl⟩
  blk_simp
  rw [after0_12, emb12]
  refine ((left m c H t.val t.isLt).acc b v l).trans ?_
  dsimp only
  rw [h9]
  rfl

end Cert.Hand

end
-- ==== Proof.Hand.RefCum.lean ====
module

public import proofs.«01_k».proof.Proof.Hand.Data
public import proofs.«01_k».proof.Proof.Gen.ReferenceIdeal.Read
public import Idealize.ShloMosaic.Lib.Pipeline.ValueKit

/-! The reference's running sum inside each chunk. -/

@[expose] public section

set_option maxRecDepth 100000

noncomputable section

namespace Cert.Hand

open Idealize.ShloMosaic Idealize.SL.Sem Cert.ReferenceIdeal.Read

theorem foldl_sum {N : ℕ} (T : Fin N → EReal) : (List.finRange N).foldl (fun r n => r + T n) 0 = ∑ n, T n := by
  have e : ∀ (l : List (Fin N)) (v : EReal), l.foldl (fun r n => r + T n) v = v + (l.map T).sum := by
    intro l
    induction l with
    | nil => intro v; simp
    | cons a l ih => intro v; rw [List.foldl_cons, ih, List.map_cons, List.sum_cons, add_assoc]
  rw [e, zero_add, Fin.sum_univ_def]

/-- The window's shape. -/
abbrev Win : Shape := ⟨5, ![1, 1, 64, 1, 1]⟩

theorem ix_bij : Function.Bijective (fun w : Fin 64 => (ix5 0 0 w 0 0 : Win.Idx)) := by
  refine ⟨fun w w' e => congrFun e 2, fun i => ⟨i 2, funext fun a => Fin.ext ?_⟩⟩
  match a with
  | 0 => have h : (i 0).val < 1 := (i 0).isLt; show 0 = (i 0).val; omega
  | 1 => have h : (i 1).val < 1 := (i 1).isLt; show 0 = (i 1).val; omega
  | 2 => rfl
  | 3 => have h : (i 3).val < 1 := (i 3).isLt; show 0 = (i 3).val; omega
  | 4 => have h : (i 4).val < 1 := (i 4).isLt; show 0 = (i 4).val; omega

theorem shift_sum (G : Fin 64 → EReal) (t : Fin 64) (T : Fin 64 → EReal)
    (hT : ∀ w : Fin 64, T w = if h : 63 ≤ t.val + w.val then G ⟨t.val + w.val - 63, by omega⟩ else 0) :
    ∑ w, T w = ∑ s, if s ≤ t then G s else 0 := by
  have ht := t.isLt
  rw [← Equiv.sum_comp (Equiv.addRight (⟨63 - t.val, by omega⟩ : Fin 64)) T]
  refine Finset.sum_congr rfl fun s _ => ?_
  have e : (Equiv.addRight (⟨63 - t.val, by omega⟩ : Fin 64) s).val = (s.val + (63 - t.val)) % 64 := Fin.val_add _ _
  rw [hT]
  by_cases h : s ≤ t
  · have h' : s.val ≤ t.val := h
    rw [if_pos h, dif_pos (by rw [e]; omega)]
    refine congrArg G (Fin.ext ?_)
    show t.val + _ - 63 = s.val
    rw [e]; omega
  · have h' : ¬s.val ≤ t.val := h
    rw [if_neg h, dif_neg (by rw [e]; omega)]

theorem ref_gc (A : Args) (H : A.Real) (b : Fin 24) (n : Fin 20) (t : Fin 64) (h : Fin 18) (d : Fin 128) :
    val_main_v4 (F := Ideal) A.a5 (ix5 b n t h d) = (((A.chunk b h n.val).gc t d : ℝ) : EReal) := by
  have hx : ∀ s : Fin 64, val_main_v3 (F := Ideal) A.a5 (ix5 b n s h d) = (((A.chunk b h n.val).g s d : ℝ) : EReal) := fun s => by
    have e : val_main_v3 (F := Ideal) A.a5 (ix5 b n s h d) = A.a5 (ix4 b ⟨n.val * 64 + s.val, by omega⟩ h d) := by
      pointwise [val_main_v3]
    have e' : (⟨n.val * 64 + s.val, by omega⟩ : Fin 1280) = seq n.val s := Fin.ext (by show n.val * 64 + s.val = (64 * n.val + s.val) % 1280; omega)
    rw [e, e']
    exact H.r5 _
  have hv : val_main_call0_v0 (F := Ideal) (Shape.Idx.first (by decide)) = 0 := by
    pointwise [val_main_call0_v0, Cert.ReferenceIdeal.Read.val_main_call0_cst]
  unfold val_main_v4
  refine (show _ = Host.reduceWindow (fun x y : EReal => x + y) ![1, 1, 64, 1, 1] ![1, 1, 1, 1, 1] ![0, 0, 63, 0, 0] ![0, 0, 0, 0, 0] (val_main_v3 (F := Ideal) A.a5) (fun _ : (⟨0, ![]⟩ : Shape).Idx => val_main_call0_v0 (F := Ideal) (Shape.Idx.first (by decide))) Cert.ReferenceIdeal.Gen.reduceWindows_S24x20x64x18x128_S24x20x64x18x128_w1s1p0_0_w1s1p0_0_w64s1p63_0_w1s1p0_0_w1s1p0_0 (by decide) (ix5 b n t h d) from rfl).trans ?_
  rw [hv]
  unfold Host.reduceWindow
  refine (foldl_sum _).trans ?_
  refine (Equiv.sum_comp Win.rowMajor.symm (fun i : Win.Idx => @dite EReal (∀ a : Fin 5, (![0, 0, 63, 0, 0] : Fin 5 → ℕ) a ≤ (ix5 b n t h d a).val * (![1, 1, 1, 1, 1] : Fin 5 → ℕ) a + (i a).val ∧ (ix5 b n t h d a).val * (![1, 1, 1, 1, 1] : Fin 5 → ℕ) a + (i a).val - (![0, 0, 63, 0, 0] : Fin 5 → ℕ) a < Cert.ReferenceIdeal.S24x20x64x18x128.size a) (Nat.decidableForallFin _) (fun hin => val_main_v3 (F := Ideal) A.a5 (fun a => ⟨(ix5 b n t h d a).val * (![1, 1, 1, 1, 1] : Fin 5 → ℕ) a + (i a).val - (![0, 0, 63, 0, 0] : Fin 5 → ℕ) a, (hin a).2⟩)) (fun _ => (0 : EReal)))).trans ?_
  rw [← ix_bij.sum_comp]
  refine (shift_sum (fun s => val_main_v3 (F := Ideal) A.a5 (ix5 b n s h d)) t _ fun w => ?_).trans ?_
  · have hb := b.isLt
    have hn := n.isLt
    have hh := h.isLt
    have hd := d.isLt
    have ht := t.isLt
    have hw := w.isLt
    by_cases k : 63 ≤ t.val + w.val
    · rw [dif_pos k, dif_pos (fun a => by
        match a with
        | 0 => show 0 ≤ b.val * 1 + 0 ∧ b.val * 1 + 0 - 0 < 24; omega
        | 1 => show 0 ≤ n.val * 1 + 0 ∧ n.val * 1 + 0 - 0 < 20; omega
        | 2 => show 63 ≤ t.val * 1 + w.val ∧ t.val * 1 + w.val - 63 < 64; omega
        | 3 => show 0 ≤ h.val * 1 + 0 ∧ h.val * 1 + 0 - 0 < 18; omega
        | 4 => show 0 ≤ d.val * 1 + 0 ∧ d.val * 1 + 0 - 0 < 128; omega)]
      refine congrArg (val_main_v3 (F := Ideal) A.a5) (funext fun a => Fin.ext ?_)
      match a with
      | 0 => show b.val * 1 + 0 - 0 = b.val; omega
      | 1 => show n.val * 1 + 0 - 0 = n.val; omega
      | 2 => show t.val * 1 + w.val - 63 = t.val + w.val - 63; omega
      | 3 => show h.val * 1 + 0 - 0 = h.val; omega
      | 4 => show d.val * 1 + 0 - 0 = d.val; omega
    · rw [dif_neg k, dif_neg (fun hin => k (by
        have h2 : 63 ≤ t.val * 1 + w.val := (hin 2).1
        omega))]
  · rw [show (A.chunk b h n.val).gc t d = cum (A.chunk b h n.val).g t d from rfl, cum, coe_sum]
    refine Finset.sum_congr rfl fun s _ => ?_
    rw [coe_ite, hx s]
    rfl

end Cert.Hand

end
-- ==== Proof.Hand.Ref0.lean ====
module

public import proofs.«01_k».proof.Proof.Hand.RefCum

/-! The reference's chunk quantities, entry by entry. -/

@[expose] public section

set_option maxRecDepth 100000

noncomputable section

namespace Cert.Hand

open Idealize.ShloMosaic Idealize.SL.Sem Cert.ReferenceIdeal.Read

theorem seq_eq (n : Fin 20) (t : Fin 64) (h : n.val * 64 + t.val < 1280) : (⟨n.val * 64 + t.val, h⟩ : Fin 1280) = seq n.val t :=
  Fin.ext (by show n.val * 64 + t.val = (64 * n.val + t.val) % 1280; omega)

theorem chunkNo_val (n : Fin 20) : chunkNo n.val = n := Fin.ext (Nat.mod_eq_of_lt n.isLt)

theorem word_lt : ∀ t s : Fin 64, IntOp.cmpi .sgt (BitVec.ofNat 32 t.val) (BitVec.ofNat 32 s.val) = if s < t then 1#1 else 0#1 := by decide +kernel
theorem word_le : ∀ t s : Fin 64, IntOp.cmpi .sge (BitVec.ofNat 32 t.val) (BitVec.ofNat 32 s.val) = if s ≤ t then 1#1 else 0#1 := by decide +kernel
theorem word_eq : ∀ t s : Fin 64, IntOp.cmpi .eq (IntOp.addi (BitVec.ofNat 32 t.val) 0#32) (BitVec.ofNat 32 s.val) = if t = s then 1#1 else 0#1 := by decide +kernel

theorem select_ite (p : Prop) [Decidable p] (x y : EReal) : Scalar.select (if p then 1#1 else 0#1) x y = if p then x else y := by
  by_cases k : p
  · rw [if_pos k, if_pos k]; rfl
  · rw [if_neg k, if_neg k]; rfl

theorem one_ite (p : Prop) [Decidable p] : (FloatOps.uitofp .f32 (if p then 1#1 else 0#1) : Ideal .f32) = (((if p then 1 else 0 : ℝ) : ℝ) : EReal) := by
  by_cases k : p
  · rw [if_pos k, if_pos k]
    show (((1#1 : BitVec 1).toNat : ℝ) : EReal) = _
    simp
  · rw [if_neg k, if_neg k]
    show (((0#1 : BitVec 1).toNat : ℝ) : EReal) = _
    simp

theorem zero_word : (id (constant (F := Ideal) Cert.ReferenceIdeal.S_ .f32 0#32) ix0 : EReal) = ((0 : ℝ) : EReal) := by
  show Ideal.ofBits .f32 0#32 = _
  simp

variable (A : Args) (H : A.Real) (b : Fin 24) (n : Fin 20) (h : Fin 18) (t s : Fin 64) (d : Fin 128) (v : Fin 160)
include H

theorem ref_kpos : val_main_v12 (F := Ideal) A.a5 A.a2 (ix5 b n t h d) = (((A.chunk b h n.val).kpos t d : ℝ) : EReal) := by
  pointwise [val_main_v12, val_main_v10, val_main_v9, val_main_v8]
  rw [seq_eq, ref_gc A H, H.r2, Ideal.exp_coe, ← EReal.coe_mul]
  rfl

theorem ref_qpos : val_main_v11 (F := Ideal) A.a5 A.a0 (ix5 b n t h d) = (((A.chunk b h n.val).qpos t d : ℝ) : EReal) := by
  pointwise [val_main_v11, val_main_v10, val_main_v9, val_main_v7]
  rw [seq_eq, ref_gc A H, H.r0, Ideal.exp_coe, ← EReal.coe_mul]
  rfl

theorem ref_kneg : val_main_v16 (F := Ideal) A.a5 A.a2 (ix5 b n t h d) = (((A.chunk b h n.val).kneg t d : ℝ) : EReal) := by
  pointwise [val_main_v16, val_main_v15, val_main_v14, val_main_v13, val_main_v8]
  rw [seq_eq, ref_gc A H, H.r2, ← EReal.coe_neg, Ideal.exp_coe, ← EReal.coe_mul]
  rfl

theorem ref_last : val_main_v6 (F := Ideal) A.a5 (ix4 b n h d) = (((A.chunk b h n.val).gc 63 d : ℝ) : EReal) := by
  pointwise [val_main_v6, val_main_v5]
  rw [ref_gc A H]

theorem ref_kdec : val_main_v22 (F := Ideal) A.a5 A.a2 (ix5 b n t h d) = (((A.chunk b h n.val).kdec t d : ℝ) : EReal) := by
  pointwise [val_main_v22, val_main_v21, val_main_v20, val_main_v19, val_main_v18, val_main_v17, val_main_v8]
  rw [seq_eq, ref_gc A H, ref_last A H, H.r2, ← EReal.coe_sub, Ideal.exp_coe, ← EReal.coe_mul]
  rfl

theorem ref_akk : val_main_v44 (F := Ideal) A.a3 A.a5 A.a6 A.a2 (ix5 b n h t s) = (((A.chunk b h n.val).akk t s : ℝ) : EReal) := by
  pointwise [val_main_v44, val_main_call1_v2, val_main_call1_v1, val_main_call1_v0, val_main_cst, val_main_v43, val_main_v42, val_main_v41, val_main_v40, val_main_v39, val_main_v38, val_main_v37, val_main_v31, val_main_v30, val_main_v29, val_main_v28, val_main_v27, val_main_v26, val_main_v25, val_main_v24, val_main_v23]
  rw [word_lt, select_ite, zero_word, seq_eq, H.r6, H.r3, show (∑ x, val_main_v12 (F := Ideal) A.a5 A.a2 (ix5 b n t h x) * val_main_v16 (F := Ideal) A.a5 A.a2 (ix5 b n s h x) : EReal)
    = ((∑ x, (A.chunk b h n.val).kpos t x * (A.chunk b h n.val).kneg s x : ℝ) : EReal) from by
      rw [coe_sum]
      refine Finset.sum_congr rfl fun x _ => ?_
      rw [ref_kpos A H, ref_kneg A H, EReal.coe_mul], ← EReal.coe_mul, ← EReal.coe_mul, ← EReal.coe_mul, ← coe_ite]
  unfold Chunk.akk Args.chunk
  rw [chunkNo_val]

theorem ref_aqk : val_main_v50 (F := Ideal) A.a1 A.a3 A.a5 A.a0 A.a2 (ix5 b n h t s) = (((A.chunk b h n.val).qs * (A.chunk b h n.val).ks * (A.chunk b h n.val).qk t s : ℝ) : EReal) := by
  pointwise [val_main_v50, val_main_call2_v2, val_main_call2_v1, val_main_call2_v0, val_main_cst_0, val_main_v49, val_main_v48, val_main_v47, val_main_v46, val_main_v45, val_main_v36, val_main_v35, val_main_v34, val_main_v33, val_main_v32, val_main_v26]
  rw [word_le, select_ite, zero_word, H.r1, H.r3, show (∑ x, val_main_v11 (F := Ideal) A.a5 A.a0 (ix5 b n t h x) * val_main_v16 (F := Ideal) A.a5 A.a2 (ix5 b n s h x) : EReal)
    = ((∑ x, (A.chunk b h n.val).qpos t x * (A.chunk b h n.val).kneg s x : ℝ) : EReal) from by
      rw [coe_sum]
      refine Finset.sum_congr rfl fun x _ => ?_
      rw [ref_qpos A H, ref_kneg A H, EReal.coe_mul], ← EReal.coe_mul, ← EReal.coe_mul, ← coe_ite]
  refine congrArg (fun r : ℝ => (r : EReal)) ?_
  show _ = _ * _ * (if s ≤ t then _ else 0)
  rw [mul_ite, mul_zero]
  unfold Args.chunk
  rw [chunkNo_val]

theorem ref_q0 : val_main_v60 (F := Ideal) A.a3 A.a5 A.a6 A.a2 (ix5 b n h t s) = ((nInv (-(A.chunk b h n.val).akk) 0 t s : ℝ) : EReal) := by
  pointwise [val_main_v60, val_main_v59, val_main_v58, val_main_v57, val_main_v56, val_main_v55, val_main_v54, val_main_v53, val_main_v52, val_main_v51, val_main_c]
  rw [word_eq, one_ite, ref_akk A H, ← EReal.coe_neg, ← EReal.coe_add]
  refine congrArg (fun r : ℝ => (r : EReal)) ?_
  show _ = (1 + -(A.chunk b h n.val).akk) t s
  rw [Matrix.add_apply, Matrix.one_apply, Matrix.neg_apply]

omit H in
theorem mat_dot (M N : Matrix (Fin 64) (Fin 64) ℝ) (f g : Fin 64 → EReal) (hf : ∀ k, f k = ((M t k : ℝ) : EReal)) (hg : ∀ k, g k = ((N k s : ℝ) : EReal)) :
    ∑ k, f k * g k = (((M * N) t s : ℝ) : EReal) := by
  rw [Matrix.mul_apply, coe_sum]
  refine Finset.sum_congr rfl fun k _ => ?_
  rw [hf, hg, EReal.coe_mul]

theorem ref_p0 : val_main_v57 (F := Ideal) A.a3 A.a5 A.a6 A.a2 (ix5 b n h t s) = ((nPow (-(A.chunk b h n.val).akk) 0 t s : ℝ) : EReal) := by
  pointwise [val_main_v57]
  rw [ref_akk A H, ← EReal.coe_neg]
  rfl

theorem ref_p1 : val_main_v61 (F := Ideal) A.a3 A.a5 A.a6 A.a2 (ix5 b n h t s) = ((nPow (-(A.chunk b h n.val).akk) 1 t s : ℝ) : EReal) := by
  pointwise [val_main_v61]
  exact mat_dot t s _ _ _ _ (fun k => ref_p0 A H b n h t k) (fun k => ref_p0 A H b n h k s)

theorem ref_q1 : val_main_v63 (F := Ideal) A.a3 A.a5 A.a6 A.a2 (ix5 b n h t s) = ((nInv (-(A.chunk b h n.val).akk) 1 t s : ℝ) : EReal) := by
  pointwise [val_main_v63, val_main_v62]
  rw [mat_dot t s _ _ _ _ (fun k => ref_q0 A H b n h t k) (fun k => ref_p1 A H b n h k s), ref_q0 A H b n h t s, ← EReal.coe_add]
  rfl

theorem ref_p2 : val_main_v64 (F := Ideal) A.a3 A.a5 A.a6 A.a2 (ix5 b n h t s) = ((nPow (-(A.chunk b h n.val).akk) 2 t s : ℝ) : EReal) := by
  pointwise [val_main_v64]
  exact mat_dot t s _ _ _ _ (fun k => ref_p1 A H b n h t k) (fun k => ref_p1 A H b n h k s)

theorem ref_q2 : val_main_v66 (F := Ideal) A.a3 A.a5 A.a6 A.a2 (ix5 b n h t s) = ((nInv (-(A.chunk b h n.val).akk) 2 t s : ℝ) : EReal) := by
  pointwise [val_main_v66, val_main_v65]
  rw [mat_dot t s _ _ _ _ (fun k => ref_q1 A H b n h t k) (fun k => ref_p2 A H b n h k s), ref_q1 A H b n h t s, ← EReal.coe_add]
  rfl

theorem ref_p3 : val_main_v67 (F := Ideal) A.a3 A.a5 A.a6 A.a2 (ix5 b n h t s) = ((nPow (-(A.chunk b h n.val).akk) 3 t s : ℝ) : EReal) := by
  pointwise [val_main_v67]
  exact mat_dot t s _ _ _ _ (fun k => ref_p2 A H b n h t k) (fun k => ref_p2 A H b n h k s)

theorem ref_q3 : val_main_v69 (F := Ideal) A.a3 A.a5 A.a6 A.a2 (ix5 b n h t s) = ((nInv (-(A.chunk b h n.val).akk) 3 t s : ℝ) : EReal) := by
  pointwise [val_main_v69, val_main_v68]
  rw [mat_dot t s _ _ _ _ (fun k => ref_q2 A H b n h t k) (fun k => ref_p3 A H b n h k s), ref_q2 A H b n h t s, ← EReal.coe_add]
  rfl

theorem ref_p4 : val_main_v70 (F := Ideal) A.a3 A.a5 A.a6 A.a2 (ix5 b n h t s) = ((nPow (-(A.chunk b h n.val).akk) 4 t s : ℝ) : EReal) := by
  pointwise [val_main_v70]
  exact mat_dot t s _ _ _ _ (fun k => ref_p3 A H b n h t k) (fun k => ref_p3 A H b n h k s)

theorem ref_q4 : val_main_v72 (F := Ideal) A.a3 A.a5 A.a6 A.a2 (ix5 b n h t s) = ((nInv (-(A.chunk b h n.val).akk) 4 t s : ℝ) : EReal) := by
  pointwise [val_main_v72, val_main_v71]
  rw [mat_dot t s _ _ _ _ (fun k => ref_q3 A H b n h t k) (fun k => ref_p4 A H b n h k s), ref_q3 A H b n h t s, ← EReal.coe_add]
  rfl

theorem ref_p5 : val_main_v73 (F := Ideal) A.a3 A.a5 A.a6 A.a2 (ix5 b n h t s) = ((nPow (-(A.chunk b h n.val).akk) 5 t s : ℝ) : EReal) := by
  pointwise [val_main_v73]
  exact mat_dot t s _ _ _ _ (fun k => ref_p4 A H b n h t k) (fun k => ref_p4 A H b n h k s)

theorem ref_q5 : val_main_v75 (F := Ideal) A.a3 A.a5 A.a6 A.a2 (ix5 b n h t s) = ((nInv (-(A.chunk b h n.val).akk) 5 t s : ℝ) : EReal) := by
  pointwise [val_main_v75, val_main_v74]
  rw [mat_dot t s _ _ _ _ (fun k => ref_q4 A H b n h t k) (fun k => ref_p5 A H b n h k s), ref_q4 A H b n h t s, ← EReal.coe_add]
  rfl

end Cert.Hand

end
-- ==== Proof.Hand.Ref1.lean ====
module

public import proofs.«01_k».proof.Proof.Hand.Ref0

/-! The reference's per-chunk operands of the scan, and one step of the scan on real data. -/

@[expose] public section

set_option maxRecDepth 100000

noncomputable section

namespace Cert.Hand

open Idealize.ShloMosaic Idealize.SL.Sem Cert.ReferenceIdeal.Read

namespace Chunk

variable (X : Chunk)

/-- The part of the new values that meets the state, and the part that does not. -/
def w (t : Fin 64) (d : Fin 128) : ℝ := X.ks * ∑ x, X.tinv t x * (X.b x * X.kpos x d)
def ut (t : Fin 64) (v : Fin 160) : ℝ := ∑ x, X.tinv t x * (X.b x * X.v x v)

theorem u_eq (S : Fin 128 → Fin 160 → ℝ) (t : Fin 64) (v : Fin 160) : X.ut t v - ∑ d, X.w t d * S d v = X.u S t v := by
  have e : ∑ d, X.w t d * S d v = ∑ x, X.tinv t x * (X.b x * (X.ks * ∑ d, X.kpos x d * S d v)) := by
    simp only [Chunk.w, Finset.mul_sum, Finset.sum_mul]
    rw [Finset.sum_comm]
    refine Finset.sum_congr rfl fun x _ => Finset.sum_congr rfl fun d _ => ?_
    ring
  rw [e, Chunk.ut, Chunk.u, ← Finset.sum_sub_distrib]
  refine Finset.sum_congr rfl fun x _ => ?_
  ring

end Chunk

variable (A : Args) (H : A.Real) (b : Fin 24) (n : Fin 20) (h : Fin 18) (t s : Fin 64) (d : Fin 128) (v : Fin 160)
include H

theorem ref_w : val_main_v83 (F := Ideal) A.a3 A.a5 A.a6 A.a2 (ix5 b n h t d) = (((A.chunk b h n.val).w t d : ℝ) : EReal) := by
  pointwise [val_main_v83, val_main_v82, val_main_v81, val_main_v80, val_main_v79, val_main_v78, val_main_v77, val_main_v76, val_main_v23]
  have e : ∀ x : Fin 64, val_main_v75 (F := Ideal) A.a3 A.a5 A.a6 A.a2 (ix5 b n h t x) * (A.a6 (ix3 b ⟨n.val * 64 + x.val, by omega⟩ h) * val_main_v12 (F := Ideal) A.a5 A.a2 (ix5 b n x h d))
      = (((A.chunk b h n.val).tinv t x * ((A.chunk b h n.val).b x * (A.chunk b h n.val).kpos x d) : ℝ) : EReal) := fun x => by
    rw [ref_q5 A H, ref_kpos A H, seq_eq, H.r6, EReal.coe_mul, EReal.coe_mul]
    rfl
  refine (congrArg (fun z : EReal => A.a3 (ix3 b n h) * z) ((Finset.sum_congr rfl fun x _ => e x).trans (coe_sum _ _).symm)).trans ?_
  rw [H.r3, ← EReal.coe_mul]
  unfold Chunk.w
  rw [show (A.chunk b h n.val).ks = (A.a3 (ix3 b n h) : EReal).toReal from by unfold Args.chunk; dsimp only; rw [chunkNo_val]]

theorem ref_ut : val_main_v89 (F := Ideal) A.a3 A.a4 A.a5 A.a6 A.a2 (ix5 b n h t v) = (((A.chunk b h n.val).ut t v : ℝ) : EReal) := by
  pointwise [val_main_v89, val_main_v88, val_main_v87, val_main_v86, val_main_v85, val_main_v84, val_main_v23]
  have e : ∀ x : Fin 64, val_main_v75 (F := Ideal) A.a3 A.a5 A.a6 A.a2 (ix5 b n h t x) * (A.a6 (ix3 b ⟨n.val * 64 + x.val, by omega⟩ h) * A.a4 (ix4 b ⟨n.val * 64 + x.val, by omega⟩ h v))
      = (((A.chunk b h n.val).tinv t x * ((A.chunk b h n.val).b x * (A.chunk b h n.val).v x v) : ℝ) : EReal) := fun x => by
    rw [ref_q5 A H, seq_eq, H.r6, H.r4, EReal.coe_mul, EReal.coe_mul]
    rfl
  exact (Finset.sum_congr rfl fun x _ => e x).trans (coe_sum _ _).symm

theorem ref_qsc : val_main_v93 (F := Ideal) A.a1 A.a5 A.a0 (ix5 b n t h d) = (((A.chunk b h n.val).qs * (A.chunk b h n.val).qpos t d : ℝ) : EReal) := by
  pointwise [val_main_v93, val_main_v92, val_main_v91, val_main_v90]
  rw [ref_qpos A H, H.r1, ← EReal.coe_mul]
  rw [show (A.chunk b h n.val).qs = (A.a1 (ix3 b n h) : EReal).toReal from by unfold Args.chunk; dsimp only; rw [chunkNo_val]]

theorem ref_ksc : val_main_v97 (F := Ideal) A.a3 A.a5 A.a2 (ix5 b n t h d) = (((A.chunk b h n.val).ks * (A.chunk b h n.val).kdec t d : ℝ) : EReal) := by
  pointwise [val_main_v97, val_main_v96, val_main_v95, val_main_v94]
  rw [ref_kdec A H, H.r3, ← EReal.coe_mul]
  rw [show (A.chunk b h n.val).ks = (A.a3 (ix3 b n h) : EReal).toReal from by unfold Args.chunk; dsimp only; rw [chunkNo_val]]

theorem ref_decay : val_main_v98 (F := Ideal) A.a5 (ix4 b n h d) = ((Real.exp ((A.chunk b h n.val).gc 63 d) : ℝ) : EReal) := by
  pointwise [val_main_v98]
  rw [ref_last A H, Ideal.exp_coe]

/-! One step on real data: the new values, the output and the next state. -/

variable (S : Fin 128 → Fin 160 → ℝ) (s4 : Fin 128 → Fin 160 → EReal) (hs : ∀ d v, s4 d v = ((S d v : ℝ) : EReal))
include hs

theorem step_u : val_main_v89 (F := Ideal) A.a3 A.a4 A.a5 A.a6 A.a2 (ix5 b n h t v) - ∑ d : Fin 128, val_main_v83 (F := Ideal) A.a3 A.a5 A.a6 A.a2 (ix5 b n h t d) * s4 d v
    = (((A.chunk b h n.val).u S t v : ℝ) : EReal) := by
  rw [← Chunk.u_eq, EReal.coe_sub, ref_ut A H, coe_sum]
  refine congrArg (fun z : EReal => _ - z) (Finset.sum_congr rfl fun d _ => ?_)
  rw [ref_w A H, hs, EReal.coe_mul]

variable (u4 : Fin 64 → Fin 160 → EReal) (hu : ∀ t v, u4 t v = (((A.chunk b h n.val).u S t v : ℝ) : EReal))
include hu

theorem step_o : Ideal.ofBits .f32 1035273459#32 * (∑ d : Fin 128, s4 d v * val_main_v93 (F := Ideal) A.a1 A.a5 A.a0 (ix5 b n t h d)
      + ∑ x : Fin 64, u4 x v * val_main_v50 (F := Ideal) A.a1 A.a3 A.a5 A.a0 A.a2 (ix5 b n h t x))
    = (((A.chunk b h n.val).o scaleR S t v : ℝ) : EReal) := by
  have e1 : (∑ d : Fin 128, s4 d v * val_main_v93 (F := Ideal) A.a1 A.a5 A.a0 (ix5 b n t h d) : EReal)
      = ((∑ d, S d v * ((A.chunk b h n.val).qs * (A.chunk b h n.val).qpos t d) : ℝ) : EReal) := by
    rw [coe_sum]
    refine Finset.sum_congr rfl fun d _ => ?_
    rw [ref_qsc A H, hs, ← EReal.coe_mul]
  have e2 : (∑ x : Fin 64, u4 x v * val_main_v50 (F := Ideal) A.a1 A.a3 A.a5 A.a0 A.a2 (ix5 b n h t x) : EReal)
      = ((∑ x, (A.chunk b h n.val).u S x v * ((A.chunk b h n.val).qs * (A.chunk b h n.val).ks * (A.chunk b h n.val).qk t x) : ℝ) : EReal) := by
    rw [coe_sum]
    refine Finset.sum_congr rfl fun x _ => ?_
    rw [ref_aqk A H, hu, ← EReal.coe_mul]
  rw [e1, e2, show Ideal.ofBits .f32 1035273459#32 = ((scaleR : ℝ) : EReal) from scale_eq, ← EReal.coe_add, ← EReal.coe_mul]
  refine congrArg (fun r : ℝ => (r : EReal)) ?_
  unfold Chunk.o
  simp only [mul_add, Finset.mul_sum]
  congr 1
  · exact Finset.sum_congr rfl fun d _ => by ring
  · exact Finset.sum_congr rfl fun d _ => by ring

theorem step_next : val_main_v98 (F := Ideal) A.a5 (ix4 b n h d) * s4 d v + ∑ x : Fin 64, val_main_v97 (F := Ideal) A.a3 A.a5 A.a2 (ix5 b n x h d) * u4 x v
    = (((A.chunk b h n.val).next S d v : ℝ) : EReal) := by
  have e : (∑ x : Fin 64, val_main_v97 (F := Ideal) A.a3 A.a5 A.a2 (ix5 b n x h d) * u4 x v : EReal)
      = ((∑ x, (A.chunk b h n.val).ks * (A.chunk b h n.val).kdec x d * (A.chunk b h n.val).u S x v : ℝ) : EReal) := by
    rw [coe_sum]
    refine Finset.sum_congr rfl fun x _ => ?_
    rw [ref_ksc A H, hu, ← EReal.coe_mul]
  rw [e, ref_decay A H, hs, ← EReal.coe_mul, ← EReal.coe_add]
  refine congrArg (fun r : ℝ => (r : EReal)) ?_
  unfold Chunk.next
  rw [Finset.mul_sum]
  congr 1
  exact Finset.sum_congr rfl fun x _ => by ring

end Cert.Hand

end
-- ==== Proof.Hand.Scan0.lean ====
module

public import proofs.«01_k».proof.Proof.Hand.Ref1

/-! The scan of the reference, chunk by chunk (1 of 10). -/

@[expose] public section

set_option maxRecDepth 100000

noncomputable section

namespace Cert.Hand

open Idealize.ShloMosaic Idealize.SL.Sem Cert.ReferenceIdeal.Read

variable (A : Args) (H : A.Real) (b : Fin 24) (h : Fin 18) (t : Fin 64) (d : Fin 128) (v : Fin 160)

variable (S : Fin 128 → Fin 160 → ℝ)
include H

theorem scan_u0 (hs : ∀ d v, A.a7 (ix4 b h d v) = ((S d v : ℝ) : EReal)) : val_main_v104 (F := Ideal) A.a3 A.a4 A.a5 A.a6 A.a7 A.a2 (ix4 b h t v) = (((A.chunk b h 0).u S t v : ℝ) : EReal) := by
  pointwise [val_main_v104, val_main_v103, val_main_v102, val_main_v101, val_main_v100, val_main_v99]
  exact step_u A H b (0 : Fin 20) h t v S (fun d v => A.a7 (ix4 b h d v)) hs

theorem scan_o0 (hs : ∀ d v, A.a7 (ix4 b h d v) = ((S d v : ℝ) : EReal)) : val_main_v115 (F := Ideal) A.a1 A.a3 A.a4 A.a5 A.a6 A.a7 A.a0 A.a2 (ix4 b t h v) = (((A.chunk b h 0).o scaleR S t v : ℝ) : EReal) := by
  pointwise [val_main_v115, val_main_v114, val_main_v113, val_main_v112, val_main_v111, val_main_v110, val_main_v109, val_main_v108, val_main_v107, val_main_v106, val_main_v105, val_main_cst_1]
  exact step_o A H b (0 : Fin 20) h t v S (fun d v => A.a7 (ix4 b h d v)) hs (fun t v => val_main_v104 (F := Ideal) A.a3 A.a4 A.a5 A.a6 A.a7 A.a2 (ix4 b h t v)) (fun t v => scan_u0 A H b h t v S hs)

theorem scan_s0 (hs : ∀ d v, A.a7 (ix4 b h d v) = ((S d v : ℝ) : EReal)) : val_main_v124 (F := Ideal) A.a3 A.a4 A.a5 A.a6 A.a7 A.a2 (ix4 b h d v) = (((A.chunk b h 0).next S d v : ℝ) : EReal) := by
  pointwise [val_main_v124, val_main_v123, val_main_v122, val_main_v121, val_main_v120, val_main_v119, val_main_v118, val_main_v117, val_main_v116]
  exact step_next A H b (0 : Fin 20) h d v S (fun d v => A.a7 (ix4 b h d v)) hs (fun t v => val_main_v104 (F := Ideal) A.a3 A.a4 A.a5 A.a6 A.a7 A.a2 (ix4 b h t v)) (fun t v => scan_u0 A H b h t v S hs)

theorem scan_u1 (hs : ∀ d v, val_main_v124 (F := Ideal) A.a3 A.a4 A.a5 A.a6 A.a7 A.a2 (ix4 b h d v) = ((S d v : ℝ) : EReal)) : val_main_v130 (F := Ideal) A.a3 A.a4 A.a5 A.a6 A.a7 A.a2 (ix4 b h t v) = (((A.chunk b h 1).u S t v : ℝ) : EReal) := by
  pointwise [val_main_v130, val_main_v129, val_main_v128, val_main_v127, val_main_v126, val_main_v125]
  exact step_u A H b (1 : Fin 20) h t v S (fun d v => val_main_v124 (F := Ideal) A.a3 A.a4 A.a5 A.a6 A.a7 A.a2 (ix4 b h d v)) hs

theorem scan_o1 (hs : ∀ d v, val_main_v124 (F := Ideal) A.a3 A.a4 A.a5 A.a6 A.a7 A.a2 (ix4 b h d v) = ((S d v : ℝ) : EReal)) : val_main_v141 (F := Ideal) A.a1 A.a3 A.a4 A.a5 A.a6 A.a7 A.a0 A.a2 (ix4 b t h v) = (((A.chunk b h 1).o scaleR S t v : ℝ) : EReal) := by
  pointwise [val_main_v141, val_main_v140, val_main_v139, val_main_v138, val_main_v137, val_main_v136, val_main_v135, val_main_v134, val_main_v133, val_main_v132, val_main_v131, val_main_cst_2]
  exact step_o A H b (1 : Fin 20) h t v S (fun d v => val_main_v124 (F := Ideal) A.a3 A.a4 A.a5 A.a6 A.a7 A.a2 (ix4 b h d v)) hs (fun t v => val_main_v130 (F := Ideal) A.a3 A.a4 A.a5 A.a6 A.a7 A.a2 (ix4 b h t v)) (fun t v => scan_u1 A H b h t v S hs)

theorem scan_s1 (hs : ∀ d v, val_main_v124 (F := Ideal) A.a3 A.a4 A.a5 A.a6 A.a7 A.a2 (ix4 b h d v) = ((S d v : ℝ) : EReal)) : val_main_v150 (F := Ideal) A.a3 A.a4 A.a5 A.a6 A.a7 A.a2 (ix4 b h d v) = (((A.chunk b h 1).next S d v : ℝ) : EReal) := by
  pointwise [val_main_v150, val_main_v149, val_main_v148, val_main_v147, val_main_v146, val_main_v145, val_main_v144, val_main_v143, val_main_v142]
  exact step_next A H b (1 : Fin 20) h d v S (fun d v => val_main_v124 (F := Ideal) A.a3 A.a4 A.a5 A.a6 A.a7 A.a2 (ix4 b h d v)) hs (fun t v => val_main_v130 (F := Ideal) A.a3 A.a4 A.a5 A.a6 A.a7 A.a2 (ix4 b h t v)) (fun t v => scan_u1 A H b h t v S hs)

end Cert.Hand

end
-- ==== Proof.Hand.Scan1.lean ====
module

public import proofs.«01_k».proof.Proof.Hand.Ref1

/-! The scan of the reference, chunk by chunk (2 of 10). -/

@[expose] public section

set_option maxRecDepth 100000

noncomputable section

namespace Cert.Hand

open Idealize.ShloMosaic Idealize.SL.Sem Cert.ReferenceIdeal.Read

variable (A : Args) (H : A.Real) (b : Fin 24) (h : Fin 18) (t : Fin 64) (d : Fin 128) (v : Fin 160)

variable (S : Fin 128 → Fin 160 → ℝ)
include H

theorem scan_u2 (hs : ∀ d v, val_main_v150 (F := Ideal) A.a3 A.a4 A.a5 A.a6 A.a7 A.a2 (ix4 b h d v) = ((S d v : ℝ) : EReal)) : val_main_v156 (F := Ideal) A.a3 A.a4 A.a5 A.a6 A.a7 A.a2 (ix4 b h t v) = (((A.chunk b h 2).u S t v : ℝ) : EReal) := by
  pointwise [val_main_v156, val_main_v155, val_main_v154, val_main_v153, val_main_v152, val_main_v151]
  exact step_u A H b (2 : Fin 20) h t v S (fun d v => val_main_v150 (F := Ideal) A.a3 A.a4 A.a5 A.a6 A.a7 A.a2 (ix4 b h d v)) hs

theorem scan_o2 (hs : ∀ d v, val_main_v150 (F := Ideal) A.a3 A.a4 A.a5 A.a6 A.a7 A.a2 (ix4 b h d v) = ((S d v : ℝ) : EReal)) : val_main_v167 (F := Ideal) A.a1 A.a3 A.a4 A.a5 A.a6 A.a7 A.a0 A.a2 (ix4 b t h v) = (((A.chunk b h 2).o scaleR S t v : ℝ) : EReal) := by
  pointwise [val_main_v167, val_main_v166, val_main_v165, val_main_v164, val_main_v163, val_main_v162, val_main_v161, val_main_v160, val_main_v159, val_main_v158, val_main_v157, val_main_cst_3]
  exact step_o A H b (2 : Fin 20) h t v S (fun d v => val_main_v150 (F := Ideal) A.a3 A.a4 A.a5 A.a6 A.a7 A.a2 (ix4 b h d v)) hs (fun t v => val_main_v156 (F := Ideal) A.a3 A.a4 A.a5 A.a6 A.a7 A.a2 (ix4 b h t v)) (fun t v => scan_u2 A H b h t v S hs)

theorem scan_s2 (hs : ∀ d v, val_main_v150 (F := Ideal) A.a3 A.a4 A.a5 A.a6 A.a7 A.a2 (ix4 b h d v) = ((S d v : ℝ) : EReal)) : val_main_v176 (F := Ideal) A.a3 A.a4 A.a5 A.a6 A.a7 A.a2 (ix4 b h d v) = (((A.chunk b h 2).next S d v : ℝ) : EReal) := by
  pointwise [val_main_v176, val_main_v175, val_main_v174, val_main_v173, val_main_v172, val_main_v171, val_main_v170, val_main_v169, val_main_v168]
  exact step_next A H b (2 : Fin 20) h d v S (fun d v => val_main_v150 (F := Ideal) A.a3 A.a4 A.a5 A.a6 A.a7 A.a2 (ix4 b h d v)) hs (fun t v => val_main_v156 (F := Ideal) A.a3 A.a4 A.a5 A.a6 A.a7 A.a2 (ix4 b h t v)) (fun t v => scan_u2 A H b h t v S hs)

theorem scan_u3 (hs : ∀ d v, val_main_v176 (F := Ideal) A.a3 A.a4 A.a5 A.a6 A.a7 A.a2 (ix4 b h d v) = ((S d v : ℝ) : EReal)) : val_main_v182 (F := Ideal) A.a3 A.a4 A.a5 A.a6 A.a7 A.a2 (ix4 b h t v) = (((A.chunk b h 3).u S t v : ℝ) : EReal) := by
  pointwise [val_main_v182, val_main_v181, val_main_v180, val_main_v179, val_main_v178, val_main_v177]
  exact step_u A H b (3 : Fin 20) h t v S (fun d v => val_main_v176 (F := Ideal) A.a3 A.a4 A.a5 A.a6 A.a7 A.a2 (ix4 b h d v)) hs

theorem scan_o3 (hs : ∀ d v, val_main_v176 (F := Ideal) A.a3 A.a4 A.a5 A.a6 A.a7 A.a2 (ix4 b h d v) = ((S d v : ℝ) : EReal)) : val_main_v193 (F := Ideal) A.a1 A.a3 A.a4 A.a5 A.a6 A.a7 A.a0 A.a2 (ix4 b t h v) = (((A.chunk b h 3).o scaleR S t v : ℝ) : EReal) := by
  pointwise [val_main_v193, val_main_v192, val_main_v191, val_main_v190, val_main_v189, val_main_v188, val_main_v187, val_main_v186, val_main_v185, val_main_v184, val_main_v183, val_main_cst_4]
  exact step_o A H b (3 : Fin 20) h t v S (fun d v => val_main_v176 (F := Ideal) A.a3 A.a4 A.a5 A.a6 A.a7 A.a2 (ix4 b h d v)) hs (fun t v => val_main_v182 (F := Ideal) A.a3 A.a4 A.a5 A.a6 A.a7 A.a2 (ix4 b h t v)) (fun t v => scan_u3 A H b h t v S hs)

theorem scan_s3 (hs : ∀ d v, val_main_v176 (F := Ideal) A.a3 A.a4 A.a5 A.a6 A.a7 A.a2 (ix4 b h d v) = ((S d v : ℝ) : EReal)) : val_main_v202 (F := Ideal) A.a3 A.a4 A.a5 A.a6 A.a7 A.a2 (ix4 b h d v) = (((A.chunk b h 3).next S d v : ℝ) : EReal) := by
  pointwise [val_main_v202, val_main_v201, val_main_v200, val_main_v199, val_main_v198, val_main_v197, val_main_v196, val_main_v195, val_main_v194]
  exact step_next A H b (3 : Fin 20) h d v S (fun d v => val_main_v176 (F := Ideal) A.a3 A.a4 A.a5 A.a6 A.a7 A.a2 (ix4 b h d v)) hs (fun t v => val_main_v182 (F := Ideal) A.a3 A.a4 A.a5 A.a6 A.a7 A.a2 (ix4 b h t v)) (fun t v => scan_u3 A H b h t v S hs)

end Cert.Hand

end
-- ==== Proof.Hand.Scan2.lean ====
module

public import proofs.«01_k».proof.Proof.Hand.Ref1

/-! The scan of the reference, chunk by chunk (3 of 10). -/

@[expose] public section

set_option maxRecDepth 100000

noncomputable section

namespace Cert.Hand

open Idealize.ShloMosaic Idealize.SL.Sem Cert.ReferenceIdeal.Read

variable (A : Args) (H : A.Real) (b : Fin 24) (h : Fin 18) (t : Fin 64) (d : Fin 128) (v : Fin 160)

variable (S : Fin 128 → Fin 160 → ℝ)
include H

theorem scan_u4 (hs : ∀ d v, val_main_v202 (F := Ideal) A.a3 A.a4 A.a5 A.a6 A.a7 A.a2 (ix4 b h d v) = ((S d v : ℝ) : EReal)) : val_main_v208 (F := Ideal) A.a3 A.a4 A.a5 A.a6 A.a7 A.a2 (ix4 b h t v) = (((A.chunk b h 4).u S t v : ℝ) : EReal) := by
  pointwise [val_main_v208, val_main_v207, val_main_v206, val_main_v205, val_main_v204, val_main_v203]
  exact step_u A H b (4 : Fin 20) h t v S (fun d v => val_main_v202 (F := Ideal) A.a3 A.a4 A.a5 A.a6 A.a7 A.a2 (ix4 b h d v)) hs

theorem scan_o4 (hs : ∀ d v, val_main_v202 (F := Ideal) A.a3 A.a4 A.a5 A.a6 A.a7 A.a2 (ix4 b h d v) = ((S d v : ℝ) : EReal)) : val_main_v219 (F := Ideal) A.a1 A.a3 A.a4 A.a5 A.a6 A.a7 A.a0 A.a2 (ix4 b t h v) = (((A.chunk b h 4).o scaleR S t v : ℝ) : EReal) := by
  pointwise [val_main_v219, val_main_v218, val_main_v217, val_main_v216, val_main_v215, val_main_v214, val_main_v213, val_main_v212, val_main_v211, val_main_v210, val_main_v209, val_main_cst_5]
  exact step_o A H b (4 : Fin 20) h t v S (fun d v => val_main_v202 (F := Ideal) A.a3 A.a4 A.a5 A.a6 A.a7 A.a2 (ix4 b h d v)) hs (fun t v => val_main_v208 (F := Ideal) A.a3 A.a4 A.a5 A.a6 A.a7 A.a2 (ix4 b h t v)) (fun t v => scan_u4 A H b h t v S hs)

theorem scan_s4 (hs : ∀ d v, val_main_v202 (F := Ideal) A.a3 A.a4 A.a5 A.a6 A.a7 A.a2 (ix4 b h d v) = ((S d v : ℝ) : EReal)) : val_main_v228 (F := Ideal) A.a3 A.a4 A.a5 A.a6 A.a7 A.a2 (ix4 b h d v) = (((A.chunk b h 4).next S d v : ℝ) : EReal) := by
  pointwise [val_main_v228, val_main_v227, val_main_v226, val_main_v225, val_main_v224, val_main_v223, val_main_v222, val_main_v221, val_main_v220]
  exact step_next A H b (4 : Fin 20) h d v S (fun d v => val_main_v202 (F := Ideal) A.a3 A.a4 A.a5 A.a6 A.a7 A.a2 (ix4 b h d v)) hs (fun t v => val_main_v208 (F := Ideal) A.a3 A.a4 A.a5 A.a6 A.a7 A.a2 (ix4 b h t v)) (fun t v => scan_u4 A H b h t v S hs)

theorem scan_u5 (hs : ∀ d v, val_main_v228 (F := Ideal) A.a3 A.a4 A.a5 A.a6 A.a7 A.a2 (ix4 b h d v) = ((S d v : ℝ) : EReal)) : val_main_v234 (F := Ideal) A.a3 A.a4 A.a5 A.a6 A.a7 A.a2 (ix4 b h t v) = (((A.chunk b h 5).u S t v : ℝ) : EReal) := by
  pointwise [val_main_v234, val_main_v233, val_main_v232, val_main_v231, val_main_v230, val_main_v229]
  exact step_u A H b (5 : Fin 20) h t v S (fun d v => val_main_v228 (F := Ideal) A.a3 A.a4 A.a5 A.a6 A.a7 A.a2 (ix4 b h d v)) hs

theorem scan_o5 (hs : ∀ d v, val_main_v228 (F := Ideal) A.a3 A.a4 A.a5 A.a6 A.a7 A.a2 (ix4 b h d v) = ((S d v : ℝ) : EReal)) : val_main_v245 (F := Ideal) A.a1 A.a3 A.a4 A.a5 A.a6 A.a7 A.a0 A.a2 (ix4 b t h v) = (((A.chunk b h 5).o scaleR S t v : ℝ) : EReal) := by
  pointwise [val_main_v245, val_main_v244, val_main_v243, val_main_v242, val_main_v241, val_main_v240, val_main_v239, val_main_v238, val_main_v237, val_main_v236, val_main_v235, val_main_cst_6]
  exact step_o A H b (5 : Fin 20) h t v S (fun d v => val_main_v228 (F := Ideal) A.a3 A.a4 A.a5 A.a6 A.a7 A.a2 (ix4 b h d v)) hs (fun t v => val_main_v234 (F := Ideal) A.a3 A.a4 A.a5 A.a6 A.a7 A.a2 (ix4 b h t v)) (fun t v => scan_u5 A H b h t v S hs)

theorem scan_s5 (hs : ∀ d v, val_main_v228 (F := Ideal) A.a3 A.a4 A.a5 A.a6 A.a7 A.a2 (ix4 b h d v) = ((S d v : ℝ) : EReal)) : val_main_v254 (F := Ideal) A.a3 A.a4 A.a5 A.a6 A.a7 A.a2 (ix4 b h d v) = (((A.chunk b h 5).next S d v : ℝ) : EReal) := by
  pointwise [val_main_v254, val_main_v253, val_main_v252, val_main_v251, val_main_v250, val_main_v249, val_main_v248, val_main_v247, val_main_v246]
  exact step_next A H b (5 : Fin 20) h d v S (fun d v => val_main_v228 (F := Ideal) A.a3 A.a4 A.a5 A.a6 A.a7 A.a2 (ix4 b h d v)) hs (fun t v => val_main_v234 (F := Ideal) A.a3 A.a4 A.a5 A.a6 A.a7 A.a2 (ix4 b h t v)) (fun t v => scan_u5 A H b h t v S hs)

end Cert.Hand

end
-- ==== Proof.Hand.Scan3.lean ====
module

public import proofs.«01_k».proof.Proof.Hand.Ref1

/-! The scan of the reference, chunk by chunk (4 of 10). -/

@[expose] public section

set_option maxRecDepth 100000

noncomputable section

namespace Cert.Hand

open Idealize.ShloMosaic Idealize.SL.Sem Cert.ReferenceIdeal.Read

variable (A : Args) (H : A.Real) (b : Fin 24) (h : Fin 18) (t : Fin 64) (d : Fin 128) (v : Fin 160)

variable (S : Fin 128 → Fin 160 → ℝ)
include H

theorem scan_u6 (hs : ∀ d v, val_main_v254 (F := Ideal) A.a3 A.a4 A.a5 A.a6 A.a7 A.a2 (ix4 b h d v) = ((S d v : ℝ) : EReal)) : val_main_v260 (F := Ideal) A.a3 A.a4 A.a5 A.a6 A.a7 A.a2 (ix4 b h t v) = (((A.chunk b h 6).u S t v : ℝ) : EReal) := by
  pointwise [val_main_v260, val_main_v259, val_main_v258, val_main_v257, val_main_v256, val_main_v255]
  exact step_u A H b (6 : Fin 20) h t v S (fun d v => val_main_v254 (F := Ideal) A.a3 A.a4 A.a5 A.a6 A.a7 A.a2 (ix4 b h d v)) hs

theorem scan_o6 (hs : ∀ d v, val_main_v254 (F := Ideal) A.a3 A.a4 A.a5 A.a6 A.a7 A.a2 (ix4 b h d v) = ((S d v : ℝ) : EReal)) : val_main_v271 (F := Ideal) A.a1 A.a3 A.a4 A.a5 A.a6 A.a7 A.a0 A.a2 (ix4 b t h v) = (((A.chunk b h 6).o scaleR S t v : ℝ) : EReal) := by
  pointwise [val_main_v271, val_main_v270, val_main_v269, val_main_v268, val_main_v267, val_main_v266, val_main_v265, val_main_v264, val_main_v263, val_main_v262, val_main_v261, val_main_cst_7]
  exact step_o A H b (6 : Fin 20) h t v S (fun d v => val_main_v254 (F := Ideal) A.a3 A.a4 A.a5 A.a6 A.a7 A.a2 (ix4 b h d v)) hs (fun t v => val_main_v260 (F := Ideal) A.a3 A.a4 A.a5 A.a6 A.a7 A.a2 (ix4 b h t v)) (fun t v => scan_u6 A H b h t v S hs)

theorem scan_s6 (hs : ∀ d v, val_main_v254 (F := Ideal) A.a3 A.a4 A.a5 A.a6 A.a7 A.a2 (ix4 b h d v) = ((S d v : ℝ) : EReal)) : val_main_v280 (F := Ideal) A.a3 A.a4 A.a5 A.a6 A.a7 A.a2 (ix4 b h d v) = (((A.chunk b h 6).next S d v : ℝ) : EReal) := by
  pointwise [val_main_v280, val_main_v279, val_main_v278, val_main_v277, val_main_v276, val_main_v275, val_main_v274, val_main_v273, val_main_v272]
  exact step_next A H b (6 : Fin 20) h d v S (fun d v => val_main_v254 (F := Ideal) A.a3 A.a4 A.a5 A.a6 A.a7 A.a2 (ix4 b h d v)) hs (fun t v => val_main_v260 (F := Ideal) A.a3 A.a4 A.a5 A.a6 A.a7 A.a2 (ix4 b h t v)) (fun t v => scan_u6 A H b h t v S hs)

theorem scan_u7 (hs : ∀ d v, val_main_v280 (F := Ideal) A.a3 A.a4 A.a5 A.a6 A.a7 A.a2 (ix4 b h d v) = ((S d v : ℝ) : EReal)) : val_main_v286 (F := Ideal) A.a3 A.a4 A.a5 A.a6 A.a7 A.a2 (ix4 b h t v) = (((A.chunk b h 7).u S t v : ℝ) : EReal) := by
  pointwise [val_main_v286, val_main_v285, val_main_v284, val_main_v283, val_main_v282, val_main_v281]
  exact step_u A H b (7 : Fin 20) h t v S (fun d v => val_main_v280 (F := Ideal) A.a3 A.a4 A.a5 A.a6 A.a7 A.a2 (ix4 b h d v)) hs

theorem scan_o7 (hs : ∀ d v, val_main_v280 (F := Ideal) A.a3 A.a4 A.a5 A.a6 A.a7 A.a2 (ix4 b h d v) = ((S d v : ℝ) : EReal)) : val_main_v297 (F := Ideal) A.a1 A.a3 A.a4 A.a5 A.a6 A.a7 A.a0 A.a2 (ix4 b t h v) = (((A.chunk b h 7).o scaleR S t v : ℝ) : EReal) := by
  pointwise [val_main_v297, val_main_v296, val_main_v295, val_main_v294, val_main_v293, val_main_v292, val_main_v291, val_main_v290, val_main_v289, val_main_v288, val_main_v287, val_main_cst_8]
  exact step_o A H b (7 : Fin 20) h t v S (fun d v => val_main_v280 (F := Ideal) A.a3 A.a4 A.a5 A.a6 A.a7 A.a2 (ix4 b h d v)) hs (fun t v => val_main_v286 (F := Ideal) A.a3 A.a4 A.a5 A.a6 A.a7 A.a2 (ix4 b h t v)) (fun t v => scan_u7 A H b h t v S hs)

theorem scan_s7 (hs : ∀ d v, val_main_v280 (F := Ideal) A.a3 A.a4 A.a5 A.a6 A.a7 A.a2 (ix4 b h d v) = ((S d v : ℝ) : EReal)) : val_main_v306 (F := Ideal) A.a3 A.a4 A.a5 A.a6 A.a7 A.a2 (ix4 b h d v) = (((A.chunk b h 7).next S d v : ℝ) : EReal) := by
  pointwise [val_main_v306, val_main_v305, val_main_v304, val_main_v303, val_main_v302, val_main_v301, val_main_v300, val_main_v299, val_main_v298]
  exact step_next A H b (7 : Fin 20) h d v S (fun d v => val_main_v280 (F := Ideal) A.a3 A.a4 A.a5 A.a6 A.a7 A.a2 (ix4 b h d v)) hs (fun t v => val_main_v286 (F := Ideal) A.a3 A.a4 A.a5 A.a6 A.a7 A.a2 (ix4 b h t v)) (fun t v => scan_u7 A H b h t v S hs)

end Cert.Hand

end
-- ==== Proof.Hand.Scan4.lean ====
module

public import proofs.«01_k».proof.Proof.Hand.Ref1

/-! The scan of the reference, chunk by chunk (5 of 10). -/

@[expose] public section

set_option maxRecDepth 100000

noncomputable section

namespace Cert.Hand

open Idealize.ShloMosaic Idealize.SL.Sem Cert.ReferenceIdeal.Read

variable (A : Args) (H : A.Real) (b : Fin 24) (h : Fin 18) (t : Fin 64) (d : Fin 128) (v : Fin 160)

variable (S : Fin 128 → Fin 160 → ℝ)
include H

theorem scan_u8 (hs : ∀ d v, val_main_v306 (F := Ideal) A.a3 A.a4 A.a5 A.a6 A.a7 A.a2 (ix4 b h d v) = ((S d v : ℝ) : EReal)) : val_main_v312 (F := Ideal) A.a3 A.a4 A.a5 A.a6 A.a7 A.a2 (ix4 b h t v) = (((A.chunk b h 8).u S t v : ℝ) : EReal) := by
  pointwise [val_main_v312, val_main_v311, val_main_v310, val_main_v309, val_main_v308, val_main_v307]
  exact step_u A H b (8 : Fin 20) h t v S (fun d v => val_main_v306 (F := Ideal) A.a3 A.a4 A.a5 A.a6 A.a7 A.a2 (ix4 b h d v)) hs

theorem scan_o8 (hs : ∀ d v, val_main_v306 (F := Ideal) A.a3 A.a4 A.a5 A.a6 A.a7 A.a2 (ix4 b h d v) = ((S d v : ℝ) : EReal)) : val_main_v323 (F := Ideal) A.a1 A.a3 A.a4 A.a5 A.a6 A.a7 A.a0 A.a2 (ix4 b t h v) = (((A.chunk b h 8).o scaleR S t v : ℝ) : EReal) := by
  pointwise [val_main_v323, val_main_v322, val_main_v321, val_main_v320, val_main_v319, val_main_v318, val_main_v317, val_main_v316, val_main_v315, val_main_v314, val_main_v313, val_main_cst_9]
  exact step_o A H b (8 : Fin 20) h t v S (fun d v => val_main_v306 (F := Ideal) A.a3 A.a4 A.a5 A.a6 A.a7 A.a2 (ix4 b h d v)) hs (fun t v => val_main_v312 (F := Ideal) A.a3 A.a4 A.a5 A.a6 A.a7 A.a2 (ix4 b h t v)) (fun t v => scan_u8 A H b h t v S hs)

theorem scan_s8 (hs : ∀ d v, val_main_v306 (F := Ideal) A.a3 A.a4 A.a5 A.a6 A.a7 A.a2 (ix4 b h d v) = ((S d v : ℝ) : EReal)) : val_main_v332 (F := Ideal) A.a3 A.a4 A.a5 A.a6 A.a7 A.a2 (ix4 b h d v) = (((A.chunk b h 8).next S d v : ℝ) : EReal) := by
  pointwise [val_main_v332, val_main_v331, val_main_v330, val_main_v329, val_main_v328, val_main_v327, val_main_v326, val_main_v325, val_main_v324]
  exact step_next A H b (8 : Fin 20) h d v S (fun d v => val_main_v306 (F := Ideal) A.a3 A.a4 A.a5 A.a6 A.a7 A.a2 (ix4 b h d v)) hs (fun t v => val_main_v312 (F := Ideal) A.a3 A.a4 A.a5 A.a6 A.a7 A.a2 (ix4 b h t v)) (fun t v => scan_u8 A H b h t v S hs)

theorem scan_u9 (hs : ∀ d v, val_main_v332 (F := Ideal) A.a3 A.a4 A.a5 A.a6 A.a7 A.a2 (ix4 b h d v) = ((S d v : ℝ) : EReal)) : val_main_v338 (F := Ideal) A.a3 A.a4 A.a5 A.a6 A.a7 A.a2 (ix4 b h t v) = (((A.chunk b h 9).u S t v : ℝ) : EReal) := by
  pointwise [val_main_v338, val_main_v337, val_main_v336, val_main_v335, val_main_v334, val_main_v333]
  exact step_u A H b (9 : Fin 20) h t v S (fun d v => val_main_v332 (F := Ideal) A.a3 A.a4 A.a5 A.a6 A.a7 A.a2 (ix4 b h d v)) hs

theorem scan_o9 (hs : ∀ d v, val_main_v332 (F := Ideal) A.a3 A.a4 A.a5 A.a6 A.a7 A.a2 (ix4 b h d v) = ((S d v : ℝ) : EReal)) : val_main_v349 (F := Ideal) A.a1 A.a3 A.a4 A.a5 A.a6 A.a7 A.a0 A.a2 (ix4 b t h v) = (((A.chunk b h 9).o scaleR S t v : ℝ) : EReal) := by
  pointwise [val_main_v349, val_main_v348, val_main_v347, val_main_v346, val_main_v345, val_main_v344, val_main_v343, val_main_v342, val_main_v341, val_main_v340, val_main_v339, val_main_cst_10]
  exact step_o A H b (9 : Fin 20) h t v S (fun d v => val_main_v332 (F := Ideal) A.a3 A.a4 A.a5 A.a6 A.a7 A.a2 (ix4 b h d v)) hs (fun t v => val_main_v338 (F := Ideal) A.a3 A.a4 A.a5 A.a6 A.a7 A.a2 (ix4 b h t v)) (fun t v => scan_u9 A H b h t v S hs)

theorem scan_s9 (hs : ∀ d v, val_main_v332 (F := Ideal) A.a3 A.a4 A.a5 A.a6 A.a7 A.a2 (ix4 b h d v) = ((S d v : ℝ) : EReal)) : val_main_v358 (F := Ideal) A.a3 A.a4 A.a5 A.a6 A.a7 A.a2 (ix4 b h d v) = (((A.chunk b h 9).next S d v : ℝ) : EReal) := by
  pointwise [val_main_v358, val_main_v357, val_main_v356, val_main_v355, val_main_v354, val_main_v353, val_main_v352, val_main_v351, val_main_v350]
  exact step_next A H b (9 : Fin 20) h d v S (fun d v => val_main_v332 (F := Ideal) A.a3 A.a4 A.a5 A.a6 A.a7 A.a2 (ix4 b h d v)) hs (fun t v => val_main_v338 (F := Ideal) A.a3 A.a4 A.a5 A.a6 A.a7 A.a2 (ix4 b h t v)) (fun t v => scan_u9 A H b h t v S hs)

end Cert.Hand

end
-- ==== Proof.Hand.Scan5.lean ====
module

public import proofs.«01_k».proof.Proof.Hand.Ref1

/-! The scan of the reference, chunk by chunk (6 of 10). -/

@[expose] public section

set_option maxRecDepth 100000

noncomputable section

namespace Cert.Hand

open Idealize.ShloMosaic Idealize.SL.Sem Cert.ReferenceIdeal.Read

variable (A : Args) (H : A.Real) (b : Fin 24) (h : Fin 18) (t : Fin 64) (d : Fin 128) (v : Fin 160)

variable (S : Fin 128 → Fin 160 → ℝ)
include H

theorem scan_u10 (hs : ∀ d v, val_main_v358 (F := Ideal) A.a3 A.a4 A.a5 A.a6 A.a7 A.a2 (ix4 b h d v) = ((S d v : ℝ) : EReal)) : val_main_v364 (F := Ideal) A.a3 A.a4 A.a5 A.a6 A.a7 A.a2 (ix4 b h t v) = (((A.chunk b h 10).u S t v : ℝ) : EReal) := by
  pointwise [val_main_v364, val_main_v363, val_main_v362, val_main_v361, val_main_v360, val_main_v359]
  exact step_u A H b (10 : Fin 20) h t v S (fun d v => val_main_v358 (F := Ideal) A.a3 A.a4 A.a5 A.a6 A.a7 A.a2 (ix4 b h d v)) hs

theorem scan_o10 (hs : ∀ d v, val_main_v358 (F := Ideal) A.a3 A.a4 A.a5 A.a6 A.a7 A.a2 (ix4 b h d v) = ((S d v : ℝ) : EReal)) : val_main_v375 (F := Ideal) A.a1 A.a3 A.a4 A.a5 A.a6 A.a7 A.a0 A.a2 (ix4 b t h v) = (((A.chunk b h 10).o scaleR S t v : ℝ) : EReal) := by
  pointwise [val_main_v375, val_main_v374, val_main_v373, val_main_v372, val_main_v371, val_main_v370, val_main_v369, val_main_v368, val_main_v367, val_main_v366, val_main_v365, val_main_cst_11]
  exact step_o A H b (10 : Fin 20) h t v S (fun d v => val_main_v358 (F := Ideal) A.a3 A.a4 A.a5 A.a6 A.a7 A.a2 (ix4 b h d v)) hs (fun t v => val_main_v364 (F := Ideal) A.a3 A.a4 A.a5 A.a6 A.a7 A.a2 (ix4 b h t v)) (fun t v => scan_u10 A H b h t v S hs)

theorem scan_s10 (hs : ∀ d v, val_main_v358 (F := Ideal) A.a3 A.a4 A.a5 A.a6 A.a7 A.a2 (ix4 b h d v) = ((S d v : ℝ) : EReal)) : val_main_v384 (F := Ideal) A.a3 A.a4 A.a5 A.a6 A.a7 A.a2 (ix4 b h d v) = (((A.chunk b h 10).next S d v : ℝ) : EReal) := by
  pointwise [val_main_v384, val_main_v383, val_main_v382, val_main_v381, val_main_v380, val_main_v379, val_main_v378, val_main_v377, val_main_v376]
  exact step_next A H b (10 : Fin 20) h d v S (fun d v => val_main_v358 (F := Ideal) A.a3 A.a4 A.a5 A.a6 A.a7 A.a2 (ix4 b h d v)) hs (fun t v => val_main_v364 (F := Ideal) A.a3 A.a4 A.a5 A.a6 A.a7 A.a2 (ix4 b h t v)) (fun t v => scan_u10 A H b h t v S hs)

theorem scan_u11 (hs : ∀ d v, val_main_v384 (F := Ideal) A.a3 A.a4 A.a5 A.a6 A.a7 A.a2 (ix4 b h d v) = ((S d v : ℝ) : EReal)) : val_main_v390 (F := Ideal) A.a3 A.a4 A.a5 A.a6 A.a7 A.a2 (ix4 b h t v) = (((A.chunk b h 11).u S t v : ℝ) : EReal) := by
  pointwise [val_main_v390, val_main_v389, val_main_v388, val_main_v387, val_main_v386, val_main_v385]
  exact step_u A H b (11 : Fin 20) h t v S (fun d v => val_main_v384 (F := Ideal) A.a3 A.a4 A.a5 A.a6 A.a7 A.a2 (ix4 b h d v)) hs

theorem scan_o11 (hs : ∀ d v, val_main_v384 (F := Ideal) A.a3 A.a4 A.a5 A.a6 A.a7 A.a2 (ix4 b h d v) = ((S d v : ℝ) : EReal)) : val_main_v401 (F := Ideal) A.a1 A.a3 A.a4 A.a5 A.a6 A.a7 A.a0 A.a2 (ix4 b t h v) = (((A.chunk b h 11).o scaleR S t v : ℝ) : EReal) := by
  pointwise [val_main_v401, val_main_v400, val_main_v399, val_main_v398, val_main_v397, val_main_v396, val_main_v395, val_main_v394, val_main_v393, val_main_v392, val_main_v391, val_main_cst_12]
  exact step_o A H b (11 : Fin 20) h t v S (fun d v => val_main_v384 (F := Ideal) A.a3 A.a4 A.a5 A.a6 A.a7 A.a2 (ix4 b h d v)) hs (fun t v => val_main_v390 (F := Ideal) A.a3 A.a4 A.a5 A.a6 A.a7 A.a2 (ix4 b h t v)) (fun t v => scan_u11 A H b h t v S hs)

theorem scan_s11 (hs : ∀ d v, val_main_v384 (F := Ideal) A.a3 A.a4 A.a5 A.a6 A.a7 A.a2 (ix4 b h d v) = ((S d v : ℝ) : EReal)) : val_main_v410 (F := Ideal) A.a3 A.a4 A.a5 A.a6 A.a7 A.a2 (ix4 b h d v) = (((A.chunk b h 11).next S d v : ℝ) : EReal) := by
  pointwise [val_main_v410, val_main_v409, val_main_v408, val_main_v407, val_main_v406, val_main_v405, val_main_v404, val_main_v403, val_main_v402]
  exact step_next A H b (11 : Fin 20) h d v S (fun d v => val_main_v384 (F := Ideal) A.a3 A.a4 A.a5 A.a6 A.a7 A.a2 (ix4 b h d v)) hs (fun t v => val_main_v390 (F := Ideal) A.a3 A.a4 A.a5 A.a6 A.a7 A.a2 (ix4 b h t v)) (fun t v => scan_u11 A H b h t v S hs)

end Cert.Hand

end
-- ==== Proof.Hand.Scan6.lean ====
module

public import proofs.«01_k».proof.Proof.Hand.Ref1

/-! The scan of the reference, chunk by chunk (7 of 10). -/

@[expose] public section

set_option maxRecDepth 100000

noncomputable section

namespace Cert.Hand

open Idealize.ShloMosaic Idealize.SL.Sem Cert.ReferenceIdeal.Read

variable (A : Args) (H : A.Real) (b : Fin 24) (h : Fin 18) (t : Fin 64) (d : Fin 128) (v : Fin 160)

variable (S : Fin 128 → Fin 160 → ℝ)
include H

theorem scan_u12 (hs : ∀ d v, val_main_v410 (F := Ideal) A.a3 A.a4 A.a5 A.a6 A.a7 A.a2 (ix4 b h d v) = ((S d v : ℝ) : EReal)) : val_main_v416 (F := Ideal) A.a3 A.a4 A.a5 A.a6 A.a7 A.a2 (ix4 b h t v) = (((A.chunk b h 12).u S t v : ℝ) : EReal) := by
  pointwise [val_main_v416, val_main_v415, val_main_v414, val_main_v413, val_main_v412, val_main_v411]
  exact step_u A H b (12 : Fin 20) h t v S (fun d v => val_main_v410 (F := Ideal) A.a3 A.a4 A.a5 A.a6 A.a7 A.a2 (ix4 b h d v)) hs

theorem scan_o12 (hs : ∀ d v, val_main_v410 (F := Ideal) A.a3 A.a4 A.a5 A.a6 A.a7 A.a2 (ix4 b h d v) = ((S d v : ℝ) : EReal)) : val_main_v427 (F := Ideal) A.a1 A.a3 A.a4 A.a5 A.a6 A.a7 A.a0 A.a2 (ix4 b t h v) = (((A.chunk b h 12).o scaleR S t v : ℝ) : EReal) := by
  pointwise [val_main_v427, val_main_v426, val_main_v425, val_main_v424, val_main_v423, val_main_v422, val_main_v421, val_main_v420, val_main_v419, val_main_v418, val_main_v417, val_main_cst_13]
  exact step_o A H b (12 : Fin 20) h t v S (fun d v => val_main_v410 (F := Ideal) A.a3 A.a4 A.a5 A.a6 A.a7 A.a2 (ix4 b h d v)) hs (fun t v => val_main_v416 (F := Ideal) A.a3 A.a4 A.a5 A.a6 A.a7 A.a2 (ix4 b h t v)) (fun t v => scan_u12 A H b h t v S hs)

theorem scan_s12 (hs : ∀ d v, val_main_v410 (F := Ideal) A.a3 A.a4 A.a5 A.a6 A.a7 A.a2 (ix4 b h d v) = ((S d v : ℝ) : EReal)) : val_main_v436 (F := Ideal) A.a3 A.a4 A.a5 A.a6 A.a7 A.a2 (ix4 b h d v) = (((A.chunk b h 12).next S d v : ℝ) : EReal) := by
  pointwise [val_main_v436, val_main_v435, val_main_v434, val_main_v433, val_main_v432, val_main_v431, val_main_v430, val_main_v429, val_main_v428]
  exact step_next A H b (12 : Fin 20) h d v S (fun d v => val_main_v410 (F := Ideal) A.a3 A.a4 A.a5 A.a6 A.a7 A.a2 (ix4 b h d v)) hs (fun t v => val_main_v416 (F := Ideal) A.a3 A.a4 A.a5 A.a6 A.a7 A.a2 (ix4 b h t v)) (fun t v => scan_u12 A H b h t v S hs)

theorem scan_u13 (hs : ∀ d v, val_main_v436 (F := Ideal) A.a3 A.a4 A.a5 A.a6 A.a7 A.a2 (ix4 b h d v) = ((S d v : ℝ) : EReal)) : val_main_v442 (F := Ideal) A.a3 A.a4 A.a5 A.a6 A.a7 A.a2 (ix4 b h t v) = (((A.chunk b h 13).u S t v : ℝ) : EReal) := by
  pointwise [val_main_v442, val_main_v441, val_main_v440, val_main_v439, val_main_v438, val_main_v437]
  exact step_u A H b (13 : Fin 20) h t v S (fun d v => val_main_v436 (F := Ideal) A.a3 A.a4 A.a5 A.a6 A.a7 A.a2 (ix4 b h d v)) hs

theorem scan_o13 (hs : ∀ d v, val_main_v436 (F := Ideal) A.a3 A.a4 A.a5 A.a6 A.a7 A.a2 (ix4 b h d v) = ((S d v : ℝ) : EReal)) : val_main_v453 (F := Ideal) A.a1 A.a3 A.a4 A.a5 A.a6 A.a7 A.a0 A.a2 (ix4 b t h v) = (((A.chunk b h 13).o scaleR S t v : ℝ) : EReal) := by
  pointwise [val_main_v453, val_main_v452, val_main_v451, val_main_v450, val_main_v449, val_main_v448, val_main_v447, val_main_v446, val_main_v445, val_main_v444, val_main_v443, val_main_cst_14]
  exact step_o A H b (13 : Fin 20) h t v S (fun d v => val_main_v436 (F := Ideal) A.a3 A.a4 A.a5 A.a6 A.a7 A.a2 (ix4 b h d v)) hs (fun t v => val_main_v442 (F := Ideal) A.a3 A.a4 A.a5 A.a6 A.a7 A.a2 (ix4 b h t v)) (fun t v => scan_u13 A H b h t v S hs)

theorem scan_s13 (hs : ∀ d v, val_main_v436 (F := Ideal) A.a3 A.a4 A.a5 A.a6 A.a7 A.a2 (ix4 b h d v) = ((S d v : ℝ) : EReal)) : val_main_v462 (F := Ideal) A.a3 A.a4 A.a5 A.a6 A.a7 A.a2 (ix4 b h d v) = (((A.chunk b h 13).next S d v : ℝ) : EReal) := by
  pointwise [val_main_v462, val_main_v461, val_main_v460, val_main_v459, val_main_v458, val_main_v457, val_main_v456, val_main_v455, val_main_v454]
  exact step_next A H b (13 : Fin 20) h d v S (fun d v => val_main_v436 (F := Ideal) A.a3 A.a4 A.a5 A.a6 A.a7 A.a2 (ix4 b h d v)) hs (fun t v => val_main_v442 (F := Ideal) A.a3 A.a4 A.a5 A.a6 A.a7 A.a2 (ix4 b h t v)) (fun t v => scan_u13 A H b h t v S hs)

end Cert.Hand

end
-- ==== Proof.Hand.Scan7.lean ====
module

public import proofs.«01_k».proof.Proof.Hand.Ref1

/-! The scan of the reference, chunk by chunk (8 of 10). -/

@[expose] public section

set_option maxRecDepth 100000

noncomputable section

namespace Cert.Hand

open Idealize.ShloMosaic Idealize.SL.Sem Cert.ReferenceIdeal.Read

variable (A : Args) (H : A.Real) (b : Fin 24) (h : Fin 18) (t : Fin 64) (d : Fin 128) (v : Fin 160)

variable (S : Fin 128 → Fin 160 → ℝ)
include H

theorem scan_u14 (hs : ∀ d v, val_main_v462 (F := Ideal) A.a3 A.a4 A.a5 A.a6 A.a7 A.a2 (ix4 b h d v) = ((S d v : ℝ) : EReal)) : val_main_v468 (F := Ideal) A.a3 A.a4 A.a5 A.a6 A.a7 A.a2 (ix4 b h t v) = (((A.chunk b h 14).u S t v : ℝ) : EReal) := by
  pointwise [val_main_v468, val_main_v467, val_main_v466, val_main_v465, val_main_v464, val_main_v463]
  exact step_u A H b (14 : Fin 20) h t v S (fun d v => val_main_v462 (F := Ideal) A.a3 A.a4 A.a5 A.a6 A.a7 A.a2 (ix4 b h d v)) hs

theorem scan_o14 (hs : ∀ d v, val_main_v462 (F := Ideal) A.a3 A.a4 A.a5 A.a6 A.a7 A.a2 (ix4 b h d v) = ((S d v : ℝ) : EReal)) : val_main_v479 (F := Ideal) A.a1 A.a3 A.a4 A.a5 A.a6 A.a7 A.a0 A.a2 (ix4 b t h v) = (((A.chunk b h 14).o scaleR S t v : ℝ) : EReal) := by
  pointwise [val_main_v479, val_main_v478, val_main_v477, val_main_v476, val_main_v475, val_main_v474, val_main_v473, val_main_v472, val_main_v471, val_main_v470, val_main_v469, val_main_cst_15]
  exact step_o A H b (14 : Fin 20) h t v S (fun d v => val_main_v462 (F := Ideal) A.a3 A.a4 A.a5 A.a6 A.a7 A.a2 (ix4 b h d v)) hs (fun t v => val_main_v468 (F := Ideal) A.a3 A.a4 A.a5 A.a6 A.a7 A.a2 (ix4 b h t v)) (fun t v => scan_u14 A H b h t v S hs)

theorem scan_s14 (hs : ∀ d v, val_main_v462 (F := Ideal) A.a3 A.a4 A.a5 A.a6 A.a7 A.a2 (ix4 b h d v) = ((S d v : ℝ) : EReal)) : val_main_v488 (F := Ideal) A.a3 A.a4 A.a5 A.a6 A.a7 A.a2 (ix4 b h d v) = (((A.chunk b h 14).next S d v : ℝ) : EReal) := by
  pointwise [val_main_v488, val_main_v487, val_main_v486, val_main_v485, val_main_v484, val_main_v483, val_main_v482, val_main_v481, val_main_v480]
  exact step_next A H b (14 : Fin 20) h d v S (fun d v => val_main_v462 (F := Ideal) A.a3 A.a4 A.a5 A.a6 A.a7 A.a2 (ix4 b h d v)) hs (fun t v => val_main_v468 (F := Ideal) A.a3 A.a4 A.a5 A.a6 A.a7 A.a2 (ix4 b h t v)) (fun t v => scan_u14 A H b h t v S hs)

theorem scan_u15 (hs : ∀ d v, val_main_v488 (F := Ideal) A.a3 A.a4 A.a5 A.a6 A.a7 A.a2 (ix4 b h d v) = ((S d v : ℝ) : EReal)) : val_main_v494 (F := Ideal) A.a3 A.a4 A.a5 A.a6 A.a7 A.a2 (ix4 b h t v) = (((A.chunk b h 15).u S t v : ℝ) : EReal) := by
  pointwise [val_main_v494, val_main_v493, val_main_v492, val_main_v491, val_main_v490, val_main_v489]
  exact step_u A H b (15 : Fin 20) h t v S (fun d v => val_main_v488 (F := Ideal) A.a3 A.a4 A.a5 A.a6 A.a7 A.a2 (ix4 b h d v)) hs

theorem scan_o15 (hs : ∀ d v, val_main_v488 (F := Ideal) A.a3 A.a4 A.a5 A.a6 A.a7 A.a2 (ix4 b h d v) = ((S d v : ℝ) : EReal)) : val_main_v505 (F := Ideal) A.a1 A.a3 A.a4 A.a5 A.a6 A.a7 A.a0 A.a2 (ix4 b t h v) = (((A.chunk b h 15).o scaleR S t v : ℝ) : EReal) := by
  pointwise [val_main_v505, val_main_v504, val_main_v503, val_main_v502, val_main_v501, val_main_v500, val_main_v499, val_main_v498, val_main_v497, val_main_v496, val_main_v495, val_main_cst_16]
  exact step_o A H b (15 : Fin 20) h t v S (fun d v => val_main_v488 (F := Ideal) A.a3 A.a4 A.a5 A.a6 A.a7 A.a2 (ix4 b h d v)) hs (fun t v => val_main_v494 (F := Ideal) A.a3 A.a4 A.a5 A.a6 A.a7 A.a2 (ix4 b h t v)) (fun t v => scan_u15 A H b h t v S hs)

theorem scan_s15 (hs : ∀ d v, val_main_v488 (F := Ideal) A.a3 A.a4 A.a5 A.a6 A.a7 A.a2 (ix4 b h d v) = ((S d v : ℝ) : EReal)) : val_main_v514 (F := Ideal) A.a3 A.a4 A.a5 A.a6 A.a7 A.a2 (ix4 b h d v) = (((A.chunk b h 15).next S d v : ℝ) : EReal) := by
  pointwise [val_main_v514, val_main_v513, val_main_v512, val_main_v511, val_main_v510, val_main_v509, val_main_v508, val_main_v507, val_main_v506]
  exact step_next A H b (15 : Fin 20) h d v S (fun d v => val_main_v488 (F := Ideal) A.a3 A.a4 A.a5 A.a6 A.a7 A.a2 (ix4 b h d v)) hs (fun t v => val_main_v494 (F := Ideal) A.a3 A.a4 A.a5 A.a6 A.a7 A.a2 (ix4 b h t v)) (fun t v => scan_u15 A H b h t v S hs)

end Cert.Hand

end
-- ==== Proof.Hand.Scan8.lean ====
module

public import proofs.«01_k».proof.Proof.Hand.Ref1

/-! The scan of the reference, chunk by chunk (9 of 10). -/

@[expose] public section

set_option maxRecDepth 100000

noncomputable section

namespace Cert.Hand

open Idealize.ShloMosaic Idealize.SL.Sem Cert.ReferenceIdeal.Read

variable (A : Args) (H : A.Real) (b : Fin 24) (h : Fin 18) (t : Fin 64) (d : Fin 128) (v : Fin 160)

variable (S : Fin 128 → Fin 160 → ℝ)
include H

theorem scan_u16 (hs : ∀ d v, val_main_v514 (F := Ideal) A.a3 A.a4 A.a5 A.a6 A.a7 A.a2 (ix4 b h d v) = ((S d v : ℝ) : EReal)) : val_main_v520 (F := Ideal) A.a3 A.a4 A.a5 A.a6 A.a7 A.a2 (ix4 b h t v) = (((A.chunk b h 16).u S t v : ℝ) : EReal) := by
  pointwise [val_main_v520, val_main_v519, val_main_v518, val_main_v517, val_main_v516, val_main_v515]
  exact step_u A H b (16 : Fin 20) h t v S (fun d v => val_main_v514 (F := Ideal) A.a3 A.a4 A.a5 A.a6 A.a7 A.a2 (ix4 b h d v)) hs

theorem scan_o16 (hs : ∀ d v, val_main_v514 (F := Ideal) A.a3 A.a4 A.a5 A.a6 A.a7 A.a2 (ix4 b h d v) = ((S d v : ℝ) : EReal)) : val_main_v531 (F := Ideal) A.a1 A.a3 A.a4 A.a5 A.a6 A.a7 A.a0 A.a2 (ix4 b t h v) = (((A.chunk b h 16).o scaleR S t v : ℝ) : EReal) := by
  pointwise [val_main_v531, val_main_v530, val_main_v529, val_main_v528, val_main_v527, val_main_v526, val_main_v525, val_main_v524, val_main_v523, val_main_v522, val_main_v521, val_main_cst_17]
  exact step_o A H b (16 : Fin 20) h t v S (fun d v => val_main_v514 (F := Ideal) A.a3 A.a4 A.a5 A.a6 A.a7 A.a2 (ix4 b h d v)) hs (fun t v => val_main_v520 (F := Ideal) A.a3 A.a4 A.a5 A.a6 A.a7 A.a2 (ix4 b h t v)) (fun t v => scan_u16 A H b h t v S hs)

theorem scan_s16 (hs : ∀ d v, val_main_v514 (F := Ideal) A.a3 A.a4 A.a5 A.a6 A.a7 A.a2 (ix4 b h d v) = ((S d v : ℝ) : EReal)) : val_main_v540 (F := Ideal) A.a3 A.a4 A.a5 A.a6 A.a7 A.a2 (ix4 b h d v) = (((A.chunk b h 16).next S d v : ℝ) : EReal) := by
  pointwise [val_main_v540, val_main_v539, val_main_v538, val_main_v537, val_main_v536, val_main_v535, val_main_v534, val_main_v533, val_main_v532]
  exact step_next A H b (16 : Fin 20) h d v S (fun d v => val_main_v514 (F := Ideal) A.a3 A.a4 A.a5 A.a6 A.a7 A.a2 (ix4 b h d v)) hs (fun t v => val_main_v520 (F := Ideal) A.a3 A.a4 A.a5 A.a6 A.a7 A.a2 (ix4 b h t v)) (fun t v => scan_u16 A H b h t v S hs)

theorem scan_u17 (hs : ∀ d v, val_main_v540 (F := Ideal) A.a3 A.a4 A.a5 A.a6 A.a7 A.a2 (ix4 b h d v) = ((S d v : ℝ) : EReal)) : val_main_v546 (F := Ideal) A.a3 A.a4 A.a5 A.a6 A.a7 A.a2 (ix4 b h t v) = (((A.chunk b h 17).u S t v : ℝ) : EReal) := by
  pointwise [val_main_v546, val_main_v545, val_main_v544, val_main_v543, val_main_v542, val_main_v541]
  exact step_u A H b (17 : Fin 20) h t v S (fun d v => val_main_v540 (F := Ideal) A.a3 A.a4 A.a5 A.a6 A.a7 A.a2 (ix4 b h d v)) hs

theorem scan_o17 (hs : ∀ d v, val_main_v540 (F := Ideal) A.a3 A.a4 A.a5 A.a6 A.a7 A.a2 (ix4 b h d v) = ((S d v : ℝ) : EReal)) : val_main_v557 (F := Ideal) A.a1 A.a3 A.a4 A.a5 A.a6 A.a7 A.a0 A.a2 (ix4 b t h v) = (((A.chunk b h 17).o scaleR S t v : ℝ) : EReal) := by
  pointwise [val_main_v557, val_main_v556, val_main_v555, val_main_v554, val_main_v553, val_main_v552, val_main_v551, val_main_v550, val_main_v549, val_main_v548, val_main_v547, val_main_cst_18]
  exact step_o A H b (17 : Fin 20) h t v S (fun d v => val_main_v540 (F := Ideal) A.a3 A.a4 A.a5 A.a6 A.a7 A.a2 (ix4 b h d v)) hs (fun t v => val_main_v546 (F := Ideal) A.a3 A.a4 A.a5 A.a6 A.a7 A.a2 (ix4 b h t v)) (fun t v => scan_u17 A H b h t v S hs)

theorem scan_s17 (hs : ∀ d v, val_main_v540 (F := Ideal) A.a3 A.a4 A.a5 A.a6 A.a7 A.a2 (ix4 b h d v) = ((S d v : ℝ) : EReal)) : val_main_v566 (F := Ideal) A.a3 A.a4 A.a5 A.a6 A.a7 A.a2 (ix4 b h d v) = (((A.chunk b h 17).next S d v : ℝ) : EReal) := by
  pointwise [val_main_v566, val_main_v565, val_main_v564, val_main_v563, val_main_v562, val_main_v561, val_main_v560, val_main_v559, val_main_v558]
  exact step_next A H b (17 : Fin 20) h d v S (fun d v => val_main_v540 (F := Ideal) A.a3 A.a4 A.a5 A.a6 A.a7 A.a2 (ix4 b h d v)) hs (fun t v => val_main_v546 (F := Ideal) A.a3 A.a4 A.a5 A.a6 A.a7 A.a2 (ix4 b h t v)) (fun t v => scan_u17 A H b h t v S hs)

end Cert.Hand

end
-- ==== Proof.Hand.Scan9.lean ====
module

public import proofs.«01_k».proof.Proof.Hand.Ref1

/-! The scan of the reference, chunk by chunk (10 of 10). -/

@[expose] public section

set_option maxRecDepth 100000

noncomputable section

namespace Cert.Hand

open Idealize.ShloMosaic Idealize.SL.Sem Cert.ReferenceIdeal.Read

variable (A : Args) (H : A.Real) (b : Fin 24) (h : Fin 18) (t : Fin 64) (d : Fin 128) (v : Fin 160)

variable (S : Fin 128 → Fin 160 → ℝ)
include H

theorem scan_u18 (hs : ∀ d v, val_main_v566 (F := Ideal) A.a3 A.a4 A.a5 A.a6 A.a7 A.a2 (ix4 b h d v) = ((S d v : ℝ) : EReal)) : val_main_v572 (F := Ideal) A.a3 A.a4 A.a5 A.a6 A.a7 A.a2 (ix4 b h t v) = (((A.chunk b h 18).u S t v : ℝ) : EReal) := by
  pointwise [val_main_v572, val_main_v571, val_main_v570, val_main_v569, val_main_v568, val_main_v567]
  exact step_u A H b (18 : Fin 20) h t v S (fun d v => val_main_v566 (F := Ideal) A.a3 A.a4 A.a5 A.a6 A.a7 A.a2 (ix4 b h d v)) hs

theorem scan_o18 (hs : ∀ d v, val_main_v566 (F := Ideal) A.a3 A.a4 A.a5 A.a6 A.a7 A.a2 (ix4 b h d v) = ((S d v : ℝ) : EReal)) : val_main_v583 (F := Ideal) A.a1 A.a3 A.a4 A.a5 A.a6 A.a7 A.a0 A.a2 (ix4 b t h v) = (((A.chunk b h 18).o scaleR S t v : ℝ) : EReal) := by
  pointwise [val_main_v583, val_main_v582, val_main_v581, val_main_v580, val_main_v579, val_main_v578, val_main_v577, val_main_v576, val_main_v575, val_main_v574, val_main_v573, val_main_cst_19]
  exact step_o A H b (18 : Fin 20) h t v S (fun d v => val_main_v566 (F := Ideal) A.a3 A.a4 A.a5 A.a6 A.a7 A.a2 (ix4 b h d v)) hs (fun t v => val_main_v572 (F := Ideal) A.a3 A.a4 A.a5 A.a6 A.a7 A.a2 (ix4 b h t v)) (fun t v => scan_u18 A H b h t v S hs)

theorem scan_s18 (hs : ∀ d v, val_main_v566 (F := Ideal) A.a3 A.a4 A.a5 A.a6 A.a7 A.a2 (ix4 b h d v) = ((S d v : ℝ) : EReal)) : val_main_v592 (F := Ideal) A.a3 A.a4 A.a5 A.a6 A.a7 A.a2 (ix4 b h d v) = (((A.chunk b h 18).next S d v : ℝ) : EReal) := by
  pointwise [val_main_v592, val_main_v591, val_main_v590, val_main_v589, val_main_v588, val_main_v587, val_main_v586, val_main_v585, val_main_v584]
  exact step_next A H b (18 : Fin 20) h d v S (fun d v => val_main_v566 (F := Ideal) A.a3 A.a4 A.a5 A.a6 A.a7 A.a2 (ix4 b h d v)) hs (fun t v => val_main_v572 (F := Ideal) A.a3 A.a4 A.a5 A.a6 A.a7 A.a2 (ix4 b h t v)) (fun t v => scan_u18 A H b h t v S hs)

theorem scan_u19 (hs : ∀ d v, val_main_v592 (F := Ideal) A.a3 A.a4 A.a5 A.a6 A.a7 A.a2 (ix4 b h d v) = ((S d v : ℝ) : EReal)) : val_main_v598 (F := Ideal) A.a3 A.a4 A.a5 A.a6 A.a7 A.a2 (ix4 b h t v) = (((A.chunk b h 19).u S t v : ℝ) : EReal) := by
  pointwise [val_main_v598, val_main_v597, val_main_v596, val_main_v595, val_main_v594, val_main_v593]
  exact step_u A H b (19 : Fin 20) h t v S (fun d v => val_main_v592 (F := Ideal) A.a3 A.a4 A.a5 A.a6 A.a7 A.a2 (ix4 b h d v)) hs

theorem scan_o19 (hs : ∀ d v, val_main_v592 (F := Ideal) A.a3 A.a4 A.a5 A.a6 A.a7 A.a2 (ix4 b h d v) = ((S d v : ℝ) : EReal)) : val_main_v609 (F := Ideal) A.a1 A.a3 A.a4 A.a5 A.a6 A.a7 A.a0 A.a2 (ix4 b t h v) = (((A.chunk b h 19).o scaleR S t v : ℝ) : EReal) := by
  pointwise [val_main_v609, val_main_v608, val_main_v607, val_main_v606, val_main_v605, val_main_v604, val_main_v603, val_main_v602, val_main_v601, val_main_v600, val_main_v599, val_main_cst_20]
  exact step_o A H b (19 : Fin 20) h t v S (fun d v => val_main_v592 (F := Ideal) A.a3 A.a4 A.a5 A.a6 A.a7 A.a2 (ix4 b h d v)) hs (fun t v => val_main_v598 (F := Ideal) A.a3 A.a4 A.a5 A.a6 A.a7 A.a2 (ix4 b h t v)) (fun t v => scan_u19 A H b h t v S hs)

theorem scan_s19 (hs : ∀ d v, val_main_v592 (F := Ideal) A.a3 A.a4 A.a5 A.a6 A.a7 A.a2 (ix4 b h d v) = ((S d v : ℝ) : EReal)) : val_main_v618 (F := Ideal) A.a3 A.a4 A.a5 A.a6 A.a7 A.a2 (ix4 b h d v) = (((A.chunk b h 19).next S d v : ℝ) : EReal) := by
  pointwise [val_main_v618, val_main_v617, val_main_v616, val_main_v615, val_main_v614, val_main_v613, val_main_v612, val_main_v611, val_main_v610]
  exact step_next A H b (19 : Fin 20) h d v S (fun d v => val_main_v592 (F := Ideal) A.a3 A.a4 A.a5 A.a6 A.a7 A.a2 (ix4 b h d v)) hs (fun t v => val_main_v598 (F := Ideal) A.a3 A.a4 A.a5 A.a6 A.a7 A.a2 (ix4 b h t v)) (fun t v => scan_u19 A H b h t v S hs)

end Cert.Hand

end
-- ==== Proof.Hand.Scan.lean ====
module

public import proofs.«01_k».proof.Proof.Hand.Ref1
public import proofs.«01_k».proof.Proof.Hand.Scan0
public import proofs.«01_k».proof.Proof.Hand.Scan1
public import proofs.«01_k».proof.Proof.Hand.Scan2
public import proofs.«01_k».proof.Proof.Hand.Scan3
public import proofs.«01_k».proof.Proof.Hand.Scan4
public import proofs.«01_k».proof.Proof.Hand.Scan5
public import proofs.«01_k».proof.Proof.Hand.Scan6
public import proofs.«01_k».proof.Proof.Hand.Scan7
public import proofs.«01_k».proof.Proof.Hand.Scan8
public import proofs.«01_k».proof.Proof.Hand.Scan9

/-! The scan of the reference: the states and the outputs of the chunks, in order. -/

@[expose] public section

set_option maxRecDepth 100000

noncomputable section

namespace Cert.Hand

open Idealize.ShloMosaic Idealize.SL.Sem Cert.ReferenceIdeal.Read

variable (A : Args) (H : A.Real) (b : Fin 24) (h : Fin 18) (t : Fin 64) (d : Fin 128) (v : Fin 160)
include H

theorem ref_s0 : A.a7 (ix4 b h d v) = ((A.state b h 0 d v : ℝ) : EReal) := H.r7 _

theorem ref_o0 : val_main_v115 (F := Ideal) A.a1 A.a3 A.a4 A.a5 A.a6 A.a7 A.a0 A.a2 (ix4 b t h v) = ((A.out b h 0 t v : ℝ) : EReal) :=
  scan_o0 A H b h t v (A.state b h 0) (fun d v => ref_s0 A H b h d v)

theorem ref_s1 : val_main_v124 (F := Ideal) A.a3 A.a4 A.a5 A.a6 A.a7 A.a2 (ix4 b h d v) = ((A.state b h 1 d v : ℝ) : EReal) :=
  scan_s0 A H b h d v (A.state b h 0) (fun d v => ref_s0 A H b h d v)

theorem ref_o1 : val_main_v141 (F := Ideal) A.a1 A.a3 A.a4 A.a5 A.a6 A.a7 A.a0 A.a2 (ix4 b t h v) = ((A.out b h 1 t v : ℝ) : EReal) :=
  scan_o1 A H b h t v (A.state b h 1) (fun d v => ref_s1 A H b h d v)

theorem ref_s2 : val_main_v150 (F := Ideal) A.a3 A.a4 A.a5 A.a6 A.a7 A.a2 (ix4 b h d v) = ((A.state b h 2 d v : ℝ) : EReal) :=
  scan_s1 A H b h d v (A.state b h 1) (fun d v => ref_s1 A H b h d v)

theorem ref_o2 : val_main_v167 (F := Ideal) A.a1 A.a3 A.a4 A.a5 A.a6 A.a7 A.a0 A.a2 (ix4 b t h v) = ((A.out b h 2 t v : ℝ) : EReal) :=
  scan_o2 A H b h t v (A.state b h 2) (fun d v => ref_s2 A H b h d v)

theorem ref_s3 : val_main_v176 (F := Ideal) A.a3 A.a4 A.a5 A.a6 A.a7 A.a2 (ix4 b h d v) = ((A.state b h 3 d v : ℝ) : EReal) :=
  scan_s2 A H b h d v (A.state b h 2) (fun d v => ref_s2 A H b h d v)

theorem ref_o3 : val_main_v193 (F := Ideal) A.a1 A.a3 A.a4 A.a5 A.a6 A.a7 A.a0 A.a2 (ix4 b t h v) = ((A.out b h 3 t v : ℝ) : EReal) :=
  scan_o3 A H b h t v (A.state b h 3) (fun d v => ref_s3 A H b h d v)

theorem ref_s4 : val_main_v202 (F := Ideal) A.a3 A.a4 A.a5 A.a6 A.a7 A.a2 (ix4 b h d v) = ((A.state b h 4 d v : ℝ) : EReal) :=
  scan_s3 A H b h d v (A.state b h 3) (fun d v => ref_s3 A H b h d v)

theorem ref_o4 : val_main_v219 (F := Ideal) A.a1 A.a3 A.a4 A.a5 A.a6 A.a7 A.a0 A.a2 (ix4 b t h v) = ((A.out b h 4 t v : ℝ) : EReal) :=
  scan_o4 A H b h t v (A.state b h 4) (fun d v => ref_s4 A H b h d v)

theorem ref_s5 : val_main_v228 (F := Ideal) A.a3 A.a4 A.a5 A.a6 A.a7 A.a2 (ix4 b h d v) = ((A.state b h 5 d v : ℝ) : EReal) :=
  scan_s4 A H b h d v (A.state b h 4) (fun d v => ref_s4 A H b h d v)

theorem ref_o5 : val_main_v245 (F := Ideal) A.a1 A.a3 A.a4 A.a5 A.a6 A.a7 A.a0 A.a2 (ix4 b t h v) = ((A.out b h 5 t v : ℝ) : EReal) :=
  scan_o5 A H b h t v (A.state b h 5) (fun d v => ref_s5 A H b h d v)

theorem ref_s6 : val_main_v254 (F := Ideal) A.a3 A.a4 A.a5 A.a6 A.a7 A.a2 (ix4 b h d v) = ((A.state b h 6 d v : ℝ) : EReal) :=
  scan_s5 A H b h d v (A.state b h 5) (fun d v => ref_s5 A H b h d v)

theorem ref_o6 : val_main_v271 (F := Ideal) A.a1 A.a3 A.a4 A.a5 A.a6 A.a7 A.a0 A.a2 (ix4 b t h v) = ((A.out b h 6 t v : ℝ) : EReal) :=
  scan_o6 A H b h t v (A.state b h 6) (fun d v => ref_s6 A H b h d v)

theorem ref_s7 : val_main_v280 (F := Ideal) A.a3 A.a4 A.a5 A.a6 A.a7 A.a2 (ix4 b h d v) = ((A.state b h 7 d v : ℝ) : EReal) :=
  scan_s6 A H b h d v (A.state b h 6) (fun d v => ref_s6 A H b h d v)

theorem ref_o7 : val_main_v297 (F := Ideal) A.a1 A.a3 A.a4 A.a5 A.a6 A.a7 A.a0 A.a2 (ix4 b t h v) = ((A.out b h 7 t v : ℝ) : EReal) :=
  scan_o7 A H b h t v (A.state b h 7) (fun d v => ref_s7 A H b h d v)

theorem ref_s8 : val_main_v306 (F := Ideal) A.a3 A.a4 A.a5 A.a6 A.a7 A.a2 (ix4 b h d v) = ((A.state b h 8 d v : ℝ) : EReal) :=
  scan_s7 A H b h d v (A.state b h 7) (fun d v => ref_s7 A H b h d v)

theorem ref_o8 : val_main_v323 (F := Ideal) A.a1 A.a3 A.a4 A.a5 A.a6 A.a7 A.a0 A.a2 (ix4 b t h v) = ((A.out b h 8 t v : ℝ) : EReal) :=
  scan_o8 A H b h t v (A.state b h 8) (fun d v => ref_s8 A H b h d v)

theorem ref_s9 : val_main_v332 (F := Ideal) A.a3 A.a4 A.a5 A.a6 A.a7 A.a2 (ix4 b h d v) = ((A.state b h 9 d v : ℝ) : EReal) :=
  scan_s8 A H b h d v (A.state b h 8) (fun d v => ref_s8 A H b h d v)

theorem ref_o9 : val_main_v349 (F := Ideal) A.a1 A.a3 A.a4 A.a5 A.a6 A.a7 A.a0 A.a2 (ix4 b t h v) = ((A.out b h 9 t v : ℝ) : EReal) :=
  scan_o9 A H b h t v (A.state b h 9) (fun d v => ref_s9 A H b h d v)

theorem ref_s10 : val_main_v358 (F := Ideal) A.a3 A.a4 A.a5 A.a6 A.a7 A.a2 (ix4 b h d v) = ((A.state b h 10 d v : ℝ) : EReal) :=
  scan_s9 A H b h d v (A.state b h 9) (fun d v => ref_s9 A H b h d v)

theorem ref_o10 : val_main_v375 (F := Ideal) A.a1 A.a3 A.a4 A.a5 A.a6 A.a7 A.a0 A.a2 (ix4 b t h v) = ((A.out b h 10 t v : ℝ) : EReal) :=
  scan_o10 A H b h t v (A.state b h 10) (fun d v => ref_s10 A H b h d v)

theorem ref_s11 : val_main_v384 (F := Ideal) A.a3 A.a4 A.a5 A.a6 A.a7 A.a2 (ix4 b h d v) = ((A.state b h 11 d v : ℝ) : EReal) :=
  scan_s10 A H b h d v (A.state b h 10) (fun d v => ref_s10 A H b h d v)

theorem ref_o11 : val_main_v401 (F := Ideal) A.a1 A.a3 A.a4 A.a5 A.a6 A.a7 A.a0 A.a2 (ix4 b t h v) = ((A.out b h 11 t v : ℝ) : EReal) :=
  scan_o11 A H b h t v (A.state b h 11) (fun d v => ref_s11 A H b h d v)

theorem ref_s12 : val_main_v410 (F := Ideal) A.a3 A.a4 A.a5 A.a6 A.a7 A.a2 (ix4 b h d v) = ((A.state b h 12 d v : ℝ) : EReal) :=
  scan_s11 A H b h d v (A.state b h 11) (fun d v => ref_s11 A H b h d v)

theorem ref_o12 : val_main_v427 (F := Ideal) A.a1 A.a3 A.a4 A.a5 A.a6 A.a7 A.a0 A.a2 (ix4 b t h v) = ((A.out b h 12 t v : ℝ) : EReal) :=
  scan_o12 A H b h t v (A.state b h 12) (fun d v => ref_s12 A H b h d v)

theorem ref_s13 : val_main_v436 (F := Ideal) A.a3 A.a4 A.a5 A.a6 A.a7 A.a2 (ix4 b h d v) = ((A.state b h 13 d v : ℝ) : EReal) :=
  scan_s12 A H b h d v (A.state b h 12) (fun d v => ref_s12 A H b h d v)

theorem ref_o13 : val_main_v453 (F := Ideal) A.a1 A.a3 A.a4 A.a5 A.a6 A.a7 A.a0 A.a2 (ix4 b t h v) = ((A.out b h 13 t v : ℝ) : EReal) :=
  scan_o13 A H b h t v (A.state b h 13) (fun d v => ref_s13 A H b h d v)

theorem ref_s14 : val_main_v462 (F := Ideal) A.a3 A.a4 A.a5 A.a6 A.a7 A.a2 (ix4 b h d v) = ((A.state b h 14 d v : ℝ) : EReal) :=
  scan_s13 A H b h d v (A.state b h 13) (fun d v => ref_s13 A H b h d v)

theorem ref_o14 : val_main_v479 (F := Ideal) A.a1 A.a3 A.a4 A.a5 A.a6 A.a7 A.a0 A.a2 (ix4 b t h v) = ((A.out b h 14 t v : ℝ) : EReal) :=
  scan_o14 A H b h t v (A.state b h 14) (fun d v => ref_s14 A H b h d v)

theorem ref_s15 : val_main_v488 (F := Ideal) A.a3 A.a4 A.a5 A.a6 A.a7 A.a2 (ix4 b h d v) = ((A.state b h 15 d v : ℝ) : EReal) :=
  scan_s14 A H b h d v (A.state b h 14) (fun d v => ref_s14 A H b h d v)

theorem ref_o15 : val_main_v505 (F := Ideal) A.a1 A.a3 A.a4 A.a5 A.a6 A.a7 A.a0 A.a2 (ix4 b t h v) = ((A.out b h 15 t v : ℝ) : EReal) :=
  scan_o15 A H b h t v (A.state b h 15) (fun d v => ref_s15 A H b h d v)

theorem ref_s16 : val_main_v514 (F := Ideal) A.a3 A.a4 A.a5 A.a6 A.a7 A.a2 (ix4 b h d v) = ((A.state b h 16 d v : ℝ) : EReal) :=
  scan_s15 A H b h d v (A.state b h 15) (fun d v => ref_s15 A H b h d v)

theorem ref_o16 : val_main_v531 (F := Ideal) A.a1 A.a3 A.a4 A.a5 A.a6 A.a7 A.a0 A.a2 (ix4 b t h v) = ((A.out b h 16 t v : ℝ) : EReal) :=
  scan_o16 A H b h t v (A.state b h 16) (fun d v => ref_s16 A H b h d v)

theorem ref_s17 : val_main_v540 (F := Ideal) A.a3 A.a4 A.a5 A.a6 A.a7 A.a2 (ix4 b h d v) = ((A.state b h 17 d v : ℝ) : EReal) :=
  scan_s16 A H b h d v (A.state b h 16) (fun d v => ref_s16 A H b h d v)

theorem ref_o17 : val_main_v557 (F := Ideal) A.a1 A.a3 A.a4 A.a5 A.a6 A.a7 A.a0 A.a2 (ix4 b t h v) = ((A.out b h 17 t v : ℝ) : EReal) :=
  scan_o17 A H b h t v (A.state b h 17) (fun d v => ref_s17 A H b h d v)

theorem ref_s18 : val_main_v566 (F := Ideal) A.a3 A.a4 A.a5 A.a6 A.a7 A.a2 (ix4 b h d v) = ((A.state b h 18 d v : ℝ) : EReal) :=
  scan_s17 A H b h d v (A.state b h 17) (fun d v => ref_s17 A H b h d v)

theorem ref_o18 : val_main_v583 (F := Ideal) A.a1 A.a3 A.a4 A.a5 A.a6 A.a7 A.a0 A.a2 (ix4 b t h v) = ((A.out b h 18 t v : ℝ) : EReal) :=
  scan_o18 A H b h t v (A.state b h 18) (fun d v => ref_s18 A H b h d v)

theorem ref_s19 : val_main_v592 (F := Ideal) A.a3 A.a4 A.a5 A.a6 A.a7 A.a2 (ix4 b h d v) = ((A.state b h 19 d v : ℝ) : EReal) :=
  scan_s18 A H b h d v (A.state b h 18) (fun d v => ref_s18 A H b h d v)

theorem ref_o19 : val_main_v609 (F := Ideal) A.a1 A.a3 A.a4 A.a5 A.a6 A.a7 A.a0 A.a2 (ix4 b t h v) = ((A.out b h 19 t v : ℝ) : EReal) :=
  scan_o19 A H b h t v (A.state b h 19) (fun d v => ref_s19 A H b h d v)

theorem ref_s20 : val_main_v618 (F := Ideal) A.a3 A.a4 A.a5 A.a6 A.a7 A.a2 (ix4 b h d v) = ((A.state b h 20 d v : ℝ) : EReal) :=
  scan_s19 A H b h d v (A.state b h 19) (fun d v => ref_s19 A H b h d v)

end Cert.Hand

end
-- ==== Proof.Hand.RefCat.lean ====
module

public import proofs.«01_k».proof.Proof.Hand.Scan

/-! The outputs of the reference: the chunks put side by side, and the normalised and gated form of them. -/

@[expose] public section

set_option maxRecDepth 100000

noncomputable section

namespace Cert.Hand

open Idealize.ShloMosaic Idealize.SL.Sem Cert.ReferenceIdeal Cert.ReferenceIdeal.Read

theorem sixteen_0 {α : Type} (x0 : S24x64x18x160.Idx → α) (x1 : S24x64x18x160.Idx → α) (x2 : S24x64x18x160.Idx → α) (x3 : S24x64x18x160.Idx → α) (x4 : S24x64x18x160.Idx → α) (x5 : S24x64x18x160.Idx → α) (x6 : S24x64x18x160.Idx → α) (x7 : S24x64x18x160.Idx → α) (x8 : S24x64x18x160.Idx → α) (x9 : S24x64x18x160.Idx → α) (x10 : S24x64x18x160.Idx → α) (x11 : S24x64x18x160.Idx → α) (x12 : S24x64x18x160.Idx → α) (x13 : S24x64x18x160.Idx → α) (x14 : S24x64x18x160.Idx → α) (x15 : S24x64x18x160.Idx → α)
    (hC : Shape.Concatenates [S24x64x18x160, S24x64x18x160, S24x64x18x160, S24x64x18x160, S24x64x18x160, S24x64x18x160, S24x64x18x160, S24x64x18x160, S24x64x18x160, S24x64x18x160, S24x64x18x160, S24x64x18x160, S24x64x18x160, S24x64x18x160, S24x64x18x160, S24x64x18x160] S24x1024x18x160 1) (b : Fin 24) (t : Fin 64) (h : Fin 18) (v : Fin 160) :
    concatenate S24x1024x18x160 1 [⟨S24x64x18x160, x0⟩, ⟨S24x64x18x160, x1⟩, ⟨S24x64x18x160, x2⟩, ⟨S24x64x18x160, x3⟩, ⟨S24x64x18x160, x4⟩, ⟨S24x64x18x160, x5⟩, ⟨S24x64x18x160, x6⟩, ⟨S24x64x18x160, x7⟩, ⟨S24x64x18x160, x8⟩, ⟨S24x64x18x160, x9⟩, ⟨S24x64x18x160, x10⟩, ⟨S24x64x18x160, x11⟩, ⟨S24x64x18x160, x12⟩, ⟨S24x64x18x160, x13⟩, ⟨S24x64x18x160, x14⟩, ⟨S24x64x18x160, x15⟩] hC (ix4 b ⟨0 + t.val, by omega⟩ h v) = x0 (ix4 b t h v) := by
  refine concatenate_apply_piece (t := S24x1024x18x160) 1 _ _ _ 0 ?_ S24x64x18x160 _ ?_ (by rfl) 0 ?_ (ix4 b t h v) ?_ ?_
  · simp
  · rfl
  · simp only [List.take_succ_cons, List.take_zero, List.map_cons, List.map_nil, List.sum_cons, List.sum_nil]
  · intro a ha
    match a, ha with | 0, _ => rfl | 1, ha => exact absurd rfl ha | 2, _ => rfl | 3, _ => rfl
  · rfl

theorem sixteen_1 {α : Type} (x0 : S24x64x18x160.Idx → α) (x1 : S24x64x18x160.Idx → α) (x2 : S24x64x18x160.Idx → α) (x3 : S24x64x18x160.Idx → α) (x4 : S24x64x18x160.Idx → α) (x5 : S24x64x18x160.Idx → α) (x6 : S24x64x18x160.Idx → α) (x7 : S24x64x18x160.Idx → α) (x8 : S24x64x18x160.Idx → α) (x9 : S24x64x18x160.Idx → α) (x10 : S24x64x18x160.Idx → α) (x11 : S24x64x18x160.Idx → α) (x12 : S24x64x18x160.Idx → α) (x13 : S24x64x18x160.Idx → α) (x14 : S24x64x18x160.Idx → α) (x15 : S24x64x18x160.Idx → α)
    (hC : Shape.Concatenates [S24x64x18x160, S24x64x18x160, S24x64x18x160, S24x64x18x160, S24x64x18x160, S24x64x18x160, S24x64x18x160, S24x64x18x160, S24x64x18x160, S24x64x18x160, S24x64x18x160, S24x64x18x160, S24x64x18x160, S24x64x18x160, S24x64x18x160, S24x64x18x160] S24x1024x18x160 1) (b : Fin 24) (t : Fin 64) (h : Fin 18) (v : Fin 160) :
    concatenate S24x1024x18x160 1 [⟨S24x64x18x160, x0⟩, ⟨S24x64x18x160, x1⟩, ⟨S24x64x18x160, x2⟩, ⟨S24x64x18x160, x3⟩, ⟨S24x64x18x160, x4⟩, ⟨S24x64x18x160, x5⟩, ⟨S24x64x18x160, x6⟩, ⟨S24x64x18x160, x7⟩, ⟨S24x64x18x160, x8⟩, ⟨S24x64x18x160, x9⟩, ⟨S24x64x18x160, x10⟩, ⟨S24x64x18x160, x11⟩, ⟨S24x64x18x160, x12⟩, ⟨S24x64x18x160, x13⟩, ⟨S24x64x18x160, x14⟩, ⟨S24x64x18x160, x15⟩] hC (ix4 b ⟨64 + t.val, by omega⟩ h v) = x1 (ix4 b t h v) := by
  refine concatenate_apply_piece (t := S24x1024x18x160) 1 _ _ _ 1 ?_ S24x64x18x160 _ ?_ (by rfl) 64 ?_ (ix4 b t h v) ?_ ?_
  · simp
  · rfl
  · simp only [List.take_succ_cons, List.take_zero, List.map_cons, List.map_nil, List.sum_cons, List.sum_nil]
    rfl
  · intro a ha
    match a, ha with | 0, _ => rfl | 1, ha => exact absurd rfl ha | 2, _ => rfl | 3, _ => rfl
  · rfl

theorem sixteen_2 {α : Type} (x0 : S24x64x18x160.Idx → α) (x1 : S24x64x18x160.Idx → α) (x2 : S24x64x18x160.Idx → α) (x3 : S24x64x18x160.Idx → α) (x4 : S24x64x18x160.Idx → α) (x5 : S24x64x18x160.Idx → α) (x6 : S24x64x18x160.Idx → α) (x7 : S24x64x18x160.Idx → α) (x8 : S24x64x18x160.Idx → α) (x9 : S24x64x18x160.Idx → α) (x10 : S24x64x18x160.Idx → α) (x11 : S24x64x18x160.Idx → α) (x12 : S24x64x18x160.Idx → α) (x13 : S24x64x18x160.Idx → α) (x14 : S24x64x18x160.Idx → α) (x15 : S24x64x18x160.Idx → α)
    (hC : Shape.Concatenates [S24x64x18x160, S24x64x18x160, S24x64x18x160, S24x64x18x160, S24x64x18x160, S24x64x18x160, S24x64x18x160, S24x64x18x160, S24x64x18x160, S24x64x18x160, S24x64x18x160, S24x64x18x160, S24x64x18x160, S24x64x18x160, S24x64x18x160, S24x64x18x160] S24x1024x18x160 1) (b : Fin 24) (t : Fin 64) (h : Fin 18) (v : Fin 160) :
    concatenate S24x1024x18x160 1 [⟨S24x64x18x160, x0⟩, ⟨S24x64x18x160, x1⟩, ⟨S24x64x18x160, x2⟩, ⟨S24x64x18x160, x3⟩, ⟨S24x64x18x160, x4⟩, ⟨S24x64x18x160, x5⟩, ⟨S24x64x18x160, x6⟩, ⟨S24x64x18x160, x7⟩, ⟨S24x64x18x160, x8⟩, ⟨S24x64x18x160, x9⟩, ⟨S24x64x18x160, x10⟩, ⟨S24x64x18x160, x11⟩, ⟨S24x64x18x160, x12⟩, ⟨S24x64x18x160, x13⟩, ⟨S24x64x18x160, x14⟩, ⟨S24x64x18x160, x15⟩] hC (ix4 b ⟨128 + t.val, by omega⟩ h v) = x2 (ix4 b t h v) := by
  refine concatenate_apply_piece (t := S24x1024x18x160) 1 _ _ _ 2 ?_ S24x64x18x160 _ ?_ (by rfl) 128 ?_ (ix4 b t h v) ?_ ?_
  · simp
  · rfl
  · simp only [List.take_succ_cons, List.take_zero, List.map_cons, List.map_nil, List.sum_cons, List.sum_nil]
    rfl
  · intro a ha
    match a, ha with | 0, _ => rfl | 1, ha => exact absurd rfl ha | 2, _ => rfl | 3, _ => rfl
  · rfl

theorem sixteen_3 {α : Type} (x0 : S24x64x18x160.Idx → α) (x1 : S24x64x18x160.Idx → α) (x2 : S24x64x18x160.Idx → α) (x3 : S24x64x18x160.Idx → α) (x4 : S24x64x18x160.Idx → α) (x5 : S24x64x18x160.Idx → α) (x6 : S24x64x18x160.Idx → α) (x7 : S24x64x18x160.Idx → α) (x8 : S24x64x18x160.Idx → α) (x9 : S24x64x18x160.Idx → α) (x10 : S24x64x18x160.Idx → α) (x11 : S24x64x18x160.Idx → α) (x12 : S24x64x18x160.Idx → α) (x13 : S24x64x18x160.Idx → α) (x14 : S24x64x18x160.Idx → α) (x15 : S24x64x18x160.Idx → α)
    (hC : Shape.Concatenates [S24x64x18x160, S24x64x18x160, S24x64x18x160, S24x64x18x160, S24x64x18x160, S24x64x18x160, S24x64x18x160, S24x64x18x160, S24x64x18x160, S24x64x18x160, S24x64x18x160, S24x64x18x160, S24x64x18x160, S24x64x18x160, S24x64x18x160, S24x64x18x160] S24x1024x18x160 1) (b : Fin 24) (t : Fin 64) (h : Fin 18) (v : Fin 160) :
    concatenate S24x1024x18x160 1 [⟨S24x64x18x160, x0⟩, ⟨S24x64x18x160, x1⟩, ⟨S24x64x18x160, x2⟩, ⟨S24x64x18x160, x3⟩, ⟨S24x64x18x160, x4⟩, ⟨S24x64x18x160, x5⟩, ⟨S24x64x18x160, x6⟩, ⟨S24x64x18x160, x7⟩, ⟨S24x64x18x160, x8⟩, ⟨S24x64x18x160, x9⟩, ⟨S24x64x18x160, x10⟩, ⟨S24x64x18x160, x11⟩, ⟨S24x64x18x160, x12⟩, ⟨S24x64x18x160, x13⟩, ⟨S24x64x18x160, x14⟩, ⟨S24x64x18x160, x15⟩] hC (ix4 b ⟨192 + t.val, by omega⟩ h v) = x3 (ix4 b t h v) := by
  refine concatenate_apply_piece (t := S24x1024x18x160) 1 _ _ _ 3 ?_ S24x64x18x160 _ ?_ (by rfl) 192 ?_ (ix4 b t h v) ?_ ?_
  · simp
  · rfl
  · simp only [List.take_succ_cons, List.take_zero, List.map_cons, List.map_nil, List.sum_cons, List.sum_nil]
    rfl
  · intro a ha
    match a, ha with | 0, _ => rfl | 1, ha => exact absurd rfl ha | 2, _ => rfl | 3, _ => rfl
  · rfl

theorem sixteen_4 {α : Type} (x0 : S24x64x18x160.Idx → α) (x1 : S24x64x18x160.Idx → α) (x2 : S24x64x18x160.Idx → α) (x3 : S24x64x18x160.Idx → α) (x4 : S24x64x18x160.Idx → α) (x5 : S24x64x18x160.Idx → α) (x6 : S24x64x18x160.Idx → α) (x7 : S24x64x18x160.Idx → α) (x8 : S24x64x18x160.Idx → α) (x9 : S24x64x18x160.Idx → α) (x10 : S24x64x18x160.Idx → α) (x11 : S24x64x18x160.Idx → α) (x12 : S24x64x18x160.Idx → α) (x13 : S24x64x18x160.Idx → α) (x14 : S24x64x18x160.Idx → α) (x15 : S24x64x18x160.Idx → α)
    (hC : Shape.Concatenates [S24x64x18x160, S24x64x18x160, S24x64x18x160, S24x64x18x160, S24x64x18x160, S24x64x18x160, S24x64x18x160, S24x64x18x160, S24x64x18x160, S24x64x18x160, S24x64x18x160, S24x64x18x160, S24x64x18x160, S24x64x18x160, S24x64x18x160, S24x64x18x160] S24x1024x18x160 1) (b : Fin 24) (t : Fin 64) (h : Fin 18) (v : Fin 160) :
    concatenate S24x1024x18x160 1 [⟨S24x64x18x160, x0⟩, ⟨S24x64x18x160, x1⟩, ⟨S24x64x18x160, x2⟩, ⟨S24x64x18x160, x3⟩, ⟨S24x64x18x160, x4⟩, ⟨S24x64x18x160, x5⟩, ⟨S24x64x18x160, x6⟩, ⟨S24x64x18x160, x7⟩, ⟨S24x64x18x160, x8⟩, ⟨S24x64x18x160, x9⟩, ⟨S24x64x18x160, x10⟩, ⟨S24x64x18x160, x11⟩, ⟨S24x64x18x160, x12⟩, ⟨S24x64x18x160, x13⟩, ⟨S24x64x18x160, x14⟩, ⟨S24x64x18x160, x15⟩] hC (ix4 b ⟨256 + t.val, by omega⟩ h v) = x4 (ix4 b t h v) := by
  refine concatenate_apply_piece (t := S24x1024x18x160) 1 _ _ _ 4 ?_ S24x64x18x160 _ ?_ (by rfl) 256 ?_ (ix4 b t h v) ?_ ?_
  · simp
  · rfl
  · simp only [List.take_succ_cons, List.take_zero, List.map_cons, List.map_nil, List.sum_cons, List.sum_nil]
    rfl
  · intro a ha
    match a, ha with | 0, _ => rfl | 1, ha => exact absurd rfl ha | 2, _ => rfl | 3, _ => rfl
  · rfl

theorem sixteen_5 {α : Type} (x0 : S24x64x18x160.Idx → α) (x1 : S24x64x18x160.Idx → α) (x2 : S24x64x18x160.Idx → α) (x3 : S24x64x18x160.Idx → α) (x4 : S24x64x18x160.Idx → α) (x5 : S24x64x18x160.Idx → α) (x6 : S24x64x18x160.Idx → α) (x7 : S24x64x18x160.Idx → α) (x8 : S24x64x18x160.Idx → α) (x9 : S24x64x18x160.Idx → α) (x10 : S24x64x18x160.Idx → α) (x11 : S24x64x18x160.Idx → α) (x12 : S24x64x18x160.Idx → α) (x13 : S24x64x18x160.Idx → α) (x14 : S24x64x18x160.Idx → α) (x15 : S24x64x18x160.Idx → α)
    (hC : Shape.Concatenates [S24x64x18x160, S24x64x18x160, S24x64x18x160, S24x64x18x160, S24x64x18x160, S24x64x18x160, S24x64x18x160, S24x64x18x160, S24x64x18x160, S24x64x18x160, S24x64x18x160, S24x64x18x160, S24x64x18x160, S24x64x18x160, S24x64x18x160, S24x64x18x160] S24x1024x18x160 1) (b : Fin 24) (t : Fin 64) (h : Fin 18) (v : Fin 160) :
    concatenate S24x1024x18x160 1 [⟨S24x64x18x160, x0⟩, ⟨S24x64x18x160, x1⟩, ⟨S24x64x18x160, x2⟩, ⟨S24x64x18x160, x3⟩, ⟨S24x64x18x160, x4⟩, ⟨S24x64x18x160, x5⟩, ⟨S24x64x18x160, x6⟩, ⟨S24x64x18x160, x7⟩, ⟨S24x64x18x160, x8⟩, ⟨S24x64x18x160, x9⟩, ⟨S24x64x18x160, x10⟩, ⟨S24x64x18x160, x11⟩, ⟨S24x64x18x160, x12⟩, ⟨S24x64x18x160, x13⟩, ⟨S24x64x18x160, x14⟩, ⟨S24x64x18x160, x15⟩] hC (ix4 b ⟨320 + t.val, by omega⟩ h v) = x5 (ix4 b t h v) := by
  refine concatenate_apply_piece (t := S24x1024x18x160) 1 _ _ _ 5 ?_ S24x64x18x160 _ ?_ (by rfl) 320 ?_ (ix4 b t h v) ?_ ?_
  · simp
  · rfl
  · simp only [List.take_succ_cons, List.take_zero, List.map_cons, List.map_nil, List.sum_cons, List.sum_nil]
    rfl
  · intro a ha
    match a, ha with | 0, _ => rfl | 1, ha => exact absurd rfl ha | 2, _ => rfl | 3, _ => rfl
  · rfl

theorem sixteen_6 {α : Type} (x0 : S24x64x18x160.Idx → α) (x1 : S24x64x18x160.Idx → α) (x2 : S24x64x18x160.Idx → α) (x3 : S24x64x18x160.Idx → α) (x4 : S24x64x18x160.Idx → α) (x5 : S24x64x18x160.Idx → α) (x6 : S24x64x18x160.Idx → α) (x7 : S24x64x18x160.Idx → α) (x8 : S24x64x18x160.Idx → α) (x9 : S24x64x18x160.Idx → α) (x10 : S24x64x18x160.Idx → α) (x11 : S24x64x18x160.Idx → α) (x12 : S24x64x18x160.Idx → α) (x13 : S24x64x18x160.Idx → α) (x14 : S24x64x18x160.Idx → α) (x15 : S24x64x18x160.Idx → α)
    (hC : Shape.Concatenates [S24x64x18x160, S24x64x18x160, S24x64x18x160, S24x64x18x160, S24x64x18x160, S24x64x18x160, S24x64x18x160, S24x64x18x160, S24x64x18x160, S24x64x18x160, S24x64x18x160, S24x64x18x160, S24x64x18x160, S24x64x18x160, S24x64x18x160, S24x64x18x160] S24x1024x18x160 1) (b : Fin 24) (t : Fin 64) (h : Fin 18) (v : Fin 160) :
    concatenate S24x1024x18x160 1 [⟨S24x64x18x160, x0⟩, ⟨S24x64x18x160, x1⟩, ⟨S24x64x18x160, x2⟩, ⟨S24x64x18x160, x3⟩, ⟨S24x64x18x160, x4⟩, ⟨S24x64x18x160, x5⟩, ⟨S24x64x18x160, x6⟩, ⟨S24x64x18x160, x7⟩, ⟨S24x64x18x160, x8⟩, ⟨S24x64x18x160, x9⟩, ⟨S24x64x18x160, x10⟩, ⟨S24x64x18x160, x11⟩, ⟨S24x64x18x160, x12⟩, ⟨S24x64x18x160, x13⟩, ⟨S24x64x18x160, x14⟩, ⟨S24x64x18x160, x15⟩] hC (ix4 b ⟨384 + t.val, by omega⟩ h v) = x6 (ix4 b t h v) := by
  refine concatenate_apply_piece (t := S24x1024x18x160) 1 _ _ _ 6 ?_ S24x64x18x160 _ ?_ (by rfl) 384 ?_ (ix4 b t h v) ?_ ?_
  · simp
  · rfl
  · simp only [List.take_succ_cons, List.take_zero, List.map_cons, List.map_nil, List.sum_cons, List.sum_nil]
    rfl
  · intro a ha
    match a, ha with | 0, _ => rfl | 1, ha => exact absurd rfl ha | 2, _ => rfl | 3, _ => rfl
  · rfl

theorem sixteen_7 {α : Type} (x0 : S24x64x18x160.Idx → α) (x1 : S24x64x18x160.Idx → α) (x2 : S24x64x18x160.Idx → α) (x3 : S24x64x18x160.Idx → α) (x4 : S24x64x18x160.Idx → α) (x5 : S24x64x18x160.Idx → α) (x6 : S24x64x18x160.Idx → α) (x7 : S24x64x18x160.Idx → α) (x8 : S24x64x18x160.Idx → α) (x9 : S24x64x18x160.Idx → α) (x10 : S24x64x18x160.Idx → α) (x11 : S24x64x18x160.Idx → α) (x12 : S24x64x18x160.Idx → α) (x13 : S24x64x18x160.Idx → α) (x14 : S24x64x18x160.Idx → α) (x15 : S24x64x18x160.Idx → α)
    (hC : Shape.Concatenates [S24x64x18x160, S24x64x18x160, S24x64x18x160, S24x64x18x160, S24x64x18x160, S24x64x18x160, S24x64x18x160, S24x64x18x160, S24x64x18x160, S24x64x18x160, S24x64x18x160, S24x64x18x160, S24x64x18x160, S24x64x18x160, S24x64x18x160, S24x64x18x160] S24x1024x18x160 1) (b : Fin 24) (t : Fin 64) (h : Fin 18) (v : Fin 160) :
    concatenate S24x1024x18x160 1 [⟨S24x64x18x160, x0⟩, ⟨S24x64x18x160, x1⟩, ⟨S24x64x18x160, x2⟩, ⟨S24x64x18x160, x3⟩, ⟨S24x64x18x160, x4⟩, ⟨S24x64x18x160, x5⟩, ⟨S24x64x18x160, x6⟩, ⟨S24x64x18x160, x7⟩, ⟨S24x64x18x160, x8⟩, ⟨S24x64x18x160, x9⟩, ⟨S24x64x18x160, x10⟩, ⟨S24x64x18x160, x11⟩, ⟨S24x64x18x160, x12⟩, ⟨S24x64x18x160, x13⟩, ⟨S24x64x18x160, x14⟩, ⟨S24x64x18x160, x15⟩] hC (ix4 b ⟨448 + t.val, by omega⟩ h v) = x7 (ix4 b t h v) := by
  refine concatenate_apply_piece (t := S24x1024x18x160) 1 _ _ _ 7 ?_ S24x64x18x160 _ ?_ (by rfl) 448 ?_ (ix4 b t h v) ?_ ?_
  · simp
  · rfl
  · simp only [List.take_succ_cons, List.take_zero, List.map_cons, List.map_nil, List.sum_cons, List.sum_nil]
    rfl
  · intro a ha
    match a, ha with | 0, _ => rfl | 1, ha => exact absurd rfl ha | 2, _ => rfl | 3, _ => rfl
  · rfl

theorem sixteen_8 {α : Type} (x0 : S24x64x18x160.Idx → α) (x1 : S24x64x18x160.Idx → α) (x2 : S24x64x18x160.Idx → α) (x3 : S24x64x18x160.Idx → α) (x4 : S24x64x18x160.Idx → α) (x5 : S24x64x18x160.Idx → α) (x6 : S24x64x18x160.Idx → α) (x7 : S24x64x18x160.Idx → α) (x8 : S24x64x18x160.Idx → α) (x9 : S24x64x18x160.Idx → α) (x10 : S24x64x18x160.Idx → α) (x11 : S24x64x18x160.Idx → α) (x12 : S24x64x18x160.Idx → α) (x13 : S24x64x18x160.Idx → α) (x14 : S24x64x18x160.Idx → α) (x15 : S24x64x18x160.Idx → α)
    (hC : Shape.Concatenates [S24x64x18x160, S24x64x18x160, S24x64x18x160, S24x64x18x160, S24x64x18x160, S24x64x18x160, S24x64x18x160, S24x64x18x160, S24x64x18x160, S24x64x18x160, S24x64x18x160, S24x64x18x160, S24x64x18x160, S24x64x18x160, S24x64x18x160, S24x64x18x160] S24x1024x18x160 1) (b : Fin 24) (t : Fin 64) (h : Fin 18) (v : Fin 160) :
    concatenate S24x1024x18x160 1 [⟨S24x64x18x160, x0⟩, ⟨S24x64x18x160, x1⟩, ⟨S24x64x18x160, x2⟩, ⟨S24x64x18x160, x3⟩, ⟨S24x64x18x160, x4⟩, ⟨S24x64x18x160, x5⟩, ⟨S24x64x18x160, x6⟩, ⟨S24x64x18x160, x7⟩, ⟨S24x64x18x160, x8⟩, ⟨S24x64x18x160, x9⟩, ⟨S24x64x18x160, x10⟩, ⟨S24x64x18x160, x11⟩, ⟨S24x64x18x160, x12⟩, ⟨S24x64x18x160, x13⟩, ⟨S24x64x18x160, x14⟩, ⟨S24x64x18x160, x15⟩] hC (ix4 b ⟨512 + t.val, by omega⟩ h v) = x8 (ix4 b t h v) := by
  refine concatenate_apply_piece (t := S24x1024x18x160) 1 _ _ _ 8 ?_ S24x64x18x160 _ ?_ (by rfl) 512 ?_ (ix4 b t h v) ?_ ?_
  · simp
  · rfl
  · simp only [List.take_succ_cons, List.take_zero, List.map_cons, List.map_nil, List.sum_cons, List.sum_nil]
    rfl
  · intro a ha
    match a, ha with | 0, _ => rfl | 1, ha => exact absurd rfl ha | 2, _ => rfl | 3, _ => rfl
  · rfl

theorem sixteen_9 {α : Type} (x0 : S24x64x18x160.Idx → α) (x1 : S24x64x18x160.Idx → α) (x2 : S24x64x18x160.Idx → α) (x3 : S24x64x18x160.Idx → α) (x4 : S24x64x18x160.Idx → α) (x5 : S24x64x18x160.Idx → α) (x6 : S24x64x18x160.Idx → α) (x7 : S24x64x18x160.Idx → α) (x8 : S24x64x18x160.Idx → α) (x9 : S24x64x18x160.Idx → α) (x10 : S24x64x18x160.Idx → α) (x11 : S24x64x18x160.Idx → α) (x12 : S24x64x18x160.Idx → α) (x13 : S24x64x18x160.Idx → α) (x14 : S24x64x18x160.Idx → α) (x15 : S24x64x18x160.Idx → α)
    (hC : Shape.Concatenates [S24x64x18x160, S24x64x18x160, S24x64x18x160, S24x64x18x160, S24x64x18x160, S24x64x18x160, S24x64x18x160, S24x64x18x160, S24x64x18x160, S24x64x18x160, S24x64x18x160, S24x64x18x160, S24x64x18x160, S24x64x18x160, S24x64x18x160, S24x64x18x160] S24x1024x18x160 1) (b : Fin 24) (t : Fin 64) (h : Fin 18) (v : Fin 160) :
    concatenate S24x1024x18x160 1 [⟨S24x64x18x160, x0⟩, ⟨S24x64x18x160, x1⟩, ⟨S24x64x18x160, x2⟩, ⟨S24x64x18x160, x3⟩, ⟨S24x64x18x160, x4⟩, ⟨S24x64x18x160, x5⟩, ⟨S24x64x18x160, x6⟩, ⟨S24x64x18x160, x7⟩, ⟨S24x64x18x160, x8⟩, ⟨S24x64x18x160, x9⟩, ⟨S24x64x18x160, x10⟩, ⟨S24x64x18x160, x11⟩, ⟨S24x64x18x160, x12⟩, ⟨S24x64x18x160, x13⟩, ⟨S24x64x18x160, x14⟩, ⟨S24x64x18x160, x15⟩] hC (ix4 b ⟨576 + t.val, by omega⟩ h v) = x9 (ix4 b t h v) := by
  refine concatenate_apply_piece (t := S24x1024x18x160) 1 _ _ _ 9 ?_ S24x64x18x160 _ ?_ (by rfl) 576 ?_ (ix4 b t h v) ?_ ?_
  · simp
  · rfl
  · simp only [List.take_succ_cons, List.take_zero, List.map_cons, List.map_nil, List.sum_cons, List.sum_nil]
    rfl
  · intro a ha
    match a, ha with | 0, _ => rfl | 1, ha => exact absurd rfl ha | 2, _ => rfl | 3, _ => rfl
  · rfl

theorem sixteen_10 {α : Type} (x0 : S24x64x18x160.Idx → α) (x1 : S24x64x18x160.Idx → α) (x2 : S24x64x18x160.Idx → α) (x3 : S24x64x18x160.Idx → α) (x4 : S24x64x18x160.Idx → α) (x5 : S24x64x18x160.Idx → α) (x6 : S24x64x18x160.Idx → α) (x7 : S24x64x18x160.Idx → α) (x8 : S24x64x18x160.Idx → α) (x9 : S24x64x18x160.Idx → α) (x10 : S24x64x18x160.Idx → α) (x11 : S24x64x18x160.Idx → α) (x12 : S24x64x18x160.Idx → α) (x13 : S24x64x18x160.Idx → α) (x14 : S24x64x18x160.Idx → α) (x15 : S24x64x18x160.Idx → α)
    (hC : Shape.Concatenates [S24x64x18x160, S24x64x18x160, S24x64x18x160, S24x64x18x160, S24x64x18x160, S24x64x18x160, S24x64x18x160, S24x64x18x160, S24x64x18x160, S24x64x18x160, S24x64x18x160, S24x64x18x160, S24x64x18x160, S24x64x18x160, S24x64x18x160, S24x64x18x160] S24x1024x18x160 1) (b : Fin 24) (t : Fin 64) (h : Fin 18) (v : Fin 160) :
    concatenate S24x1024x18x160 1 [⟨S24x64x18x160, x0⟩, ⟨S24x64x18x160, x1⟩, ⟨S24x64x18x160, x2⟩, ⟨S24x64x18x160, x3⟩, ⟨S24x64x18x160, x4⟩, ⟨S24x64x18x160, x5⟩, ⟨S24x64x18x160, x6⟩, ⟨S24x64x18x160, x7⟩, ⟨S24x64x18x160, x8⟩, ⟨S24x64x18x160, x9⟩, ⟨S24x64x18x160, x10⟩, ⟨S24x64x18x160, x11⟩, ⟨S24x64x18x160, x12⟩, ⟨S24x64x18x160, x13⟩, ⟨S24x64x18x160, x14⟩, ⟨S24x64x18x160, x15⟩] hC (ix4 b ⟨640 + t.val, by omega⟩ h v) = x10 (ix4 b t h v) := by
  refine concatenate_apply_piece (t := S24x1024x18x160) 1 _ _ _ 10 ?_ S24x64x18x160 _ ?_ (by rfl) 640 ?_ (ix4 b t h v) ?_ ?_
  · simp
  · rfl
  · simp only [List.take_succ_cons, List.take_zero, List.map_cons, List.map_nil, List.sum_cons, List.sum_nil]
    rfl
  · intro a ha
    match a, ha with | 0, _ => rfl | 1, ha => exact absurd rfl ha | 2, _ => rfl | 3, _ => rfl
  · rfl

theorem sixteen_11 {α : Type} (x0 : S24x64x18x160.Idx → α) (x1 : S24x64x18x160.Idx → α) (x2 : S24x64x18x160.Idx → α) (x3 : S24x64x18x160.Idx → α) (x4 : S24x64x18x160.Idx → α) (x5 : S24x64x18x160.Idx → α) (x6 : S24x64x18x160.Idx → α) (x7 : S24x64x18x160.Idx → α) (x8 : S24x64x18x160.Idx → α) (x9 : S24x64x18x160.Idx → α) (x10 : S24x64x18x160.Idx → α) (x11 : S24x64x18x160.Idx → α) (x12 : S24x64x18x160.Idx → α) (x13 : S24x64x18x160.Idx → α) (x14 : S24x64x18x160.Idx → α) (x15 : S24x64x18x160.Idx → α)
    (hC : Shape.Concatenates [S24x64x18x160, S24x64x18x160, S24x64x18x160, S24x64x18x160, S24x64x18x160, S24x64x18x160, S24x64x18x160, S24x64x18x160, S24x64x18x160, S24x64x18x160, S24x64x18x160, S24x64x18x160, S24x64x18x160, S24x64x18x160, S24x64x18x160, S24x64x18x160] S24x1024x18x160 1) (b : Fin 24) (t : Fin 64) (h : Fin 18) (v : Fin 160) :
    concatenate S24x1024x18x160 1 [⟨S24x64x18x160, x0⟩, ⟨S24x64x18x160, x1⟩, ⟨S24x64x18x160, x2⟩, ⟨S24x64x18x160, x3⟩, ⟨S24x64x18x160, x4⟩, ⟨S24x64x18x160, x5⟩, ⟨S24x64x18x160, x6⟩, ⟨S24x64x18x160, x7⟩, ⟨S24x64x18x160, x8⟩, ⟨S24x64x18x160, x9⟩, ⟨S24x64x18x160, x10⟩, ⟨S24x64x18x160, x11⟩, ⟨S24x64x18x160, x12⟩, ⟨S24x64x18x160, x13⟩, ⟨S24x64x18x160, x14⟩, ⟨S24x64x18x160, x15⟩] hC (ix4 b ⟨704 + t.val, by omega⟩ h v) = x11 (ix4 b t h v) := by
  refine concatenate_apply_piece (t := S24x1024x18x160) 1 _ _ _ 11 ?_ S24x64x18x160 _ ?_ (by rfl) 704 ?_ (ix4 b t h v) ?_ ?_
  · simp
  · rfl
  · simp only [List.take_succ_cons, List.take_zero, List.map_cons, List.map_nil, List.sum_cons, List.sum_nil]
    rfl
  · intro a ha
    match a, ha with | 0, _ => rfl | 1, ha => exact absurd rfl ha | 2, _ => rfl | 3, _ => rfl
  · rfl

theorem sixteen_12 {α : Type} (x0 : S24x64x18x160.Idx → α) (x1 : S24x64x18x160.Idx → α) (x2 : S24x64x18x160.Idx → α) (x3 : S24x64x18x160.Idx → α) (x4 : S24x64x18x160.Idx → α) (x5 : S24x64x18x160.Idx → α) (x6 : S24x64x18x160.Idx → α) (x7 : S24x64x18x160.Idx → α) (x8 : S24x64x18x160.Idx → α) (x9 : S24x64x18x160.Idx → α) (x10 : S24x64x18x160.Idx → α) (x11 : S24x64x18x160.Idx → α) (x12 : S24x64x18x160.Idx → α) (x13 : S24x64x18x160.Idx → α) (x14 : S24x64x18x160.Idx → α) (x15 : S24x64x18x160.Idx → α)
    (hC : Shape.Concatenates [S24x64x18x160, S24x64x18x160, S24x64x18x160, S24x64x18x160, S24x64x18x160, S24x64x18x160, S24x64x18x160, S24x64x18x160, S24x64x18x160, S24x64x18x160, S24x64x18x160, S24x64x18x160, S24x64x18x160, S24x64x18x160, S24x64x18x160, S24x64x18x160] S24x1024x18x160 1) (b : Fin 24) (t : Fin 64) (h : Fin 18) (v : Fin 160) :
    concatenate S24x1024x18x160 1 [⟨S24x64x18x160, x0⟩, ⟨S24x64x18x160, x1⟩, ⟨S24x64x18x160, x2⟩, ⟨S24x64x18x160, x3⟩, ⟨S24x64x18x160, x4⟩, ⟨S24x64x18x160, x5⟩, ⟨S24x64x18x160, x6⟩, ⟨S24x64x18x160, x7⟩, ⟨S24x64x18x160, x8⟩, ⟨S24x64x18x160, x9⟩, ⟨S24x64x18x160, x10⟩, ⟨S24x64x18x160, x11⟩, ⟨S24x64x18x160, x12⟩, ⟨S24x64x18x160, x13⟩, ⟨S24x64x18x160, x14⟩, ⟨S24x64x18x160, x15⟩] hC (ix4 b ⟨768 + t.val, by omega⟩ h v) = x12 (ix4 b t h v) := by
  refine concatenate_apply_piece (t := S24x1024x18x160) 1 _ _ _ 12 ?_ S24x64x18x160 _ ?_ (by rfl) 768 ?_ (ix4 b t h v) ?_ ?_
  · simp
  · rfl
  · simp only [List.take_succ_cons, List.take_zero, List.map_cons, List.map_nil, List.sum_cons, List.sum_nil]
    rfl
  · intro a ha
    match a, ha with | 0, _ => rfl | 1, ha => exact absurd rfl ha | 2, _ => rfl | 3, _ => rfl
  · rfl

theorem sixteen_13 {α : Type} (x0 : S24x64x18x160.Idx → α) (x1 : S24x64x18x160.Idx → α) (x2 : S24x64x18x160.Idx → α) (x3 : S24x64x18x160.Idx → α) (x4 : S24x64x18x160.Idx → α) (x5 : S24x64x18x160.Idx → α) (x6 : S24x64x18x160.Idx → α) (x7 : S24x64x18x160.Idx → α) (x8 : S24x64x18x160.Idx → α) (x9 : S24x64x18x160.Idx → α) (x10 : S24x64x18x160.Idx → α) (x11 : S24x64x18x160.Idx → α) (x12 : S24x64x18x160.Idx → α) (x13 : S24x64x18x160.Idx → α) (x14 : S24x64x18x160.Idx → α) (x15 : S24x64x18x160.Idx → α)
    (hC : Shape.Concatenates [S24x64x18x160, S24x64x18x160, S24x64x18x160, S24x64x18x160, S24x64x18x160, S24x64x18x160, S24x64x18x160, S24x64x18x160, S24x64x18x160, S24x64x18x160, S24x64x18x160, S24x64x18x160, S24x64x18x160, S24x64x18x160, S24x64x18x160, S24x64x18x160] S24x1024x18x160 1) (b : Fin 24) (t : Fin 64) (h : Fin 18) (v : Fin 160) :
    concatenate S24x1024x18x160 1 [⟨S24x64x18x160, x0⟩, ⟨S24x64x18x160, x1⟩, ⟨S24x64x18x160, x2⟩, ⟨S24x64x18x160, x3⟩, ⟨S24x64x18x160, x4⟩, ⟨S24x64x18x160, x5⟩, ⟨S24x64x18x160, x6⟩, ⟨S24x64x18x160, x7⟩, ⟨S24x64x18x160, x8⟩, ⟨S24x64x18x160, x9⟩, ⟨S24x64x18x160, x10⟩, ⟨S24x64x18x160, x11⟩, ⟨S24x64x18x160, x12⟩, ⟨S24x64x18x160, x13⟩, ⟨S24x64x18x160, x14⟩, ⟨S24x64x18x160, x15⟩] hC (ix4 b ⟨832 + t.val, by omega⟩ h v) = x13 (ix4 b t h v) := by
  refine concatenate_apply_piece (t := S24x1024x18x160) 1 _ _ _ 13 ?_ S24x64x18x160 _ ?_ (by rfl) 832 ?_ (ix4 b t h v) ?_ ?_
  · simp
  · rfl
  · simp only [List.take_succ_cons, List.take_zero, List.map_cons, List.map_nil, List.sum_cons, List.sum_nil]
    rfl
  · intro a ha
    match a, ha with | 0, _ => rfl | 1, ha => exact absurd rfl ha | 2, _ => rfl | 3, _ => rfl
  · rfl

theorem sixteen_14 {α : Type} (x0 : S24x64x18x160.Idx → α) (x1 : S24x64x18x160.Idx → α) (x2 : S24x64x18x160.Idx → α) (x3 : S24x64x18x160.Idx → α) (x4 : S24x64x18x160.Idx → α) (x5 : S24x64x18x160.Idx → α) (x6 : S24x64x18x160.Idx → α) (x7 : S24x64x18x160.Idx → α) (x8 : S24x64x18x160.Idx → α) (x9 : S24x64x18x160.Idx → α) (x10 : S24x64x18x160.Idx → α) (x11 : S24x64x18x160.Idx → α) (x12 : S24x64x18x160.Idx → α) (x13 : S24x64x18x160.Idx → α) (x14 : S24x64x18x160.Idx → α) (x15 : S24x64x18x160.Idx → α)
    (hC : Shape.Concatenates [S24x64x18x160, S24x64x18x160, S24x64x18x160, S24x64x18x160, S24x64x18x160, S24x64x18x160, S24x64x18x160, S24x64x18x160, S24x64x18x160, S24x64x18x160, S24x64x18x160, S24x64x18x160, S24x64x18x160, S24x64x18x160, S24x64x18x160, S24x64x18x160] S24x1024x18x160 1) (b : Fin 24) (t : Fin 64) (h : Fin 18) (v : Fin 160) :
    concatenate S24x1024x18x160 1 [⟨S24x64x18x160, x0⟩, ⟨S24x64x18x160, x1⟩, ⟨S24x64x18x160, x2⟩, ⟨S24x64x18x160, x3⟩, ⟨S24x64x18x160, x4⟩, ⟨S24x64x18x160, x5⟩, ⟨S24x64x18x160, x6⟩, ⟨S24x64x18x160, x7⟩, ⟨S24x64x18x160, x8⟩, ⟨S24x64x18x160, x9⟩, ⟨S24x64x18x160, x10⟩, ⟨S24x64x18x160, x11⟩, ⟨S24x64x18x160, x12⟩, ⟨S24x64x18x160, x13⟩, ⟨S24x64x18x160, x14⟩, ⟨S24x64x18x160, x15⟩] hC (ix4 b ⟨896 + t.val, by omega⟩ h v) = x14 (ix4 b t h v) := by
  refine concatenate_apply_piece (t := S24x1024x18x160) 1 _ _ _ 14 ?_ S24x64x18x160 _ ?_ (by rfl) 896 ?_ (ix4 b t h v) ?_ ?_
  · simp
  · rfl
  · simp only [List.take_succ_cons, List.take_zero, List.map_cons, List.map_nil, List.sum_cons, List.sum_nil]
    rfl
  · intro a ha
    match a, ha with | 0, _ => rfl | 1, ha => exact absurd rfl ha | 2, _ => rfl | 3, _ => rfl
  · rfl

theorem sixteen_15 {α : Type} (x0 : S24x64x18x160.Idx → α) (x1 : S24x64x18x160.Idx → α) (x2 : S24x64x18x160.Idx → α) (x3 : S24x64x18x160.Idx → α) (x4 : S24x64x18x160.Idx → α) (x5 : S24x64x18x160.Idx → α) (x6 : S24x64x18x160.Idx → α) (x7 : S24x64x18x160.Idx → α) (x8 : S24x64x18x160.Idx → α) (x9 : S24x64x18x160.Idx → α) (x10 : S24x64x18x160.Idx → α) (x11 : S24x64x18x160.Idx → α) (x12 : S24x64x18x160.Idx → α) (x13 : S24x64x18x160.Idx → α) (x14 : S24x64x18x160.Idx → α) (x15 : S24x64x18x160.Idx → α)
    (hC : Shape.Concatenates [S24x64x18x160, S24x64x18x160, S24x64x18x160, S24x64x18x160, S24x64x18x160, S24x64x18x160, S24x64x18x160, S24x64x18x160, S24x64x18x160, S24x64x18x160, S24x64x18x160, S24x64x18x160, S24x64x18x160, S24x64x18x160, S24x64x18x160, S24x64x18x160] S24x1024x18x160 1) (b : Fin 24) (t : Fin 64) (h : Fin 18) (v : Fin 160) :
    concatenate S24x1024x18x160 1 [⟨S24x64x18x160, x0⟩, ⟨S24x64x18x160, x1⟩, ⟨S24x64x18x160, x2⟩, ⟨S24x64x18x160, x3⟩, ⟨S24x64x18x160, x4⟩, ⟨S24x64x18x160, x5⟩, ⟨S24x64x18x160, x6⟩, ⟨S24x64x18x160, x7⟩, ⟨S24x64x18x160, x8⟩, ⟨S24x64x18x160, x9⟩, ⟨S24x64x18x160, x10⟩, ⟨S24x64x18x160, x11⟩, ⟨S24x64x18x160, x12⟩, ⟨S24x64x18x160, x13⟩, ⟨S24x64x18x160, x14⟩, ⟨S24x64x18x160, x15⟩] hC (ix4 b ⟨960 + t.val, by omega⟩ h v) = x15 (ix4 b t h v) := by
  refine concatenate_apply_piece (t := S24x1024x18x160) 1 _ _ _ 15 ?_ S24x64x18x160 _ ?_ (by rfl) 960 ?_ (ix4 b t h v) ?_ ?_
  · simp
  · rfl
  · simp only [List.take_succ_cons, List.take_zero, List.map_cons, List.map_nil, List.sum_cons, List.sum_nil]
    rfl
  · intro a ha
    match a, ha with | 0, _ => rfl | 1, ha => exact absurd rfl ha | 2, _ => rfl | 3, _ => rfl
  · rfl

theorem four_0 {α : Type} (x0 : S24x64x18x160.Idx → α) (x1 : S24x64x18x160.Idx → α) (x2 : S24x64x18x160.Idx → α) (x3 : S24x64x18x160.Idx → α)
    (hC : Shape.Concatenates [S24x64x18x160, S24x64x18x160, S24x64x18x160, S24x64x18x160] S24x256x18x160 1) (b : Fin 24) (t : Fin 64) (h : Fin 18) (v : Fin 160) :
    concatenate S24x256x18x160 1 [⟨S24x64x18x160, x0⟩, ⟨S24x64x18x160, x1⟩, ⟨S24x64x18x160, x2⟩, ⟨S24x64x18x160, x3⟩] hC (ix4 b ⟨0 + t.val, by omega⟩ h v) = x0 (ix4 b t h v) := by
  refine concatenate_apply_piece (t := S24x256x18x160) 1 _ _ _ 0 ?_ S24x64x18x160 _ ?_ (by rfl) 0 ?_ (ix4 b t h v) ?_ ?_
  · simp
  · rfl
  · simp only [List.take_succ_cons, List.take_zero, List.map_cons, List.map_nil, List.sum_cons, List.sum_nil]
  · intro a ha
    match a, ha with | 0, _ => rfl | 1, ha => exact absurd rfl ha | 2, _ => rfl | 3, _ => rfl
  · rfl

theorem four_1 {α : Type} (x0 : S24x64x18x160.Idx → α) (x1 : S24x64x18x160.Idx → α) (x2 : S24x64x18x160.Idx → α) (x3 : S24x64x18x160.Idx → α)
    (hC : Shape.Concatenates [S24x64x18x160, S24x64x18x160, S24x64x18x160, S24x64x18x160] S24x256x18x160 1) (b : Fin 24) (t : Fin 64) (h : Fin 18) (v : Fin 160) :
    concatenate S24x256x18x160 1 [⟨S24x64x18x160, x0⟩, ⟨S24x64x18x160, x1⟩, ⟨S24x64x18x160, x2⟩, ⟨S24x64x18x160, x3⟩] hC (ix4 b ⟨64 + t.val, by omega⟩ h v) = x1 (ix4 b t h v) := by
  refine concatenate_apply_piece (t := S24x256x18x160) 1 _ _ _ 1 ?_ S24x64x18x160 _ ?_ (by rfl) 64 ?_ (ix4 b t h v) ?_ ?_
  · simp
  · rfl
  · simp only [List.take_succ_cons, List.take_zero, List.map_cons, List.map_nil, List.sum_cons, List.sum_nil]
    rfl
  · intro a ha
    match a, ha with | 0, _ => rfl | 1, ha => exact absurd rfl ha | 2, _ => rfl | 3, _ => rfl
  · rfl

theorem four_2 {α : Type} (x0 : S24x64x18x160.Idx → α) (x1 : S24x64x18x160.Idx → α) (x2 : S24x64x18x160.Idx → α) (x3 : S24x64x18x160.Idx → α)
    (hC : Shape.Concatenates [S24x64x18x160, S24x64x18x160, S24x64x18x160, S24x64x18x160] S24x256x18x160 1) (b : Fin 24) (t : Fin 64) (h : Fin 18) (v : Fin 160) :
    concatenate S24x256x18x160 1 [⟨S24x64x18x160, x0⟩, ⟨S24x64x18x160, x1⟩, ⟨S24x64x18x160, x2⟩, ⟨S24x64x18x160, x3⟩] hC (ix4 b ⟨128 + t.val, by omega⟩ h v) = x2 (ix4 b t h v) := by
  refine concatenate_apply_piece (t := S24x256x18x160) 1 _ _ _ 2 ?_ S24x64x18x160 _ ?_ (by rfl) 128 ?_ (ix4 b t h v) ?_ ?_
  · simp
  · rfl
  · simp only [List.take_succ_cons, List.take_zero, List.map_cons, List.map_nil, List.sum_cons, List.sum_nil]
    rfl
  · intro a ha
    match a, ha with | 0, _ => rfl | 1, ha => exact absurd rfl ha | 2, _ => rfl | 3, _ => rfl
  · rfl

theorem four_3 {α : Type} (x0 : S24x64x18x160.Idx → α) (x1 : S24x64x18x160.Idx → α) (x2 : S24x64x18x160.Idx → α) (x3 : S24x64x18x160.Idx → α)
    (hC : Shape.Concatenates [S24x64x18x160, S24x64x18x160, S24x64x18x160, S24x64x18x160] S24x256x18x160 1) (b : Fin 24) (t : Fin 64) (h : Fin 18) (v : Fin 160) :
    concatenate S24x256x18x160 1 [⟨S24x64x18x160, x0⟩, ⟨S24x64x18x160, x1⟩, ⟨S24x64x18x160, x2⟩, ⟨S24x64x18x160, x3⟩] hC (ix4 b ⟨192 + t.val, by omega⟩ h v) = x3 (ix4 b t h v) := by
  refine concatenate_apply_piece (t := S24x256x18x160) 1 _ _ _ 3 ?_ S24x64x18x160 _ ?_ (by rfl) 192 ?_ (ix4 b t h v) ?_ ?_
  · simp
  · rfl
  · simp only [List.take_succ_cons, List.take_zero, List.map_cons, List.map_nil, List.sum_cons, List.sum_nil]
    rfl
  · intro a ha
    match a, ha with | 0, _ => rfl | 1, ha => exact absurd rfl ha | 2, _ => rfl | 3, _ => rfl
  · rfl

theorem two_0 {α : Type} (x0 : S24x1024x18x160.Idx → α) (x1 : S24x256x18x160.Idx → α)
    (hC : Shape.Concatenates [S24x1024x18x160, S24x256x18x160] S24x1280x18x160 1) (b : Fin 24) (t : Fin 1024) (h : Fin 18) (v : Fin 160) :
    concatenate S24x1280x18x160 1 [⟨S24x1024x18x160, x0⟩, ⟨S24x256x18x160, x1⟩] hC (ix4 b ⟨0 + t.val, by omega⟩ h v) = x0 (ix4 b t h v) := by
  refine concatenate_apply_piece (t := S24x1280x18x160) 1 _ _ _ 0 ?_ S24x1024x18x160 _ ?_ (by rfl) 0 ?_ (ix4 b t h v) ?_ ?_
  · simp
  · rfl
  · simp only [List.take_succ_cons, List.take_zero, List.map_cons, List.map_nil, List.sum_cons, List.sum_nil]
  · intro a ha
    match a, ha with | 0, _ => rfl | 1, ha => exact absurd rfl ha | 2, _ => rfl | 3, _ => rfl
  · rfl

theorem two_1 {α : Type} (x0 : S24x1024x18x160.Idx → α) (x1 : S24x256x18x160.Idx → α)
    (hC : Shape.Concatenates [S24x1024x18x160, S24x256x18x160] S24x1280x18x160 1) (b : Fin 24) (t : Fin 256) (h : Fin 18) (v : Fin 160) :
    concatenate S24x1280x18x160 1 [⟨S24x1024x18x160, x0⟩, ⟨S24x256x18x160, x1⟩] hC (ix4 b ⟨1024 + t.val, by omega⟩ h v) = x1 (ix4 b t h v) := by
  refine concatenate_apply_piece (t := S24x1280x18x160) 1 _ _ _ 1 ?_ S24x256x18x160 _ ?_ (by rfl) 1024 ?_ (ix4 b t h v) ?_ ?_
  · simp
  · rfl
  · simp only [List.take_succ_cons, List.take_zero, List.map_cons, List.map_nil, List.sum_cons, List.sum_nil]
    rfl
  · intro a ha
    match a, ha with | 0, _ => rfl | 1, ha => exact absurd rfl ha | 2, _ => rfl | 3, _ => rfl
  · rfl

variable (A : Args) (H : A.Real) (b : Fin 24) (h : Fin 18) (t : Fin 64) (v : Fin 160)
include H

theorem cat_0 : val_main_v621 (F := Ideal) A.a1 A.a3 A.a4 A.a5 A.a6 A.a7 A.a0 A.a2 (ix4 b (seq 0 t) h v) = ((A.out b h 0 t v : ℝ) : EReal) := by
  have e : seq 0 t = ⟨0 + (⟨0 + t.val, by omega⟩ : Fin 1024).val, by dsimp only; omega⟩ := Fin.ext (show (64 * 0 + t.val) % 1280 = 0 + (0 + t.val) by omega)
  rw [e]
  unfold val_main_v621
  refine (two_0 _ _ _ b ⟨0 + t.val, by omega⟩ h v).trans ?_
  unfold val_main_v619
  exact (sixteen_0 _ _ _ _ _ _ _ _ _ _ _ _ _ _ _ _ _ b t h v).trans (ref_o0 A H b h t v)

theorem cat_1 : val_main_v621 (F := Ideal) A.a1 A.a3 A.a4 A.a5 A.a6 A.a7 A.a0 A.a2 (ix4 b (seq 1 t) h v) = ((A.out b h 1 t v : ℝ) : EReal) := by
  have e : seq 1 t = ⟨0 + (⟨64 + t.val, by omega⟩ : Fin 1024).val, by dsimp only; omega⟩ := Fin.ext (show (64 * 1 + t.val) % 1280 = 0 + (64 + t.val) by omega)
  rw [e]
  unfold val_main_v621
  refine (two_0 _ _ _ b ⟨64 + t.val, by omega⟩ h v).trans ?_
  unfold val_main_v619
  exact (sixteen_1 _ _ _ _ _ _ _ _ _ _ _ _ _ _ _ _ _ b t h v).trans (ref_o1 A H b h t v)

theorem cat_2 : val_main_v621 (F := Ideal) A.a1 A.a3 A.a4 A.a5 A.a6 A.a7 A.a0 A.a2 (ix4 b (seq 2 t) h v) = ((A.out b h 2 t v : ℝ) : EReal) := by
  have e : seq 2 t = ⟨0 + (⟨128 + t.val, by omega⟩ : Fin 1024).val, by dsimp only; omega⟩ := Fin.ext (show (64 * 2 + t.val) % 1280 = 0 + (128 + t.val) by omega)
  rw [e]
  unfold val_main_v621
  refine (two_0 _ _ _ b ⟨128 + t.val, by omega⟩ h v).trans ?_
  unfold val_main_v619
  exact (sixteen_2 _ _ _ _ _ _ _ _ _ _ _ _ _ _ _ _ _ b t h v).trans (ref_o2 A H b h t v)

theorem cat_3 : val_main_v621 (F := Ideal) A.a1 A.a3 A.a4 A.a5 A.a6 A.a7 A.a0 A.a2 (ix4 b (seq 3 t) h v) = ((A.out b h 3 t v : ℝ) : EReal) := by
  have e : seq 3 t = ⟨0 + (⟨192 + t.val, by omega⟩ : Fin 1024).val, by dsimp only; omega⟩ := Fin.ext (show (64 * 3 + t.val) % 1280 = 0 + (192 + t.val) by omega)
  rw [e]
  unfold val_main_v621
  refine (two_0 _ _ _ b ⟨192 + t.val, by omega⟩ h v).trans ?_
  unfold val_main_v619
  exact (sixteen_3 _ _ _ _ _ _ _ _ _ _ _ _ _ _ _ _ _ b t h v).trans (ref_o3 A H b h t v)

theorem cat_4 : val_main_v621 (F := Ideal) A.a1 A.a3 A.a4 A.a5 A.a6 A.a7 A.a0 A.a2 (ix4 b (seq 4 t) h v) = ((A.out b h 4 t v : ℝ) : EReal) := by
  have e : seq 4 t = ⟨0 + (⟨256 + t.val, by omega⟩ : Fin 1024).val, by dsimp only; omega⟩ := Fin.ext (show (64 * 4 + t.val) % 1280 = 0 + (256 + t.val) by omega)
  rw [e]
  unfold val_main_v621
  refine (two_0 _ _ _ b ⟨256 + t.val, by omega⟩ h v).trans ?_
  unfold val_main_v619
  exact (sixteen_4 _ _ _ _ _ _ _ _ _ _ _ _ _ _ _ _ _ b t h v).trans (ref_o4 A H b h t v)

theorem cat_5 : val_main_v621 (F := Ideal) A.a1 A.a3 A.a4 A.a5 A.a6 A.a7 A.a0 A.a2 (ix4 b (seq 5 t) h v) = ((A.out b h 5 t v : ℝ) : EReal) := by
  have e : seq 5 t = ⟨0 + (⟨320 + t.val, by omega⟩ : Fin 1024).val, by dsimp only; omega⟩ := Fin.ext (show (64 * 5 + t.val) % 1280 = 0 + (320 + t.val) by omega)
  rw [e]
  unfold val_main_v621
  refine (two_0 _ _ _ b ⟨320 + t.val, by omega⟩ h v).trans ?_
  unfold val_main_v619
  exact (sixteen_5 _ _ _ _ _ _ _ _ _ _ _ _ _ _ _ _ _ b t h v).trans (ref_o5 A H b h t v)

theorem cat_6 : val_main_v621 (F := Ideal) A.a1 A.a3 A.a4 A.a5 A.a6 A.a7 A.a0 A.a2 (ix4 b (seq 6 t) h v) = ((A.out b h 6 t v : ℝ) : EReal) := by
  have e : seq 6 t = ⟨0 + (⟨384 + t.val, by omega⟩ : Fin 1024).val, by dsimp only; omega⟩ := Fin.ext (show (64 * 6 + t.val) % 1280 = 0 + (384 + t.val) by omega)
  rw [e]
  unfold val_main_v621
  refine (two_0 _ _ _ b ⟨384 + t.val, by omega⟩ h v).trans ?_
  unfold val_main_v619
  exact (sixteen_6 _ _ _ _ _ _ _ _ _ _ _ _ _ _ _ _ _ b t h v).trans (ref_o6 A H b h t v)

theorem cat_7 : val_main_v621 (F := Ideal) A.a1 A.a3 A.a4 A.a5 A.a6 A.a7 A.a0 A.a2 (ix4 b (seq 7 t) h v) = ((A.out b h 7 t v : ℝ) : EReal) := by
  have e : seq 7 t = ⟨0 + (⟨448 + t.val, by omega⟩ : Fin 1024).val, by dsimp only; omega⟩ := Fin.ext (show (64 * 7 + t.val) % 1280 = 0 + (448 + t.val) by omega)
  rw [e]
  unfold val_main_v621
  refine (two_0 _ _ _ b ⟨448 + t.val, by omega⟩ h v).trans ?_
  unfold val_main_v619
  exact (sixteen_7 _ _ _ _ _ _ _ _ _ _ _ _ _ _ _ _ _ b t h v).trans (ref_o7 A H b h t v)

theorem cat_8 : val_main_v621 (F := Ideal) A.a1 A.a3 A.a4 A.a5 A.a6 A.a7 A.a0 A.a2 (ix4 b (seq 8 t) h v) = ((A.out b h 8 t v : ℝ) : EReal) := by
  have e : seq 8 t = ⟨0 + (⟨512 + t.val, by omega⟩ : Fin 1024).val, by dsimp only; omega⟩ := Fin.ext (show (64 * 8 + t.val) % 1280 = 0 + (512 + t.val) by omega)
  rw [e]
  unfold val_main_v621
  refine (two_0 _ _ _ b ⟨512 + t.val, by omega⟩ h v).trans ?_
  unfold val_main_v619
  exact (sixteen_8 _ _ _ _ _ _ _ _ _ _ _ _ _ _ _ _ _ b t h v).trans (ref_o8 A H b h t v)

theorem cat_9 : val_main_v621 (F := Ideal) A.a1 A.a3 A.a4 A.a5 A.a6 A.a7 A.a0 A.a2 (ix4 b (seq 9 t) h v) = ((A.out b h 9 t v : ℝ) : EReal) := by
  have e : seq 9 t = ⟨0 + (⟨576 + t.val, by omega⟩ : Fin 1024).val, by dsimp only; omega⟩ := Fin.ext (show (64 * 9 + t.val) % 1280 = 0 + (576 + t.val) by omega)
  rw [e]
  unfold val_main_v621
  refine (two_0 _ _ _ b ⟨576 + t.val, by omega⟩ h v).trans ?_
  unfold val_main_v619
  exact (sixteen_9 _ _ _ _ _ _ _ _ _ _ _ _ _ _ _ _ _ b t h v).trans (ref_o9 A H b h t v)

theorem cat_10 : val_main_v621 (F := Ideal) A.a1 A.a3 A.a4 A.a5 A.a6 A.a7 A.a0 A.a2 (ix4 b (seq 10 t) h v) = ((A.out b h 10 t v : ℝ) : EReal) := by
  have e : seq 10 t = ⟨0 + (⟨640 + t.val, by omega⟩ : Fin 1024).val, by dsimp only; omega⟩ := Fin.ext (show (64 * 10 + t.val) % 1280 = 0 + (640 + t.val) by omega)
  rw [e]
  unfold val_main_v621
  refine (two_0 _ _ _ b ⟨640 + t.val, by omega⟩ h v).trans ?_
  unfold val_main_v619
  exact (sixteen_10 _ _ _ _ _ _ _ _ _ _ _ _ _ _ _ _ _ b t h v).trans (ref_o10 A H b h t v)

theorem cat_11 : val_main_v621 (F := Ideal) A.a1 A.a3 A.a4 A.a5 A.a6 A.a7 A.a0 A.a2 (ix4 b (seq 11 t) h v) = ((A.out b h 11 t v : ℝ) : EReal) := by
  have e : seq 11 t = ⟨0 + (⟨704 + t.val, by omega⟩ : Fin 1024).val, by dsimp only; omega⟩ := Fin.ext (show (64 * 11 + t.val) % 1280 = 0 + (704 + t.val) by omega)
  rw [e]
  unfold val_main_v621
  refine (two_0 _ _ _ b ⟨704 + t.val, by omega⟩ h v).trans ?_
  unfold val_main_v619
  exact (sixteen_11 _ _ _ _ _ _ _ _ _ _ _ _ _ _ _ _ _ b t h v).trans (ref_o11 A H b h t v)

theorem cat_12 : val_main_v621 (F := Ideal) A.a1 A.a3 A.a4 A.a5 A.a6 A.a7 A.a0 A.a2 (ix4 b (seq 12 t) h v) = ((A.out b h 12 t v : ℝ) : EReal) := by
  have e : seq 12 t = ⟨0 + (⟨768 + t.val, by omega⟩ : Fin 1024).val, by dsimp only; omega⟩ := Fin.ext (show (64 * 12 + t.val) % 1280 = 0 + (768 + t.val) by omega)
  rw [e]
  unfold val_main_v621
  refine (two_0 _ _ _ b ⟨768 + t.val, by omega⟩ h v).trans ?_
  unfold val_main_v619
  exact (sixteen_12 _ _ _ _ _ _ _ _ _ _ _ _ _ _ _ _ _ b t h v).trans (ref_o12 A H b h t v)

theorem cat_13 : val_main_v621 (F := Ideal) A.a1 A.a3 A.a4 A.a5 A.a6 A.a7 A.a0 A.a2 (ix4 b (seq 13 t) h v) = ((A.out b h 13 t v : ℝ) : EReal) := by
  have e : seq 13 t = ⟨0 + (⟨832 + t.val, by omega⟩ : Fin 1024).val, by dsimp only; omega⟩ := Fin.ext (show (64 * 13 + t.val) % 1280 = 0 + (832 + t.val) by omega)
  rw [e]
  unfold val_main_v621
  refine (two_0 _ _ _ b ⟨832 + t.val, by omega⟩ h v).trans ?_
  unfold val_main_v619
  exact (sixteen_13 _ _ _ _ _ _ _ _ _ _ _ _ _ _ _ _ _ b t h v).trans (ref_o13 A H b h t v)

theorem cat_14 : val_main_v621 (F := Ideal) A.a1 A.a3 A.a4 A.a5 A.a6 A.a7 A.a0 A.a2 (ix4 b (seq 14 t) h v) = ((A.out b h 14 t v : ℝ) : EReal) := by
  have e : seq 14 t = ⟨0 + (⟨896 + t.val, by omega⟩ : Fin 1024).val, by dsimp only; omega⟩ := Fin.ext (show (64 * 14 + t.val) % 1280 = 0 + (896 + t.val) by omega)
  rw [e]
  unfold val_main_v621
  refine (two_0 _ _ _ b ⟨896 + t.val, by omega⟩ h v).trans ?_
  unfold val_main_v619
  exact (sixteen_14 _ _ _ _ _ _ _ _ _ _ _ _ _ _ _ _ _ b t h v).trans (ref_o14 A H b h t v)

theorem cat_15 : val_main_v621 (F := Ideal) A.a1 A.a3 A.a4 A.a5 A.a6 A.a7 A.a0 A.a2 (ix4 b (seq 15 t) h v) = ((A.out b h 15 t v : ℝ) : EReal) := by
  have e : seq 15 t = ⟨0 + (⟨960 + t.val, by omega⟩ : Fin 1024).val, by dsimp only; omega⟩ := Fin.ext (show (64 * 15 + t.val) % 1280 = 0 + (960 + t.val) by omega)
  rw [e]
  unfold val_main_v621
  refine (two_0 _ _ _ b ⟨960 + t.val, by omega⟩ h v).trans ?_
  unfold val_main_v619
  exact (sixteen_15 _ _ _ _ _ _ _ _ _ _ _ _ _ _ _ _ _ b t h v).trans (ref_o15 A H b h t v)

theorem cat_16 : val_main_v621 (F := Ideal) A.a1 A.a3 A.a4 A.a5 A.a6 A.a7 A.a0 A.a2 (ix4 b (seq 16 t) h v) = ((A.out b h 16 t v : ℝ) : EReal) := by
  have e : seq 16 t = ⟨1024 + (⟨0 + t.val, by omega⟩ : Fin 256).val, by dsimp only; omega⟩ := Fin.ext (show (64 * 16 + t.val) % 1280 = 1024 + (0 + t.val) by omega)
  rw [e]
  unfold val_main_v621
  refine (two_1 _ _ _ b ⟨0 + t.val, by omega⟩ h v).trans ?_
  unfold val_main_v620
  exact (four_0 _ _ _ _ _ b t h v).trans (ref_o16 A H b h t v)

theorem cat_17 : val_main_v621 (F := Ideal) A.a1 A.a3 A.a4 A.a5 A.a6 A.a7 A.a0 A.a2 (ix4 b (seq 17 t) h v) = ((A.out b h 17 t v : ℝ) : EReal) := by
  have e : seq 17 t = ⟨1024 + (⟨64 + t.val, by omega⟩ : Fin 256).val, by dsimp only; omega⟩ := Fin.ext (show (64 * 17 + t.val) % 1280 = 1024 + (64 + t.val) by omega)
  rw [e]
  unfold val_main_v621
  refine (two_1 _ _ _ b ⟨64 + t.val, by omega⟩ h v).trans ?_
  unfold val_main_v620
  exact (four_1 _ _ _ _ _ b t h v).trans (ref_o17 A H b h t v)

theorem cat_18 : val_main_v621 (F := Ideal) A.a1 A.a3 A.a4 A.a5 A.a6 A.a7 A.a0 A.a2 (ix4 b (seq 18 t) h v) = ((A.out b h 18 t v : ℝ) : EReal) := by
  have e : seq 18 t = ⟨1024 + (⟨128 + t.val, by omega⟩ : Fin 256).val, by dsimp only; omega⟩ := Fin.ext (show (64 * 18 + t.val) % 1280 = 1024 + (128 + t.val) by omega)
  rw [e]
  unfold val_main_v621
  refine (two_1 _ _ _ b ⟨128 + t.val, by omega⟩ h v).trans ?_
  unfold val_main_v620
  exact (four_2 _ _ _ _ _ b t h v).trans (ref_o18 A H b h t v)

theorem cat_19 : val_main_v621 (F := Ideal) A.a1 A.a3 A.a4 A.a5 A.a6 A.a7 A.a0 A.a2 (ix4 b (seq 19 t) h v) = ((A.out b h 19 t v : ℝ) : EReal) := by
  have e : seq 19 t = ⟨1024 + (⟨192 + t.val, by omega⟩ : Fin 256).val, by dsimp only; omega⟩ := Fin.ext (show (64 * 19 + t.val) % 1280 = 1024 + (192 + t.val) by omega)
  rw [e]
  unfold val_main_v621
  refine (two_1 _ _ _ b ⟨192 + t.val, by omega⟩ h v).trans ?_
  unfold val_main_v620
  exact (four_3 _ _ _ _ _ b t h v).trans (ref_o19 A H b h t v)

theorem ref_cat (n : Fin 20) : val_main_v621 (F := Ideal) A.a1 A.a3 A.a4 A.a5 A.a6 A.a7 A.a0 A.a2 (ix4 b (seq n.val t) h v) = ((A.out b h n.val t v : ℝ) : EReal) := by
  match n with
  | ⟨0, _⟩ => exact cat_0 A H b h t v
  | ⟨1, _⟩ => exact cat_1 A H b h t v
  | ⟨2, _⟩ => exact cat_2 A H b h t v
  | ⟨3, _⟩ => exact cat_3 A H b h t v
  | ⟨4, _⟩ => exact cat_4 A H b h t v
  | ⟨5, _⟩ => exact cat_5 A H b h t v
  | ⟨6, _⟩ => exact cat_6 A H b h t v
  | ⟨7, _⟩ => exact cat_7 A H b h t v
  | ⟨8, _⟩ => exact cat_8 A H b h t v
  | ⟨9, _⟩ => exact cat_9 A H b h t v
  | ⟨10, _⟩ => exact cat_10 A H b h t v
  | ⟨11, _⟩ => exact cat_11 A H b h t v
  | ⟨12, _⟩ => exact cat_12 A H b h t v
  | ⟨13, _⟩ => exact cat_13 A H b h t v
  | ⟨14, _⟩ => exact cat_14 A H b h t v
  | ⟨15, _⟩ => exact cat_15 A H b h t v
  | ⟨16, _⟩ => exact cat_16 A H b h t v
  | ⟨17, _⟩ => exact cat_17 A H b h t v
  | ⟨18, _⟩ => exact cat_18 A H b h t v
  | ⟨19, _⟩ => exact cat_19 A H b h t v
  | ⟨k + 20, hk⟩ => exact absurd hk (by omega)

end Cert.Hand

end
-- ==== Proof.Hand.RefOut.lean ====
module

public import proofs.«01_k».proof.Proof.Hand.Ref1

/-! The outputs of the reference: the chunks put side by side, and the normalised and gated form of them. -/

@[expose] public section

set_option maxRecDepth 100000

noncomputable section

namespace Cert.Hand

open Idealize.ShloMosaic Idealize.SL.Sem Cert.ReferenceIdeal Cert.ReferenceIdeal.Read

theorem col_div (h : Fin 18) (v : Fin 160) (p : (col h v).val / 160 < 18) : (⟨(col h v).val / 160, p⟩ : Fin 18) = h :=
  Fin.ext (show (160 * h.val + v.val) / 160 = h.val by omega)
theorem col_mod (h : Fin 18) (v : Fin 160) (p : (col h v).val % 160 < 160) : (⟨(col h v).val % 160, p⟩ : Fin 160) = v :=
  Fin.ext (show (160 * h.val + v.val) % 160 = v.val by omega)
theorem col_mk (h : Fin 18) (v : Fin 160) (p : h.val * 160 + v.val < 2880) : (⟨h.val * 160 + v.val, p⟩ : Fin 2880) = col h v :=
  Fin.ext (show h.val * 160 + v.val = 160 * h.val + v.val by omega)
theorem width : Ideal.ofBits .f32 1126170624#32 = ((160 : ℝ) : EReal) := by
  simp [Ideal.ofBits, Ideal.ieee]
  rw [← EReal.coe_mul]
  norm_num

variable (A : Args) (b : Fin 24) (h : Fin 18) (n : ℕ) (t : Fin 64) (v : Fin 160)

theorem ref_o (o : Fin 160 → ℝ)
    (hc : ∀ v, val_main_v621 (F := Ideal) A.a1 A.a3 A.a4 A.a5 A.a6 A.a7 A.a0 A.a2 (ix4 b (seq n t) h v) = ((o v : ℝ) : EReal)) :
    val_main_v647 (F := Ideal) A.a1 A.a3 A.a4 A.a5 A.a6 A.a7 A.a0 A.a2 (ix3 b (seq n t) (col h v)) = ((o v : ℝ) : EReal) := by
  refine .trans ?_ (hc v)
  pointwise [val_main_v647, val_main_v646]
  rw [col_div, col_mod]

theorem ref_sum (o : Fin 160 → ℝ)
    (hc : ∀ v, val_main_v621 (F := Ideal) A.a1 A.a3 A.a4 A.a5 A.a6 A.a7 A.a0 A.a2 (ix4 b (seq n t) h v) = ((o v : ℝ) : EReal)) :
    val_main_v623 (F := Ideal) A.a1 A.a3 A.a4 A.a5 A.a6 A.a7 A.a0 A.a2 (ix3 b (seq n t) h) = ((∑ u, o u * o u : ℝ) : EReal) := by
  pointwise [val_main_v623, val_main_v622, val_main_cst_21]
  simp only [hc, ← EReal.coe_mul, ← coe_sum]

theorem ref_gate : val_main_v637 (F := Ideal) A.a8 (ix4 b (seq n t) h v) = Ideal.logistic (A.a8 (ix3 b (seq n t) (col h v))) := by
  pointwise [val_main_v637, val_main_v636, val_main_v635, val_main_v634, val_main_v633, val_main_v632, val_main_v631, val_main_v630, val_main_cst_24, val_main_cst_25, Ideal.logistic]
  rw [col_mk]

theorem ref_y (o : Fin 160 → ℝ)
    (hc : ∀ v, val_main_v621 (F := Ideal) A.a1 A.a3 A.a4 A.a5 A.a6 A.a7 A.a0 A.a2 (ix4 b (seq n t) h v) = ((o v : ℝ) : EReal)) :
    val_main_v645 (F := Ideal) A.a1 A.a3 A.a4 A.a5 A.a6 A.a7 A.a8 A.a9 A.a0 A.a2 (ix3 b (seq n t) (col h v))
      = yR o (A.a8 (ix3 b (seq n t) (col h v))) (A.a9 (ix1 v)) v := by
  rw [yR, ← ref_gate, ← hc v]
  pointwise [val_main_v645, val_main_v644, val_main_v643, val_main_v642, val_main_v641, val_main_v640, val_main_v639, val_main_v638, val_main_v629, val_main_v628, val_main_v627, val_main_v626, val_main_v625, val_main_v624, val_main_cst_22, val_main_cst_23]
  rw [col_div, col_mod, ref_sum A b h n t o hc, width, Ideal.div_coe (by norm_num), ← EReal.coe_mul]

end Cert.Hand

end
-- ==== Proof.Hand.Codes.lean ====
module

public import proofs.«01_k».proof.Proof.Gen.ReferenceIdeal.Run
public import Idealize.ShloMosaic.Lib.Pipeline.ValueKit

/-! The reference's codes: widened, they are the arguments themselves. -/

@[expose] public section

set_option maxRecDepth 100000

noncomputable section

namespace Cert.Hand

open Idealize.ShloMosaic Idealize.ShloMosaic.TcCoe Idealize.SL.Sem Idealize.ShloMosaic.StableHlo Cert.ReferenceIdeal Cert.ReferenceIdeal.Gen

variable (m : (ℓ : Loc nD τ sig) → Buf (Elt Ideal) ℓ) (c : Dev nD)

theorem codes_V0 (i : S24x1280x18x128.Idx) : V m c main_v0 i = m ((c.tc : Thread nD τ).loc main_arg0) i := by
  dsimp only [V, V0]
  simp only [hostOps0, List.flatten_cons, List.flatten_nil, List.append_nil, List.cons_append, List.nil_append]
  after_results
  pointwise []

theorem codes_V1 (i : S24x1280x18x128.Idx) : V m c main_v1 i = m ((c.tc : Thread nD τ).loc main_arg2) i := by
  dsimp only [V, V0]
  simp only [hostOps0, List.flatten_cons, List.flatten_nil, List.append_nil, List.cons_append, List.nil_append]
  after_results
  pointwise []

theorem widen_q (x0 x1 : Vec Ideal S24x1280x18x128 .fp8e4m3) (y : S24x1280x18x128.Idx) : out0_2 x0 x1 y = x0 y := by
  unfold out0_2
  frame_out
  pointwise [k0_pay1]

theorem codes_q : Value.reg_main_v2_0 m c = m ((c.tc : Thread nD τ).loc main_arg0) := by
  refine (Gen.dats m 0 c).arrAt_eq_of_covers 2 _ (by decide +kernel) fun t hf y => ?_
  blk_simp
  rw [after0_2]
  refine (widen_q _ _ _).trans ?_
  show V m c main_v0 _ = _
  rw [codes_V0]
  rfl

theorem widen_k (x0 x1 : Vec Ideal S24x1280x18x128 .fp8e4m3) (y : S24x1280x18x128.Idx) : out0_3 x0 x1 y = x1 y := by
  unfold out0_3
  frame_out
  pointwise [k0_pay2]

theorem codes_k : Value.reg_main_v2_1 m c = m ((c.tc : Thread nD τ).loc main_arg2) := by
  refine (Gen.dats m 0 c).arrAt_eq_of_covers 3 _ (by decide +kernel) fun t hf y => ?_
  blk_simp
  rw [after0_3]
  refine (widen_k _ _ _).trans ?_
  show V m c main_v1 _ = _
  rw [codes_V1]
  rfl

end Cert.Hand

end
-- ==== Proof.Hand.Ends.lean ====
module

public import proofs.«01_k».proof.Proof.Hand.KArr
public import proofs.«01_k».proof.Proof.Hand.RefCat
public import proofs.«01_k».proof.Proof.Hand.RefOut
public import proofs.«01_k».proof.Proof.Hand.Codes
public import proofs.«01_k».proof.Proof.Gen.KernelIdeal.Run

/-! The three results as functions of the arguments, and both programs' runs ending with them. -/

@[expose] public section

set_option maxRecDepth 100000

noncomputable section

namespace Cert.Hand

open Idealize.ShloMosaic Idealize.ShloMosaic.TcCoe Idealize.SL.Sem Idealize.ShloMosaic.StableHlo

/-- The gated output, the plain output, and the last state. -/
def resY (A : Args) (i : Cert.KernelIdeal.S24x1280x2880.Idx) : EReal :=
  A.gated (i 0) (hd (i 2)) (cn (i 1)).val (pl (i 1)) (vl (i 2))
def resO (A : Args) (i : Cert.KernelIdeal.S24x1280x2880.Idx) : EReal :=
  ((A.out (i 0) (hd (i 2)) (cn (i 1)).val (pl (i 1)) (vl (i 2)) : ℝ) : EReal)
def resS (A : Args) (i : Cert.KernelIdeal.S24x18x128x160.Idx) : EReal := ((A.state (i 0) (i 1) 20 (i 2) (i 3) : ℝ) : EReal)

theorem seq_split (s : Fin 1280) : seq (cn s).val (pl s) = s := Fin.ext (show (64 * (s.val / 64) + s.val % 64) % 1280 = s.val by omega)
theorem col_split (r : Fin 2880) : col (hd r) (vl r) = r := Fin.ext (show 160 * (r.val / 160) + r.val % 160 = r.val by omega)

section Kernel

open Cert.KernelIdeal Cert.KernelIdeal.Gen

variable (m : (ℓ : Loc nD τ sig) → Buf (Elt Ideal) ℓ) (c : Dev nD) (H : (args m c).Real)
include H

theorem kernel_y : transpose S24x1280x2880 [0, 2, 1] (Value.reg_main_v12_0 m c) transposes_S24x2880x1280_S24x1280x2880_0_2_1 = resY (args m c) := by
  rw [Value.reg_main_v12_0, arr_y m c H]
  funext i
  pointwise [resY]

theorem kernel_o : transpose S24x1280x2880 [0, 2, 1] (Value.reg_main_v12_1 m c) transposes_S24x2880x1280_S24x1280x2880_0_2_1 = resO (args m c) := by
  rw [Value.reg_main_v12_1, arr_o m c H]
  funext i
  pointwise [resO]

theorem kernel_s : transpose S24x18x128x160 [0, 1, 3, 2] (Value.reg_main_v12_2 m c) transposes_S24x18x160x128_S24x18x128x160_0_1_3_2 = resS (args m c) := by
  rw [Value.reg_main_v12_2, arr_s m c H]
  funext i
  pointwise [resS]

end Kernel

section Reference

open Cert.ReferenceIdeal Cert.ReferenceIdeal.Read

variable (A : Args) (H : A.Real)
include H

theorem reference_y : val_main_v645 (F := Ideal) A.a1 A.a3 A.a4 A.a5 A.a6 A.a7 A.a8 A.a9 A.a0 A.a2 = resY A := by
  funext i
  obtain ⟨b, s, r, rfl⟩ : ∃ (b : Fin 24) (s : Fin 1280) (r : Fin 2880), i = ix3 b s r := ⟨i 0, i 1, i 2, by funext a; match a with | 0 => rfl | 1 => rfl | 2 => rfl⟩
  refine .trans ?_ (ref_y A b (hd r) (cn s).val (pl s) (vl r) (A.out b (hd r) (cn s).val (pl s)) fun v => ref_cat A H b (hd r) (pl s) v (cn s))
  rw [seq_split, col_split]

theorem reference_o : val_main_v647 (F := Ideal) A.a1 A.a3 A.a4 A.a5 A.a6 A.a7 A.a0 A.a2 = resO A := by
  funext i
  obtain ⟨b, s, r, rfl⟩ : ∃ (b : Fin 24) (s : Fin 1280) (r : Fin 2880), i = ix3 b s r := ⟨i 0, i 1, i 2, by funext a; match a with | 0 => rfl | 1 => rfl | 2 => rfl⟩
  refine .trans ?_ (ref_o A b (hd r) (cn s).val (pl s) (vl r) (A.out b (hd r) (cn s).val (pl s)) fun v => ref_cat A H b (hd r) (pl s) v (cn s))
  rw [seq_split, col_split]

theorem reference_s : val_main_v618 (F := Ideal) A.a3 A.a4 A.a5 A.a6 A.a7 A.a2 = resS A := by
  funext i
  obtain ⟨b, h, d, v, rfl⟩ : ∃ (b : Fin 24) (h : Fin 18) (d : Fin 128) (v : Fin 160), i = ix4 b h d v :=
    ⟨i 0, i 1, i 2, i 3, by funext a; match a with | 0 => rfl | 1 => rfl | 2 => rfl | 3 => rfl⟩
  exact ref_s20 A H b h d v

end Reference

section Run

open Cert.ReferenceIdeal

variable (m : (ℓ : Loc nD τ sig) → Buf (Elt Ideal) ℓ) (c : Dev nD)

/-- The reference's arguments. -/
def rargs : Args where
  a0 := m ((c.tc : Thread nD τ).loc main_arg0)
  a1 := m ((c.tc : Thread nD τ).loc main_arg1)
  a2 := m ((c.tc : Thread nD τ).loc main_arg2)
  a3 := m ((c.tc : Thread nD τ).loc main_arg3)
  a4 := m ((c.tc : Thread nD τ).loc main_arg4)
  a5 := m ((c.tc : Thread nD τ).loc main_arg5)
  a6 := m ((c.tc : Thread nD τ).loc main_arg6)
  a7 := m ((c.tc : Thread nD τ).loc main_arg7)
  a8 := m ((c.tc : Thread nD τ).loc main_arg8)
  a9 := m ((c.tc : Thread nD τ).loc main_arg9)

variable (H : (rargs m c).Real)
include H

theorem end_y : Read.val_main_v645 (F := Ideal) (Value.exitV m c (Proc.devRef .tc main_arg1)) (Value.exitV m c (Proc.devRef .tc main_arg3)) (Value.exitV m c (Proc.devRef .tc main_arg4)) (Value.exitV m c (Proc.devRef .tc main_arg5)) (Value.exitV m c (Proc.devRef .tc main_arg6)) (Value.exitV m c (Proc.devRef .tc main_arg7)) (Value.exitV m c (Proc.devRef .tc main_arg8)) (Value.exitV m c (Proc.devRef .tc main_arg9)) (Value.exitV m c (Proc.devRef .tc main_v2_0)) (Value.exitV m c (Proc.devRef .tc main_v2_1)) = resY (rargs m c) := by
  rw [Value.exit_main_arg1, Value.exit_main_arg3, Value.exit_main_arg4, Value.exit_main_arg5, Value.exit_main_arg6, Value.exit_main_arg7, Value.exit_main_arg8, Value.exit_main_arg9, Value.exit_main_v2_0, Value.exit_main_v2_1, codes_q, codes_k]
  exact reference_y (rargs m c) H

theorem end_o : Read.val_main_v647 (F := Ideal) (Value.exitV m c (Proc.devRef .tc main_arg1)) (Value.exitV m c (Proc.devRef .tc main_arg3)) (Value.exitV m c (Proc.devRef .tc main_arg4)) (Value.exitV m c (Proc.devRef .tc main_arg5)) (Value.exitV m c (Proc.devRef .tc main_arg6)) (Value.exitV m c (Proc.devRef .tc main_arg7)) (Value.exitV m c (Proc.devRef .tc main_v2_0)) (Value.exitV m c (Proc.devRef .tc main_v2_1)) = resO (rargs m c) := by
  rw [Value.exit_main_arg1, Value.exit_main_arg3, Value.exit_main_arg4, Value.exit_main_arg5, Value.exit_main_arg6, Value.exit_main_arg7, Value.exit_main_v2_0, Value.exit_main_v2_1, codes_q, codes_k]
  exact reference_o (rargs m c) H

theorem end_s : Read.val_main_v618 (F := Ideal) (Value.exitV m c (Proc.devRef .tc main_arg3)) (Value.exitV m c (Proc.devRef .tc main_arg4)) (Value.exitV m c (Proc.devRef .tc main_arg5)) (Value.exitV m c (Proc.devRef .tc main_arg6)) (Value.exitV m c (Proc.devRef .tc main_arg7)) (Value.exitV m c (Proc.devRef .tc main_v2_1)) = resS (rargs m c) := by
  rw [Value.exit_main_arg3, Value.exit_main_arg4, Value.exit_main_arg5, Value.exit_main_arg6, Value.exit_main_arg7, Value.exit_main_v2_1, codes_k]
  exact reference_s (rargs m c) H

end Run

end Cert.Hand

end
-- ==== Proof.Hand.Pre.lean ====
module

public import proofs.«01_k».proof.Proof.Hand.Entry
public import proofs.«01_k».proof.Defs

/-! What the precondition says: every element of the first eight arguments is a real number. -/

@[expose] public section

set_option maxRecDepth 100000

noncomputable section

namespace Cert.Hand

open Idealize.ShloMosaic Idealize.ShloMosaic.TcCoe Idealize.SL.Sem Idealize.ShloMosaic.StableHlo

theorem inf_f32 : Ideal.ofBits .f32 0x7F800000#32 = (⊤ : EReal) := by
  simp [Ideal.ofBits, Ideal.ieee]
theorem inf_bf16 : Ideal.ofBits .bf16 0x7F80#16 = (⊤ : EReal) := by
  simp [Ideal.ofBits, Ideal.ieee]

theorem real_of_abs (x : EReal) (h : Ideal.cmp .olt (max x (-x)) (⊤ : EReal) = 1#1) : x = ((x.toReal : ℝ) : EReal) := by
  have h1 : max x (-x) < ⊤ := by
    by_contra hn
    simp [Ideal.cmp, hn] at h
  refine (EReal.coe_toReal ?_ ?_).symm
  · rintro rfl; simp at h1
  · rintro rfl; simp at h1

theorem finite_real (m : (ℓ : Loc Cert.KernelIdeal.nD Cert.KernelIdeal.τ Cert.KernelIdeal.sig) → Buf (Elt Ideal) ℓ)
    [Cert.Pre_finite.Facts] (h : Cert.Pre_KernelIdeal_finite m) (c : Dev Cert.KernelIdeal.nD) : (args m c).Real := by
  obtain ⟨h0, h1, h2, h3, h4, h5, h6, h7⟩ := h c
  refine ⟨fun i => ?_, fun i => ?_, fun i => ?_, fun i => ?_, fun i => ?_, fun i => ?_, fun i => ?_, fun i => ?_⟩
  · have e := congrFun h0 i
    refine real_of_abs _ (Eq.trans ?_ e)
    rw [← inf_f32]; rfl
  · have e := congrFun h1 i
    refine real_of_abs _ (Eq.trans ?_ e)
    rw [← inf_f32]; rfl
  · have e := congrFun h2 i
    refine real_of_abs _ (Eq.trans ?_ e)
    rw [← inf_f32]; rfl
  · have e := congrFun h3 i
    refine real_of_abs _ (Eq.trans ?_ e)
    rw [← inf_f32]; rfl
  · have e := congrFun h4 i
    refine real_of_abs _ (Eq.trans ?_ e)
    rw [← inf_bf16]; rfl
  · have e := congrFun h5 i
    refine real_of_abs _ (Eq.trans ?_ e)
    rw [← inf_f32]; rfl
  · have e := congrFun h6 i
    refine real_of_abs _ (Eq.trans ?_ e)
    rw [← inf_f32]; rfl
  · have e := congrFun h7 i
    refine real_of_abs _ (Eq.trans ?_ e)
    rw [← inf_f32]; rfl

end Cert.Hand

end
-- ==== Proof.lean ====
module

public import proofs.«01_k».proof.Defs
public import proofs.«01_k».proof.Proof.Gen.KernelIdeal.Run
public import proofs.«01_k».proof.Proof.Gen.ReferenceIdeal.Read
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Pre_finite
public import proofs.«01_k».proof.Proof.Hand.Ends
public import proofs.«01_k».proof.Proof.Hand.Pre
public import Idealize.ShloMosaic.Adequacy
public import Idealize.ShloMosaic.Init

@[expose] public section

noncomputable section

namespace Cert.Proof

open Idealize.ShloMosaic Idealize.SL.Sem Cert.Kernel

theorem preserves : Cert.preserves_Kernel_KernelIdeal :=
  ⟨IdealRules.bf16_pack.statement _, IdealRules.named_const.statement Cert.KernelIdeal.κ "inv_n_v" .f32 0x3BCCCCCD#32 ((1 / 160 : ℝ) : EReal) rfl⟩

theorem algebraic : Cert.algebraic_KernelIdeal_ReferenceIdeal_pre_finite (hPre_finite := Cert.Pre_finite.Gen.facts) := by
  intro m g m' g' hp hagree
  have hr := fun c => Cert.Hand.finite_real m hp c
  have ha : ∀ c, Cert.Hand.rargs m' c = Cert.Hand.args m c := fun c => by
    obtain ⟨h0, h1, h2, h3, h4, h5, h6, h7, h8, h9⟩ := hagree c
    rw [Cert.Hand.rargs, Cert.Hand.args, h0, h1, h2, h3, h4, h5, h6, h7, h8, h9]
  refine ⟨fun c => Cert.Hand.resY (Cert.Hand.args m c), fun c => Cert.Hand.resO (Cert.Hand.args m c), fun c => Cert.Hand.resS (Cert.Hand.args m c), ?_, ?_⟩
  · refine (θ_run _ _ _).mono (fun r h c => ?_) (Cert.KernelIdeal.Value.run m g)
    obtain ⟨hy, ho, hs, hargs⟩ := h c
    exact ⟨hy.trans (Cert.Hand.kernel_y m c (hr c)), ho.trans (Cert.Hand.kernel_o m c (hr c)), hs.trans (Cert.Hand.kernel_s m c (hr c)), hargs⟩
  · refine (θ_run _ _ _).mono (fun r h c => ?_) (Cert.ReferenceIdeal.Value.run m' g')
    obtain ⟨hy, ho, hs, hargs⟩ := h c
    have hc : (Cert.Hand.rargs m' c).Real := (ha c).symm ▸ hr c
    refine ⟨hy.trans ((Cert.ReferenceIdeal.Read.val_main_v645_eq _).trans ((Cert.Hand.end_y m' c hc).trans ?_)), ho.trans ((Cert.ReferenceIdeal.Read.val_main_v647_eq _).trans ((Cert.Hand.end_o m' c hc).trans ?_)), hs.trans ((Cert.ReferenceIdeal.Read.val_main_v618_eq _).trans ((Cert.Hand.end_s m' c hc).trans ?_)), hargs⟩
    · rw [ha c]
    · rw [ha c]
    · rw [ha c]

theorem claim : Cert.Claim := ⟨Cert.Kernel.Gen.facts, Cert.KernelIdeal.Gen.facts, Cert.ReferenceIdeal.Gen.facts, Cert.Pre_finite.Gen.facts,
  fun m ρ _ => Cert.Kernel.Gen.frame m ρ, fun m ρ _ => Cert.KernelIdeal.Gen.frame m ρ, fun m ρ _ => Cert.KernelIdeal.Gen.frame m ρ,
  fun m ρ _ => Cert.ReferenceIdeal.Gen.frame m ρ, fun m ρ _ => Cert.ReferenceIdeal.Gen.frame m ρ, preserves, algebraic⟩

end Cert.Proof

end
